-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_not_negative [hPre_labels_not_negative : Cert.Pre_labels_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_labels_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_separated_priors [hPre_separated_priors : Cert.Pre_separated_priors.Facts] (m : (ℓ : Loc Cert.KernelIdeal.nD Cert.KernelIdeal.τ Cert.KernelIdeal.sig) → Buf (Elt Ideal) ℓ) : Prop :=
  ∀ c : Dev Cert.KernelIdeal.nD,
    (Cert.Pre_separated_priors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_separated_priors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_separated_priors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_not_negative [hPre_labels_not_negative : Cert.Pre_labels_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ReferenceIdeal_separated_priors [hPre_separated_priors : Cert.Pre_separated_priors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated_priors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_separated_priors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_separated_priors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_FirstCall (m : (ℓ : Loc Cert.FirstCall.nD Cert.FirstCall.τ Cert.FirstCall.sig) → Buf (Elt Bits) ℓ) : Prop :=
  True

def Pre_FirstCallIdeal (m : (ℓ : Loc Cert.FirstCallIdeal.nD Cert.FirstCallIdeal.τ Cert.FirstCallIdeal.sig) → Buf (Elt Ideal) ℓ) : Prop :=
  True

def Pre_FirstCallIdeal_finite_scores [hPre_finite_scores : Cert.Pre_finite_scores.Facts] (m : (ℓ : Loc Cert.FirstCallIdeal.nD Cert.FirstCallIdeal.τ Cert.FirstCallIdeal.sig) → Buf (Elt Ideal) ℓ) : Prop :=
  ∀ c : Dev Cert.FirstCallIdeal.nD,
    (Cert.Pre_finite_scores.fn (F := Ideal) (m ((c.tc : Thread Cert.FirstCallIdeal.nD Cert.FirstCallIdeal.τ).loc Cert.FirstCallIdeal.main_arg0)) (m ((c.tc : Thread Cert.FirstCallIdeal.nD Cert.FirstCallIdeal.τ).loc Cert.FirstCallIdeal.main_arg1)) (m ((c.tc : Thread Cert.FirstCallIdeal.nD Cert.FirstCallIdeal.τ).loc Cert.FirstCallIdeal.main_arg2)) (m ((c.tc : Thread Cert.FirstCallIdeal.nD Cert.FirstCallIdeal.τ).loc Cert.FirstCallIdeal.main_arg3)) (m ((c.tc : Thread Cert.FirstCallIdeal.nD Cert.FirstCallIdeal.τ).loc Cert.FirstCallIdeal.main_arg4))).1 = (fun _ => 1#1)
    ∧ (Cert.Pre_finite_scores.fn (F := Ideal) (m ((c.tc : Thread Cert.FirstCallIdeal.nD Cert.FirstCallIdeal.τ).loc Cert.FirstCallIdeal.main_arg0)) (m ((c.tc : Thread Cert.FirstCallIdeal.nD Cert.FirstCallIdeal.τ).loc Cert.FirstCallIdeal.main_arg1)) (m ((c.tc : Thread Cert.FirstCallIdeal.nD Cert.FirstCallIdeal.τ).loc Cert.FirstCallIdeal.main_arg2)) (m ((c.tc : Thread Cert.FirstCallIdeal.nD Cert.FirstCallIdeal.τ).loc Cert.FirstCallIdeal.main_arg3)) (m ((c.tc : Thread Cert.FirstCallIdeal.nD Cert.FirstCallIdeal.τ).loc Cert.FirstCallIdeal.main_arg4))).2 = (fun _ => 1#1)

def Pre_ImageLossesIdeal (m : (ℓ : Loc Cert.ImageLossesIdeal.nD Cert.ImageLossesIdeal.τ Cert.ImageLossesIdeal.sig) → Buf (Elt Ideal) ℓ) : Prop :=
  True

def Pre_ImageLossesIdeal_finite_scores [hPre_finite_scores : Cert.Pre_finite_scores.Facts] (m : (ℓ : Loc Cert.ImageLossesIdeal.nD Cert.ImageLossesIdeal.τ Cert.ImageLossesIdeal.sig) → Buf (Elt Ideal) ℓ) : Prop :=
  ∀ c : Dev Cert.ImageLossesIdeal.nD,
    (Cert.Pre_finite_scores.fn (F := Ideal) (m ((c.tc : Thread Cert.ImageLossesIdeal.nD Cert.ImageLossesIdeal.τ).loc Cert.ImageLossesIdeal.main_arg0)) (m ((c.tc : Thread Cert.ImageLossesIdeal.nD Cert.ImageLossesIdeal.τ).loc Cert.ImageLossesIdeal.main_arg1)) (m ((c.tc : Thread Cert.ImageLossesIdeal.nD Cert.ImageLossesIdeal.τ).loc Cert.ImageLossesIdeal.main_arg2)) (m ((c.tc : Thread Cert.ImageLossesIdeal.nD Cert.ImageLossesIdeal.τ).loc Cert.ImageLossesIdeal.main_arg3)) (m ((c.tc : Thread Cert.ImageLossesIdeal.nD Cert.ImageLossesIdeal.τ).loc Cert.ImageLossesIdeal.main_arg4))).1 = (fun _ => 1#1)
    ∧ (Cert.Pre_finite_scores.fn (F := Ideal) (m ((c.tc : Thread Cert.ImageLossesIdeal.nD Cert.ImageLossesIdeal.τ).loc Cert.ImageLossesIdeal.main_arg0)) (m ((c.tc : Thread Cert.ImageLossesIdeal.nD Cert.ImageLossesIdeal.τ).loc Cert.ImageLossesIdeal.main_arg1)) (m ((c.tc : Thread Cert.ImageLossesIdeal.nD Cert.ImageLossesIdeal.τ).loc Cert.ImageLossesIdeal.main_arg2)) (m ((c.tc : Thread Cert.ImageLossesIdeal.nD Cert.ImageLossesIdeal.τ).loc Cert.ImageLossesIdeal.main_arg3)) (m ((c.tc : Thread Cert.ImageLossesIdeal.nD Cert.ImageLossesIdeal.τ).loc Cert.ImageLossesIdeal.main_arg4))).2 = (fun _ => 1#1)

def Pre_SecondCall (m : (ℓ : Loc Cert.SecondCall.nD Cert.SecondCall.τ Cert.SecondCall.sig) → Buf (Elt Bits) ℓ) : Prop :=
  True

def Pre_SecondCallIdeal (m : (ℓ : Loc Cert.SecondCallIdeal.nD Cert.SecondCallIdeal.τ Cert.SecondCallIdeal.sig) → Buf (Elt Ideal) ℓ) : Prop :=
  True

def Pre_SecondCallIdeal_separated_losses [hPre_separated_losses : Cert.Pre_separated_losses.Facts] (m : (ℓ : Loc Cert.SecondCallIdeal.nD Cert.SecondCallIdeal.τ Cert.SecondCallIdeal.sig) → Buf (Elt Ideal) ℓ) : Prop :=
  ∀ c : Dev Cert.SecondCallIdeal.nD,
    (Cert.Pre_separated_losses.fn (F := Ideal) (m ((c.tc : Thread Cert.SecondCallIdeal.nD Cert.SecondCallIdeal.τ).loc Cert.SecondCallIdeal.main_arg0)) (m ((c.tc : Thread Cert.SecondCallIdeal.nD Cert.SecondCallIdeal.τ).loc Cert.SecondCallIdeal.main_arg1))).1 = (fun _ => 1#1)
    ∧ (Cert.Pre_separated_losses.fn (F := Ideal) (m ((c.tc : Thread Cert.SecondCallIdeal.nD Cert.SecondCallIdeal.τ).loc Cert.SecondCallIdeal.main_arg0)) (m ((c.tc : Thread Cert.SecondCallIdeal.nD Cert.SecondCallIdeal.τ).loc Cert.SecondCallIdeal.main_arg1))).2.1 = (fun _ => 1#1)
    ∧ (Cert.Pre_separated_losses.fn (F := Ideal) (m ((c.tc : Thread Cert.SecondCallIdeal.nD Cert.SecondCallIdeal.τ).loc Cert.SecondCallIdeal.main_arg0)) (m ((c.tc : Thread Cert.SecondCallIdeal.nD Cert.SecondCallIdeal.τ).loc Cert.SecondCallIdeal.main_arg1))).2.2 = (fun _ => 1#1)

def Pre_MinedLossesIdeal (m : (ℓ : Loc Cert.MinedLossesIdeal.nD Cert.MinedLossesIdeal.τ Cert.MinedLossesIdeal.sig) → Buf (Elt Ideal) ℓ) : Prop :=
  True

def Pre_MinedLossesIdeal_separated_losses [hPre_separated_losses : Cert.Pre_separated_losses.Facts] (m : (ℓ : Loc Cert.MinedLossesIdeal.nD Cert.MinedLossesIdeal.τ Cert.MinedLossesIdeal.sig) → Buf (Elt Ideal) ℓ) : Prop :=
  ∀ c : Dev Cert.MinedLossesIdeal.nD,
    (Cert.Pre_separated_losses.fn (F := Ideal) (m ((c.tc : Thread Cert.MinedLossesIdeal.nD Cert.MinedLossesIdeal.τ).loc Cert.MinedLossesIdeal.main_arg0)) (m ((c.tc : Thread Cert.MinedLossesIdeal.nD Cert.MinedLossesIdeal.τ).loc Cert.MinedLossesIdeal.main_arg1))).1 = (fun _ => 1#1)
    ∧ (Cert.Pre_separated_losses.fn (F := Ideal) (m ((c.tc : Thread Cert.MinedLossesIdeal.nD Cert.MinedLossesIdeal.τ).loc Cert.MinedLossesIdeal.main_arg0)) (m ((c.tc : Thread Cert.MinedLossesIdeal.nD Cert.MinedLossesIdeal.τ).loc Cert.MinedLossesIdeal.main_arg1))).2.1 = (fun _ => 1#1)
    ∧ (Cert.Pre_separated_losses.fn (F := Ideal) (m ((c.tc : Thread Cert.MinedLossesIdeal.nD Cert.MinedLossesIdeal.τ).loc Cert.MinedLossesIdeal.main_arg0)) (m ((c.tc : Thread Cert.MinedLossesIdeal.nD Cert.MinedLossesIdeal.τ).loc Cert.MinedLossesIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_not_negative [hKernelIdeal : Cert.KernelIdeal.Facts] [hPre_labels_not_negative : Cert.Pre_labels_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated_priors [hKernelIdeal : Cert.KernelIdeal.Facts] [hPre_separated_priors : Cert.Pre_separated_priors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated_priors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_not_negative [hReferenceIdeal : Cert.ReferenceIdeal.Facts] [hPre_labels_not_negative : Cert.Pre_labels_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated_priors [hReferenceIdeal : Cert.ReferenceIdeal.Facts] [hPre_separated_priors : Cert.Pre_separated_priors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated_priors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FirstCall [hFirstCall : Cert.FirstCall.Facts] : Prop :=
  ∀ (m : (ℓ : Loc Cert.FirstCall.nD Cert.FirstCall.τ Cert.FirstCall.sig) → Buf (Elt Bits) ℓ) (g : Dev Cert.FirstCall.nD → PrngReg), Pre_FirstCall m →
    θ_run (Cert.FirstCall.defs (F := Bits)) (onTc (τ := Cert.FirstCall.τ) (Cert.FirstCall.main (F := Bits))) ⟨m, fun _ => 0, g⟩ (fun r => (∀ c : Dev Cert.FirstCall.nD,
      r.2.mem ((c.tc : Thread Cert.FirstCall.nD Cert.FirstCall.τ).loc Cert.FirstCall.main_arg0) = m ((c.tc : Thread Cert.FirstCall.nD Cert.FirstCall.τ).loc Cert.FirstCall.main_arg0)
      ∧ r.2.mem ((c.tc : Thread Cert.FirstCall.nD Cert.FirstCall.τ).loc Cert.FirstCall.main_arg1) = m ((c.tc : Thread Cert.FirstCall.nD Cert.FirstCall.τ).loc Cert.FirstCall.main_arg1)
      ∧ r.2.mem ((c.tc : Thread Cert.FirstCall.nD Cert.FirstCall.τ).loc Cert.FirstCall.main_arg2) = m ((c.tc : Thread Cert.FirstCall.nD Cert.FirstCall.τ).loc Cert.FirstCall.main_arg2)
      ∧ r.2.mem ((c.tc : Thread Cert.FirstCall.nD Cert.FirstCall.τ).loc Cert.FirstCall.main_arg3) = m ((c.tc : Thread Cert.FirstCall.nD Cert.FirstCall.τ).loc Cert.FirstCall.main_arg3)
      ∧ r.2.mem ((c.tc : Thread Cert.FirstCall.nD Cert.FirstCall.τ).loc Cert.FirstCall.main_arg4) = m ((c.tc : Thread Cert.FirstCall.nD Cert.FirstCall.τ).loc Cert.FirstCall.main_arg4))
      ∧ r.2.sem = fun _ => 0)

def quiescent_FirstCallIdeal [hFirstCallIdeal : Cert.FirstCallIdeal.Facts] : Prop :=
  ∀ (m : (ℓ : Loc Cert.FirstCallIdeal.nD Cert.FirstCallIdeal.τ Cert.FirstCallIdeal.sig) → Buf (Elt Ideal) ℓ) (g : Dev Cert.FirstCallIdeal.nD → PrngReg), Pre_FirstCallIdeal m →
    θ_run (Cert.FirstCallIdeal.defs (F := Ideal)) (onTc (τ := Cert.FirstCallIdeal.τ) (Cert.FirstCallIdeal.main (F := Ideal))) ⟨m, fun _ => 0, g⟩ (fun r => (∀ c : Dev Cert.FirstCallIdeal.nD,
      r.2.mem ((c.tc : Thread Cert.FirstCallIdeal.nD Cert.FirstCallIdeal.τ).loc Cert.FirstCallIdeal.main_arg0) = m ((c.tc : Thread Cert.FirstCallIdeal.nD Cert.FirstCallIdeal.τ).loc Cert.FirstCallIdeal.main_arg0)
      ∧ r.2.mem ((c.tc : Thread Cert.FirstCallIdeal.nD Cert.FirstCallIdeal.τ).loc Cert.FirstCallIdeal.main_arg1) = m ((c.tc : Thread Cert.FirstCallIdeal.nD Cert.FirstCallIdeal.τ).loc Cert.FirstCallIdeal.main_arg1)
      ∧ r.2.mem ((c.tc : Thread Cert.FirstCallIdeal.nD Cert.FirstCallIdeal.τ).loc Cert.FirstCallIdeal.main_arg2) = m ((c.tc : Thread Cert.FirstCallIdeal.nD Cert.FirstCallIdeal.τ).loc Cert.FirstCallIdeal.main_arg2)
      ∧ r.2.mem ((c.tc : Thread Cert.FirstCallIdeal.nD Cert.FirstCallIdeal.τ).loc Cert.FirstCallIdeal.main_arg3) = m ((c.tc : Thread Cert.FirstCallIdeal.nD Cert.FirstCallIdeal.τ).loc Cert.FirstCallIdeal.main_arg3)
      ∧ r.2.mem ((c.tc : Thread Cert.FirstCallIdeal.nD Cert.FirstCallIdeal.τ).loc Cert.FirstCallIdeal.main_arg4) = m ((c.tc : Thread Cert.FirstCallIdeal.nD Cert.FirstCallIdeal.τ).loc Cert.FirstCallIdeal.main_arg4))
      ∧ r.2.sem = fun _ => 0)

def quiescent_FirstCallIdeal_pre_finite_scores [hFirstCallIdeal : Cert.FirstCallIdeal.Facts] [hPre_finite_scores : Cert.Pre_finite_scores.Facts] : Prop :=
  ∀ (m : (ℓ : Loc Cert.FirstCallIdeal.nD Cert.FirstCallIdeal.τ Cert.FirstCallIdeal.sig) → Buf (Elt Ideal) ℓ) (g : Dev Cert.FirstCallIdeal.nD → PrngReg), Pre_FirstCallIdeal_finite_scores m →
    θ_run (Cert.FirstCallIdeal.defs (F := Ideal)) (onTc (τ := Cert.FirstCallIdeal.τ) (Cert.FirstCallIdeal.main (F := Ideal))) ⟨m, fun _ => 0, g⟩ (fun r => (∀ c : Dev Cert.FirstCallIdeal.nD,
      r.2.mem ((c.tc : Thread Cert.FirstCallIdeal.nD Cert.FirstCallIdeal.τ).loc Cert.FirstCallIdeal.main_arg0) = m ((c.tc : Thread Cert.FirstCallIdeal.nD Cert.FirstCallIdeal.τ).loc Cert.FirstCallIdeal.main_arg0)
      ∧ r.2.mem ((c.tc : Thread Cert.FirstCallIdeal.nD Cert.FirstCallIdeal.τ).loc Cert.FirstCallIdeal.main_arg1) = m ((c.tc : Thread Cert.FirstCallIdeal.nD Cert.FirstCallIdeal.τ).loc Cert.FirstCallIdeal.main_arg1)
      ∧ r.2.mem ((c.tc : Thread Cert.FirstCallIdeal.nD Cert.FirstCallIdeal.τ).loc Cert.FirstCallIdeal.main_arg2) = m ((c.tc : Thread Cert.FirstCallIdeal.nD Cert.FirstCallIdeal.τ).loc Cert.FirstCallIdeal.main_arg2)
      ∧ r.2.mem ((c.tc : Thread Cert.FirstCallIdeal.nD Cert.FirstCallIdeal.τ).loc Cert.FirstCallIdeal.main_arg3) = m ((c.tc : Thread Cert.FirstCallIdeal.nD Cert.FirstCallIdeal.τ).loc Cert.FirstCallIdeal.main_arg3)
      ∧ r.2.mem ((c.tc : Thread Cert.FirstCallIdeal.nD Cert.FirstCallIdeal.τ).loc Cert.FirstCallIdeal.main_arg4) = m ((c.tc : Thread Cert.FirstCallIdeal.nD Cert.FirstCallIdeal.τ).loc Cert.FirstCallIdeal.main_arg4))
      ∧ r.2.sem = fun _ => 0)

def quiescent_ImageLossesIdeal [hImageLossesIdeal : Cert.ImageLossesIdeal.Facts] : Prop :=
  ∀ (m : (ℓ : Loc Cert.ImageLossesIdeal.nD Cert.ImageLossesIdeal.τ Cert.ImageLossesIdeal.sig) → Buf (Elt Ideal) ℓ) (g : Dev Cert.ImageLossesIdeal.nD → PrngReg), Pre_ImageLossesIdeal m →
    θ_run (Cert.ImageLossesIdeal.defs (F := Ideal)) (onTc (τ := Cert.ImageLossesIdeal.τ) (Cert.ImageLossesIdeal.main (F := Ideal))) ⟨m, fun _ => 0, g⟩ (fun r => (∀ c : Dev Cert.ImageLossesIdeal.nD,
      r.2.mem ((c.tc : Thread Cert.ImageLossesIdeal.nD Cert.ImageLossesIdeal.τ).loc Cert.ImageLossesIdeal.main_arg0) = m ((c.tc : Thread Cert.ImageLossesIdeal.nD Cert.ImageLossesIdeal.τ).loc Cert.ImageLossesIdeal.main_arg0)
      ∧ r.2.mem ((c.tc : Thread Cert.ImageLossesIdeal.nD Cert.ImageLossesIdeal.τ).loc Cert.ImageLossesIdeal.main_arg1) = m ((c.tc : Thread Cert.ImageLossesIdeal.nD Cert.ImageLossesIdeal.τ).loc Cert.ImageLossesIdeal.main_arg1)
      ∧ r.2.mem ((c.tc : Thread Cert.ImageLossesIdeal.nD Cert.ImageLossesIdeal.τ).loc Cert.ImageLossesIdeal.main_arg2) = m ((c.tc : Thread Cert.ImageLossesIdeal.nD Cert.ImageLossesIdeal.τ).loc Cert.ImageLossesIdeal.main_arg2)
      ∧ r.2.mem ((c.tc : Thread Cert.ImageLossesIdeal.nD Cert.ImageLossesIdeal.τ).loc Cert.ImageLossesIdeal.main_arg3) = m ((c.tc : Thread Cert.ImageLossesIdeal.nD Cert.ImageLossesIdeal.τ).loc Cert.ImageLossesIdeal.main_arg3)
      ∧ r.2.mem ((c.tc : Thread Cert.ImageLossesIdeal.nD Cert.ImageLossesIdeal.τ).loc Cert.ImageLossesIdeal.main_arg4) = m ((c.tc : Thread Cert.ImageLossesIdeal.nD Cert.ImageLossesIdeal.τ).loc Cert.ImageLossesIdeal.main_arg4))
      ∧ r.2.sem = fun _ => 0)

def quiescent_ImageLossesIdeal_pre_finite_scores [hImageLossesIdeal : Cert.ImageLossesIdeal.Facts] [hPre_finite_scores : Cert.Pre_finite_scores.Facts] : Prop :=
  ∀ (m : (ℓ : Loc Cert.ImageLossesIdeal.nD Cert.ImageLossesIdeal.τ Cert.ImageLossesIdeal.sig) → Buf (Elt Ideal) ℓ) (g : Dev Cert.ImageLossesIdeal.nD → PrngReg), Pre_ImageLossesIdeal_finite_scores m →
    θ_run (Cert.ImageLossesIdeal.defs (F := Ideal)) (onTc (τ := Cert.ImageLossesIdeal.τ) (Cert.ImageLossesIdeal.main (F := Ideal))) ⟨m, fun _ => 0, g⟩ (fun r => (∀ c : Dev Cert.ImageLossesIdeal.nD,
      r.2.mem ((c.tc : Thread Cert.ImageLossesIdeal.nD Cert.ImageLossesIdeal.τ).loc Cert.ImageLossesIdeal.main_arg0) = m ((c.tc : Thread Cert.ImageLossesIdeal.nD Cert.ImageLossesIdeal.τ).loc Cert.ImageLossesIdeal.main_arg0)
      ∧ r.2.mem ((c.tc : Thread Cert.ImageLossesIdeal.nD Cert.ImageLossesIdeal.τ).loc Cert.ImageLossesIdeal.main_arg1) = m ((c.tc : Thread Cert.ImageLossesIdeal.nD Cert.ImageLossesIdeal.τ).loc Cert.ImageLossesIdeal.main_arg1)
      ∧ r.2.mem ((c.tc : Thread Cert.ImageLossesIdeal.nD Cert.ImageLossesIdeal.τ).loc Cert.ImageLossesIdeal.main_arg2) = m ((c.tc : Thread Cert.ImageLossesIdeal.nD Cert.ImageLossesIdeal.τ).loc Cert.ImageLossesIdeal.main_arg2)
      ∧ r.2.mem ((c.tc : Thread Cert.ImageLossesIdeal.nD Cert.ImageLossesIdeal.τ).loc Cert.ImageLossesIdeal.main_arg3) = m ((c.tc : Thread Cert.ImageLossesIdeal.nD Cert.ImageLossesIdeal.τ).loc Cert.ImageLossesIdeal.main_arg3)
      ∧ r.2.mem ((c.tc : Thread Cert.ImageLossesIdeal.nD Cert.ImageLossesIdeal.τ).loc Cert.ImageLossesIdeal.main_arg4) = m ((c.tc : Thread Cert.ImageLossesIdeal.nD Cert.ImageLossesIdeal.τ).loc Cert.ImageLossesIdeal.main_arg4))
      ∧ r.2.sem = fun _ => 0)

def quiescent_SecondCall [hSecondCall : Cert.SecondCall.Facts] : Prop :=
  ∀ (m : (ℓ : Loc Cert.SecondCall.nD Cert.SecondCall.τ Cert.SecondCall.sig) → Buf (Elt Bits) ℓ) (g : Dev Cert.SecondCall.nD → PrngReg), Pre_SecondCall m →
    θ_run (Cert.SecondCall.defs (F := Bits)) (onTc (τ := Cert.SecondCall.τ) (Cert.SecondCall.main (F := Bits))) ⟨m, fun _ => 0, g⟩ (fun r => (∀ c : Dev Cert.SecondCall.nD,
      r.2.mem ((c.tc : Thread Cert.SecondCall.nD Cert.SecondCall.τ).loc Cert.SecondCall.main_arg0) = m ((c.tc : Thread Cert.SecondCall.nD Cert.SecondCall.τ).loc Cert.SecondCall.main_arg0)
      ∧ r.2.mem ((c.tc : Thread Cert.SecondCall.nD Cert.SecondCall.τ).loc Cert.SecondCall.main_arg1) = m ((c.tc : Thread Cert.SecondCall.nD Cert.SecondCall.τ).loc Cert.SecondCall.main_arg1))
      ∧ r.2.sem = fun _ => 0)

def quiescent_SecondCallIdeal [hSecondCallIdeal : Cert.SecondCallIdeal.Facts] : Prop :=
  ∀ (m : (ℓ : Loc Cert.SecondCallIdeal.nD Cert.SecondCallIdeal.τ Cert.SecondCallIdeal.sig) → Buf (Elt Ideal) ℓ) (g : Dev Cert.SecondCallIdeal.nD → PrngReg), Pre_SecondCallIdeal m →
    θ_run (Cert.SecondCallIdeal.defs (F := Ideal)) (onTc (τ := Cert.SecondCallIdeal.τ) (Cert.SecondCallIdeal.main (F := Ideal))) ⟨m, fun _ => 0, g⟩ (fun r => (∀ c : Dev Cert.SecondCallIdeal.nD,
      r.2.mem ((c.tc : Thread Cert.SecondCallIdeal.nD Cert.SecondCallIdeal.τ).loc Cert.SecondCallIdeal.main_arg0) = m ((c.tc : Thread Cert.SecondCallIdeal.nD Cert.SecondCallIdeal.τ).loc Cert.SecondCallIdeal.main_arg0)
      ∧ r.2.mem ((c.tc : Thread Cert.SecondCallIdeal.nD Cert.SecondCallIdeal.τ).loc Cert.SecondCallIdeal.main_arg1) = m ((c.tc : Thread Cert.SecondCallIdeal.nD Cert.SecondCallIdeal.τ).loc Cert.SecondCallIdeal.main_arg1))
      ∧ r.2.sem = fun _ => 0)

def quiescent_SecondCallIdeal_pre_separated_losses [hSecondCallIdeal : Cert.SecondCallIdeal.Facts] [hPre_separated_losses : Cert.Pre_separated_losses.Facts] : Prop :=
  ∀ (m : (ℓ : Loc Cert.SecondCallIdeal.nD Cert.SecondCallIdeal.τ Cert.SecondCallIdeal.sig) → Buf (Elt Ideal) ℓ) (g : Dev Cert.SecondCallIdeal.nD → PrngReg), Pre_SecondCallIdeal_separated_losses m →
    θ_run (Cert.SecondCallIdeal.defs (F := Ideal)) (onTc (τ := Cert.SecondCallIdeal.τ) (Cert.SecondCallIdeal.main (F := Ideal))) ⟨m, fun _ => 0, g⟩ (fun r => (∀ c : Dev Cert.SecondCallIdeal.nD,
      r.2.mem ((c.tc : Thread Cert.SecondCallIdeal.nD Cert.SecondCallIdeal.τ).loc Cert.SecondCallIdeal.main_arg0) = m ((c.tc : Thread Cert.SecondCallIdeal.nD Cert.SecondCallIdeal.τ).loc Cert.SecondCallIdeal.main_arg0)
      ∧ r.2.mem ((c.tc : Thread Cert.SecondCallIdeal.nD Cert.SecondCallIdeal.τ).loc Cert.SecondCallIdeal.main_arg1) = m ((c.tc : Thread Cert.SecondCallIdeal.nD Cert.SecondCallIdeal.τ).loc Cert.SecondCallIdeal.main_arg1))
      ∧ r.2.sem = fun _ => 0)

def quiescent_MinedLossesIdeal [hMinedLossesIdeal : Cert.MinedLossesIdeal.Facts] : Prop :=
  ∀ (m : (ℓ : Loc Cert.MinedLossesIdeal.nD Cert.MinedLossesIdeal.τ Cert.MinedLossesIdeal.sig) → Buf (Elt Ideal) ℓ) (g : Dev Cert.MinedLossesIdeal.nD → PrngReg), Pre_MinedLossesIdeal m →
    θ_run (Cert.MinedLossesIdeal.defs (F := Ideal)) (onTc (τ := Cert.MinedLossesIdeal.τ) (Cert.MinedLossesIdeal.main (F := Ideal))) ⟨m, fun _ => 0, g⟩ (fun r => (∀ c : Dev Cert.MinedLossesIdeal.nD,
      r.2.mem ((c.tc : Thread Cert.MinedLossesIdeal.nD Cert.MinedLossesIdeal.τ).loc Cert.MinedLossesIdeal.main_arg0) = m ((c.tc : Thread Cert.MinedLossesIdeal.nD Cert.MinedLossesIdeal.τ).loc Cert.MinedLossesIdeal.main_arg0)
      ∧ r.2.mem ((c.tc : Thread Cert.MinedLossesIdeal.nD Cert.MinedLossesIdeal.τ).loc Cert.MinedLossesIdeal.main_arg1) = m ((c.tc : Thread Cert.MinedLossesIdeal.nD Cert.MinedLossesIdeal.τ).loc Cert.MinedLossesIdeal.main_arg1))
      ∧ r.2.sem = fun _ => 0)

def quiescent_MinedLossesIdeal_pre_separated_losses [hMinedLossesIdeal : Cert.MinedLossesIdeal.Facts] [hPre_separated_losses : Cert.Pre_separated_losses.Facts] : Prop :=
  ∀ (m : (ℓ : Loc Cert.MinedLossesIdeal.nD Cert.MinedLossesIdeal.τ Cert.MinedLossesIdeal.sig) → Buf (Elt Ideal) ℓ) (g : Dev Cert.MinedLossesIdeal.nD → PrngReg), Pre_MinedLossesIdeal_separated_losses m →
    θ_run (Cert.MinedLossesIdeal.defs (F := Ideal)) (onTc (τ := Cert.MinedLossesIdeal.τ) (Cert.MinedLossesIdeal.main (F := Ideal))) ⟨m, fun _ => 0, g⟩ (fun r => (∀ c : Dev Cert.MinedLossesIdeal.nD,
      r.2.mem ((c.tc : Thread Cert.MinedLossesIdeal.nD Cert.MinedLossesIdeal.τ).loc Cert.MinedLossesIdeal.main_arg0) = m ((c.tc : Thread Cert.MinedLossesIdeal.nD Cert.MinedLossesIdeal.τ).loc Cert.MinedLossesIdeal.main_arg0)
      ∧ r.2.mem ((c.tc : Thread Cert.MinedLossesIdeal.nD Cert.MinedLossesIdeal.τ).loc Cert.MinedLossesIdeal.main_arg1) = m ((c.tc : Thread Cert.MinedLossesIdeal.nD Cert.MinedLossesIdeal.τ).loc Cert.MinedLossesIdeal.main_arg1))
      ∧ r.2.sem = fun _ => 0)

def preserves_Kernel_KernelIdeal : Prop :=
  True

def algebraic_KernelIdeal_ReferenceIdeal_on_first_result_pre_labels_not_negative [hKernelIdeal : Cert.KernelIdeal.Facts] [hReferenceIdeal : Cert.ReferenceIdeal.Facts] [hPre_labels_not_negative : Cert.Pre_labels_not_negative.Facts] [hOn_first_result : Cert.On_first_result.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v7) i = v0 c i)
          ∧ (∀ i : (⟨0, ![]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v8) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v211) i = v0 c i)
          ∧ (∀ i : (⟨0, ![]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v213) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_pre_separated_priors [hKernelIdeal : Cert.KernelIdeal.Facts] [hReferenceIdeal : Cert.ReferenceIdeal.Facts] [hPre_separated_priors : Cert.Pre_separated_priors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated_priors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v213) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FirstCall_FirstCallIdeal : Prop :=
  True

def algebraic_FirstCallIdeal_ImageLossesIdeal_pre_finite_scores [hFirstCallIdeal : Cert.FirstCallIdeal.Facts] [hImageLossesIdeal : Cert.ImageLossesIdeal.Facts] [hPre_finite_scores : Cert.Pre_finite_scores.Facts] : Prop :=
  ∀ (m : (ℓ : Loc Cert.FirstCallIdeal.nD Cert.FirstCallIdeal.τ Cert.FirstCallIdeal.sig) → Buf (Elt Ideal) ℓ) (g : Dev Cert.FirstCallIdeal.nD → PrngReg)
    (m' : (ℓ : Loc Cert.ImageLossesIdeal.nD Cert.ImageLossesIdeal.τ Cert.ImageLossesIdeal.sig) → Buf (Elt Ideal) ℓ) (g' : Dev Cert.ImageLossesIdeal.nD → PrngReg), Pre_FirstCallIdeal_finite_scores m →
    (∀ c : Dev Cert.FirstCallIdeal.nD,
      m' ((c.tc : Thread Cert.ImageLossesIdeal.nD Cert.ImageLossesIdeal.τ).loc Cert.ImageLossesIdeal.main_arg0) = m ((c.tc : Thread Cert.FirstCallIdeal.nD Cert.FirstCallIdeal.τ).loc Cert.FirstCallIdeal.main_arg0)
      ∧ m' ((c.tc : Thread Cert.ImageLossesIdeal.nD Cert.ImageLossesIdeal.τ).loc Cert.ImageLossesIdeal.main_arg1) = m ((c.tc : Thread Cert.FirstCallIdeal.nD Cert.FirstCallIdeal.τ).loc Cert.FirstCallIdeal.main_arg1)
      ∧ m' ((c.tc : Thread Cert.ImageLossesIdeal.nD Cert.ImageLossesIdeal.τ).loc Cert.ImageLossesIdeal.main_arg2) = m ((c.tc : Thread Cert.FirstCallIdeal.nD Cert.FirstCallIdeal.τ).loc Cert.FirstCallIdeal.main_arg2)
      ∧ m' ((c.tc : Thread Cert.ImageLossesIdeal.nD Cert.ImageLossesIdeal.τ).loc Cert.ImageLossesIdeal.main_arg3) = m ((c.tc : Thread Cert.FirstCallIdeal.nD Cert.FirstCallIdeal.τ).loc Cert.FirstCallIdeal.main_arg3)
      ∧ m' ((c.tc : Thread Cert.ImageLossesIdeal.nD Cert.ImageLossesIdeal.τ).loc Cert.ImageLossesIdeal.main_arg4) = m ((c.tc : Thread Cert.FirstCallIdeal.nD Cert.FirstCallIdeal.τ).loc Cert.FirstCallIdeal.main_arg4)) →
    ∃ (v0 : (c : Dev Cert.FirstCallIdeal.nD) → Buf (Elt Ideal) ((c.tc : Thread Cert.FirstCallIdeal.nD Cert.FirstCallIdeal.τ).loc Cert.FirstCallIdeal.main_v4_0)) (v1 : (c : Dev Cert.FirstCallIdeal.nD) → Buf (Elt Ideal) ((c.tc : Thread Cert.FirstCallIdeal.nD Cert.FirstCallIdeal.τ).loc Cert.FirstCallIdeal.main_v4_1)),
      θ_run (Cert.FirstCallIdeal.defs (F := Ideal)) (onTc (τ := Cert.FirstCallIdeal.τ) (Cert.FirstCallIdeal.main (F := Ideal))) ⟨m, fun _ => 0, g⟩ (fun r => ∀ c : Dev Cert.FirstCallIdeal.nD,
          r.2.mem ((c.tc : Thread Cert.FirstCallIdeal.nD Cert.FirstCallIdeal.τ).loc Cert.FirstCallIdeal.main_v4_0) = v0 c
          ∧ r.2.mem ((c.tc : Thread Cert.FirstCallIdeal.nD Cert.FirstCallIdeal.τ).loc Cert.FirstCallIdeal.main_v4_1) = v1 c
          ∧ r.2.mem ((c.tc : Thread Cert.FirstCallIdeal.nD Cert.FirstCallIdeal.τ).loc Cert.FirstCallIdeal.main_arg0) = m ((c.tc : Thread Cert.FirstCallIdeal.nD Cert.FirstCallIdeal.τ).loc Cert.FirstCallIdeal.main_arg0)
          ∧ r.2.mem ((c.tc : Thread Cert.FirstCallIdeal.nD Cert.FirstCallIdeal.τ).loc Cert.FirstCallIdeal.main_arg1) = m ((c.tc : Thread Cert.FirstCallIdeal.nD Cert.FirstCallIdeal.τ).loc Cert.FirstCallIdeal.main_arg1)
          ∧ r.2.mem ((c.tc : Thread Cert.FirstCallIdeal.nD Cert.FirstCallIdeal.τ).loc Cert.FirstCallIdeal.main_arg2) = m ((c.tc : Thread Cert.FirstCallIdeal.nD Cert.FirstCallIdeal.τ).loc Cert.FirstCallIdeal.main_arg2)
          ∧ r.2.mem ((c.tc : Thread Cert.FirstCallIdeal.nD Cert.FirstCallIdeal.τ).loc Cert.FirstCallIdeal.main_arg3) = m ((c.tc : Thread Cert.FirstCallIdeal.nD Cert.FirstCallIdeal.τ).loc Cert.FirstCallIdeal.main_arg3)
          ∧ r.2.mem ((c.tc : Thread Cert.FirstCallIdeal.nD Cert.FirstCallIdeal.τ).loc Cert.FirstCallIdeal.main_arg4) = m ((c.tc : Thread Cert.FirstCallIdeal.nD Cert.FirstCallIdeal.τ).loc Cert.FirstCallIdeal.main_arg4))
      ∧ θ_run (Cert.ImageLossesIdeal.defs (F := Ideal)) (onTc (τ := Cert.ImageLossesIdeal.τ) (Cert.ImageLossesIdeal.main (F := Ideal))) ⟨m', fun _ => 0, g'⟩ (fun r => ∀ c : Dev Cert.ImageLossesIdeal.nD,
          r.2.mem ((c.tc : Thread Cert.ImageLossesIdeal.nD Cert.ImageLossesIdeal.τ).loc Cert.ImageLossesIdeal.main_v201) = v0 c
          ∧ r.2.mem ((c.tc : Thread Cert.ImageLossesIdeal.nD Cert.ImageLossesIdeal.τ).loc Cert.ImageLossesIdeal.main_v202) = v1 c
          ∧ r.2.mem ((c.tc : Thread Cert.ImageLossesIdeal.nD Cert.ImageLossesIdeal.τ).loc Cert.ImageLossesIdeal.main_arg0) = m' ((c.tc : Thread Cert.ImageLossesIdeal.nD Cert.ImageLossesIdeal.τ).loc Cert.ImageLossesIdeal.main_arg0)
          ∧ r.2.mem ((c.tc : Thread Cert.ImageLossesIdeal.nD Cert.ImageLossesIdeal.τ).loc Cert.ImageLossesIdeal.main_arg1) = m' ((c.tc : Thread Cert.ImageLossesIdeal.nD Cert.ImageLossesIdeal.τ).loc Cert.ImageLossesIdeal.main_arg1)
          ∧ r.2.mem ((c.tc : Thread Cert.ImageLossesIdeal.nD Cert.ImageLossesIdeal.τ).loc Cert.ImageLossesIdeal.main_arg2) = m' ((c.tc : Thread Cert.ImageLossesIdeal.nD Cert.ImageLossesIdeal.τ).loc Cert.ImageLossesIdeal.main_arg2)
          ∧ r.2.mem ((c.tc : Thread Cert.ImageLossesIdeal.nD Cert.ImageLossesIdeal.τ).loc Cert.ImageLossesIdeal.main_arg3) = m' ((c.tc : Thread Cert.ImageLossesIdeal.nD Cert.ImageLossesIdeal.τ).loc Cert.ImageLossesIdeal.main_arg3)
          ∧ r.2.mem ((c.tc : Thread Cert.ImageLossesIdeal.nD Cert.ImageLossesIdeal.τ).loc Cert.ImageLossesIdeal.main_arg4) = m' ((c.tc : Thread Cert.ImageLossesIdeal.nD Cert.ImageLossesIdeal.τ).loc Cert.ImageLossesIdeal.main_arg4))

def preserves_SecondCall_SecondCallIdeal : Prop :=
  True

def algebraic_SecondCallIdeal_MinedLossesIdeal_pre_separated_losses [hSecondCallIdeal : Cert.SecondCallIdeal.Facts] [hMinedLossesIdeal : Cert.MinedLossesIdeal.Facts] [hPre_separated_losses : Cert.Pre_separated_losses.Facts] : Prop :=
  ∀ (m : (ℓ : Loc Cert.SecondCallIdeal.nD Cert.SecondCallIdeal.τ Cert.SecondCallIdeal.sig) → Buf (Elt Ideal) ℓ) (g : Dev Cert.SecondCallIdeal.nD → PrngReg)
    (m' : (ℓ : Loc Cert.MinedLossesIdeal.nD Cert.MinedLossesIdeal.τ Cert.MinedLossesIdeal.sig) → Buf (Elt Ideal) ℓ) (g' : Dev Cert.MinedLossesIdeal.nD → PrngReg), Pre_SecondCallIdeal_separated_losses m →
    (∀ c : Dev Cert.SecondCallIdeal.nD,
      m' ((c.tc : Thread Cert.MinedLossesIdeal.nD Cert.MinedLossesIdeal.τ).loc Cert.MinedLossesIdeal.main_arg0) = m ((c.tc : Thread Cert.SecondCallIdeal.nD Cert.SecondCallIdeal.τ).loc Cert.SecondCallIdeal.main_arg0)
      ∧ m' ((c.tc : Thread Cert.MinedLossesIdeal.nD Cert.MinedLossesIdeal.τ).loc Cert.MinedLossesIdeal.main_arg1) = m ((c.tc : Thread Cert.SecondCallIdeal.nD Cert.SecondCallIdeal.τ).loc Cert.SecondCallIdeal.main_arg1)) →
    ∃ (v0 : (c : Dev Cert.SecondCallIdeal.nD) → Buf (Elt Ideal) ((c.tc : Thread Cert.SecondCallIdeal.nD Cert.SecondCallIdeal.τ).loc Cert.SecondCallIdeal.main_v1_0)) (v1 : (c : Dev Cert.SecondCallIdeal.nD) → Buf (Elt Ideal) ((c.tc : Thread Cert.SecondCallIdeal.nD Cert.SecondCallIdeal.τ).loc Cert.SecondCallIdeal.main_v1_1)),
      θ_run (Cert.SecondCallIdeal.defs (F := Ideal)) (onTc (τ := Cert.SecondCallIdeal.τ) (Cert.SecondCallIdeal.main (F := Ideal))) ⟨m, fun _ => 0, g⟩ (fun r => ∀ c : Dev Cert.SecondCallIdeal.nD,
          r.2.mem ((c.tc : Thread Cert.SecondCallIdeal.nD Cert.SecondCallIdeal.τ).loc Cert.SecondCallIdeal.main_v1_0) = v0 c
          ∧ r.2.mem ((c.tc : Thread Cert.SecondCallIdeal.nD Cert.SecondCallIdeal.τ).loc Cert.SecondCallIdeal.main_v1_1) = v1 c
          ∧ r.2.mem ((c.tc : Thread Cert.SecondCallIdeal.nD Cert.SecondCallIdeal.τ).loc Cert.SecondCallIdeal.main_arg0) = m ((c.tc : Thread Cert.SecondCallIdeal.nD Cert.SecondCallIdeal.τ).loc Cert.SecondCallIdeal.main_arg0)
          ∧ r.2.mem ((c.tc : Thread Cert.SecondCallIdeal.nD Cert.SecondCallIdeal.τ).loc Cert.SecondCallIdeal.main_arg1) = m ((c.tc : Thread Cert.SecondCallIdeal.nD Cert.SecondCallIdeal.τ).loc Cert.SecondCallIdeal.main_arg1))
      ∧ θ_run (Cert.MinedLossesIdeal.defs (F := Ideal)) (onTc (τ := Cert.MinedLossesIdeal.τ) (Cert.MinedLossesIdeal.main (F := Ideal))) ⟨m', fun _ => 0, g'⟩ (fun r => ∀ c : Dev Cert.MinedLossesIdeal.nD,
          r.2.mem ((c.tc : Thread Cert.MinedLossesIdeal.nD Cert.MinedLossesIdeal.τ).loc Cert.MinedLossesIdeal.main_v28) = v0 c
          ∧ r.2.mem ((c.tc : Thread Cert.MinedLossesIdeal.nD Cert.MinedLossesIdeal.τ).loc Cert.MinedLossesIdeal.main_v29) = v1 c
          ∧ r.2.mem ((c.tc : Thread Cert.MinedLossesIdeal.nD Cert.MinedLossesIdeal.τ).loc Cert.MinedLossesIdeal.main_arg0) = m' ((c.tc : Thread Cert.MinedLossesIdeal.nD Cert.MinedLossesIdeal.τ).loc Cert.MinedLossesIdeal.main_arg0)
          ∧ r.2.mem ((c.tc : Thread Cert.MinedLossesIdeal.nD Cert.MinedLossesIdeal.τ).loc Cert.MinedLossesIdeal.main_arg1) = m' ((c.tc : Thread Cert.MinedLossesIdeal.nD Cert.MinedLossesIdeal.τ).loc Cert.MinedLossesIdeal.main_arg1))

def Claim : Prop :=
  ∃ (hKernel : Cert.Kernel.Facts) (hKernelIdeal : Cert.KernelIdeal.Facts) (hReferenceIdeal : Cert.ReferenceIdeal.Facts) (hFirstCall : Cert.FirstCall.Facts) (hFirstCallIdeal : Cert.FirstCallIdeal.Facts) (hImageLossesIdeal : Cert.ImageLossesIdeal.Facts) (hSecondCall : Cert.SecondCall.Facts) (hSecondCallIdeal : Cert.SecondCallIdeal.Facts) (hMinedLossesIdeal : Cert.MinedLossesIdeal.Facts) (hPre_labels_not_negative : Cert.Pre_labels_not_negative.Facts) (hPre_separated_priors : Cert.Pre_separated_priors.Facts) (hPre_finite_scores : Cert.Pre_finite_scores.Facts) (hPre_separated_losses : Cert.Pre_separated_losses.Facts) (hOn_first_result : Cert.On_first_result.Facts),
    quiescent_Kernel (hKernel := hKernel)
    ∧ quiescent_KernelIdeal (hKernelIdeal := hKernelIdeal)
    ∧ quiescent_KernelIdeal_pre_labels_not_negative (hKernelIdeal := hKernelIdeal) (hPre_labels_not_negative := hPre_labels_not_negative)
    ∧ quiescent_KernelIdeal_pre_separated_priors (hKernelIdeal := hKernelIdeal) (hPre_separated_priors := hPre_separated_priors)
    ∧ quiescent_ReferenceIdeal (hReferenceIdeal := hReferenceIdeal)
    ∧ quiescent_ReferenceIdeal_pre_labels_not_negative (hReferenceIdeal := hReferenceIdeal) (hPre_labels_not_negative := hPre_labels_not_negative)
    ∧ quiescent_ReferenceIdeal_pre_separated_priors (hReferenceIdeal := hReferenceIdeal) (hPre_separated_priors := hPre_separated_priors)
    ∧ quiescent_FirstCall (hFirstCall := hFirstCall)
    ∧ quiescent_FirstCallIdeal (hFirstCallIdeal := hFirstCallIdeal)
    ∧ quiescent_FirstCallIdeal_pre_finite_scores (hFirstCallIdeal := hFirstCallIdeal) (hPre_finite_scores := hPre_finite_scores)
    ∧ quiescent_ImageLossesIdeal (hImageLossesIdeal := hImageLossesIdeal)
    ∧ quiescent_ImageLossesIdeal_pre_finite_scores (hImageLossesIdeal := hImageLossesIdeal) (hPre_finite_scores := hPre_finite_scores)
    ∧ quiescent_SecondCall (hSecondCall := hSecondCall)
    ∧ quiescent_SecondCallIdeal (hSecondCallIdeal := hSecondCallIdeal)
    ∧ quiescent_SecondCallIdeal_pre_separated_losses (hSecondCallIdeal := hSecondCallIdeal) (hPre_separated_losses := hPre_separated_losses)
    ∧ quiescent_MinedLossesIdeal (hMinedLossesIdeal := hMinedLossesIdeal)
    ∧ quiescent_MinedLossesIdeal_pre_separated_losses (hMinedLossesIdeal := hMinedLossesIdeal) (hPre_separated_losses := hPre_separated_losses)
    ∧ preserves_Kernel_KernelIdeal
    ∧ algebraic_KernelIdeal_ReferenceIdeal_on_first_result_pre_labels_not_negative (hKernelIdeal := hKernelIdeal) (hReferenceIdeal := hReferenceIdeal) (hPre_labels_not_negative := hPre_labels_not_negative) (hOn_first_result := hOn_first_result)
    ∧ algebraic_KernelIdeal_ReferenceIdeal_pre_separated_priors (hKernelIdeal := hKernelIdeal) (hReferenceIdeal := hReferenceIdeal) (hPre_separated_priors := hPre_separated_priors)
    ∧ preserves_FirstCall_FirstCallIdeal
    ∧ algebraic_FirstCallIdeal_ImageLossesIdeal_pre_finite_scores (hFirstCallIdeal := hFirstCallIdeal) (hImageLossesIdeal := hImageLossesIdeal) (hPre_finite_scores := hPre_finite_scores)
    ∧ preserves_SecondCall_SecondCallIdeal
    ∧ algebraic_SecondCallIdeal_MinedLossesIdeal_pre_separated_losses (hSecondCallIdeal := hSecondCallIdeal) (hMinedLossesIdeal := hMinedLossesIdeal) (hPre_separated_losses := hPre_separated_losses)
-- ==== On_first_result.lean ====
abbrev S32x20000x4 : Shape := ⟨3, ![32, 20000, 4]⟩
abbrev S32x20000x21 : Shape := ⟨3, ![32, 20000, 21]⟩
abbrev S20000x4 : Shape := ⟨2, ![20000, 4]⟩
abbrev S32x24x4 : Shape := ⟨3, ![32, 24, 4]⟩
abbrev S32x24 : Shape := ⟨2, ![32, 24]⟩
abbrev S_ : Shape := ⟨0, ![]⟩

class Facts : Prop where

variable [Facts]

def fn {F : FTy → Type} [FloatOps F] (main_arg0 : FVec F S32x20000x4 .f32) (main_arg1 : FVec F S32x20000x21 .f32) (main_arg2 : FVec F S20000x4 .f32) (main_arg3 : FVec F S32x24x4 .f32) (main_arg4 : IVec S32x24 32) : IVec S_ 1 × IVec S_ 1 :=
  let main_c : IVec S_ 1 := constantI S_ 1 1#1
  let main_c_0 : IVec S_ 1 := constantI S_ 1 0#1
  (main_c, main_c_0)
-- ==== Pre_finite_scores.lean ====
abbrev S32x20000x4 : Shape := ⟨3, ![32, 20000, 4]⟩
abbrev S32x20000x21 : Shape := ⟨3, ![32, 20000, 21]⟩
abbrev S20000x4 : Shape := ⟨2, ![20000, 4]⟩
abbrev S32x24x4 : Shape := ⟨3, ![32, 24, 4]⟩
abbrev S32x24 : Shape := ⟨2, ![32, 24]⟩
abbrev S_ : Shape := ⟨0, ![]⟩

class Facts : Prop where
  bcast_S_S32x24 : S_.BroadcastsInDim S32x24 (![] : Fin 0 → Fin S32x24.rank)
  bcast_S_S32x20000x21 : S_.BroadcastsInDim S32x20000x21 (![] : Fin 0 → Fin S32x20000x21.rank)

variable [Facts]

def fn {F : FTy → Type} [FloatOps F] (main_arg0 : FVec F S32x20000x4 .f32) (main_arg1 : FVec F S32x20000x21 .f32) (main_arg2 : FVec F S20000x4 .f32) (main_arg3 : FVec F S32x24x4 .f32) (main_arg4 : IVec S32x24 32) : IVec S32x24 1 × IVec S32x20000x21 1 :=
  let main_c : IVec S_ 32 := constantI S_ 32 0#32
  let main_v0 : IVec S32x24 32 := broadcastInDim S32x24 ![] bcast_S_S32x24 main_c
  let main_v1 : IVec S32x24 1 := cmpi .sge main_arg4 main_v0
  let main_c_0 : IVec S_ 32 := constantI S_ 32 20#32
  let main_v2 : IVec S32x24 32 := broadcastInDim S32x24 ![] bcast_S_S32x24 main_c_0
  let main_v3 : IVec S32x24 1 := cmpi .slt main_arg4 main_v2
  let main_v4 : IVec S32x24 1 := andi main_v1 main_v3
  let main_v5 : FVec F S32x20000x21 .f32 := Host.absf main_arg1
  let main_cst : FVec F S_ .f32 := constant S_ .f32 0x7F800000#32
  let main_v6 : FVec F S32x20000x21 .f32 := broadcastInDim S32x20000x21 ![] bcast_S_S32x20000x21 main_cst
  let main_v7 : IVec S32x20000x21 1 := cmpf .olt main_v5 main_v6
  (main_v4, main_v7)
-- ==== Pre_labels_not_negative.lean ====
abbrev S32x20000x4 : Shape := ⟨3, ![32, 20000, 4]⟩
abbrev S32x20000x21 : Shape := ⟨3, ![32, 20000, 21]⟩
abbrev S20000x4 : Shape := ⟨2, ![20000, 4]⟩
abbrev S32x24x4 : Shape := ⟨3, ![32, 24, 4]⟩
abbrev S32x24 : Shape := ⟨2, ![32, 24]⟩
abbrev S_ : Shape := ⟨0, ![]⟩

class Facts : Prop where
  bcast_S_S32x24 : S_.BroadcastsInDim S32x24 (![] : Fin 0 → Fin S32x24.rank)

variable [Facts]

def fn {F : FTy → Type} [FloatOps F] (main_arg0 : FVec F S32x20000x4 .f32) (main_arg1 : FVec F S32x20000x21 .f32) (main_arg2 : FVec F S20000x4 .f32) (main_arg3 : FVec F S32x24x4 .f32) (main_arg4 : IVec S32x24 32) : IVec S32x24 1 :=
  let main_c : IVec S_ 32 := constantI S_ 32 0#32
  let main_v0 : IVec S32x24 32 := broadcastInDim S32x24 ![] bcast_S_S32x24 main_c
  let main_v1 : IVec S32x24 1 := cmpi .sge main_arg4 main_v0
  main_v1
-- ==== Pre_separated_losses.lean ====
abbrev S32x8x128 : Shape := ⟨3, ![32, 8, 128]⟩
abbrev S32x1x20000 : Shape := ⟨3, ![32, 1, 20000]⟩
abbrev S32x1x1 : Shape := ⟨3, ![32, 1, 1]⟩
abbrev S32x1 : Shape := ⟨2, ![32, 1]⟩
abbrev S_ : Shape := ⟨0, ![]⟩
abbrev S32x20000 : Shape := ⟨2, ![32, 20000]⟩
abbrev S19999 : Shape := ⟨1, ![19999]⟩
abbrev S1x19999 : Shape := ⟨2, ![1, 19999]⟩
abbrev S32x19999 : Shape := ⟨2, ![32, 19999]⟩

class Facts : Prop where
  slices_S32x8x128_S32x1x1_0_2_0 : S32x8x128.Slices ![0, 2, 0] S32x1x1
  shapeCasts_S32x1x1_S32x1 : S32x1x1.ShapeCasts S32x1
  bcast_S_S32x1 : S_.BroadcastsInDim S32x1 (![] : Fin 0 → Fin S32x1.rank)
  shapeCasts_S32x1x20000_S32x20000 : S32x1x20000.ShapeCasts S32x20000
  slices_S32x20000_S32x1_0_0 : S32x20000.Slices ![0, 0] S32x1
  bcast_S_S19999 : S_.BroadcastsInDim S19999 (![] : Fin 0 → Fin S19999.rank)
  bcast_S19999_S1x19999_1 : S19999.BroadcastsInDim S1x19999 (![1] : Fin 1 → Fin S1x19999.rank)
  bcast_S1x19999_S32x19999_0_1 : S1x19999.BroadcastsInDim S32x19999 (![0, 1] : Fin 2 → Fin S32x19999.rank)
  bcast_S32x1_S32x19999_0_1 : S32x1.BroadcastsInDim S32x19999 (![0, 1] : Fin 2 → Fin S32x19999.rank)
  bcast_S_S32x1x20000 : S_.BroadcastsInDim S32x1x20000 (![] : Fin 0 → Fin S32x1x20000.rank)
  slices_S32x20000_S32x19999_0_0 : S32x20000.Slices ![0, 0] S32x19999
  slices_S32x20000_S32x19999_0_1 : S32x20000.Slices ![0, 1] S32x19999

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S32x20000 .f32) : FVec F S32x20000 .f32 :=
  let v0 : FVec F S32x20000 .f32 := (fun x => Host.sort S32x20000 1 comparator_f32_d1 x) arg0
  v0

def fn_part1 {F : FTy → Type} [FloatOps F] (main_arg1 : FVec F S32x1x20000 .f32) (main_v1 : FVec F S32x1 .f32) (main_v5 : FVec F S32x1 .f32) (main_v9 : FVec F S32x20000 .f32) (main_v14 : FVec F S32x1 .f32) (main_v18 : FVec F S19999 .f32) : IVec S32x1 1 × IVec S32x1x20000 1 × IVec S32x19999 1 :=
  let main_v19 : FVec F S1x19999 .f32 := broadcastInDim S1x19999 ![1] bcast_S19999_S1x19999_1 main_v18
  let main_v20 : FVec F S32x19999 .f32 := broadcastInDim S32x19999 ![0, 1] bcast_S1x19999_S32x19999_0_1 main_v19
  let main_v21 : FVec F S32x19999 .f32 := broadcastInDim S32x19999 ![0, 1] bcast_S32x1_S32x19999_0_1 main_v5
  let main_v22 : IVec S32x19999 1 := cmpf .oeq main_v20 main_v21
  let main_cst_3 : FVec F S_ .f32 := constant S_ .f32 0x00000000#32
  let main_v23 : FVec F S32x1 .f32 := broadcastInDim S32x1 ![] bcast_S_S32x1 main_cst_3
  let main_v24 : IVec S32x1 1 := cmpf .oge main_v1 main_v23
  let main_v25 : IVec S32x1 32 := fptosi 32 main_v1
  let main_v26 : FVec F S32x1 .f32 := sitofp .f32 main_v25
  let main_v27 : IVec S32x1 1 := cmpf .oeq main_v26 main_v1
  let main_v28 : IVec S32x1 1 := andi main_v24 main_v27
  let main_cst_4 : FVec F S_ .f32 := constant S_ .f32 0x00000000#32
  let main_v29 : FVec F S32x1x20000 .f32 := broadcastInDim S32x1x20000 ![] bcast_S_S32x1x20000 main_cst_4
  let main_v30 : IVec S32x1x20000 1 := cmpf .oge main_arg1 main_v29
  let main_v31 : IVec S32x19999 1 := noti main_v22
  let main_v32 : FVec F S32x19999 .f32 := (extractStridedSlice S32x19999 ![0, 0] · slices_S32x20000_S32x19999_0_0) main_v9
  let main_v33 : FVec F S32x19999 .f32 := (extractStridedSlice S32x19999 ![0, 1] · slices_S32x20000_S32x19999_0_1) main_v9
  let main_v34 : FVec F S32x19999 .f32 := subf main_v32 main_v33
  let main_v35 : FVec F S32x19999 .f32 := broadcastInDim S32x19999 ![0, 1] bcast_S32x1_S32x19999_0_1 main_v14
  let main_v36 : IVec S32x19999 1 := cmpf .oge main_v34 main_v35
  let main_v37 : IVec S32x19999 1 := ori main_v31 main_v36
  (main_v28, main_v30, main_v37)

def fn {F : FTy → Type} [FloatOps F] (main_arg0 : FVec F S32x8x128 .f32) (main_arg1 : FVec F S32x1x20000 .f32) : IVec S32x1 1 × IVec S32x1x20000 1 × IVec S32x19999 1 :=
  let main_v0 : FVec F S32x1x1 .f32 := (extractStridedSlice S32x1x1 ![0, 2, 0] · slices_S32x8x128_S32x1x1_0_2_0) main_arg0
  let main_v1 : FVec F S32x1 .f32 := shapeCast S32x1 main_v0 shapeCasts_S32x1x1_S32x1
  let main_cst : FVec F S_ .f32 := constant S_ .f32 0x40400000#32
  let main_v2 : FVec F S32x1 .f32 := broadcastInDim S32x1 ![] bcast_S_S32x1 main_cst
  let main_v3 : FVec F S32x1 .f32 := mulf main_v2 main_v1
  let main_cst_0 : FVec F S_ .f32 := constant S_ .f32 0x469C3E00#32
  let main_v4 : FVec F S32x1 .f32 := broadcastInDim S32x1 ![] bcast_S_S32x1 main_cst_0
  let main_v5 : FVec F S32x1 .f32 := minimumf main_v3 main_v4
  let main_v6 : FVec F S32x20000 .f32 := shapeCast S32x20000 main_arg1 shapeCasts_S32x1x20000_S32x20000
  let main_v7 : FVec F S32x20000 .f32 := Host.negf main_v6
  let main_v8 : FVec F S32x20000 .f32 := fn_sort (F := F) main_v7
  let main_v9 : FVec F S32x20000 .f32 := Host.negf main_v8
  let main_v10 : FVec F S32x1 .f32 := (extractStridedSlice S32x1 ![0, 0] · slices_S32x20000_S32x1_0_0) main_v9
  let main_cst_1 : FVec F S_ .f32 := constant S_ .f32 0x3F800000#32
  let main_v11 : FVec F S32x1 .f32 := broadcastInDim S32x1 ![] bcast_S_S32x1 main_cst_1
  let main_v12 : FVec F S32x1 .f32 := addf main_v10 main_v11
  let main_cst_2 : FVec F S_ .f32 := constant S_ .f32 0x33800000#32
  let main_v13 : FVec F S32x1 .f32 := broadcastInDim S32x1 ![] bcast_S_S32x1 main_cst_2
  let main_v14 : FVec F S32x1 .f32 := mulf main_v12 main_v13
  let main_v15 : IVec S19999 32 := iotaInDim S19999 32 0
  let main_c : IVec S_ 32 := constantI S_ 32 1#32
  let main_v16 : IVec S19999 32 := broadcastInDim S19999 ![] bcast_S_S19999 main_c
  let main_v17 : IVec S19999 32 := addi main_v16 main_v15
  let main_v18 : FVec F S19999 .f32 := sitofp .f32 main_v17
  fn_part1 (F := F) main_arg1 main_v1 main_v5 main_v9 main_v14 main_v18
-- ==== Pre_separated_priors.lean ====
abbrev S32x20000x4 : Shape := ⟨3, ![32, 20000, 4]⟩
abbrev S32x20000x21 : Shape := ⟨3, ![32, 20000, 21]⟩
abbrev S20000x4 : Shape := ⟨2, ![20000, 4]⟩
abbrev S32x24x4 : Shape := ⟨3, ![32, 24, 4]⟩
abbrev S32x24 : Shape := ⟨2, ![32, 24]⟩
abbrev S32 : Shape := ⟨1, ![32]⟩
abbrev S32x1 : Shape := ⟨2, ![32, 1]⟩
abbrev S20000x2 : Shape := ⟨2, ![20000, 2]⟩
abbrev S_ : Shape := ⟨0, ![]⟩
abbrev S32x24x2 : Shape := ⟨3, ![32, 24, 2]⟩
abbrev S32x24x1x2 : Shape := ⟨4, ![32, 24, 1, 2]⟩
abbrev S1x1x20000x2 : Shape := ⟨4, ![1, 1, 20000, 2]⟩
abbrev S32x24x20000x2 : Shape := ⟨4, ![32, 24, 20000, 2]⟩
abbrev S32x24x20000x1 : Shape := ⟨4, ![32, 24, 20000, 1]⟩
abbrev S32x24x20000 : Shape := ⟨3, ![32, 24, 20000]⟩
abbrev S32x24x1 : Shape := ⟨3, ![32, 24, 1]⟩
abbrev S20000x1 : Shape := ⟨2, ![20000, 1]⟩
abbrev S20000 : Shape := ⟨1, ![20000]⟩
abbrev S1x1x20000 : Shape := ⟨3, ![1, 1, 20000]⟩
abbrev S32x20000 : Shape := ⟨2, ![32, 20000]⟩
abbrev S24 : Shape := ⟨1, ![24]⟩
abbrev S1x24 : Shape := ⟨2, ![1, 24]⟩
abbrev S32x20000x1 : Shape := ⟨3, ![32, 20000, 1]⟩
abbrev S32x20000x2 : Shape := ⟨3, ![32, 20000, 2]⟩
abbrev S1x20000x2 : Shape := ⟨3, ![1, 20000, 2]⟩
abbrev S32x20000x1x1 : Shape := ⟨4, ![32, 20000, 1, 1]⟩
abbrev S1 : Shape := ⟨1, ![1]⟩
abbrev S1x1x1x1 : Shape := ⟨4, ![1, 1, 1, 1]⟩
abbrev S19999 : Shape := ⟨1, ![19999]⟩
abbrev S1x19999 : Shape := ⟨2, ![1, 19999]⟩
abbrev S32x19999 : Shape := ⟨2, ![32, 19999]⟩

class Facts : Prop where
  bcast_S32_S32x1_0 : S32.BroadcastsInDim S32x1 (![0] : Fin 1 → Fin S32x1.rank)
  slices_S20000x4_S20000x2_0_0 : S20000x4.Slices ![0, 0] S20000x2
  slices_S20000x4_S20000x2_0_2 : S20000x4.Slices ![0, 2] S20000x2
  bcast_S_S20000x2 : S_.BroadcastsInDim S20000x2 (![] : Fin 0 → Fin S20000x2.rank)
  concatenates_S20000x2_S20000x2_S20000x4_d1 : Shape.Concatenates [S20000x2, S20000x2] S20000x4 1
  slices_S32x24x4_S32x24x2_0_0_2 : S32x24x4.Slices ![0, 0, 2] S32x24x2
  bcast_S32x24x2_S32x24x1x2_0_1_3 : S32x24x2.BroadcastsInDim S32x24x1x2 (![0, 1, 3] : Fin 3 → Fin S32x24x1x2.rank)
  bcast_S20000x2_S1x1x20000x2_2_3 : S20000x2.BroadcastsInDim S1x1x20000x2 (![2, 3] : Fin 2 → Fin S1x1x20000x2.rank)
  bcast_S32x24x1x2_S32x24x20000x2_0_1_2_3 : S32x24x1x2.BroadcastsInDim S32x24x20000x2 (![0, 1, 2, 3] : Fin 4 → Fin S32x24x20000x2.rank)
  bcast_S1x1x20000x2_S32x24x20000x2_0_1_2_3 : S1x1x20000x2.BroadcastsInDim S32x24x20000x2 (![0, 1, 2, 3] : Fin 4 → Fin S32x24x20000x2.rank)
  slices_S32x24x4_S32x24x2_0_0_0 : S32x24x4.Slices ![0, 0, 0] S32x24x2
  bcast_S_S32x24x20000x2 : S_.BroadcastsInDim S32x24x20000x2 (![] : Fin 0 → Fin S32x24x20000x2.rank)
  slices_S32x24x20000x2_S32x24x20000x1_0_0_0_0 : S32x24x20000x2.Slices ![0, 0, 0, 0] S32x24x20000x1
  shapeCasts_S32x24x20000x1_S32x24x20000 : S32x24x20000x1.ShapeCasts S32x24x20000
  slices_S32x24x20000x2_S32x24x20000x1_0_0_0_1 : S32x24x20000x2.Slices ![0, 0, 0, 1] S32x24x20000x1
  slices_S32x24x4_S32x24x1_0_0_2 : S32x24x4.Slices ![0, 0, 2] S32x24x1
  shapeCasts_S32x24x1_S32x24 : S32x24x1.ShapeCasts S32x24
  slices_S32x24x4_S32x24x1_0_0_0 : S32x24x4.Slices ![0, 0, 0] S32x24x1
  slices_S32x24x4_S32x24x1_0_0_3 : S32x24x4.Slices ![0, 0, 3] S32x24x1
  slices_S32x24x4_S32x24x1_0_0_1 : S32x24x4.Slices ![0, 0, 1] S32x24x1
  bcast_S32x24_S32x24x1_0_1 : S32x24.BroadcastsInDim S32x24x1 (![0, 1] : Fin 2 → Fin S32x24x1.rank)
  slices_S20000x4_S20000x1_0_2 : S20000x4.Slices ![0, 2] S20000x1
  shapeCasts_S20000x1_S20000 : S20000x1.ShapeCasts S20000
  slices_S20000x4_S20000x1_0_0 : S20000x4.Slices ![0, 0] S20000x1
  slices_S20000x4_S20000x1_0_3 : S20000x4.Slices ![0, 3] S20000x1
  slices_S20000x4_S20000x1_0_1 : S20000x4.Slices ![0, 1] S20000x1
  bcast_S20000_S1x1x20000_2 : S20000.BroadcastsInDim S1x1x20000 (![2] : Fin 1 → Fin S1x1x20000.rank)
  bcast_S32x24x1_S32x24x20000_0_1_2 : S32x24x1.BroadcastsInDim S32x24x20000 (![0, 1, 2] : Fin 3 → Fin S32x24x20000.rank)
  bcast_S1x1x20000_S32x24x20000_0_1_2 : S1x1x20000.BroadcastsInDim S32x24x20000 (![0, 1, 2] : Fin 3 → Fin S32x24x20000.rank)
  reducesTo_S32x24x20000_S32x24_d2 : S32x24x20000.ReducesTo [2] S32x24
  h_S_ : 0 < S_.numel
  reducesTo_S32x24x20000_S32x20000_d1 : S32x24x20000.ReducesTo [1] S32x20000
  bcast_S_S32x1 : S_.BroadcastsInDim S32x1 (![] : Fin 0 → Fin S32x1.rank)
  bcast_S_S32x24 : S_.BroadcastsInDim S32x24 (![] : Fin 0 → Fin S32x24.rank)
  bcast_S32x1_S32x24_0_1 : S32x1.BroadcastsInDim S32x24 (![0, 1] : Fin 2 → Fin S32x24.rank)
  concatenates_S32x24x1_S32x24x1_S32x24x2_d2 : Shape.Concatenates [S32x24x1, S32x24x1] S32x24x2 2
  bcast_S24_S1x24_1 : S24.BroadcastsInDim S1x24 (![1] : Fin 1 → Fin S1x24.rank)
  bcast_S1x24_S32x24_0_1 : S1x24.BroadcastsInDim S32x24 (![0, 1] : Fin 2 → Fin S32x24.rank)
  bcast_S_S32x20000 : S_.BroadcastsInDim S32x20000 (![] : Fin 0 → Fin S32x20000.rank)
  bcast_S32x1_S32x20000_0_1 : S32x1.BroadcastsInDim S32x20000 (![0, 1] : Fin 2 → Fin S32x20000.rank)
  bcast_S32x20000_S32x20000x1_0_1 : S32x20000.BroadcastsInDim S32x20000x1 (![0, 1] : Fin 2 → Fin S32x20000x1.rank)
  concatenates_S32x20000x1_S32x20000x1_S32x20000x2_d2 : Shape.Concatenates [S32x20000x1, S32x20000x1] S32x20000x2 2
  slices_S32x20000x4_S32x20000x2_0_0_0 : S32x20000x4.Slices ![0, 0, 0] S32x20000x2
  slices_S32x20000x4_S32x20000x2_0_0_2 : S32x20000x4.Slices ![0, 0, 2] S32x20000x2
  bcast_S_S32x20000x2 : S_.BroadcastsInDim S32x20000x2 (![] : Fin 0 → Fin S32x20000x2.rank)
  bcast_S20000x2_S1x20000x2_1_2 : S20000x2.BroadcastsInDim S1x20000x2 (![1, 2] : Fin 2 → Fin S1x20000x2.rank)
  bcast_S1x20000x2_S32x20000x2_0_1_2 : S1x20000x2.BroadcastsInDim S32x20000x2 (![0, 1, 2] : Fin 3 → Fin S32x20000x2.rank)
  bcast_S_S1x20000x2 : S_.BroadcastsInDim S1x20000x2 (![] : Fin 0 → Fin S1x20000x2.rank)
  concatenates_S32x20000x2_S32x20000x2_S32x20000x4_d2 : Shape.Concatenates [S32x20000x2, S32x20000x2] S32x20000x4 2
  reducesTo_S32x20000x21_S32x20000_d2 : S32x20000x21.ReducesTo [2] S32x20000
  bcast_S32x20000x1_S32x20000x21_0_1_2 : S32x20000x1.BroadcastsInDim S32x20000x21 (![0, 1, 2] : Fin 3 → Fin S32x20000x21.rank)
  bcast_S_S32x20000x1 : S_.BroadcastsInDim S32x20000x1 (![] : Fin 0 → Fin S32x20000x1.rank)
  shapeCasts_S32x20000x1_S32x20000x1x1 : S32x20000x1.ShapeCasts S32x20000x1x1
  bcast_S_S32x20000x1x1 : S_.BroadcastsInDim S32x20000x1x1 (![] : Fin 0 → Fin S32x20000x1x1.rank)
  bcast_S1_S1x1x1x1_3 : S1.BroadcastsInDim S1x1x1x1 (![3] : Fin 1 → Fin S1x1x1x1.rank)
  bcast_S1x1x1x1_S32x20000x1x1_0_1_2_3 : S1x1x1x1.BroadcastsInDim S32x20000x1x1 (![0, 1, 2, 3] : Fin 4 → Fin S32x20000x1x1.rank)
  reducesTo_S32x20000x1x1_S32x20000x1_d3 : S32x20000x1x1.ReducesTo [3] S32x20000x1
  shapeCasts_S32x20000x1_S32x20000 : S32x20000x1.ShapeCasts S32x20000
  natLt_1_32 : 1 < 32
  reducesTo_S32x20000_S32_d1 : S32x20000.ReducesTo [1] S32
  slices_S32x20000_S32x1_0_0 : S32x20000.Slices ![0, 0] S32x1
  bcast_S_S19999 : S_.BroadcastsInDim S19999 (![] : Fin 0 → Fin S19999.rank)
  bcast_S19999_S1x19999_1 : S19999.BroadcastsInDim S1x19999 (![1] : Fin 1 → Fin S1x19999.rank)
  bcast_S1x19999_S32x19999_0_1 : S1x19999.BroadcastsInDim S32x19999 (![0, 1] : Fin 2 → Fin S32x19999.rank)
  bcast_S32x1_S32x19999_0_1 : S32x1.BroadcastsInDim S32x19999 (![0, 1] : Fin 2 → Fin S32x19999.rank)
  bcast_S_S32x20000x21 : S_.BroadcastsInDim S32x20000x21 (![] : Fin 0 → Fin S32x20000x21.rank)
  slices_S32x20000_S32x19999_0_0 : S32x20000.Slices ![0, 0] S32x19999
  slices_S32x20000_S32x19999_0_1 : S32x20000.Slices ![0, 1] S32x19999
  scatter_S32x20000_S32x24x2_S32x24_n_01_01_2_wf : ScatterDims.WF S32x20000 S32x24x2 S32x24 [] [0, 1] [0, 1] 2
  gather_S32x24x4_S32x20000x2_S32x20000x4_2_01_n_n_01_2_114_wf : GatherDims.WF S32x24x4 S32x20000x2 S32x20000x4 [2] [0, 1] [] [0, 1] [] 2 ![1, 1, 4]
  gather_S32x24_S32x20000x2_S32x20000_n_01_n_n_01_2_11_wf : GatherDims.WF S32x24 S32x20000x2 S32x20000 [] [0, 1] [] [0, 1] [] 2 ![1, 1]
  gather_S32x20000x21_S32x20000x1x1_S32x20000x1_n_2_01_01_2_3_111_wf : GatherDims.WF S32x20000x21 S32x20000x1x1 S32x20000x1 [] [2] [0, 1] [2] [0, 1] 3 ![1, 1, 1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S32x20000_S32x24x2_S32x24_n_01_01_2 : ScatterDims S32x20000 S32x24x2 S32x24 where
  updateWindowDims := []
  insertedWindowDims := [0, 1]
  scatterDimsToOperandDims := [0, 1]
  indexVectorDim := 2
  wf := scatter_S32x20000_S32x24x2_S32x24_n_01_01_2_wf
def gather_S32x24x4_S32x20000x2_S32x20000x4_2_01_n_n_01_2_114 : GatherDims S32x24x4 S32x20000x2 S32x20000x4 where
  offsetDims := [2]
  collapsedSliceDims := [0, 1]
  operandBatchingDims := []
  startIndicesBatchingDims := []
  startIndexMap := [0, 1]
  indexVectorDim := 2
  sliceSizes := ![1, 1, 4]
  wf := gather_S32x24x4_S32x20000x2_S32x20000x4_2_01_n_n_01_2_114_wf
def gather_S32x24_S32x20000x2_S32x20000_n_01_n_n_01_2_11 : GatherDims S32x24 S32x20000x2 S32x20000 where
  offsetDims := []
  collapsedSliceDims := [0, 1]
  operandBatchingDims := []
  startIndicesBatchingDims := []
  startIndexMap := [0, 1]
  indexVectorDim := 2
  sliceSizes := ![1, 1]
  wf := gather_S32x24_S32x20000x2_S32x20000_n_01_n_n_01_2_11_wf
def gather_S32x20000x21_S32x20000x1x1_S32x20000x1_n_2_01_01_2_3_111 : GatherDims S32x20000x21 S32x20000x1x1 S32x20000x1 where
  offsetDims := []
  collapsedSliceDims := [2]
  operandBatchingDims := [0, 1]
  startIndicesBatchingDims := [0, 1]
  startIndexMap := [2]
  indexVectorDim := 3
  sliceSizes := ![1, 1, 1]
  wf := gather_S32x20000x21_S32x20000x1x1_S32x20000x1_n_2_01_01_2_3_111_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_argmax {F : FTy → Type} [FloatOps F] (arg0 : FVec F S32x24x20000 .f32) : IVec S32x24 32 :=
  let v0 : IVec S32x24x20000 32 := iotaInDim S32x24x20000 32 2
  let cst : FVec F S_ .f32 := constant S_ .f32 0xFF800000#32
  let c : IVec S_ 32 := constantI S_ 32 0#32
  let v1_0 : FVec F S32x24 .f32 := (fun x y u v j => (Host.argReduce reducer_argmax_f32_i32 x y u v reducesTo_S32x24x20000_S32x24_d2 h_S_ j).1) arg0 v0 cst c
  let v1_1 : IVec S32x24 32 := (fun x y u v j => (Host.argReduce reducer_argmax_f32_i32 x y u v reducesTo_S32x24x20000_S32x24_d2 h_S_ j).2) arg0 v0 cst c
  v1_1

def fn_argmax_0 {F : FTy → Type} [FloatOps F] (arg0 : FVec F S32x24x20000 .f32) : IVec S32x20000 32 :=
  let v0 : IVec S32x24x20000 32 := iotaInDim S32x24x20000 32 1
  let cst : FVec F S_ .f32 := constant S_ .f32 0xFF800000#32
  let c : IVec S_ 32 := constantI S_ 32 0#32
  let v1_0 : FVec F S32x20000 .f32 := (fun x y u v j => (Host.argReduce reducer_argmax_f32_i32 x y u v reducesTo_S32x24x20000_S32x20000_d1 h_S_ j).1) arg0 v0 cst c
  let v1_1 : IVec S32x20000 32 := (fun x y u v j => (Host.argReduce reducer_argmax_f32_i32 x y u v reducesTo_S32x24x20000_S32x20000_d1 h_S_ j).2) arg0 v0 cst c
  v1_1

def fn_where {F : FTy → Type} [FloatOps F] (arg0 : IVec S32x20000 1) (arg1 : IVec S_ 32) (arg2 : IVec S32x20000 32) : IVec S32x20000 32 :=
  let v0 : IVec S_ 32 := id arg1
  let v1 : IVec S32x20000 32 := broadcastInDim S32x20000 ![] bcast_S_S32x20000 v0
  let v2 : IVec S32x20000 32 := select arg0 v1 arg2
  v2

def fn_classes_part7 {F : FTy → Type} [FloatOps F] (arg0 : FVec F S20000x4 .f32) (v115 : FVec F S32x20000x4 .f32) (v135 : IVec S32x20000 32) (v140 : FVec F S32x20000x2 .f32) (v142 : FVec F S1x20000x2 .f32) : IVec S32x20000 32 :=
  let v143 : FVec F S32x20000x2 .f32 := broadcastInDim S32x20000x2 ![0, 1, 2] bcast_S1x20000x2_S32x20000x2_0_1_2 v142
  let v144 : FVec F S32x20000x2 .f32 := subf v140 v143
  let v145 : FVec F S20000x2 .f32 := (extractStridedSlice S20000x2 ![0, 2] · slices_S20000x4_S20000x2_0_2) arg0
  let v146 : FVec F S1x20000x2 .f32 := broadcastInDim S1x20000x2 ![1, 2] bcast_S20000x2_S1x20000x2_1_2 v145
  let cst_23 : FVec F S_ .f32 := constant S_ .f32 0x3DCCCCCD#32
  let v147 : FVec F S1x20000x2 .f32 := broadcastInDim S1x20000x2 ![] bcast_S_S1x20000x2 cst_23
  let v148 : FVec F S1x20000x2 .f32 := mulf v147 v146
  let v149 : FVec F S32x20000x2 .f32 := broadcastInDim S32x20000x2 ![0, 1, 2] bcast_S1x20000x2_S32x20000x2_0_1_2 v148
  let v150 : FVec F S32x20000x2 .f32 := Host.divf v144 v149
  let v151 : FVec F S32x20000x2 .f32 := (extractStridedSlice S32x20000x2 ![0, 0, 2] · slices_S32x20000x4_S32x20000x2_0_0_2) v115
  let v152 : FVec F S32x20000x2 .f32 := (extractStridedSlice S32x20000x2 ![0, 0, 0] · slices_S32x20000x4_S32x20000x2_0_0_0) v115
  let v153 : FVec F S32x20000x2 .f32 := subf v151 v152
  let v154 : FVec F S20000x2 .f32 := (extractStridedSlice S20000x2 ![0, 2] · slices_S20000x4_S20000x2_0_2) arg0
  let v155 : FVec F S1x20000x2 .f32 := broadcastInDim S1x20000x2 ![1, 2] bcast_S20000x2_S1x20000x2_1_2 v154
  let v156 : FVec F S32x20000x2 .f32 := broadcastInDim S32x20000x2 ![0, 1, 2] bcast_S1x20000x2_S32x20000x2_0_1_2 v155
  let v157 : FVec F S32x20000x2 .f32 := Host.divf v153 v156
  let v158 : FVec F S32x20000x2 .f32 := Host.log v157
  let cst_24 : FVec F S_ .f32 := constant S_ .f32 0x3E4CCCCD#32
  let v159 : FVec F S32x20000x2 .f32 := broadcastInDim S32x20000x2 ![] bcast_S_S32x20000x2 cst_24
  let v160 : FVec F S32x20000x2 .f32 := Host.divf v158 v159
  let v161 : FVec F S32x20000x4 .f32 := (fun a b => concatenate S32x20000x4 2 [⟨S32x20000x2, a⟩, ⟨S32x20000x2, b⟩] concatenates_S32x20000x2_S32x20000x2_S32x20000x4_d2) v150 v160
  v135

def fn_classes_part6 {F : FTy → Type} [FloatOps F] (arg0 : FVec F S20000x4 .f32) (arg2 : IVec S32x24 32) (v82 : FVec F S32x20000 .f32) (v100 : IVec S32x20000 32) (v115 : FVec F S32x20000x4 .f32) (v120 : IVec S32x1 32) (v122 : IVec S32x20000 1) (c_18 : IVec S_ 32) : IVec S32x20000 32 :=
  let v123 : IVec S32x20000 32 := broadcastInDim S32x20000 ![] bcast_S_S32x20000 c_18
  let v124 : IVec S32x20000 32 := addi v100 v123
  let v125 : IVec S32x20000 32 := select v122 v124 v100
  let v126 : IVec S32x20000 32 := broadcastInDim S32x20000 ![0, 1] bcast_S32x1_S32x20000_0_1 v120
  let v127 : IVec S32x20000x1 32 := broadcastInDim S32x20000x1 ![0, 1] bcast_S32x20000_S32x20000x1_0_1 v126
  let v128 : IVec S32x20000x1 32 := broadcastInDim S32x20000x1 ![0, 1] bcast_S32x20000_S32x20000x1_0_1 v125
  let v129 : IVec S32x20000x2 32 := (fun a b => concatenate S32x20000x2 2 [⟨S32x20000x1, a⟩, ⟨S32x20000x1, b⟩] concatenates_S32x20000x1_S32x20000x1_S32x20000x2_d2) v127 v128
  let v130 : IVec S32x20000 32 := (fun x i => Host.gather gather_S32x24_S32x20000x2_S32x20000_n_01_n_n_01_2_11 x i) arg2 v129
  let c_19 : IVec S_ 32 := constantI S_ 32 1#32
  let v131 : IVec S32x20000 32 := broadcastInDim S32x20000 ![] bcast_S_S32x20000 c_19
  let v132 : IVec S32x20000 32 := addi v130 v131
  let cst_20 : FVec F S_ .f32 := constant S_ .f32 0x3F000000#32
  let v133 : FVec F S32x20000 .f32 := broadcastInDim S32x20000 ![] bcast_S_S32x20000 cst_20
  let v134 : IVec S32x20000 1 := cmpf .olt v82 v133
  let c_21 : IVec S_ 32 := constantI S_ 32 0#32
  let v135 : IVec S32x20000 32 := fn_where (F := F) v134 c_21 v132
  let v136 : FVec F S32x20000x2 .f32 := (extractStridedSlice S32x20000x2 ![0, 0, 0] · slices_S32x20000x4_S32x20000x2_0_0_0) v115
  let v137 : FVec F S32x20000x2 .f32 := (extractStridedSlice S32x20000x2 ![0, 0, 2] · slices_S32x20000x4_S32x20000x2_0_0_2) v115
  let v138 : FVec F S32x20000x2 .f32 := addf v136 v137
  let cst_22 : FVec F S_ .f32 := constant S_ .f32 0x40000000#32
  let v139 : FVec F S32x20000x2 .f32 := broadcastInDim S32x20000x2 ![] bcast_S_S32x20000x2 cst_22
  let v140 : FVec F S32x20000x2 .f32 := Host.divf v138 v139
  let v141 : FVec F S20000x2 .f32 := (extractStridedSlice S20000x2 ![0, 0] · slices_S20000x4_S20000x2_0_0) arg0
  let v142 : FVec F S1x20000x2 .f32 := broadcastInDim S1x20000x2 ![1, 2] bcast_S20000x2_S1x20000x2_1_2 v141
  fn_classes_part7 (F := F) arg0 v115 v135 v140 v142

def fn_classes_part5 {F : FTy → Type} [FloatOps F] (arg0 : FVec F S20000x4 .f32) (arg1 : FVec F S32x24x4 .f32) (arg2 : IVec S32x24 32) (v1 : IVec S32x1 32) (v82 : FVec F S32x20000 .f32) (v100 : IVec S32x20000 32) (v102 : IVec S32x1 1) (v104 : IVec S32x1 32) : IVec S32x20000 32 :=
  let v105 : IVec S32x1 32 := select v102 v104 v1
  let c_13 : IVec S_ 32 := constantI S_ 32 0#32
  let v106 : IVec S32x20000 32 := broadcastInDim S32x20000 ![] bcast_S_S32x20000 c_13
  let v107 : IVec S32x20000 1 := cmpi .slt v100 v106
  let c_14 : IVec S_ 32 := constantI S_ 32 24#32
  let v108 : IVec S32x20000 32 := broadcastInDim S32x20000 ![] bcast_S_S32x20000 c_14
  let v109 : IVec S32x20000 32 := addi v100 v108
  let v110 : IVec S32x20000 32 := select v107 v109 v100
  let v111 : IVec S32x20000 32 := broadcastInDim S32x20000 ![0, 1] bcast_S32x1_S32x20000_0_1 v105
  let v112 : IVec S32x20000x1 32 := broadcastInDim S32x20000x1 ![0, 1] bcast_S32x20000_S32x20000x1_0_1 v111
  let v113 : IVec S32x20000x1 32 := broadcastInDim S32x20000x1 ![0, 1] bcast_S32x20000_S32x20000x1_0_1 v110
  let v114 : IVec S32x20000x2 32 := (fun a b => concatenate S32x20000x2 2 [⟨S32x20000x1, a⟩, ⟨S32x20000x1, b⟩] concatenates_S32x20000x1_S32x20000x1_S32x20000x2_d2) v112 v113
  let v115 : FVec F S32x20000x4 .f32 := (fun x i => Host.gather gather_S32x24x4_S32x20000x2_S32x20000x4_2_01_n_n_01_2_114 x i) arg1 v114
  let c_15 : IVec S_ 32 := constantI S_ 32 0#32
  let v116 : IVec S32x1 32 := broadcastInDim S32x1 ![] bcast_S_S32x1 c_15
  let v117 : IVec S32x1 1 := cmpi .slt v1 v116
  let c_16 : IVec S_ 32 := constantI S_ 32 32#32
  let v118 : IVec S32x1 32 := broadcastInDim S32x1 ![] bcast_S_S32x1 c_16
  let v119 : IVec S32x1 32 := addi v1 v118
  let v120 : IVec S32x1 32 := select v117 v119 v1
  let c_17 : IVec S_ 32 := constantI S_ 32 0#32
  let v121 : IVec S32x20000 32 := broadcastInDim S32x20000 ![] bcast_S_S32x20000 c_17
  let v122 : IVec S32x20000 1 := cmpi .slt v100 v121
  let c_18 : IVec S_ 32 := constantI S_ 32 24#32
  fn_classes_part6 (F := F) arg0 arg2 v82 v100 v115 v120 v122 c_18

def fn_classes_part4 {F : FTy → Type} [FloatOps F] (arg0 : FVec F S20000x4 .f32) (arg1 : FVec F S32x24x4 .f32) (arg2 : IVec S32x24 32) (v1 : IVec S32x1 32) (v64 : IVec S32x24 32) (v66 : IVec S32x20000 32) (v82 : FVec F S32x20000 .f32) (v84 : IVec S1x24 32) (v85 : IVec S32x1 32) : IVec S32x20000 32 :=
  let v86 : IVec S32x1 1 := cmpi .slt v1 v85
  let c_8 : IVec S_ 32 := constantI S_ 32 32#32
  let v87 : IVec S32x1 32 := broadcastInDim S32x1 ![] bcast_S_S32x1 c_8
  let v88 : IVec S32x1 32 := addi v1 v87
  let v89 : IVec S32x1 32 := select v86 v88 v1
  let c_9 : IVec S_ 32 := constantI S_ 32 0#32
  let v90 : IVec S32x24 32 := broadcastInDim S32x24 ![] bcast_S_S32x24 c_9
  let v91 : IVec S32x24 1 := cmpi .slt v64 v90
  let c_10 : IVec S_ 32 := constantI S_ 32 20000#32
  let v92 : IVec S32x24 32 := broadcastInDim S32x24 ![] bcast_S_S32x24 c_10
  let v93 : IVec S32x24 32 := addi v64 v92
  let v94 : IVec S32x24 32 := select v91 v93 v64
  let v95 : IVec S32x24 32 := broadcastInDim S32x24 ![0, 1] bcast_S32x1_S32x24_0_1 v89
  let v96 : IVec S32x24x1 32 := broadcastInDim S32x24x1 ![0, 1] bcast_S32x24_S32x24x1_0_1 v95
  let v97 : IVec S32x24x1 32 := broadcastInDim S32x24x1 ![0, 1] bcast_S32x24_S32x24x1_0_1 v94
  let v98 : IVec S32x24x2 32 := (fun a b => concatenate S32x24x2 2 [⟨S32x24x1, a⟩, ⟨S32x24x1, b⟩] concatenates_S32x24x1_S32x24x1_S32x24x2_d2) v96 v97
  let v99 : IVec S32x24 32 := broadcastInDim S32x24 ![0, 1] bcast_S1x24_S32x24_0_1 v84
  let v100 : IVec S32x20000 32 := (fun x i u => Host.scatter scatter_S32x20000_S32x24x2_S32x24_n_01_01_2 (fun _ b => b) x i u) v66 v98 v99
  let c_11 : IVec S_ 32 := constantI S_ 32 0#32
  let v101 : IVec S32x1 32 := broadcastInDim S32x1 ![] bcast_S_S32x1 c_11
  let v102 : IVec S32x1 1 := cmpi .slt v1 v101
  let c_12 : IVec S_ 32 := constantI S_ 32 32#32
  let v103 : IVec S32x1 32 := broadcastInDim S32x1 ![] bcast_S_S32x1 c_12
  let v104 : IVec S32x1 32 := addi v1 v103
  fn_classes_part5 (F := F) arg0 arg1 arg2 v1 v82 v100 v102 v104

def fn_classes_part3 {F : FTy → Type} [FloatOps F] (arg0 : FVec F S20000x4 .f32) (arg1 : FVec F S32x24x4 .f32) (arg2 : IVec S32x24 32) (v1 : IVec S32x1 32) (v64 : IVec S32x24 32) (v65 : FVec F S32x20000 .f32) (v66 : IVec S32x20000 32) (c : IVec S_ 32) : IVec S32x20000 32 :=
  let v67 : IVec S32x1 32 := broadcastInDim S32x1 ![] bcast_S_S32x1 c
  let v68 : IVec S32x1 1 := cmpi .slt v1 v67
  let c_3 : IVec S_ 32 := constantI S_ 32 32#32
  let v69 : IVec S32x1 32 := broadcastInDim S32x1 ![] bcast_S_S32x1 c_3
  let v70 : IVec S32x1 32 := addi v1 v69
  let v71 : IVec S32x1 32 := select v68 v70 v1
  let c_4 : IVec S_ 32 := constantI S_ 32 0#32
  let v72 : IVec S32x24 32 := broadcastInDim S32x24 ![] bcast_S_S32x24 c_4
  let v73 : IVec S32x24 1 := cmpi .slt v64 v72
  let c_5 : IVec S_ 32 := constantI S_ 32 20000#32
  let v74 : IVec S32x24 32 := broadcastInDim S32x24 ![] bcast_S_S32x24 c_5
  let v75 : IVec S32x24 32 := addi v64 v74
  let v76 : IVec S32x24 32 := select v73 v75 v64
  let v77 : IVec S32x24 32 := broadcastInDim S32x24 ![0, 1] bcast_S32x1_S32x24_0_1 v71
  let v78 : IVec S32x24x1 32 := broadcastInDim S32x24x1 ![0, 1] bcast_S32x24_S32x24x1_0_1 v77
  let v79 : IVec S32x24x1 32 := broadcastInDim S32x24x1 ![0, 1] bcast_S32x24_S32x24x1_0_1 v76
  let v80 : IVec S32x24x2 32 := (fun a b => concatenate S32x24x2 2 [⟨S32x24x1, a⟩, ⟨S32x24x1, b⟩] concatenates_S32x24x1_S32x24x1_S32x24x2_d2) v78 v79
  let cst_6 : FVec F S_ .f32 := constant S_ .f32 0x40000000#32
  let v81 : FVec F S32x24 .f32 := broadcastInDim S32x24 ![] bcast_S_S32x24 cst_6
  let v82 : FVec F S32x20000 .f32 := (fun x i u => Host.scatter scatter_S32x20000_S32x24x2_S32x24_n_01_01_2 (fun _ b => b) x i u) v65 v80 v81
  let v83 : IVec S24 32 := iotaInDim S24 32 0
  let v84 : IVec S1x24 32 := broadcastInDim S1x24 ![1] bcast_S24_S1x24_1 v83
  let c_7 : IVec S_ 32 := constantI S_ 32 0#32
  let v85 : IVec S32x1 32 := broadcastInDim S32x1 ![] bcast_S_S32x1 c_7
  fn_classes_part4 (F := F) arg0 arg1 arg2 v1 v64 v66 v82 v84 v85

def fn_classes_part2 {F : FTy → Type} [FloatOps F] (arg0 : FVec F S20000x4 .f32) (arg1 : FVec F S32x24x4 .f32) (arg2 : IVec S32x24 32) (v1 : IVec S32x1 32) (v12 : FVec F S20000x4 .f32) (v34 : FVec F S32x24x20000 .f32) (v39 : FVec F S32x24 .f32) (v44 : FVec F S32x24 .f32) : IVec S32x20000 32 :=
  let v45 : FVec F S32x24 .f32 := mulf v39 v44
  let v46 : FVec F S32x24x1 .f32 := broadcastInDim S32x24x1 ![0, 1] bcast_S32x24_S32x24x1_0_1 v45
  let v47 : FVec F S20000x1 .f32 := (extractStridedSlice S20000x1 ![0, 2] · slices_S20000x4_S20000x1_0_2) v12
  let v48 : FVec F S20000 .f32 := shapeCast S20000 v47 shapeCasts_S20000x1_S20000
  let v49 : FVec F S20000x1 .f32 := (extractStridedSlice S20000x1 ![0, 0] · slices_S20000x4_S20000x1_0_0) v12
  let v50 : FVec F S20000 .f32 := shapeCast S20000 v49 shapeCasts_S20000x1_S20000
  let v51 : FVec F S20000 .f32 := subf v48 v50
  let v52 : FVec F S20000x1 .f32 := (extractStridedSlice S20000x1 ![0, 3] · slices_S20000x4_S20000x1_0_3) v12
  let v53 : FVec F S20000 .f32 := shapeCast S20000 v52 shapeCasts_S20000x1_S20000
  let v54 : FVec F S20000x1 .f32 := (extractStridedSlice S20000x1 ![0, 1] · slices_S20000x4_S20000x1_0_1) v12
  let v55 : FVec F S20000 .f32 := shapeCast S20000 v54 shapeCasts_S20000x1_S20000
  let v56 : FVec F S20000 .f32 := subf v53 v55
  let v57 : FVec F S20000 .f32 := mulf v51 v56
  let v58 : FVec F S1x1x20000 .f32 := broadcastInDim S1x1x20000 ![2] bcast_S20000_S1x1x20000_2 v57
  let v59 : FVec F S32x24x20000 .f32 := broadcastInDim S32x24x20000 ![0, 1, 2] bcast_S32x24x1_S32x24x20000_0_1_2 v46
  let v60 : FVec F S32x24x20000 .f32 := broadcastInDim S32x24x20000 ![0, 1, 2] bcast_S1x1x20000_S32x24x20000_0_1_2 v58
  let v61 : FVec F S32x24x20000 .f32 := addf v59 v60
  let v62 : FVec F S32x24x20000 .f32 := subf v61 v34
  let v63 : FVec F S32x24x20000 .f32 := Host.divf v34 v62
  let v64 : IVec S32x24 32 := fn_argmax (F := F) v63
  let cst_2 : FVec F S_ .f32 := constant S_ .f32 0xFF800000#32
  let v65 : FVec F S32x20000 .f32 := (fun x v => Host.reduce FloatOps.maximumf x v reducesTo_S32x24x20000_S32x20000_d1 h_S_) v63 cst_2
  let v66 : IVec S32x20000 32 := fn_argmax_0 (F := F) v63
  let c : IVec S_ 32 := constantI S_ 32 0#32
  fn_classes_part3 (F := F) arg0 arg1 arg2 v1 v64 v65 v66 c

def fn_classes_part1 {F : FTy → Type} [FloatOps F] (arg0 : FVec F S20000x4 .f32) (arg1 : FVec F S32x24x4 .f32) (arg2 : IVec S32x24 32) (v1 : IVec S32x1 32) (v12 : FVec F S20000x4 .f32) (v19 : FVec F S32x24x20000x2 .f32) (v21 : FVec F S32x24x1x2 .f32) : IVec S32x20000 32 :=
  let v22 : FVec F S20000x2 .f32 := (extractStridedSlice S20000x2 ![0, 0] · slices_S20000x4_S20000x2_0_0) v12
  let v23 : FVec F S1x1x20000x2 .f32 := broadcastInDim S1x1x20000x2 ![2, 3] bcast_S20000x2_S1x1x20000x2_2_3 v22
  let v24 : FVec F S32x24x20000x2 .f32 := broadcastInDim S32x24x20000x2 ![0, 1, 2, 3] bcast_S32x24x1x2_S32x24x20000x2_0_1_2_3 v21
  let v25 : FVec F S32x24x20000x2 .f32 := broadcastInDim S32x24x20000x2 ![0, 1, 2, 3] bcast_S1x1x20000x2_S32x24x20000x2_0_1_2_3 v23
  let v26 : FVec F S32x24x20000x2 .f32 := maximumf v24 v25
  let v27 : FVec F S32x24x20000x2 .f32 := subf v19 v26
  let cst_1 : FVec F S_ .f32 := constant S_ .f32 0x00000000#32
  let v28 : FVec F S32x24x20000x2 .f32 := broadcastInDim S32x24x20000x2 ![] bcast_S_S32x24x20000x2 cst_1
  let v29 : FVec F S32x24x20000x2 .f32 := maximumf v27 v28
  let v30 : FVec F S32x24x20000x1 .f32 := (extractStridedSlice S32x24x20000x1 ![0, 0, 0, 0] · slices_S32x24x20000x2_S32x24x20000x1_0_0_0_0) v29
  let v31 : FVec F S32x24x20000 .f32 := shapeCast S32x24x20000 v30 shapeCasts_S32x24x20000x1_S32x24x20000
  let v32 : FVec F S32x24x20000x1 .f32 := (extractStridedSlice S32x24x20000x1 ![0, 0, 0, 1] · slices_S32x24x20000x2_S32x24x20000x1_0_0_0_1) v29
  let v33 : FVec F S32x24x20000 .f32 := shapeCast S32x24x20000 v32 shapeCasts_S32x24x20000x1_S32x24x20000
  let v34 : FVec F S32x24x20000 .f32 := mulf v31 v33
  let v35 : FVec F S32x24x1 .f32 := (extractStridedSlice S32x24x1 ![0, 0, 2] · slices_S32x24x4_S32x24x1_0_0_2) arg1
  let v36 : FVec F S32x24 .f32 := shapeCast S32x24 v35 shapeCasts_S32x24x1_S32x24
  let v37 : FVec F S32x24x1 .f32 := (extractStridedSlice S32x24x1 ![0, 0, 0] · slices_S32x24x4_S32x24x1_0_0_0) arg1
  let v38 : FVec F S32x24 .f32 := shapeCast S32x24 v37 shapeCasts_S32x24x1_S32x24
  let v39 : FVec F S32x24 .f32 := subf v36 v38
  let v40 : FVec F S32x24x1 .f32 := (extractStridedSlice S32x24x1 ![0, 0, 3] · slices_S32x24x4_S32x24x1_0_0_3) arg1
  let v41 : FVec F S32x24 .f32 := shapeCast S32x24 v40 shapeCasts_S32x24x1_S32x24
  let v42 : FVec F S32x24x1 .f32 := (extractStridedSlice S32x24x1 ![0, 0, 1] · slices_S32x24x4_S32x24x1_0_0_1) arg1
  let v43 : FVec F S32x24 .f32 := shapeCast S32x24 v42 shapeCasts_S32x24x1_S32x24
  let v44 : FVec F S32x24 .f32 := subf v41 v43
  fn_classes_part2 (F := F) arg0 arg1 arg2 v1 v12 v34 v39 v44

def fn_classes {F : FTy → Type} [FloatOps F] (arg0 : FVec F S20000x4 .f32) (arg1 : FVec F S32x24x4 .f32) (arg2 : IVec S32x24 32) : IVec S32x20000 32 :=
  let v0 : IVec S32 32 := iotaInDim S32 32 0
  let v1 : IVec S32x1 32 := broadcastInDim S32x1 ![0] bcast_S32_S32x1_0 v0
  let v2 : FVec F S20000x2 .f32 := (extractStridedSlice S20000x2 ![0, 0] · slices_S20000x4_S20000x2_0_0) arg0
  let v3 : FVec F S20000x2 .f32 := (extractStridedSlice S20000x2 ![0, 2] · slices_S20000x4_S20000x2_0_2) arg0
  let cst : FVec F S_ .f32 := constant S_ .f32 0x40000000#32
  let v4 : FVec F S20000x2 .f32 := broadcastInDim S20000x2 ![] bcast_S_S20000x2 cst
  let v5 : FVec F S20000x2 .f32 := Host.divf v3 v4
  let v6 : FVec F S20000x2 .f32 := subf v2 v5
  let v7 : FVec F S20000x2 .f32 := (extractStridedSlice S20000x2 ![0, 0] · slices_S20000x4_S20000x2_0_0) arg0
  let v8 : FVec F S20000x2 .f32 := (extractStridedSlice S20000x2 ![0, 2] · slices_S20000x4_S20000x2_0_2) arg0
  let cst_0 : FVec F S_ .f32 := constant S_ .f32 0x40000000#32
  let v9 : FVec F S20000x2 .f32 := broadcastInDim S20000x2 ![] bcast_S_S20000x2 cst_0
  let v10 : FVec F S20000x2 .f32 := Host.divf v8 v9
  let v11 : FVec F S20000x2 .f32 := addf v7 v10
  let v12 : FVec F S20000x4 .f32 := (fun a b => concatenate S20000x4 1 [⟨S20000x2, a⟩, ⟨S20000x2, b⟩] concatenates_S20000x2_S20000x2_S20000x4_d1) v6 v11
  let v13 : FVec F S32x24x2 .f32 := (extractStridedSlice S32x24x2 ![0, 0, 2] · slices_S32x24x4_S32x24x2_0_0_2) arg1
  let v14 : FVec F S32x24x1x2 .f32 := broadcastInDim S32x24x1x2 ![0, 1, 3] bcast_S32x24x2_S32x24x1x2_0_1_3 v13
  let v15 : FVec F S20000x2 .f32 := (extractStridedSlice S20000x2 ![0, 2] · slices_S20000x4_S20000x2_0_2) v12
  let v16 : FVec F S1x1x20000x2 .f32 := broadcastInDim S1x1x20000x2 ![2, 3] bcast_S20000x2_S1x1x20000x2_2_3 v15
  let v17 : FVec F S32x24x20000x2 .f32 := broadcastInDim S32x24x20000x2 ![0, 1, 2, 3] bcast_S32x24x1x2_S32x24x20000x2_0_1_2_3 v14
  let v18 : FVec F S32x24x20000x2 .f32 := broadcastInDim S32x24x20000x2 ![0, 1, 2, 3] bcast_S1x1x20000x2_S32x24x20000x2_0_1_2_3 v16
  let v19 : FVec F S32x24x20000x2 .f32 := minimumf v17 v18
  let v20 : FVec F S32x24x2 .f32 := (extractStridedSlice S32x24x2 ![0, 0, 0] · slices_S32x24x4_S32x24x2_0_0_0) arg1
  let v21 : FVec F S32x24x1x2 .f32 := broadcastInDim S32x24x1x2 ![0, 1, 3] bcast_S32x24x2_S32x24x1x2_0_1_3 v20
  fn_classes_part1 (F := F) arg0 arg1 arg2 v1 v12 v19 v21

def fn_log_softmax {F : FTy → Type} [FloatOps F] (arg0 : FVec F S32x20000x21 .f32) : FVec F S32x20000x21 .f32 :=
  let cst : FVec F S_ .f32 := constant S_ .f32 0xFF800000#32
  let v0 : FVec F S32x20000 .f32 := (fun x v => Host.reduce FloatOps.maximumf x v reducesTo_S32x20000x21_S32x20000_d2 h_S_) arg0 cst
  let cst_0 : FVec F S_ .f32 := constant S_ .f32 0xFF800000#32
  let v1 : FVec F S32x20000 .f32 := broadcastInDim S32x20000 ![] bcast_S_S32x20000 cst_0
  let v2 : FVec F S32x20000 .f32 := maximumf v1 v0
  let v3 : FVec F S32x20000x1 .f32 := broadcastInDim S32x20000x1 ![0, 1] bcast_S32x20000_S32x20000x1_0_1 v2
  let v4 : FVec F S32x20000x21 .f32 := broadcastInDim S32x20000x21 ![0, 1, 2] bcast_S32x20000x1_S32x20000x21_0_1_2 v3
  let v5 : FVec F S32x20000x21 .f32 := subf arg0 v4
  let v6 : FVec F S32x20000x21 .f32 := Host.exp v5
  let cst_1 : FVec F S_ .f32 := constant S_ .f32 0x00000000#32
  let v7 : FVec F S32x20000 .f32 := (fun x v => Host.reduceAdd x v reducesTo_S32x20000x21_S32x20000_d2 h_S_) v6 cst_1
  let v8 : FVec F S32x20000x1 .f32 := broadcastInDim S32x20000x1 ![0, 1] bcast_S32x20000_S32x20000x1_0_1 v7
  let v9 : FVec F S32x20000x1 .f32 := Host.log v8
  let v10 : FVec F S32x20000x21 .f32 := broadcastInDim S32x20000x21 ![0, 1, 2] bcast_S32x20000x1_S32x20000x21_0_1_2 v9
  let v11 : FVec F S32x20000x21 .f32 := subf v5 v10
  v11

def fn_take_along_axis {F : FTy → Type} [FloatOps F] (arg0 : FVec F S32x20000x21 .f32) (arg1 : IVec S32x20000x1 32) : FVec F S32x20000x1 .f32 :=
  let c : IVec S_ 32 := constantI S_ 32 0#32
  let v0 : IVec S32x20000x1 32 := broadcastInDim S32x20000x1 ![] bcast_S_S32x20000x1 c
  let v1 : IVec S32x20000x1 1 := cmpi .slt arg1 v0
  let c_0 : IVec S_ 32 := constantI S_ 32 21#32
  let v2 : IVec S32x20000x1 32 := broadcastInDim S32x20000x1 ![] bcast_S_S32x20000x1 c_0
  let v3 : IVec S32x20000x1 32 := addi arg1 v2
  let v4 : IVec S32x20000x1 32 := select v1 v3 arg1
  let v5 : IVec S32x20000x1x1 32 := shapeCast S32x20000x1x1 v4 shapeCasts_S32x20000x1_S32x20000x1x1
  let c_1 : IVec S1 32 := constantI S1 32 20#32
  let c_2 : IVec S_ 32 := constantI S_ 32 0#32
  let v6 : IVec S32x20000x1x1 32 := broadcastInDim S32x20000x1x1 ![] bcast_S_S32x20000x1x1 c_2
  let v7 : IVec S32x20000x1x1 1 := cmpi .sge v5 v6
  let v8 : IVec S1x1x1x1 32 := broadcastInDim S1x1x1x1 ![3] bcast_S1_S1x1x1x1_3 c_1
  let v9 : IVec S32x20000x1x1 32 := broadcastInDim S32x20000x1x1 ![0, 1, 2, 3] bcast_S1x1x1x1_S32x20000x1x1_0_1_2_3 v8
  let v10 : IVec S32x20000x1x1 1 := cmpi .sle v5 v9
  let v11 : IVec S32x20000x1x1 1 := andi v7 v10
  let c_3 : IVec S_ 1 := constantI S_ 1 1#1
  let v12 : IVec S32x20000x1 1 := (fun x v => Host.reduce IntOp.andi x v reducesTo_S32x20000x1x1_S32x20000x1_d3 h_S_) v11 c_3
  let v13 : FVec F S32x20000x1 .f32 := (fun x i => Host.gather gather_S32x20000x21_S32x20000x1x1_S32x20000x1_n_2_01_01_2_3_111 x i) arg0 v5
  let cst : FVec F S_ .f32 := constant S_ .f32 0x7FC00000#32
  let v14 : FVec F S32x20000x1 .f32 := broadcastInDim S32x20000x1 ![] bcast_S_S32x20000x1 cst
  let v15 : FVec F S32x20000x1 .f32 := select v12 v13 v14
  v15

def fn_class_losses {F : FTy → Type} [FloatOps F] (arg0 : FVec F S32x20000x21 .f32) (arg1 : IVec S32x20000 32) : FVec F S32x20000 .f32 :=
  let v0 : FVec F S32x20000x21 .f32 := fn_log_softmax (F := F) arg0
  let v1 : IVec S32x20000x1 32 := broadcastInDim S32x20000x1 ![0, 1] bcast_S32x20000_S32x20000x1_0_1 arg1
  let v2 : FVec F S32x20000x1 .f32 := fn_take_along_axis (F := F) v0 v1
  let v3 : FVec F S32x20000 .f32 := shapeCast S32x20000 v2 shapeCasts_S32x20000x1_S32x20000
  let v4 : FVec F S32x20000 .f32 := Host.negf v3
  v4

def fn_sort {F : FTy → Type} [FloatOps F] (arg0 : FVec F S32x20000 .f32) : FVec F S32x20000 .f32 :=
  let v0 : FVec F S32x20000 .f32 := (fun x => Host.sort S32x20000 1 comparator_f32_d1 x) arg0
  v0

def fn_part2 {F : FTy → Type} [FloatOps F] (main_v17 : FVec F S32x20000 .f32) (main_v22 : FVec F S32x1 .f32) (main_v29 : IVec S32x19999 1) (main_v34 : IVec S32x24 1) (main_v35 : FVec F S32x20000x21 .f32) (main_v36 : FVec F S32x20000x21 .f32) : IVec S32x24 1 × IVec S32x20000x21 1 × IVec S32x19999 1 :=
  let main_v37 : IVec S32x20000x21 1 := cmpf .olt main_v35 main_v36
  let main_v38 : IVec S32x19999 1 := noti main_v29
  let main_v39 : FVec F S32x19999 .f32 := (extractStridedSlice S32x19999 ![0, 0] · slices_S32x20000_S32x19999_0_0) main_v17
  let main_v40 : FVec F S32x19999 .f32 := (extractStridedSlice S32x19999 ![0, 1] · slices_S32x20000_S32x19999_0_1) main_v17
  let main_v41 : FVec F S32x19999 .f32 := subf main_v39 main_v40
  let main_v42 : FVec F S32x19999 .f32 := broadcastInDim S32x19999 ![0, 1] bcast_S32x1_S32x19999_0_1 main_v22
  let main_v43 : IVec S32x19999 1 := cmpf .oge main_v41 main_v42
  let main_v44 : IVec S32x19999 1 := ori main_v38 main_v43
  (main_v34, main_v37, main_v44)

def fn_part1 {F : FTy → Type} [FloatOps F] (main_arg1 : FVec F S32x20000x21 .f32) (main_arg4 : IVec S32x24 32) (main_v10 : IVec S32x1 32) (main_v17 : FVec F S32x20000 .f32) (main_v18 : FVec F S32x1 .f32) : IVec S32x24 1 × IVec S32x20000x21 1 × IVec S32x19999 1 :=
  let main_cst_3 : FVec F S_ .f32 := constant S_ .f32 0x3F800000#32
  let main_v19 : FVec F S32x1 .f32 := broadcastInDim S32x1 ![] bcast_S_S32x1 main_cst_3
  let main_v20 : FVec F S32x1 .f32 := addf main_v18 main_v19
  let main_cst_4 : FVec F S_ .f32 := constant S_ .f32 0x33800000#32
  let main_v21 : FVec F S32x1 .f32 := broadcastInDim S32x1 ![] bcast_S_S32x1 main_cst_4
  let main_v22 : FVec F S32x1 .f32 := mulf main_v20 main_v21
  let main_v23 : IVec S19999 32 := iotaInDim S19999 32 0
  let main_c_5 : IVec S_ 32 := constantI S_ 32 1#32
  let main_v24 : IVec S19999 32 := broadcastInDim S19999 ![] bcast_S_S19999 main_c_5
  let main_v25 : IVec S19999 32 := addi main_v24 main_v23
  let main_v26 : IVec S1x19999 32 := broadcastInDim S1x19999 ![1] bcast_S19999_S1x19999_1 main_v25
  let main_v27 : IVec S32x19999 32 := broadcastInDim S32x19999 ![0, 1] bcast_S1x19999_S32x19999_0_1 main_v26
  let main_v28 : IVec S32x19999 32 := broadcastInDim S32x19999 ![0, 1] bcast_S32x1_S32x19999_0_1 main_v10
  let main_v29 : IVec S32x19999 1 := cmpi .eq main_v27 main_v28
  let main_c_6 : IVec S_ 32 := constantI S_ 32 0#32
  let main_v30 : IVec S32x24 32 := broadcastInDim S32x24 ![] bcast_S_S32x24 main_c_6
  let main_v31 : IVec S32x24 1 := cmpi .sge main_arg4 main_v30
  let main_c_7 : IVec S_ 32 := constantI S_ 32 20#32
  let main_v32 : IVec S32x24 32 := broadcastInDim S32x24 ![] bcast_S_S32x24 main_c_7
  let main_v33 : IVec S32x24 1 := cmpi .slt main_arg4 main_v32
  let main_v34 : IVec S32x24 1 := andi main_v31 main_v33
  let main_v35 : FVec F S32x20000x21 .f32 := Host.absf main_arg1
  let main_cst_8 : FVec F S_ .f32 := constant S_ .f32 0x7F800000#32
  let main_v36 : FVec F S32x20000x21 .f32 := broadcastInDim S32x20000x21 ![] bcast_S_S32x20000x21 main_cst_8
  fn_part2 (F := F) main_v17 main_v22 main_v29 main_v34 main_v35 main_v36

def fn {F : FTy → Type} [FloatOps F] (main_arg0 : FVec F S32x20000x4 .f32) (main_arg1 : FVec F S32x20000x21 .f32) (main_arg2 : FVec F S20000x4 .f32) (main_arg3 : FVec F S32x24x4 .f32) (main_arg4 : IVec S32x24 32) : IVec S32x24 1 × IVec S32x20000x21 1 × IVec S32x19999 1 :=
  let main_v0 : IVec S32x20000 32 := fn_classes (F := F) main_arg2 main_arg3 main_arg4
  let main_c : IVec S_ 32 := constantI S_ 32 0#32
  let main_v1 : IVec S32x20000 32 := broadcastInDim S32x20000 ![] bcast_S_S32x20000 main_c
  let main_v2 : IVec S32x20000 1 := cmpi .ne main_v0 main_v1
  let main_v3 : FVec F S32x20000 .f32 := fn_class_losses (F := F) main_arg1 main_v0
  let main_v4 : IVec S32x20000 32 := (extui 32 · natLt_1_32) main_v2
  let main_c_0 : IVec S_ 32 := constantI S_ 32 0#32
  let main_v5 : IVec S32 32 := (fun x v => Host.reduce IntOp.addi x v reducesTo_S32x20000_S32_d1 h_S_) main_v4 main_c_0
  let main_v6 : IVec S32x1 32 := broadcastInDim S32x1 ![0] bcast_S32_S32x1_0 main_v5
  let main_c_1 : IVec S_ 32 := constantI S_ 32 3#32
  let main_v7 : IVec S32x1 32 := broadcastInDim S32x1 ![] bcast_S_S32x1 main_c_1
  let main_v8 : IVec S32x1 32 := muli main_v7 main_v6
  let main_c_2 : IVec S_ 32 := constantI S_ 32 19999#32
  let main_v9 : IVec S32x1 32 := broadcastInDim S32x1 ![] bcast_S_S32x1 main_c_2
  let main_v10 : IVec S32x1 32 := minsi main_v8 main_v9
  let main_v11 : FVec F S32x20000 .f32 := uitofp .f32 main_v2
  let main_cst : FVec F S_ .f32 := constant S_ .f32 0x3F800000#32
  let main_v12 : FVec F S32x20000 .f32 := broadcastInDim S32x20000 ![] bcast_S_S32x20000 main_cst
  let main_v13 : FVec F S32x20000 .f32 := subf main_v12 main_v11
  let main_v14 : FVec F S32x20000 .f32 := mulf main_v3 main_v13
  let main_v15 : FVec F S32x20000 .f32 := Host.negf main_v14
  let main_v16 : FVec F S32x20000 .f32 := fn_sort (F := F) main_v15
  let main_v17 : FVec F S32x20000 .f32 := Host.negf main_v16
  let main_v18 : FVec F S32x1 .f32 := (extractStridedSlice S32x1 ![0, 0] · slices_S32x20000_S32x1_0_0) main_v17
  fn_part1 (F := F) main_arg1 main_arg4 main_v10 main_v17 main_v18
-- ==== Kernel.lean ====
abbrev S32x20000x4 : Shape := ⟨3, ![32, 20000, 4]⟩
abbrev S32x20000x21 : Shape := ⟨3, ![32, 20000, 21]⟩
abbrev S20000x4 : Shape := ⟨2, ![20000, 4]⟩
abbrev S32x24x4 : Shape := ⟨3, ![32, 24, 4]⟩
abbrev S32x24 : Shape := ⟨2, ![32, 24]⟩
abbrev S32x4x20000 : Shape := ⟨3, ![32, 4, 20000]⟩
abbrev S32x21x20000 : Shape := ⟨3, ![32, 21, 20000]⟩
abbrev S32x24x1 : Shape := ⟨3, ![32, 24, 1]⟩
abbrev S4x20000 : Shape := ⟨2, ![4, 20000]⟩
abbrev S32x8x128 : Shape := ⟨3, ![32, 8, 128]⟩
abbrev S32x1x20000 : Shape := ⟨3, ![32, 1, 20000]⟩
abbrev S1x4x20000 : Shape := ⟨3, ![1, 4, 20000]⟩
abbrev S1x21x20000 : Shape := ⟨3, ![1, 21, 20000]⟩
abbrev S1x24x4 : Shape := ⟨3, ![1, 24, 4]⟩
abbrev S1x24x1 : Shape := ⟨3, ![1, 24, 1]⟩
abbrev S1x8x128 : Shape := ⟨3, ![1, 8, 128]⟩
abbrev S1x1x20000 : Shape := ⟨3, ![1, 1, 20000]⟩
abbrev S1x20000 : Shape := ⟨2, ![1, 20000]⟩
abbrev S20000 : Shape := ⟨1, ![20000]⟩
abbrev S24x4 : Shape := ⟨2, ![24, 4]⟩
abbrev S24x1 : Shape := ⟨2, ![24, 1]⟩
abbrev S24x20000 : Shape := ⟨2, ![24, 20000]⟩
abbrev S24 : Shape := ⟨1, ![24]⟩
abbrev S24x3 : Shape := ⟨2, ![24, 3]⟩
abbrev S24x8 : Shape := ⟨2, ![24, 8]⟩
abbrev S8x20000 : Shape := ⟨2, ![8, 20000]⟩
abbrev S2x20000 : Shape := ⟨2, ![2, 20000]⟩
abbrev S1 : Shape := ⟨1, ![1]⟩
abbrev S1x1 : Shape := ⟨2, ![1, 1]⟩
abbrev S21x20000 : Shape := ⟨2, ![21, 20000]⟩
abbrev S8x21 : Shape := ⟨2, ![8, 21]⟩
abbrev S8x128 : Shape := ⟨2, ![8, 128]⟩
abbrev S32x20000 : Shape := ⟨2, ![32, 20000]⟩
abbrev S32x1x1 : Shape := ⟨3, ![32, 1, 1]⟩
abbrev S32x1 : Shape := ⟨2, ![32, 1]⟩
abbrev S32 : Shape := ⟨1, ![32]⟩
abbrev S1x32x1 : Shape := ⟨3, ![1, 32, 1]⟩
abbrev S1x1x1 : Shape := ⟨3, ![1, 1, 1]⟩
abbrev S_ : Shape := ⟨0, ![]⟩

abbrev nBuf : Space → Nat
  | .hbm => 16
  | .vmem => 17
  | .smem => 0
  | _ => 0

abbrev bufTy : (tb : Table) → Fin (tcTables nBuf tb) → BufTy
  | .hbm, ⟨0, _⟩ => ⟨S32x20000x4, .f32⟩
  | .hbm, ⟨1, _⟩ => ⟨S32x20000x21, .f32⟩
  | .hbm, ⟨2, _⟩ => ⟨S20000x4, .f32⟩
  | .hbm, ⟨3, _⟩ => ⟨S32x24x4, .f32⟩
  | .hbm, ⟨4, _⟩ => ⟨S32x24, .i32⟩
  | .hbm, ⟨5, _⟩ => ⟨S32x4x20000, .f32⟩
  | .hbm, ⟨6, _⟩ => ⟨S32x21x20000, .f32⟩
  | .hbm, ⟨7, _⟩ => ⟨S32x24x1, .i32⟩
  | .hbm, ⟨8, _⟩ => ⟨S4x20000, .f32⟩
  | .hbm, ⟨9, _⟩ => ⟨S32x8x128, .f32⟩
  | .hbm, ⟨10, _⟩ => ⟨S32x1x20000, .f32⟩
  | .hbm, ⟨11, _⟩ => ⟨S32x20000, .f32⟩
  | .hbm, ⟨12, _⟩ => ⟨S1x1, .f32⟩
  | .hbm, ⟨13, _⟩ => ⟨S1x1, .f32⟩
  | .hbm, ⟨14, _⟩ => ⟨S_, .f32⟩
  | .hbm, ⟨15, _⟩ => ⟨S_, .f32⟩
  | .local _ .vmem, ⟨0, _⟩ => ⟨S1x4x20000, .f32⟩
  | .local _ .vmem, ⟨1, _⟩ => ⟨S1x4x20000, .f32⟩
  | .local _ .vmem, ⟨2, _⟩ => ⟨S1x21x20000, .f32⟩
  | .local _ .vmem, ⟨3, _⟩ => ⟨S1x21x20000, .f32⟩
  | .local _ .vmem, ⟨4, _⟩ => ⟨S4x20000, .f32⟩
  | .local _ .vmem, ⟨5, _⟩ => ⟨S1x24x4, .f32⟩
  | .local _ .vmem, ⟨6, _⟩ => ⟨S1x24x4, .f32⟩
  | .local _ .vmem, ⟨7, _⟩ => ⟨S1x24x1, .i32⟩
  | .local _ .vmem, ⟨8, _⟩ => ⟨S1x24x1, .i32⟩
  | .local _ .vmem, ⟨9, _⟩ => ⟨S1x8x128, .f32⟩
  | .local _ .vmem, ⟨10, _⟩ => ⟨S1x8x128, .f32⟩
  | .local _ .vmem, ⟨11, _⟩ => ⟨S1x1x20000, .f32⟩
  | .local _ .vmem, ⟨12, _⟩ => ⟨S1x1x20000, .f32⟩
  | .local _ .vmem, ⟨13, _⟩ => ⟨S32x8x128, .f32⟩
  | .local _ .vmem, ⟨14, _⟩ => ⟨S32x20000, .f32⟩
  | .local _ .vmem, ⟨15, _⟩ => ⟨S1x1, .f32⟩
  | .local _ .vmem, ⟨16, _⟩ => ⟨S1x1, .f32⟩
  | _, _ => ⟨S32x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem2_0 : DmaSem sig := 15
abbrev cc1_sem3_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x21x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x24x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x24x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x20000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

@[reducible] def k1_t1_loop : Scf.Loop 32 :=
  let c0_i32 : BitVec 32 := 0#32
  let c24_i32 : BitVec 32 := 24#32
  let v17 : BitVec 32 := Scalar.addi c0_i32 c24_i32
  let c1_i32 : BitVec 32 := 1#32
  ⟨c0_i32, v17, c1_i32⟩
abbrev stage1_0 : Fin 1 → Memref sig .tc .vmem S32x8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x20000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S32x20000x4 : Shape := ⟨3, ![32, 20000, 4]⟩
abbrev S32x20000x21 : Shape := ⟨3, ![32, 20000, 21]⟩
abbrev S20000x4 : Shape := ⟨2, ![20000, 4]⟩
abbrev S32x24x4 : Shape := ⟨3, ![32, 24, 4]⟩
abbrev S32x24 : Shape := ⟨2, ![32, 24]⟩
abbrev S32 : Shape := ⟨1, ![32]⟩
abbrev S32x1 : Shape := ⟨2, ![32, 1]⟩
abbrev S20000x2 : Shape := ⟨2, ![20000, 2]⟩
abbrev S_ : Shape := ⟨0, ![]⟩
abbrev S32x24x2 : Shape := ⟨3, ![32, 24, 2]⟩
abbrev S32x24x1x2 : Shape := ⟨4, ![32, 24, 1, 2]⟩
abbrev S1x1x20000x2 : Shape := ⟨4, ![1, 1, 20000, 2]⟩
abbrev S32x24x20000x2 : Shape := ⟨4, ![32, 24, 20000, 2]⟩
abbrev S32x24x20000x1 : Shape := ⟨4, ![32, 24, 20000, 1]⟩
abbrev S32x24x20000 : Shape := ⟨3, ![32, 24, 20000]⟩
abbrev S32x24x1 : Shape := ⟨3, ![32, 24, 1]⟩
abbrev S20000x1 : Shape := ⟨2, ![20000, 1]⟩
abbrev S20000 : Shape := ⟨1, ![20000]⟩
abbrev S1x1x20000 : Shape := ⟨3, ![1, 1, 20000]⟩
abbrev S32x20000 : Shape := ⟨2, ![32, 20000]⟩
abbrev S24 : Shape := ⟨1, ![24]⟩
abbrev S1x24 : Shape := ⟨2, ![1, 24]⟩
abbrev S32x20000x1 : Shape := ⟨3, ![32, 20000, 1]⟩
abbrev S32x20000x2 : Shape := ⟨3, ![32, 20000, 2]⟩
abbrev S1x20000x2 : Shape := ⟨3, ![1, 20000, 2]⟩
abbrev S32x20000x1x1 : Shape := ⟨4, ![32, 20000, 1, 1]⟩
abbrev S1 : Shape := ⟨1, ![1]⟩
abbrev S1x1x1x1 : Shape := ⟨4, ![1, 1, 1, 1]⟩
abbrev S1x20000 : Shape := ⟨2, ![1, 20000]⟩

abbrev nBuf : Space → Nat
  | .hbm => 303
  | .vmem => 0
  | .smem => 0
  | _ => 0

abbrev hbmTy0_0 (i : Nat) : BufTy := match i % 128 with
  | 0 => ⟨S32x20000x4, .f32⟩
  | 1 => ⟨S32x20000x21, .f32⟩
  | 2 => ⟨S20000x4, .f32⟩
  | 3 => ⟨S32x24x4, .f32⟩
  | 4 => ⟨S32x24, .i32⟩
  | 5 => ⟨S32, .i32⟩
  | 6 => ⟨S32x1, .i32⟩
  | 7 => ⟨S20000x2, .f32⟩
  | 8 => ⟨S20000x2, .f32⟩
  | 9 => ⟨S_, .f32⟩
  | 10 => ⟨S20000x2, .f32⟩
  | 11 => ⟨S20000x2, .f32⟩
  | 12 => ⟨S20000x2, .f32⟩
  | 13 => ⟨S20000x2, .f32⟩
  | 14 => ⟨S20000x2, .f32⟩
  | 15 => ⟨S_, .f32⟩
  | 16 => ⟨S20000x2, .f32⟩
  | 17 => ⟨S20000x2, .f32⟩
  | 18 => ⟨S20000x2, .f32⟩
  | 19 => ⟨S20000x4, .f32⟩
  | 20 => ⟨S32x24x2, .f32⟩
  | 21 => ⟨S32x24x1x2, .f32⟩
  | 22 => ⟨S20000x2, .f32⟩
  | 23 => ⟨S1x1x20000x2, .f32⟩
  | 24 => ⟨S32x24x20000x2, .f32⟩
  | 25 => ⟨S32x24x20000x2, .f32⟩
  | 26 => ⟨S32x24x20000x2, .f32⟩
  | 27 => ⟨S32x24x2, .f32⟩
  | 28 => ⟨S32x24x1x2, .f32⟩
  | 29 => ⟨S20000x2, .f32⟩
  | 30 => ⟨S1x1x20000x2, .f32⟩
  | 31 => ⟨S32x24x20000x2, .f32⟩
  | 32 => ⟨S32x24x20000x2, .f32⟩
  | 33 => ⟨S32x24x20000x2, .f32⟩
  | 34 => ⟨S32x24x20000x2, .f32⟩
  | 35 => ⟨S_, .f32⟩
  | 36 => ⟨S32x24x20000x2, .f32⟩
  | 37 => ⟨S32x24x20000x2, .f32⟩
  | 38 => ⟨S32x24x20000x1, .f32⟩
  | 39 => ⟨S32x24x20000, .f32⟩
  | 40 => ⟨S32x24x20000x1, .f32⟩
  | 41 => ⟨S32x24x20000, .f32⟩
  | 42 => ⟨S32x24x20000, .f32⟩
  | 43 => ⟨S32x24x1, .f32⟩
  | 44 => ⟨S32x24, .f32⟩
  | 45 => ⟨S32x24x1, .f32⟩
  | 46 => ⟨S32x24, .f32⟩
  | 47 => ⟨S32x24, .f32⟩
  | 48 => ⟨S32x24x1, .f32⟩
  | 49 => ⟨S32x24, .f32⟩
  | 50 => ⟨S32x24x1, .f32⟩
  | 51 => ⟨S32x24, .f32⟩
  | 52 => ⟨S32x24, .f32⟩
  | 53 => ⟨S32x24, .f32⟩
  | 54 => ⟨S32x24x1, .f32⟩
  | 55 => ⟨S20000x1, .f32⟩
  | 56 => ⟨S20000, .f32⟩
  | 57 => ⟨S20000x1, .f32⟩
  | 58 => ⟨S20000, .f32⟩
  | 59 => ⟨S20000, .f32⟩
  | 60 => ⟨S20000x1, .f32⟩
  | 61 => ⟨S20000, .f32⟩
  | 62 => ⟨S20000x1, .f32⟩
  | 63 => ⟨S20000, .f32⟩
  | 64 => ⟨S20000, .f32⟩
  | 65 => ⟨S20000, .f32⟩
  | 66 => ⟨S1x1x20000, .f32⟩
  | 67 => ⟨S32x24x20000, .f32⟩
  | 68 => ⟨S32x24x20000, .f32⟩
  | 69 => ⟨S32x24x20000, .f32⟩
  | 70 => ⟨S32x24x20000, .f32⟩
  | 71 => ⟨S32x24x20000, .f32⟩
  | 72 => ⟨S32x24x20000, .i32⟩
  | 73 => ⟨S_, .f32⟩
  | 74 => ⟨S_, .i32⟩
  | 75 => ⟨S32x24, .f32⟩
  | 76 => ⟨S32x24, .i32⟩
  | 77 => ⟨S_, .f32⟩
  | 78 => ⟨S32x20000, .f32⟩
  | 79 => ⟨S32x24x20000, .i32⟩
  | 80 => ⟨S_, .f32⟩
  | 81 => ⟨S_, .i32⟩
  | 82 => ⟨S32x20000, .f32⟩
  | 83 => ⟨S32x20000, .i32⟩
  | 84 => ⟨S_, .i32⟩
  | 85 => ⟨S32x1, .i32⟩
  | 86 => ⟨S32x1, .i1⟩
  | 87 => ⟨S_, .i32⟩
  | 88 => ⟨S32x1, .i32⟩
  | 89 => ⟨S32x1, .i32⟩
  | 90 => ⟨S32x1, .i32⟩
  | 91 => ⟨S_, .i32⟩
  | 92 => ⟨S32x24, .i32⟩
  | 93 => ⟨S32x24, .i1⟩
  | 94 => ⟨S_, .i32⟩
  | 95 => ⟨S32x24, .i32⟩
  | 96 => ⟨S32x24, .i32⟩
  | 97 => ⟨S32x24, .i32⟩
  | 98 => ⟨S32x24, .i32⟩
  | 99 => ⟨S32x24x1, .i32⟩
  | 100 => ⟨S32x24x1, .i32⟩
  | 101 => ⟨S32x24x2, .i32⟩
  | 102 => ⟨S_, .f32⟩
  | 103 => ⟨S32x24, .f32⟩
  | 104 => ⟨S32x20000, .f32⟩
  | 105 => ⟨S24, .i32⟩
  | 106 => ⟨S1x24, .i32⟩
  | 107 => ⟨S_, .i32⟩
  | 108 => ⟨S32x1, .i32⟩
  | 109 => ⟨S32x1, .i1⟩
  | 110 => ⟨S_, .i32⟩
  | 111 => ⟨S32x1, .i32⟩
  | 112 => ⟨S32x1, .i32⟩
  | 113 => ⟨S32x1, .i32⟩
  | 114 => ⟨S_, .i32⟩
  | 115 => ⟨S32x24, .i32⟩
  | 116 => ⟨S32x24, .i1⟩
  | 117 => ⟨S_, .i32⟩
  | 118 => ⟨S32x24, .i32⟩
  | 119 => ⟨S32x24, .i32⟩
  | 120 => ⟨S32x24, .i32⟩
  | 121 => ⟨S32x24, .i32⟩
  | 122 => ⟨S32x24x1, .i32⟩
  | 123 => ⟨S32x24x1, .i32⟩
  | 124 => ⟨S32x24x2, .i32⟩
  | 125 => ⟨S32x24, .i32⟩
  | 126 => ⟨S32x20000, .i32⟩
  | 127 => ⟨S_, .i32⟩
  | _ => ⟨S32x20000x4, .f32⟩

abbrev hbmTy0_1 (i : Nat) : BufTy := match i % 128 with
  | 0 => ⟨S32x1, .i32⟩
  | 1 => ⟨S32x1, .i1⟩
  | 2 => ⟨S_, .i32⟩
  | 3 => ⟨S32x1, .i32⟩
  | 4 => ⟨S32x1, .i32⟩
  | 5 => ⟨S32x1, .i32⟩
  | 6 => ⟨S_, .i32⟩
  | 7 => ⟨S32x20000, .i32⟩
  | 8 => ⟨S32x20000, .i1⟩
  | 9 => ⟨S_, .i32⟩
  | 10 => ⟨S32x20000, .i32⟩
  | 11 => ⟨S32x20000, .i32⟩
  | 12 => ⟨S32x20000, .i32⟩
  | 13 => ⟨S32x20000, .i32⟩
  | 14 => ⟨S32x20000x1, .i32⟩
  | 15 => ⟨S32x20000x1, .i32⟩
  | 16 => ⟨S32x20000x2, .i32⟩
  | 17 => ⟨S32x20000x4, .f32⟩
  | 18 => ⟨S_, .i32⟩
  | 19 => ⟨S32x1, .i32⟩
  | 20 => ⟨S32x1, .i1⟩
  | 21 => ⟨S_, .i32⟩
  | 22 => ⟨S32x1, .i32⟩
  | 23 => ⟨S32x1, .i32⟩
  | 24 => ⟨S32x1, .i32⟩
  | 25 => ⟨S_, .i32⟩
  | 26 => ⟨S32x20000, .i32⟩
  | 27 => ⟨S32x20000, .i1⟩
  | 28 => ⟨S_, .i32⟩
  | 29 => ⟨S32x20000, .i32⟩
  | 30 => ⟨S32x20000, .i32⟩
  | 31 => ⟨S32x20000, .i32⟩
  | 32 => ⟨S32x20000, .i32⟩
  | 33 => ⟨S32x20000x1, .i32⟩
  | 34 => ⟨S32x20000x1, .i32⟩
  | 35 => ⟨S32x20000x2, .i32⟩
  | 36 => ⟨S32x20000, .i32⟩
  | 37 => ⟨S_, .i32⟩
  | 38 => ⟨S32x20000, .i32⟩
  | 39 => ⟨S32x20000, .i32⟩
  | 40 => ⟨S_, .f32⟩
  | 41 => ⟨S32x20000, .f32⟩
  | 42 => ⟨S32x20000, .i1⟩
  | 43 => ⟨S_, .i32⟩
  | 44 => ⟨S_, .i32⟩
  | 45 => ⟨S32x20000, .i32⟩
  | 46 => ⟨S32x20000, .i32⟩
  | 47 => ⟨S32x20000x2, .f32⟩
  | 48 => ⟨S32x20000x2, .f32⟩
  | 49 => ⟨S32x20000x2, .f32⟩
  | 50 => ⟨S_, .f32⟩
  | 51 => ⟨S32x20000x2, .f32⟩
  | 52 => ⟨S32x20000x2, .f32⟩
  | 53 => ⟨S20000x2, .f32⟩
  | 54 => ⟨S1x20000x2, .f32⟩
  | 55 => ⟨S32x20000x2, .f32⟩
  | 56 => ⟨S32x20000x2, .f32⟩
  | 57 => ⟨S20000x2, .f32⟩
  | 58 => ⟨S1x20000x2, .f32⟩
  | 59 => ⟨S_, .f32⟩
  | 60 => ⟨S1x20000x2, .f32⟩
  | 61 => ⟨S1x20000x2, .f32⟩
  | 62 => ⟨S32x20000x2, .f32⟩
  | 63 => ⟨S32x20000x2, .f32⟩
  | 64 => ⟨S32x20000x2, .f32⟩
  | 65 => ⟨S32x20000x2, .f32⟩
  | 66 => ⟨S32x20000x2, .f32⟩
  | 67 => ⟨S20000x2, .f32⟩
  | 68 => ⟨S1x20000x2, .f32⟩
  | 69 => ⟨S32x20000x2, .f32⟩
  | 70 => ⟨S32x20000x2, .f32⟩
  | 71 => ⟨S32x20000x2, .f32⟩
  | 72 => ⟨S_, .f32⟩
  | 73 => ⟨S32x20000x2, .f32⟩
  | 74 => ⟨S32x20000x2, .f32⟩
  | 75 => ⟨S32x20000x4, .f32⟩
  | 76 => ⟨S_, .i32⟩
  | 77 => ⟨S32x20000, .i32⟩
  | 78 => ⟨S32x20000, .i1⟩
  | 79 => ⟨S32x20000x4, .f32⟩
  | 80 => ⟨S32x20000x4, .f32⟩
  | 81 => ⟨S_, .f32⟩
  | 82 => ⟨S32x20000x4, .f32⟩
  | 83 => ⟨S32x20000x4, .i1⟩
  | 84 => ⟨S_, .f32⟩
  | 85 => ⟨S32x20000x4, .f32⟩
  | 86 => ⟨S32x20000x4, .f32⟩
  | 87 => ⟨S32x20000x4, .f32⟩
  | 88 => ⟨S_, .f32⟩
  | 89 => ⟨S32x20000x4, .f32⟩
  | 90 => ⟨S32x20000x4, .f32⟩
  | 91 => ⟨S32x20000x4, .f32⟩
  | 92 => ⟨S32x20000x1, .i1⟩
  | 93 => ⟨S32x20000x1, .f32⟩
  | 94 => ⟨S32x20000x4, .f32⟩
  | 95 => ⟨S32x20000x4, .f32⟩
  | 96 => ⟨S_, .f32⟩
  | 97 => ⟨S_, .f32⟩
  | 98 => ⟨S_, .f32⟩
  | 99 => ⟨S32x20000, .f32⟩
  | 100 => ⟨S_, .f32⟩
  | 101 => ⟨S32x20000, .f32⟩
  | 102 => ⟨S32x20000, .f32⟩
  | 103 => ⟨S32x20000x1, .f32⟩
  | 104 => ⟨S32x20000x21, .f32⟩
  | 105 => ⟨S32x20000x21, .f32⟩
  | 106 => ⟨S32x20000x21, .f32⟩
  | 107 => ⟨S_, .f32⟩
  | 108 => ⟨S32x20000, .f32⟩
  | 109 => ⟨S32x20000x1, .f32⟩
  | 110 => ⟨S32x20000x1, .f32⟩
  | 111 => ⟨S32x20000x21, .f32⟩
  | 112 => ⟨S32x20000x21, .f32⟩
  | 113 => ⟨S32x20000x1, .i32⟩
  | 114 => ⟨S_, .i32⟩
  | 115 => ⟨S32x20000x1, .i32⟩
  | 116 => ⟨S32x20000x1, .i1⟩
  | 117 => ⟨S_, .i32⟩
  | 118 => ⟨S32x20000x1, .i32⟩
  | 119 => ⟨S32x20000x1, .i32⟩
  | 120 => ⟨S32x20000x1, .i32⟩
  | 121 => ⟨S32x20000x1x1, .i32⟩
  | 122 => ⟨S1, .i32⟩
  | 123 => ⟨S_, .i32⟩
  | 124 => ⟨S32x20000x1x1, .i32⟩
  | 125 => ⟨S32x20000x1x1, .i1⟩
  | 126 => ⟨S1x1x1x1, .i32⟩
  | 127 => ⟨S32x20000x1x1, .i32⟩
  | _ => ⟨S32x20000x4, .f32⟩

abbrev hbmTy0_2 (i : Nat) : BufTy := match i % 128 with
  | 0 => ⟨S32x20000x1x1, .i1⟩
  | 1 => ⟨S32x20000x1x1, .i1⟩
  | 2 => ⟨S_, .i1⟩
  | 3 => ⟨S32x20000x1, .i1⟩
  | 4 => ⟨S32x20000x1, .f32⟩
  | 5 => ⟨S_, .f32⟩
  | 6 => ⟨S32x20000x1, .f32⟩
  | 7 => ⟨S32x20000x1, .f32⟩
  | 8 => ⟨S32x20000, .f32⟩
  | 9 => ⟨S32x20000, .f32⟩
  | 10 => ⟨S32x20000, .f32⟩
  | 11 => ⟨S32x20000, .f32⟩
  | 12 => ⟨S_, .f32⟩
  | 13 => ⟨S_, .f32⟩
  | 14 => ⟨S32x20000, .i32⟩
  | 15 => ⟨S_, .i32⟩
  | 16 => ⟨S32, .i32⟩
  | 17 => ⟨S32x1, .i32⟩
  | 18 => ⟨S_, .i32⟩
  | 19 => ⟨S32x1, .i32⟩
  | 20 => ⟨S32x1, .i32⟩
  | 21 => ⟨S_, .i32⟩
  | 22 => ⟨S32x1, .i32⟩
  | 23 => ⟨S32x1, .i32⟩
  | 24 => ⟨S32x20000, .f32⟩
  | 25 => ⟨S_, .f32⟩
  | 26 => ⟨S32x20000, .f32⟩
  | 27 => ⟨S32x20000, .f32⟩
  | 28 => ⟨S32x20000, .f32⟩
  | 29 => ⟨S32x20000, .f32⟩
  | 30 => ⟨S32x20000, .f32⟩
  | 31 => ⟨S32x20000, .f32⟩
  | 32 => ⟨S20000, .i32⟩
  | 33 => ⟨S1x20000, .i32⟩
  | 34 => ⟨S32x20000, .i32⟩
  | 35 => ⟨S32x20000, .i32⟩
  | 36 => ⟨S32x20000, .i1⟩
  | 37 => ⟨S32x20000, .f32⟩
  | 38 => ⟨S32x20000, .f32⟩
  | 39 => ⟨S_, .f32⟩
  | 40 => ⟨S_, .f32⟩
  | 41 => ⟨S_, .i32⟩
  | 42 => ⟨S_, .i32⟩
  | 43 => ⟨S_, .f32⟩
  | 44 => ⟨S_, .f32⟩
  | 45 => ⟨S_, .f32⟩
  | 46 => ⟨S_, .f32⟩
  | _ => ⟨S32x20000x4, .f32⟩

abbrev hbmTy (i : Nat) : BufTy := match i / 128 with
  | 0 => hbmTy0_0 i
  | 1 => hbmTy0_1 i
  | 2 => hbmTy0_2 i
  | _ => ⟨S32x20000x4, .f32⟩

abbrev bufTy : (tb : Table) → Fin (tcTables nBuf tb) → BufTy
  | .hbm, ⟨i, _⟩ => hbmTy i
  | _, _ => ⟨S32x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_call0_v0 : Ref sig .tc := ⟨.hbm, 72, rfl⟩
abbrev main_call0_cst : Ref sig .tc := ⟨.hbm, 73, rfl⟩
abbrev main_call0_c : Ref sig .tc := ⟨.hbm, 74, rfl⟩
abbrev main_call0_v1_0 : Ref sig .tc := ⟨.hbm, 75, rfl⟩
abbrev main_v64 : Ref sig .tc := ⟨.hbm, 76, rfl⟩
abbrev main_cst_2 : Ref sig .tc := ⟨.hbm, 77, rfl⟩
abbrev main_v65 : Ref sig .tc := ⟨.hbm, 78, rfl⟩
abbrev main_call1_v0 : Ref sig .tc := ⟨.hbm, 79, rfl⟩
abbrev main_call1_cst : Ref sig .tc := ⟨.hbm, 80, rfl⟩
abbrev main_call1_c : Ref sig .tc := ⟨.hbm, 81, rfl⟩
abbrev main_call1_v1_0 : Ref sig .tc := ⟨.hbm, 82, rfl⟩
abbrev main_v66 : Ref sig .tc := ⟨.hbm, 83, rfl⟩
abbrev main_c : Ref sig .tc := ⟨.hbm, 84, rfl⟩
abbrev main_v67 : Ref sig .tc := ⟨.hbm, 85, rfl⟩
abbrev main_v68 : Ref sig .tc := ⟨.hbm, 86, rfl⟩
abbrev main_c_3 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_4 : Ref sig .tc := ⟨.hbm, 91, rfl⟩
abbrev main_v72 : Ref sig .tc := ⟨.hbm, 92, rfl⟩
abbrev main_v73 : Ref sig .tc := ⟨.hbm, 93, rfl⟩
abbrev main_c_5 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_6 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_7 : Ref sig .tc := ⟨.hbm, 107, rfl⟩
abbrev main_v85 : Ref sig .tc := ⟨.hbm, 108, rfl⟩
abbrev main_v86 : Ref sig .tc := ⟨.hbm, 109, rfl⟩
abbrev main_c_8 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_9 : Ref sig .tc := ⟨.hbm, 114, rfl⟩
abbrev main_v90 : Ref sig .tc := ⟨.hbm, 115, rfl⟩
abbrev main_v91 : Ref sig .tc := ⟨.hbm, 116, rfl⟩
abbrev main_c_10 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_c_11 : Ref sig .tc := ⟨.hbm, 127, rfl⟩
abbrev main_v101 : Ref sig .tc := ⟨.hbm, 128, rfl⟩
abbrev main_v102 : Ref sig .tc := ⟨.hbm, 129, rfl⟩
abbrev main_c_12 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_13 : Ref sig .tc := ⟨.hbm, 134, rfl⟩
abbrev main_v106 : Ref sig .tc := ⟨.hbm, 135, rfl⟩
abbrev main_v107 : Ref sig .tc := ⟨.hbm, 136, rfl⟩
abbrev main_c_14 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_c_15 : Ref sig .tc := ⟨.hbm, 146, rfl⟩
abbrev main_v116 : Ref sig .tc := ⟨.hbm, 147, rfl⟩
abbrev main_v117 : Ref sig .tc := ⟨.hbm, 148, rfl⟩
abbrev main_c_16 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_c_17 : Ref sig .tc := ⟨.hbm, 153, rfl⟩
abbrev main_v121 : Ref sig .tc := ⟨.hbm, 154, rfl⟩
abbrev main_v122 : Ref sig .tc := ⟨.hbm, 155, rfl⟩
abbrev main_c_18 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_c_19 : Ref sig .tc := ⟨.hbm, 165, rfl⟩
abbrev main_v131 : Ref sig .tc := ⟨.hbm, 166, rfl⟩
abbrev main_v132 : Ref sig .tc := ⟨.hbm, 167, rfl⟩
abbrev main_cst_20 : Ref sig .tc := ⟨.hbm, 168, rfl⟩
abbrev main_v133 : Ref sig .tc := ⟨.hbm, 169, rfl⟩
abbrev main_v134 : Ref sig .tc := ⟨.hbm, 170, rfl⟩
abbrev main_c_21 : Ref sig .tc := ⟨.hbm, 171, rfl⟩
abbrev main_call2_v0 : Ref sig .tc := ⟨.hbm, 172, rfl⟩
abbrev main_call2_v1 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_22 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_23 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_24 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_c_25 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_26 : Ref sig .tc := ⟨.hbm, 209, rfl⟩
abbrev main_v166 : Ref sig .tc := ⟨.hbm, 210, rfl⟩
abbrev main_v167 : Ref sig .tc := ⟨.hbm, 211, rfl⟩
abbrev main_cst_27 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_28 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_29 : Ref sig .tc := ⟨.hbm, 224, rfl⟩
abbrev main_v178 : Ref sig .tc := ⟨.hbm, 225, rfl⟩
abbrev main_call4_cst : Ref sig .tc := ⟨.hbm, 226, rfl⟩
abbrev main_call4_v0 : Ref sig .tc := ⟨.hbm, 227, rfl⟩
abbrev main_call4_cst_0 : Ref sig .tc := ⟨.hbm, 228, rfl⟩
abbrev main_call4_v1 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_cst_1 : Ref sig .tc := ⟨.hbm, 235, rfl⟩
abbrev main_call4_v7 : Ref sig .tc := ⟨.hbm, 236, rfl⟩
abbrev main_call4_v8 : Ref sig .tc := ⟨.hbm, 237, rfl⟩
abbrev main_call4_v9 : Ref sig .tc := ⟨.hbm, 238, rfl⟩
abbrev main_call4_v10 : Ref sig .tc := ⟨.hbm, 239, rfl⟩
abbrev main_v179 : Ref sig .tc := ⟨.hbm, 240, rfl⟩
abbrev main_v180 : Ref sig .tc := ⟨.hbm, 241, rfl⟩
abbrev main_call5_c : Ref sig .tc := ⟨.hbm, 242, rfl⟩
abbrev main_call5_v0 : Ref sig .tc := ⟨.hbm, 243, rfl⟩
abbrev main_call5_v1 : Ref sig .tc := ⟨.hbm, 244, rfl⟩
abbrev main_call5_c_0 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_v5 : Ref sig .tc := ⟨.hbm, 249, rfl⟩
abbrev main_call5_c_1 : Ref sig .tc := ⟨.hbm, 250, rfl⟩
abbrev main_call5_c_2 : Ref sig .tc := ⟨.hbm, 251, rfl⟩
abbrev main_call5_v6 : Ref sig .tc := ⟨.hbm, 252, rfl⟩
abbrev main_call5_v7 : Ref sig .tc := ⟨.hbm, 253, rfl⟩
abbrev main_call5_v8 : Ref sig .tc := ⟨.hbm, 254, rfl⟩
abbrev main_call5_v9 : Ref sig .tc := ⟨.hbm, 255, rfl⟩
abbrev main_call5_v10 : Ref sig .tc := ⟨.hbm, 256, rfl⟩
abbrev main_call5_v11 : Ref sig .tc := ⟨.hbm, 257, rfl⟩
abbrev main_call5_c_3 : Ref sig .tc := ⟨.hbm, 258, rfl⟩
abbrev main_call5_v12 : Ref sig .tc := ⟨.hbm, 259, rfl⟩
abbrev main_call5_v13 : Ref sig .tc := ⟨.hbm, 260, rfl⟩
abbrev main_call5_cst : Ref sig .tc := ⟨.hbm, 261, rfl⟩
abbrev main_call5_v14 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_cst_30 : Ref sig .tc := ⟨.hbm, 268, rfl⟩
abbrev main_v186 : Ref sig .tc := ⟨.hbm, 269, rfl⟩
abbrev main_v187 : Ref sig .tc := ⟨.hbm, 270, rfl⟩
abbrev main_c_31 : Ref sig .tc := ⟨.hbm, 271, rfl⟩
abbrev main_v188 : Ref sig .tc := ⟨.hbm, 272, rfl⟩
abbrev main_v189 : Ref sig .tc := ⟨.hbm, 273, rfl⟩
abbrev main_c_32 : Ref sig .tc := ⟨.hbm, 274, rfl⟩
abbrev main_v190 : Ref sig .tc := ⟨.hbm, 275, rfl⟩
abbrev main_v191 : Ref sig .tc := ⟨.hbm, 276, rfl⟩
abbrev main_c_33 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_cst_34 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_cst_35 : Ref sig .tc := ⟨.hbm, 295, rfl⟩
abbrev main_v208 : Ref sig .tc := ⟨.hbm, 296, rfl⟩
abbrev main_c_36 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩

abbrev nD : Nat := 1
abbrev τ : Topo := Topo.v7x

variable {F : FTy → Type} [FloatOps F]
-- ==== FirstCall.lean ====
abbrev S32x20000x4 : Shape := ⟨3, ![32, 20000, 4]⟩
abbrev S32x20000x21 : Shape := ⟨3, ![32, 20000, 21]⟩
abbrev S20000x4 : Shape := ⟨2, ![20000, 4]⟩
abbrev S32x24x4 : Shape := ⟨3, ![32, 24, 4]⟩
abbrev S32x24 : Shape := ⟨2, ![32, 24]⟩
abbrev S32x4x20000 : Shape := ⟨3, ![32, 4, 20000]⟩
abbrev S32x21x20000 : Shape := ⟨3, ![32, 21, 20000]⟩
abbrev S32x24x1 : Shape := ⟨3, ![32, 24, 1]⟩
abbrev S4x20000 : Shape := ⟨2, ![4, 20000]⟩
abbrev S32x8x128 : Shape := ⟨3, ![32, 8, 128]⟩
abbrev S32x1x20000 : Shape := ⟨3, ![32, 1, 20000]⟩
abbrev S1x4x20000 : Shape := ⟨3, ![1, 4, 20000]⟩
abbrev S1x21x20000 : Shape := ⟨3, ![1, 21, 20000]⟩
abbrev S1x24x4 : Shape := ⟨3, ![1, 24, 4]⟩
abbrev S1x24x1 : Shape := ⟨3, ![1, 24, 1]⟩
abbrev S1x8x128 : Shape := ⟨3, ![1, 8, 128]⟩
abbrev S1x1x20000 : Shape := ⟨3, ![1, 1, 20000]⟩
abbrev S1x20000 : Shape := ⟨2, ![1, 20000]⟩
abbrev S20000 : Shape := ⟨1, ![20000]⟩
abbrev S24x4 : Shape := ⟨2, ![24, 4]⟩
abbrev S24x1 : Shape := ⟨2, ![24, 1]⟩
abbrev S24x20000 : Shape := ⟨2, ![24, 20000]⟩
abbrev S24 : Shape := ⟨1, ![24]⟩
abbrev S24x3 : Shape := ⟨2, ![24, 3]⟩
abbrev S24x8 : Shape := ⟨2, ![24, 8]⟩
abbrev S8x20000 : Shape := ⟨2, ![8, 20000]⟩
abbrev S2x20000 : Shape := ⟨2, ![2, 20000]⟩
abbrev S1 : Shape := ⟨1, ![1]⟩
abbrev S1x1 : Shape := ⟨2, ![1, 1]⟩
abbrev S21x20000 : Shape := ⟨2, ![21, 20000]⟩
abbrev S8x21 : Shape := ⟨2, ![8, 21]⟩
abbrev S8x128 : Shape := ⟨2, ![8, 128]⟩

abbrev nBuf : Space → Nat
  | .hbm => 11
  | .vmem => 13
  | .smem => 0
  | _ => 0

abbrev bufTy : (tb : Table) → Fin (tcTables nBuf tb) → BufTy
  | .hbm, ⟨0, _⟩ => ⟨S32x20000x4, .f32⟩
  | .hbm, ⟨1, _⟩ => ⟨S32x20000x21, .f32⟩
  | .hbm, ⟨2, _⟩ => ⟨S20000x4, .f32⟩
  | .hbm, ⟨3, _⟩ => ⟨S32x24x4, .f32⟩
  | .hbm, ⟨4, _⟩ => ⟨S32x24, .i32⟩
  | .hbm, ⟨5, _⟩ => ⟨S32x4x20000, .f32⟩
  | .hbm, ⟨6, _⟩ => ⟨S32x21x20000, .f32⟩
  | .hbm, ⟨7, _⟩ => ⟨S32x24x1, .i32⟩
  | .hbm, ⟨8, _⟩ => ⟨S4x20000, .f32⟩
  | .hbm, ⟨9, _⟩ => ⟨S32x8x128, .f32⟩
  | .hbm, ⟨10, _⟩ => ⟨S32x1x20000, .f32⟩
  | .local _ .vmem, ⟨0, _⟩ => ⟨S1x4x20000, .f32⟩
  | .local _ .vmem, ⟨1, _⟩ => ⟨S1x4x20000, .f32⟩
  | .local _ .vmem, ⟨2, _⟩ => ⟨S1x21x20000, .f32⟩
  | .local _ .vmem, ⟨3, _⟩ => ⟨S1x21x20000, .f32⟩
  | .local _ .vmem, ⟨4, _⟩ => ⟨S4x20000, .f32⟩
  | .local _ .vmem, ⟨5, _⟩ => ⟨S1x24x4, .f32⟩
  | .local _ .vmem, ⟨6, _⟩ => ⟨S1x24x4, .f32⟩
  | .local _ .vmem, ⟨7, _⟩ => ⟨S1x24x1, .i32⟩
  | .local _ .vmem, ⟨8, _⟩ => ⟨S1x24x1, .i32⟩
  | .local _ .vmem, ⟨9, _⟩ => ⟨S1x8x128, .f32⟩
  | .local _ .vmem, ⟨10, _⟩ => ⟨S1x8x128, .f32⟩
  | .local _ .vmem, ⟨11, _⟩ => ⟨S1x1x20000, .f32⟩
  | .local _ .vmem, ⟨12, _⟩ => ⟨S1x1x20000, .f32⟩
  | _, _ => ⟨S32x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x21x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x24x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x24x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x20000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ImageLossesIdeal.lean ====
abbrev S32x20000x4 : Shape := ⟨3, ![32, 20000, 4]⟩
abbrev S32x20000x21 : Shape := ⟨3, ![32, 20000, 21]⟩
abbrev S20000x4 : Shape := ⟨2, ![20000, 4]⟩
abbrev S32x24x4 : Shape := ⟨3, ![32, 24, 4]⟩
abbrev S32x24 : Shape := ⟨2, ![32, 24]⟩
abbrev S32 : Shape := ⟨1, ![32]⟩
abbrev S32x1 : Shape := ⟨2, ![32, 1]⟩
abbrev S20000x2 : Shape := ⟨2, ![20000, 2]⟩
abbrev S_ : Shape := ⟨0, ![]⟩
abbrev S32x24x2 : Shape := ⟨3, ![32, 24, 2]⟩
abbrev S32x24x1x2 : Shape := ⟨4, ![32, 24, 1, 2]⟩
abbrev S1x1x20000x2 : Shape := ⟨4, ![1, 1, 20000, 2]⟩
abbrev S32x24x20000x2 : Shape := ⟨4, ![32, 24, 20000, 2]⟩
abbrev S32x24x20000x1 : Shape := ⟨4, ![32, 24, 20000, 1]⟩
abbrev S32x24x20000 : Shape := ⟨3, ![32, 24, 20000]⟩
abbrev S32x24x1 : Shape := ⟨3, ![32, 24, 1]⟩
abbrev S20000x1 : Shape := ⟨2, ![20000, 1]⟩
abbrev S20000 : Shape := ⟨1, ![20000]⟩
abbrev S1x1x20000 : Shape := ⟨3, ![1, 1, 20000]⟩
abbrev S32x20000 : Shape := ⟨2, ![32, 20000]⟩
abbrev S24 : Shape := ⟨1, ![24]⟩
abbrev S1x24 : Shape := ⟨2, ![1, 24]⟩
abbrev S32x20000x1 : Shape := ⟨3, ![32, 20000, 1]⟩
abbrev S32x20000x2 : Shape := ⟨3, ![32, 20000, 2]⟩
abbrev S1x20000x2 : Shape := ⟨3, ![1, 20000, 2]⟩
abbrev S32x20000x1x1 : Shape := ⟨4, ![32, 20000, 1, 1]⟩
abbrev S1 : Shape := ⟨1, ![1]⟩
abbrev S1x1x1x1 : Shape := ⟨4, ![1, 1, 1, 1]⟩
abbrev S32x5 : Shape := ⟨2, ![32, 5]⟩
abbrev S32x3 : Shape := ⟨2, ![32, 3]⟩
abbrev S32x8 : Shape := ⟨2, ![32, 8]⟩
abbrev S32x8x1 : Shape := ⟨3, ![32, 8, 1]⟩
abbrev S32x8x128 : Shape := ⟨3, ![32, 8, 128]⟩
abbrev S32x1x20000 : Shape := ⟨3, ![32, 1, 20000]⟩

abbrev nBuf : Space → Nat
  | .hbm => 289
  | .vmem => 0
  | .smem => 0
  | _ => 0

abbrev hbmTy0_0 (i : Nat) : BufTy := match i % 128 with
  | 0 => ⟨S32x20000x4, .f32⟩
  | 1 => ⟨S32x20000x21, .f32⟩
  | 2 => ⟨S20000x4, .f32⟩
  | 3 => ⟨S32x24x4, .f32⟩
  | 4 => ⟨S32x24, .i32⟩
  | 5 => ⟨S32, .i32⟩
  | 6 => ⟨S32x1, .i32⟩
  | 7 => ⟨S20000x2, .f32⟩
  | 8 => ⟨S20000x2, .f32⟩
  | 9 => ⟨S_, .f32⟩
  | 10 => ⟨S20000x2, .f32⟩
  | 11 => ⟨S20000x2, .f32⟩
  | 12 => ⟨S20000x2, .f32⟩
  | 13 => ⟨S20000x2, .f32⟩
  | 14 => ⟨S20000x2, .f32⟩
  | 15 => ⟨S_, .f32⟩
  | 16 => ⟨S20000x2, .f32⟩
  | 17 => ⟨S20000x2, .f32⟩
  | 18 => ⟨S20000x2, .f32⟩
  | 19 => ⟨S20000x4, .f32⟩
  | 20 => ⟨S32x24x2, .f32⟩
  | 21 => ⟨S32x24x1x2, .f32⟩
  | 22 => ⟨S20000x2, .f32⟩
  | 23 => ⟨S1x1x20000x2, .f32⟩
  | 24 => ⟨S32x24x20000x2, .f32⟩
  | 25 => ⟨S32x24x20000x2, .f32⟩
  | 26 => ⟨S32x24x20000x2, .f32⟩
  | 27 => ⟨S32x24x2, .f32⟩
  | 28 => ⟨S32x24x1x2, .f32⟩
  | 29 => ⟨S20000x2, .f32⟩
  | 30 => ⟨S1x1x20000x2, .f32⟩
  | 31 => ⟨S32x24x20000x2, .f32⟩
  | 32 => ⟨S32x24x20000x2, .f32⟩
  | 33 => ⟨S32x24x20000x2, .f32⟩
  | 34 => ⟨S32x24x20000x2, .f32⟩
  | 35 => ⟨S_, .f32⟩
  | 36 => ⟨S32x24x20000x2, .f32⟩
  | 37 => ⟨S32x24x20000x2, .f32⟩
  | 38 => ⟨S32x24x20000x1, .f32⟩
  | 39 => ⟨S32x24x20000, .f32⟩
  | 40 => ⟨S32x24x20000x1, .f32⟩
  | 41 => ⟨S32x24x20000, .f32⟩
  | 42 => ⟨S32x24x20000, .f32⟩
  | 43 => ⟨S32x24x1, .f32⟩
  | 44 => ⟨S32x24, .f32⟩
  | 45 => ⟨S32x24x1, .f32⟩
  | 46 => ⟨S32x24, .f32⟩
  | 47 => ⟨S32x24, .f32⟩
  | 48 => ⟨S32x24x1, .f32⟩
  | 49 => ⟨S32x24, .f32⟩
  | 50 => ⟨S32x24x1, .f32⟩
  | 51 => ⟨S32x24, .f32⟩
  | 52 => ⟨S32x24, .f32⟩
  | 53 => ⟨S32x24, .f32⟩
  | 54 => ⟨S32x24x1, .f32⟩
  | 55 => ⟨S20000x1, .f32⟩
  | 56 => ⟨S20000, .f32⟩
  | 57 => ⟨S20000x1, .f32⟩
  | 58 => ⟨S20000, .f32⟩
  | 59 => ⟨S20000, .f32⟩
  | 60 => ⟨S20000x1, .f32⟩
  | 61 => ⟨S20000, .f32⟩
  | 62 => ⟨S20000x1, .f32⟩
  | 63 => ⟨S20000, .f32⟩
  | 64 => ⟨S20000, .f32⟩
  | 65 => ⟨S20000, .f32⟩
  | 66 => ⟨S1x1x20000, .f32⟩
  | 67 => ⟨S32x24x20000, .f32⟩
  | 68 => ⟨S32x24x20000, .f32⟩
  | 69 => ⟨S32x24x20000, .f32⟩
  | 70 => ⟨S32x24x20000, .f32⟩
  | 71 => ⟨S32x24x20000, .f32⟩
  | 72 => ⟨S32x24x20000, .i32⟩
  | 73 => ⟨S_, .f32⟩
  | 74 => ⟨S_, .i32⟩
  | 75 => ⟨S32x24, .f32⟩
  | 76 => ⟨S32x24, .i32⟩
  | 77 => ⟨S_, .f32⟩
  | 78 => ⟨S32x20000, .f32⟩
  | 79 => ⟨S32x24x20000, .i32⟩
  | 80 => ⟨S_, .f32⟩
  | 81 => ⟨S_, .i32⟩
  | 82 => ⟨S32x20000, .f32⟩
  | 83 => ⟨S32x20000, .i32⟩
  | 84 => ⟨S_, .i32⟩
  | 85 => ⟨S32x1, .i32⟩
  | 86 => ⟨S32x1, .i1⟩
  | 87 => ⟨S_, .i32⟩
  | 88 => ⟨S32x1, .i32⟩
  | 89 => ⟨S32x1, .i32⟩
  | 90 => ⟨S32x1, .i32⟩
  | 91 => ⟨S_, .i32⟩
  | 92 => ⟨S32x24, .i32⟩
  | 93 => ⟨S32x24, .i1⟩
  | 94 => ⟨S_, .i32⟩
  | 95 => ⟨S32x24, .i32⟩
  | 96 => ⟨S32x24, .i32⟩
  | 97 => ⟨S32x24, .i32⟩
  | 98 => ⟨S32x24, .i32⟩
  | 99 => ⟨S32x24x1, .i32⟩
  | 100 => ⟨S32x24x1, .i32⟩
  | 101 => ⟨S32x24x2, .i32⟩
  | 102 => ⟨S_, .f32⟩
  | 103 => ⟨S32x24, .f32⟩
  | 104 => ⟨S32x20000, .f32⟩
  | 105 => ⟨S24, .i32⟩
  | 106 => ⟨S1x24, .i32⟩
  | 107 => ⟨S_, .i32⟩
  | 108 => ⟨S32x1, .i32⟩
  | 109 => ⟨S32x1, .i1⟩
  | 110 => ⟨S_, .i32⟩
  | 111 => ⟨S32x1, .i32⟩
  | 112 => ⟨S32x1, .i32⟩
  | 113 => ⟨S32x1, .i32⟩
  | 114 => ⟨S_, .i32⟩
  | 115 => ⟨S32x24, .i32⟩
  | 116 => ⟨S32x24, .i1⟩
  | 117 => ⟨S_, .i32⟩
  | 118 => ⟨S32x24, .i32⟩
  | 119 => ⟨S32x24, .i32⟩
  | 120 => ⟨S32x24, .i32⟩
  | 121 => ⟨S32x24, .i32⟩
  | 122 => ⟨S32x24x1, .i32⟩
  | 123 => ⟨S32x24x1, .i32⟩
  | 124 => ⟨S32x24x2, .i32⟩
  | 125 => ⟨S32x24, .i32⟩
  | 126 => ⟨S32x20000, .i32⟩
  | 127 => ⟨S_, .i32⟩
  | _ => ⟨S32x20000x4, .f32⟩

abbrev hbmTy0_1 (i : Nat) : BufTy := match i % 128 with
  | 0 => ⟨S32x1, .i32⟩
  | 1 => ⟨S32x1, .i1⟩
  | 2 => ⟨S_, .i32⟩
  | 3 => ⟨S32x1, .i32⟩
  | 4 => ⟨S32x1, .i32⟩
  | 5 => ⟨S32x1, .i32⟩
  | 6 => ⟨S_, .i32⟩
  | 7 => ⟨S32x20000, .i32⟩
  | 8 => ⟨S32x20000, .i1⟩
  | 9 => ⟨S_, .i32⟩
  | 10 => ⟨S32x20000, .i32⟩
  | 11 => ⟨S32x20000, .i32⟩
  | 12 => ⟨S32x20000, .i32⟩
  | 13 => ⟨S32x20000, .i32⟩
  | 14 => ⟨S32x20000x1, .i32⟩
  | 15 => ⟨S32x20000x1, .i32⟩
  | 16 => ⟨S32x20000x2, .i32⟩
  | 17 => ⟨S32x20000x4, .f32⟩
  | 18 => ⟨S_, .i32⟩
  | 19 => ⟨S32x1, .i32⟩
  | 20 => ⟨S32x1, .i1⟩
  | 21 => ⟨S_, .i32⟩
  | 22 => ⟨S32x1, .i32⟩
  | 23 => ⟨S32x1, .i32⟩
  | 24 => ⟨S32x1, .i32⟩
  | 25 => ⟨S_, .i32⟩
  | 26 => ⟨S32x20000, .i32⟩
  | 27 => ⟨S32x20000, .i1⟩
  | 28 => ⟨S_, .i32⟩
  | 29 => ⟨S32x20000, .i32⟩
  | 30 => ⟨S32x20000, .i32⟩
  | 31 => ⟨S32x20000, .i32⟩
  | 32 => ⟨S32x20000, .i32⟩
  | 33 => ⟨S32x20000x1, .i32⟩
  | 34 => ⟨S32x20000x1, .i32⟩
  | 35 => ⟨S32x20000x2, .i32⟩
  | 36 => ⟨S32x20000, .i32⟩
  | 37 => ⟨S_, .i32⟩
  | 38 => ⟨S32x20000, .i32⟩
  | 39 => ⟨S32x20000, .i32⟩
  | 40 => ⟨S_, .f32⟩
  | 41 => ⟨S32x20000, .f32⟩
  | 42 => ⟨S32x20000, .i1⟩
  | 43 => ⟨S_, .i32⟩
  | 44 => ⟨S_, .i32⟩
  | 45 => ⟨S32x20000, .i32⟩
  | 46 => ⟨S32x20000, .i32⟩
  | 47 => ⟨S32x20000x2, .f32⟩
  | 48 => ⟨S32x20000x2, .f32⟩
  | 49 => ⟨S32x20000x2, .f32⟩
  | 50 => ⟨S_, .f32⟩
  | 51 => ⟨S32x20000x2, .f32⟩
  | 52 => ⟨S32x20000x2, .f32⟩
  | 53 => ⟨S20000x2, .f32⟩
  | 54 => ⟨S1x20000x2, .f32⟩
  | 55 => ⟨S32x20000x2, .f32⟩
  | 56 => ⟨S32x20000x2, .f32⟩
  | 57 => ⟨S20000x2, .f32⟩
  | 58 => ⟨S1x20000x2, .f32⟩
  | 59 => ⟨S_, .f32⟩
  | 60 => ⟨S1x20000x2, .f32⟩
  | 61 => ⟨S1x20000x2, .f32⟩
  | 62 => ⟨S32x20000x2, .f32⟩
  | 63 => ⟨S32x20000x2, .f32⟩
  | 64 => ⟨S32x20000x2, .f32⟩
  | 65 => ⟨S32x20000x2, .f32⟩
  | 66 => ⟨S32x20000x2, .f32⟩
  | 67 => ⟨S20000x2, .f32⟩
  | 68 => ⟨S1x20000x2, .f32⟩
  | 69 => ⟨S32x20000x2, .f32⟩
  | 70 => ⟨S32x20000x2, .f32⟩
  | 71 => ⟨S32x20000x2, .f32⟩
  | 72 => ⟨S_, .f32⟩
  | 73 => ⟨S32x20000x2, .f32⟩
  | 74 => ⟨S32x20000x2, .f32⟩
  | 75 => ⟨S32x20000x4, .f32⟩
  | 76 => ⟨S_, .i32⟩
  | 77 => ⟨S32x20000, .i32⟩
  | 78 => ⟨S32x20000, .i1⟩
  | 79 => ⟨S32x20000x4, .f32⟩
  | 80 => ⟨S32x20000x4, .f32⟩
  | 81 => ⟨S_, .f32⟩
  | 82 => ⟨S32x20000x4, .f32⟩
  | 83 => ⟨S32x20000x4, .i1⟩
  | 84 => ⟨S_, .f32⟩
  | 85 => ⟨S32x20000x4, .f32⟩
  | 86 => ⟨S32x20000x4, .f32⟩
  | 87 => ⟨S32x20000x4, .f32⟩
  | 88 => ⟨S_, .f32⟩
  | 89 => ⟨S32x20000x4, .f32⟩
  | 90 => ⟨S32x20000x4, .f32⟩
  | 91 => ⟨S32x20000x4, .f32⟩
  | 92 => ⟨S32x20000x1, .i1⟩
  | 93 => ⟨S32x20000x1, .f32⟩
  | 94 => ⟨S32x20000x4, .f32⟩
  | 95 => ⟨S32x20000x4, .f32⟩
  | 96 => ⟨S_, .f32⟩
  | 97 => ⟨S32, .f32⟩
  | 98 => ⟨S_, .f32⟩
  | 99 => ⟨S32x20000, .f32⟩
  | 100 => ⟨S_, .f32⟩
  | 101 => ⟨S32x20000, .f32⟩
  | 102 => ⟨S32x20000, .f32⟩
  | 103 => ⟨S32x20000x1, .f32⟩
  | 104 => ⟨S32x20000x21, .f32⟩
  | 105 => ⟨S32x20000x21, .f32⟩
  | 106 => ⟨S32x20000x21, .f32⟩
  | 107 => ⟨S_, .f32⟩
  | 108 => ⟨S32x20000, .f32⟩
  | 109 => ⟨S32x20000x1, .f32⟩
  | 110 => ⟨S32x20000x1, .f32⟩
  | 111 => ⟨S32x20000x21, .f32⟩
  | 112 => ⟨S32x20000x21, .f32⟩
  | 113 => ⟨S32x20000x1, .i32⟩
  | 114 => ⟨S_, .i32⟩
  | 115 => ⟨S32x20000x1, .i32⟩
  | 116 => ⟨S32x20000x1, .i1⟩
  | 117 => ⟨S_, .i32⟩
  | 118 => ⟨S32x20000x1, .i32⟩
  | 119 => ⟨S32x20000x1, .i32⟩
  | 120 => ⟨S32x20000x1, .i32⟩
  | 121 => ⟨S32x20000x1x1, .i32⟩
  | 122 => ⟨S1, .i32⟩
  | 123 => ⟨S_, .i32⟩
  | 124 => ⟨S32x20000x1x1, .i32⟩
  | 125 => ⟨S32x20000x1x1, .i1⟩
  | 126 => ⟨S1x1x1x1, .i32⟩
  | 127 => ⟨S32x20000x1x1, .i32⟩
  | _ => ⟨S32x20000x4, .f32⟩

abbrev hbmTy0_2 (i : Nat) : BufTy := match i % 128 with
  | 0 => ⟨S32x20000x1x1, .i1⟩
  | 1 => ⟨S32x20000x1x1, .i1⟩
  | 2 => ⟨S_, .i1⟩
  | 3 => ⟨S32x20000x1, .i1⟩
  | 4 => ⟨S32x20000x1, .f32⟩
  | 5 => ⟨S_, .f32⟩
  | 6 => ⟨S32x20000x1, .f32⟩
  | 7 => ⟨S32x20000x1, .f32⟩
  | 8 => ⟨S32x20000, .f32⟩
  | 9 => ⟨S32x20000, .f32⟩
  | 10 => ⟨S32x20000, .f32⟩
  | 11 => ⟨S32x20000, .f32⟩
  | 12 => ⟨S_, .f32⟩
  | 13 => ⟨S32, .f32⟩
  | 14 => ⟨S32x20000, .i32⟩
  | 15 => ⟨S_, .i32⟩
  | 16 => ⟨S32, .i32⟩
  | 17 => ⟨S32, .f32⟩
  | 18 => ⟨S32x20000, .f32⟩
  | 19 => ⟨S_, .f32⟩
  | 20 => ⟨S32x20000, .f32⟩
  | 21 => ⟨S32x20000, .f32⟩
  | 22 => ⟨S32x20000, .f32⟩
  | 23 => ⟨S_, .f32⟩
  | 24 => ⟨S32x5, .f32⟩
  | 25 => ⟨S32x1, .f32⟩
  | 26 => ⟨S32x1, .f32⟩
  | 27 => ⟨S32x1, .f32⟩
  | 28 => ⟨S32x3, .f32⟩
  | 29 => ⟨S32x8, .f32⟩
  | 30 => ⟨S32x8x1, .f32⟩
  | 31 => ⟨S32x8x128, .f32⟩
  | 32 => ⟨S32x1x20000, .f32⟩
  | _ => ⟨S32x20000x4, .f32⟩

abbrev hbmTy (i : Nat) : BufTy := match i / 128 with
  | 0 => hbmTy0_0 i
  | 1 => hbmTy0_1 i
  | 2 => hbmTy0_2 i
  | _ => ⟨S32x20000x4, .f32⟩

abbrev bufTy : (tb : Table) → Fin (tcTables nBuf tb) → BufTy
  | .hbm, ⟨i, _⟩ => hbmTy i
  | _, _ => ⟨S32x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_call0_v0 : Ref sig .tc := ⟨.hbm, 72, rfl⟩
abbrev main_call0_cst : Ref sig .tc := ⟨.hbm, 73, rfl⟩
abbrev main_call0_c : Ref sig .tc := ⟨.hbm, 74, rfl⟩
abbrev main_call0_v1_0 : Ref sig .tc := ⟨.hbm, 75, rfl⟩
abbrev main_v64 : Ref sig .tc := ⟨.hbm, 76, rfl⟩
abbrev main_cst_2 : Ref sig .tc := ⟨.hbm, 77, rfl⟩
abbrev main_v65 : Ref sig .tc := ⟨.hbm, 78, rfl⟩
abbrev main_call1_v0 : Ref sig .tc := ⟨.hbm, 79, rfl⟩
abbrev main_call1_cst : Ref sig .tc := ⟨.hbm, 80, rfl⟩
abbrev main_call1_c : Ref sig .tc := ⟨.hbm, 81, rfl⟩
abbrev main_call1_v1_0 : Ref sig .tc := ⟨.hbm, 82, rfl⟩
abbrev main_v66 : Ref sig .tc := ⟨.hbm, 83, rfl⟩
abbrev main_c : Ref sig .tc := ⟨.hbm, 84, rfl⟩
abbrev main_v67 : Ref sig .tc := ⟨.hbm, 85, rfl⟩
abbrev main_v68 : Ref sig .tc := ⟨.hbm, 86, rfl⟩
abbrev main_c_3 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_4 : Ref sig .tc := ⟨.hbm, 91, rfl⟩
abbrev main_v72 : Ref sig .tc := ⟨.hbm, 92, rfl⟩
abbrev main_v73 : Ref sig .tc := ⟨.hbm, 93, rfl⟩
abbrev main_c_5 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_6 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_7 : Ref sig .tc := ⟨.hbm, 107, rfl⟩
abbrev main_v85 : Ref sig .tc := ⟨.hbm, 108, rfl⟩
abbrev main_v86 : Ref sig .tc := ⟨.hbm, 109, rfl⟩
abbrev main_c_8 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_9 : Ref sig .tc := ⟨.hbm, 114, rfl⟩
abbrev main_v90 : Ref sig .tc := ⟨.hbm, 115, rfl⟩
abbrev main_v91 : Ref sig .tc := ⟨.hbm, 116, rfl⟩
abbrev main_c_10 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_c_11 : Ref sig .tc := ⟨.hbm, 127, rfl⟩
abbrev main_v101 : Ref sig .tc := ⟨.hbm, 128, rfl⟩
abbrev main_v102 : Ref sig .tc := ⟨.hbm, 129, rfl⟩
abbrev main_c_12 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_13 : Ref sig .tc := ⟨.hbm, 134, rfl⟩
abbrev main_v106 : Ref sig .tc := ⟨.hbm, 135, rfl⟩
abbrev main_v107 : Ref sig .tc := ⟨.hbm, 136, rfl⟩
abbrev main_c_14 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_c_15 : Ref sig .tc := ⟨.hbm, 146, rfl⟩
abbrev main_v116 : Ref sig .tc := ⟨.hbm, 147, rfl⟩
abbrev main_v117 : Ref sig .tc := ⟨.hbm, 148, rfl⟩
abbrev main_c_16 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_c_17 : Ref sig .tc := ⟨.hbm, 153, rfl⟩
abbrev main_v121 : Ref sig .tc := ⟨.hbm, 154, rfl⟩
abbrev main_v122 : Ref sig .tc := ⟨.hbm, 155, rfl⟩
abbrev main_c_18 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_c_19 : Ref sig .tc := ⟨.hbm, 165, rfl⟩
abbrev main_v131 : Ref sig .tc := ⟨.hbm, 166, rfl⟩
abbrev main_v132 : Ref sig .tc := ⟨.hbm, 167, rfl⟩
abbrev main_cst_20 : Ref sig .tc := ⟨.hbm, 168, rfl⟩
abbrev main_v133 : Ref sig .tc := ⟨.hbm, 169, rfl⟩
abbrev main_v134 : Ref sig .tc := ⟨.hbm, 170, rfl⟩
abbrev main_c_21 : Ref sig .tc := ⟨.hbm, 171, rfl⟩
abbrev main_call2_v0 : Ref sig .tc := ⟨.hbm, 172, rfl⟩
abbrev main_call2_v1 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_22 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_23 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_24 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_c_25 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_26 : Ref sig .tc := ⟨.hbm, 209, rfl⟩
abbrev main_v166 : Ref sig .tc := ⟨.hbm, 210, rfl⟩
abbrev main_v167 : Ref sig .tc := ⟨.hbm, 211, rfl⟩
abbrev main_cst_27 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_28 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_29 : Ref sig .tc := ⟨.hbm, 224, rfl⟩
abbrev main_v178 : Ref sig .tc := ⟨.hbm, 225, rfl⟩
abbrev main_call4_cst : Ref sig .tc := ⟨.hbm, 226, rfl⟩
abbrev main_call4_v0 : Ref sig .tc := ⟨.hbm, 227, rfl⟩
abbrev main_call4_cst_0 : Ref sig .tc := ⟨.hbm, 228, rfl⟩
abbrev main_call4_v1 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_cst_1 : Ref sig .tc := ⟨.hbm, 235, rfl⟩
abbrev main_call4_v7 : Ref sig .tc := ⟨.hbm, 236, rfl⟩
abbrev main_call4_v8 : Ref sig .tc := ⟨.hbm, 237, rfl⟩
abbrev main_call4_v9 : Ref sig .tc := ⟨.hbm, 238, rfl⟩
abbrev main_call4_v10 : Ref sig .tc := ⟨.hbm, 239, rfl⟩
abbrev main_v179 : Ref sig .tc := ⟨.hbm, 240, rfl⟩
abbrev main_v180 : Ref sig .tc := ⟨.hbm, 241, rfl⟩
abbrev main_call5_c : Ref sig .tc := ⟨.hbm, 242, rfl⟩
abbrev main_call5_v0 : Ref sig .tc := ⟨.hbm, 243, rfl⟩
abbrev main_call5_v1 : Ref sig .tc := ⟨.hbm, 244, rfl⟩
abbrev main_call5_c_0 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_v5 : Ref sig .tc := ⟨.hbm, 249, rfl⟩
abbrev main_call5_c_1 : Ref sig .tc := ⟨.hbm, 250, rfl⟩
abbrev main_call5_c_2 : Ref sig .tc := ⟨.hbm, 251, rfl⟩
abbrev main_call5_v6 : Ref sig .tc := ⟨.hbm, 252, rfl⟩
abbrev main_call5_v7 : Ref sig .tc := ⟨.hbm, 253, rfl⟩
abbrev main_call5_v8 : Ref sig .tc := ⟨.hbm, 254, rfl⟩
abbrev main_call5_v9 : Ref sig .tc := ⟨.hbm, 255, rfl⟩
abbrev main_call5_v10 : Ref sig .tc := ⟨.hbm, 256, rfl⟩
abbrev main_call5_v11 : Ref sig .tc := ⟨.hbm, 257, rfl⟩
abbrev main_call5_c_3 : Ref sig .tc := ⟨.hbm, 258, rfl⟩
abbrev main_call5_v12 : Ref sig .tc := ⟨.hbm, 259, rfl⟩
abbrev main_call5_v13 : Ref sig .tc := ⟨.hbm, 260, rfl⟩
abbrev main_call5_cst : Ref sig .tc := ⟨.hbm, 261, rfl⟩
abbrev main_call5_v14 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_cst_30 : Ref sig .tc := ⟨.hbm, 268, rfl⟩
abbrev main_v186 : Ref sig .tc := ⟨.hbm, 269, rfl⟩
abbrev main_v187 : Ref sig .tc := ⟨.hbm, 270, rfl⟩
abbrev main_c_31 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_cst_32 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_cst_33 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩

abbrev nD : Nat := 1
abbrev τ : Topo := Topo.v7x

variable {F : FTy → Type} [FloatOps F]
-- ==== SecondCall.lean ====
abbrev S32x8x128 : Shape := ⟨3, ![32, 8, 128]⟩
abbrev S32x1x20000 : Shape := ⟨3, ![32, 1, 20000]⟩
abbrev S32x20000 : Shape := ⟨2, ![32, 20000]⟩
abbrev S1x1 : Shape := ⟨2, ![1, 1]⟩
abbrev S32x1x1 : Shape := ⟨3, ![32, 1, 1]⟩
abbrev S32x1 : Shape := ⟨2, ![32, 1]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩

abbrev nBuf : Space → Nat
  | .hbm => 5
  | .vmem => 4
  | .smem => 0
  | _ => 0

abbrev bufTy : (tb : Table) → Fin (tcTables nBuf tb) → BufTy
  | .hbm, ⟨0, _⟩ => ⟨S32x8x128, .f32⟩
  | .hbm, ⟨1, _⟩ => ⟨S32x1x20000, .f32⟩
  | .hbm, ⟨2, _⟩ => ⟨S32x20000, .f32⟩
  | .hbm, ⟨3, _⟩ => ⟨S1x1, .f32⟩
  | .hbm, ⟨4, _⟩ => ⟨S1x1, .f32⟩
  | .local _ .vmem, ⟨0, _⟩ => ⟨S32x8x128, .f32⟩
  | .local _ .vmem, ⟨1, _⟩ => ⟨S32x20000, .f32⟩
  | .local _ .vmem, ⟨2, _⟩ => ⟨S1x1, .f32⟩
  | .local _ .vmem, ⟨3, _⟩ => ⟨S1x1, .f32⟩
  | _, _ => ⟨S32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c24_i32 : BitVec 32 := 24#32
  let v16 : BitVec 32 := Scalar.addi c0_i32 c24_i32
  let c1_i32 : BitVec 32 := 1#32
  ⟨c0_i32, v16, c1_i32⟩
abbrev stage0_0 : Fin 1 → Memref sig .tc .vmem S32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MinedLossesIdeal.lean ====
abbrev S32x8x128 : Shape := ⟨3, ![32, 8, 128]⟩
abbrev S32x1x20000 : Shape := ⟨3, ![32, 1, 20000]⟩
abbrev S32x1x1 : Shape := ⟨3, ![32, 1, 1]⟩
abbrev S32x1 : Shape := ⟨2, ![32, 1]⟩
abbrev S_ : Shape := ⟨0, ![]⟩
abbrev S32x20000 : Shape := ⟨2, ![32, 20000]⟩
abbrev S20000 : Shape := ⟨1, ![20000]⟩
abbrev S1x20000 : Shape := ⟨2, ![1, 20000]⟩
abbrev S32 : Shape := ⟨1, ![32]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S32x8x128, .f32⟩
  | .hbm, ⟨1, _⟩ => ⟨S32x1x20000, .f32⟩
  | .hbm, ⟨2, _⟩ => ⟨S32x1x1, .f32⟩
  | .hbm, ⟨3, _⟩ => ⟨S32x1, .f32⟩
  | .hbm, ⟨4, _⟩ => ⟨S_, .f32⟩
  | .hbm, ⟨5, _⟩ => ⟨S32x1, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S32x20000, .f32⟩
  | .hbm, ⟨11, _⟩ => ⟨S32x20000, .f32⟩
  | .hbm, ⟨12, _⟩ => ⟨S32x20000, .f32⟩
  | .hbm, ⟨13, _⟩ => ⟨S32x20000, .f32⟩
  | .hbm, ⟨14, _⟩ => ⟨S20000, .f32⟩
  | .hbm, ⟨15, _⟩ => ⟨S1x20000, .f32⟩
  | .hbm, ⟨16, _⟩ => ⟨S32x20000, .f32⟩
  | .hbm, ⟨17, _⟩ => ⟨S32x20000, .f32⟩
  | .hbm, ⟨18, _⟩ => ⟨S32x20000, .i1⟩
  | .hbm, ⟨19, _⟩ => ⟨S32x20000, .f32⟩
  | .hbm, ⟨20, _⟩ => ⟨S32x20000, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x1x1, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x1x1, .f32⟩
  | .hbm, ⟨31, _⟩ => ⟨S32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x1, .f32⟩
  | .hbm, ⟨37, _⟩ => ⟨S1x1, .f32⟩
  | _, _ => ⟨S32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.KRun.lean ====
module

public import proofs.«01_k».proof.Proof.Gen.KernelIdeal.Frame

/-
  The idealized kernel's run with its results: each result's buffer ends at what the last stretch of host operations
  leaves in it, and the arguments end as they were launched.
-/

set_option maxRecDepth 16384

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel from zero counters terminates without a fault; the two results
    end at the last boundary's contents, every argument as launched, every semaphore counter at zero. -/
theorem run_value : θ_run defs (onTc (τ := τ) (main (F := F))) ⟨m, fun _ => 0, ρ⟩ (fun r => (∀ c : Dev nD,
      r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v7 (by decide)), h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩), funext fun g => hz g (.inr (no_unscoped g.2))⟩)

end Cert.KernelIdeal.Gen
-- ==== Proof.Spec.lean ====
module

public import Idealize.ShloMosaic.PureOps.Ideal
public import Idealize.ShloMosaic.PureOps.Ideal.Laws

/-
  The mathematics of the box loss, over the extended reals, for one image: the overlap of a box with a prior, the first place
  of a row's greatest value, which box a prior is matched to, which priors count, the encoded offsets and the smooth L1 terms.
  Nothing here speaks of a program.
-/

@[expose] public section

noncomputable section

namespace Cert.Loss

open Idealize.ShloMosaic

/-- Two. -/
abbrev two : EReal := Ideal.ofBits FTy.f32 1073741824#32
/-- One half. -/
abbrev half : EReal := Ideal.ofBits FTy.f32 1056964608#32
/-- The first variance, 0.1. -/
abbrev var0 : EReal := Ideal.ofBits FTy.f32 1036831949#32
/-- The second variance, 0.2. -/
abbrev var1 : EReal := Ideal.ofBits FTy.f32 1045220557#32

/-! ## The first place of the greatest value -/

/-- `i` is the first place at which the row `f` takes its greatest value. -/
def IsFirst {n : ℕ} (f : Fin n → EReal) (i : Fin n) : Prop := (∀ k, f k ≤ f i) ∧ ∀ k, f k = f i → i ≤ k

/-- A row that is not empty has such a place. -/
theorem exists_isFirst {n : ℕ} [NeZero n] (f : Fin n → EReal) : ∃ i, IsFirst f i := by
  classical
  obtain ⟨m, -, hm⟩ := Finset.exists_max_image Finset.univ f ⟨0, Finset.mem_univ _⟩
  have hne : (Finset.univ.filter fun i => ∀ k, f k ≤ f i).Nonempty :=
    ⟨m, Finset.mem_filter.2 ⟨Finset.mem_univ _, fun k => hm k (Finset.mem_univ k)⟩⟩
  refine ⟨_, (Finset.mem_filter.1 (Finset.min'_mem _ hne)).2, fun k hk => Finset.min'_le _ _ (Finset.mem_filter.2 ⟨Finset.mem_univ _, fun l => ?_⟩)⟩
  rw [hk]
  exact (Finset.mem_filter.1 (Finset.min'_mem _ hne)).2 l

/-- The first place at which a row takes its greatest value. -/
def first {n : ℕ} [NeZero n] (f : Fin n → EReal) : Fin n := (exists_isFirst f).choose

/-- `first` is such a place. -/
theorem first_spec {n : ℕ} [NeZero n] (f : Fin n → EReal) : IsFirst f (first f) := (exists_isFirst f).choose_spec

/-! ## The last box that claims a prior -/

/-- `j` is the last place at which `b` takes the value `p`. -/
def IsLast {m n : ℕ} (b : Fin m → Fin n) (p : Fin n) (j : Fin m) : Prop := b j = p ∧ ∀ k, b k = p → k ≤ j

/-- When some place has the value `p`, there is a last one. -/
theorem exists_isLast {m n : ℕ} (b : Fin m → Fin n) (p : Fin n) (h : ∃ j, b j = p) : ∃ j, IsLast b p j := by
  classical
  obtain ⟨j, hj⟩ := h
  have hne : (Finset.univ.filter fun i => b i = p).Nonempty := ⟨j, Finset.mem_filter.2 ⟨Finset.mem_univ _, hj⟩⟩
  exact ⟨_, (Finset.mem_filter.1 (Finset.max'_mem _ hne)).2, fun k hk => Finset.le_max' _ k (Finset.mem_filter.2 ⟨Finset.mem_univ k, hk⟩)⟩

open Classical in
/-- `j` at the last box `j` that has claimed the prior `p`; `e` when none has. -/
def claimed {m n : ℕ} {α : Type} (b : Fin m → Fin n) (p : Fin n) (v : Fin m → α) (e : α) : α :=
  if h : ∃ j, b j = p then v (exists_isLast b p h).choose else e

/-- The value where the last claim is known. -/
theorem claimed_hit {m n : ℕ} {α : Type} {b : Fin m → Fin n} {p : Fin n} {j : Fin m} (v : Fin m → α) (e : α) (h : IsLast b p j) :
    claimed b p v e = v j := by
  have hx : ∃ j, b j = p := ⟨j, h.1⟩
  unfold claimed
  rw [dif_pos hx]
  have hs := (exists_isLast b p hx).choose_spec
  exact congrArg v (le_antisymm (h.2 _ hs.1) (hs.2 _ h.1))

/-- The value where no box claims the prior. -/
theorem claimed_miss {m n : ℕ} {α : Type} {b : Fin m → Fin n} {p : Fin n} (v : Fin m → α) (e : α) (h : ∀ j, b j ≠ p) : claimed b p v e = e := by
  unfold claimed
  exact dif_neg fun ⟨j, hj⟩ => h j hj

/-- Either some box is the last to claim the prior, or none claims it. -/
theorem last_or_none {m n : ℕ} (b : Fin m → Fin n) (p : Fin n) : (∃ j, IsLast b p j) ∨ ∀ j, b j ≠ p := by
  by_cases h : ∃ j, b j = p
  · exact Or.inl (exists_isLast b p h)
  · exact Or.inr fun j hj => h ⟨j, hj⟩

/-! ## Overlaps -/

/-- The part two intervals share: the box's from `t0` to `t2`, the prior's about `c` of width `w`. -/
def share (t0 t2 c w : EReal) : EReal := max (min t2 (c + Ideal.div w two) - max t0 (c - Ideal.div w two)) 0

/-- The width of the prior's interval about `c`, end less start. -/
def span (c w : EReal) : EReal := c + Ideal.div w two - (c - Ideal.div w two)

/-- The overlap of the box `t` (corners) with the prior `q` (centre and size): the shared area over the area of the two together. -/
def overlap (t q : Fin 4 → EReal) : EReal :=
  Ideal.div (share (t 0) (t 2) (q 0) (q 2) * share (t 1) (t 3) (q 1) (q 3))
    ((t 2 - t 0) * (t 3 - t 1) + span (q 0) (q 2) * span (q 1) (q 3) - share (t 0) (t 2) (q 0) (q 2) * share (t 1) (t 3) (q 1) (q 3))

variable (tb : Fin 24 → Fin 4 → EReal) (pri : Fin 20000 → Fin 4 → EReal)

/-- The overlaps of an image: box `j` with prior `p`. -/
def ov (j : Fin 24) (p : Fin 20000) : EReal := overlap (tb j) (pri p)

/-- The prior each box claims: the first of those it overlaps most. -/
def bestPrior (j : Fin 24) : Fin 20000 := first fun p => ov tb pri j p

/-- The box each prior overlaps most, the first such. -/
def bestBox (p : Fin 20000) : Fin 24 := first fun j => ov tb pri j p

/-- The greatest overlap of each prior. -/
def bestOv (p : Fin 20000) : EReal := ov tb pri (bestBox tb pri p) p

/-- The box a prior is matched to: the last that claims it, else the one it overlaps most. -/
def matched (p : Fin 20000) : Fin 24 := claimed (bestPrior tb pri) p id (bestBox tb pri p)

/-- The overlap a prior is judged by: two when a box claims it, else its greatest. -/
def judged (p : Fin 20000) : EReal := claimed (bestPrior tb pri) p (fun _ => two) (bestOv tb pri p)

open Classical in
/-- One at a prior that counts, zero at one whose overlap is below one half. -/
def ind (p : Fin 20000) : EReal := if judged tb pri p < half then 0 else 1

/-! ## Offsets and their smooth L1 -/

/-- The offset of a centre coordinate: the box's interval from `a` to `b`, the prior's about `c` of width `w`. -/
def encC (a b c w : EReal) : EReal := Ideal.div (Ideal.div (a + b) two - c) (var0 * w)
/-- The offset of a size. -/
def encW (a b w : EReal) : EReal := Ideal.div (Ideal.log (Ideal.div (b - a) w)) var1

/-- The encoded offsets of the box `t` at the prior `q`. -/
def enc (t q : Fin 4 → EReal) (r : Fin 4) : EReal :=
  ![encC (t 0) (t 2) (q 0) (q 2), encC (t 1) (t 3) (q 1) (q 3), encW (t 0) (t 2) (q 2), encW (t 1) (t 3) (q 3)] r

open Classical in
/-- The smooth L1 of a difference. -/
def smooth (d : EReal) : EReal := if max d (-d) < 1 then half * d * d else max d (-d) - half

variable (loc : Fin 20000 → Fin 4 → EReal)

/-- The smooth L1 term of prior `p`, coordinate `r`. -/
def term (p : Fin 20000) (r : Fin 4) : EReal := smooth (loc p r - enc (tb (matched tb pri p)) (pri p) r)

/-- The location loss of an image, not yet divided. -/
def locSum : EReal := ∑ p : Fin 20000, (∑ r : Fin 4, term tb pri loc p r) * ind tb pri p

/-- How many priors of an image count. -/
def count : EReal := ∑ p : Fin 20000, ind tb pri p

/-- An indicator goes inside a sum: it is zero or one. -/
theorem sum_mul_ind {ι : Type} (s : Finset ι) (f : ι → EReal) (p : Fin 20000) : (∑ r ∈ s, f r) * ind tb pri p = ∑ r ∈ s, f r * ind tb pri p := by
  unfold ind
  split
  · simp
  · simp

end Cert.Loss
end
-- ==== Proof.Words.lean ====
module

public import proofs.«01_k».proof.Proof.Spec
public import Idealize.ShloMosaic.Lib.SortNet.Extract
public import Idealize.ShloMosaic.Lib.WordCmp

/-
  Index words: what folds of signed minimum and maximum over a column of words come to when the words are the places of a
  row's greatest value, or the boxes that claim a prior; the product with a one-hot column; and the paired fold a first
  greatest place is found by.
-/

@[expose] public section

noncomputable section

namespace Cert.Loss

open Idealize.ShloMosaic Idealize.ShloMosaic.SortNet

/-- A small number as a word, read back as an integer. -/
theorem toInt_small (k : ℕ) (hk : k < 2 ^ 31) : (BitVec.ofNat 32 k).toInt = (k : ℤ) := by
  rw [BitVec.toInt_eq_toNat_cond, BitVec.toNat_ofNat, Nat.mod_eq_of_lt (by omega), if_pos (by omega)]

/-- Small numbers are equal when their words are. -/
theorem ofNat_inj_small {a b : ℕ} (ha : a < 2 ^ 31) (hb : b < 2 ^ 31) : BitVec.ofNat 32 a = BitVec.ofNat 32 b ↔ a = b := by
  constructor
  · intro h
    have := congrArg BitVec.toInt h
    rw [toInt_small a ha, toInt_small b hb] at this
    exact_mod_cast this
  · rintro rfl; rfl

/-- Equality of words as a one-bit word. -/
theorem cmpi_eq_bit (a b : BitVec 32) : IntOp.cmpi CmpIPredicate.eq a b = BitVec.ofBool (decide (a = b)) := by
  by_cases h : a = b <;> simp [IntOp.cmpi, h, beq_eq_decide]

/-- A choice by a decided bit. -/
theorem select_bit {α : Type} (p : Prop) [Decidable p] (a b : α) : Scalar.select (BitVec.ofBool (decide p)) a b = if p then a else b := by
  by_cases h : p <;> simp [Scalar.select, h]

/-- A choice by equality of words. -/
theorem select_cmpi_eq {α : Type} (a b : BitVec 32) (x y : α) : Scalar.select (IntOp.cmpi CmpIPredicate.eq a b) x y = if a = b then x else y := by
  rw [cmpi_eq_bit, select_bit]

/-- A fold of signed minimum is at most the start and every word met, and is one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨by simp, by simp, by simp⟩
  | insert a s has ih =>
    obtain ⟨h1, h2, h3⟩ := ih
    have hm := toInt_minsi (g a) (s.fold IntOp.minsi init g)
    rw [Finset.fold_insert has]
    refine ⟨?_, ?_, ?_⟩
    · rw [hm]; exact (min_le_right _ _).trans h1
    · intro i hi
      rw [hm]
      rcases Finset.mem_insert.1 hi with rfl | hi
      · exact min_le_left _ _
      · exact (min_le_right _ _).trans (h2 i hi)
    · rcases min_choice (g a).toInt (s.fold IntOp.minsi init g).toInt with h | h
      · exact Or.inr ⟨a, Finset.mem_insert_self a s, BitVec.eq_of_toInt_eq (hm.trans h)⟩
      · have he := BitVec.eq_of_toInt_eq (hm.trans h)
        rcases h3 with h3 | ⟨i, hi, h3⟩
        · exact Or.inl (he.trans h3)
        · exact Or.inr ⟨i, Finset.mem_insert_of_mem hi, he.trans h3⟩

/-- A fold of `max` from below everything is the value at the first greatest place. -/
theorem fold_max_first {n : ℕ} (f : Fin n → EReal) {i : Fin n} (h : IsFirst f i) : Finset.fold max (⊥ : EReal) f Finset.univ = f i := by
  refine le_antisymm ?_ ?_
  · rw [Finset.fold_max_le]
    exact ⟨bot_le, fun k _ => h.1 k⟩
  · rw [Finset.le_fold_max]
    exact Or.inr ⟨i, Finset.mem_univ _, le_refl _⟩

open Classical in
/-- The least place among those that hold the greatest value, the others set to `N`: the first such place. -/
theorem fold_min_first {n : ℕ} (f : Fin n → EReal) (N : ℕ) (hn : n ≤ N) (hN : N < 2 ^ 31) {i : Fin n} (h : IsFirst f i) :
    Finset.fold IntOp.minsi 2147483647#32 (fun x : Fin n => if f x = f i then BitVec.ofNat 32 x.val else BitVec.ofNat 32 N) Finset.univ
      = BitVec.ofNat 32 i.val := by
  obtain ⟨h1, h2, h3⟩ := fold_minsi_spec (fun x : Fin n => if f x = f i then BitVec.ofNat 32 x.val else BitVec.ofNat 32 N) Finset.univ 2147483647#32
  have hi := h2 i (Finset.mem_univ i)
  have hin := i.isLt
  simp only [if_true] at hi
  rw [toInt_small i.val (by omega)] at hi
  refine BitVec.eq_of_toInt_eq (le_antisymm (hi.trans_eq (toInt_small i.val (by omega)).symm) ?_)
  rw [toInt_small i.val (by omega)]
  rcases h3 with h3 | ⟨x, -, h3⟩
  · rw [h3]
    have : (2147483647#32 : BitVec 32).toInt = 2147483647 := by decide
    omega
  · rw [h3]
    have hx := x.isLt
    split
    · rename_i hfx
      rw [toInt_small x.val (by omega)]
      exact_mod_cast h.2 x hfx
    · rw [toInt_small N hN]; omega

/-- The greatest box word among those that claim `p`, when `j` is the last to claim it. -/
theorem fold_max_hit {m n : ℕ} (b : Fin m → Fin n) (p : Fin n) (hm : m < 2 ^ 31) (hn : n < 2 ^ 31) {j : Fin m} (h : IsLast b p j) :
    Finset.fold IntOp.maxsi 2147483648#32
      (fun x : Fin m => if BitVec.ofNat 32 (b x).val = BitVec.ofNat 32 p.val then BitVec.ofNat 32 x.val else 4294967295#32) Finset.univ
      = BitVec.ofNat 32 j.val := by
  have hc : ∀ x, (BitVec.ofNat 32 (b x).val = BitVec.ofNat 32 p.val) = (b x = p) := fun x => by
    rw [ofNat_inj_small ((b x).isLt.trans hn) (p.isLt.trans hn), Fin.val_inj]
  simp only [hc]
  obtain ⟨h1, h2, h3⟩ := fold_maxsi_spec (fun x : Fin m => if b x = p then BitVec.ofNat 32 x.val else 4294967295#32) Finset.univ 2147483648#32
  have hjl := j.isLt
  have hj := h2 j (Finset.mem_univ j)
  simp only [h.1, if_true] at hj
  rw [toInt_small j.val (by omega)] at hj
  refine BitVec.eq_of_toInt_eq (le_antisymm ?_ ((toInt_small j.val (by omega)).trans_le hj))
  rw [toInt_small j.val (by omega)]
  rcases h3 with h3 | ⟨x, -, h3⟩
  · rw [h3]
    have : (2147483648#32 : BitVec 32).toInt = -2147483648 := by decide
    omega
  · rw [h3]
    have hx := x.isLt
    split
    · rename_i hb
      rw [toInt_small x.val (by omega)]
      exact_mod_cast h.2 x hb
    · have : (4294967295#32 : BitVec 32).toInt = -1 := by decide
      omega

/-- The same fold when no box claims `p`: minus one. -/
theorem fold_max_miss {m n : ℕ} (b : Fin m → Fin n) (p : Fin n) (hm : 0 < m) (hn : n < 2 ^ 31) (h : ∀ j, b j ≠ p) :
    Finset.fold IntOp.maxsi 2147483648#32
      (fun x : Fin m => if BitVec.ofNat 32 (b x).val = BitVec.ofNat 32 p.val then BitVec.ofNat 32 x.val else 4294967295#32) Finset.univ
      = 4294967295#32 := by
  have hc : ∀ x, (BitVec.ofNat 32 (b x).val = BitVec.ofNat 32 p.val) = False := fun x => by
    rw [ofNat_inj_small ((b x).isLt.trans hn) (p.isLt.trans hn), Fin.val_inj]
    exact eq_false (h x)
  simp only [hc, if_false]
  obtain ⟨h1, h2, h3⟩ := fold_maxsi_spec (fun _ : Fin m => 4294967295#32) Finset.univ 2147483648#32
  rcases h3 with h3 | ⟨x, -, h3⟩
  · have h0 := h2 ⟨0, hm⟩ (Finset.mem_univ _)
    rw [h3] at h0
    exact absurd h0 (by decide)
  · exact h3

open Classical in
/-- A column times a one-hot column summed: the entry at the hot place. -/
theorem sum_onehot {n : ℕ} (hn : n < 2 ^ 31) (c : Fin n → EReal) (k : Fin n) :
    ∑ x : Fin n, c x * FloatOps.sitofp (F := Ideal) FTy.f32 (BitVec.setWidth 32 (IntOp.cmpi CmpIPredicate.eq (BitVec.ofNat 32 k.val) (BitVec.ofNat 32 x.val)))
      = c k := by
  have hv : ∀ x : Fin n, FloatOps.sitofp (F := Ideal) FTy.f32 (BitVec.setWidth 32 (IntOp.cmpi CmpIPredicate.eq (BitVec.ofNat 32 k.val) (BitVec.ofNat 32 x.val)))
      = if k = x then (1 : EReal) else 0 := fun x => by
    have hi : (BitVec.ofNat 32 k.val = BitVec.ofNat 32 x.val) ↔ k = x := by
      rw [ofNat_inj_small (k.isLt.trans hn) (x.isLt.trans hn), Fin.val_inj]
    rw [cmpi_eq_bit]
    by_cases h : k = x
    · subst h
      simp only [decide_true, if_true]
      show (((BitVec.setWidth 32 (BitVec.ofBool true)).toInt : ℝ) : EReal) = 1
      rw [show (BitVec.setWidth 32 (BitVec.ofBool true)).toInt = 1 by decide]
      simp
    · rw [if_neg h, decide_eq_false (fun e => h (hi.1 e))]
      show (((BitVec.setWidth 32 (BitVec.ofBool false)).toInt : ℝ) : EReal) = 0
      rw [show (BitVec.setWidth 32 (BitVec.ofBool false)).toInt = 0 by decide]
      simp
  simp only [hv]
  rw [Finset.sum_eq_single k]
  · simp
  · intro b _ hb
    rw [if_neg (Ne.symm hb), mul_zero]
  · intro h; exact absurd (Finset.mem_univ k) h

end Cert.Loss
end
-- ==== Proof.KMatch.lean ====
module

public import proofs.«01_k».proof.Proof.Words
public import proofs.«01_k».proof.Proof.Gen.KernelIdeal.Frame
public import Idealize.ShloMosaic.Lib.Pipeline.ValueKit

/-
  The kernel's matching of one image, read at a prior: the overlaps, the prior each box claims, the box a prior is matched to
  and the overlap it is judged by.
-/

@[expose] public section

set_option maxRecDepth 16384

noncomputable section

open Idealize.ShloMosaic Idealize.ShloMosaic.TcCoe Idealize.SL.Sem

namespace Cert.KernelIdeal.Block

open Cert.KernelIdeal Cert.KernelIdeal.Gen Cert.Loss

/-- The kernel's overlap table of a block of priors and a block of boxes. -/
def OV (x2 : Vec Ideal S4x20000 .f32) (x3 : Vec Ideal S1x24x4 .f32) : FVec Ideal S24x20000 .f32 :=
  k0_pay20 (k0_pay8 x2) (k0_pay9 x2) (k0_pay10 x2) (k0_pay11 x2) (k0_pay13 x3) (k0_pay14 x3) (k0_pay15 x3) (k0_pay16 x3) (k0_pay18 x2 x3) (k0_pay19 x2 x3)

/-- The boxes of a block, one coordinate. -/
abbrev tbOf (x3 : Vec Ideal S1x24x4 .f32) (j : Fin 24) (r : Fin 4) : EReal := x3 (ix3 0 j r)
/-- The priors of a block, one coordinate. -/
abbrev priOf (x2 : Vec Ideal S4x20000 .f32) (p : Fin 20000) (r : Fin 4) : EReal := x2 (ix2 r p)

/-- The table holds the overlaps. -/
theorem OV_apply (x2 : Vec Ideal S4x20000 .f32) (x3 : Vec Ideal S1x24x4 .f32) (j : Fin 24) (p : Fin 20000) :
    OV x2 x3 (ix2 j p) = ov (tbOf x3) (priOf x2) j p := by
  pointwise [OV, k0_pay3, k0_pay4, k0_pay5, k0_pay6, k0_pay7, k0_pay8, k0_pay9, k0_pay10, k0_pay11, k0_pay12, k0_pay13, k0_pay14, k0_pay15, k0_pay16, k0_pay18, k0_pay19, k0_pay20]
  rfl

/-- The least float word is below everything. -/
theorem ofBits_bot : Ideal.ofBits FTy.f32 4286578688#32 = ⊥ := by simp [Ideal.ofBits, Ideal.ieee]

/-- A box's word is not negative. -/
theorem sge_small (j : Fin 24) : IntOp.cmpi CmpIPredicate.sge (BitVec.ofNat 32 j.val) 0#32 = 1#1 := by
  revert j; decide

/-- Minus one is negative. -/
theorem sge_neg : IntOp.cmpi CmpIPredicate.sge 4294967295#32 0#32 = 0#1 := by decide

/-- A choice by a true bit. -/
theorem select_true {α : Type} (x y : α) : Scalar.select 1#1 x y = x := rfl
/-- A choice by a false bit. -/
theorem select_false {α : Type} (x y : α) : Scalar.select 0#1 x y = y := rfl

section Match

variable (a1 a2 a3 a4 : FVec Ideal S20000 .f32) (a5 a6 a7 a8 : FVec Ideal S24x1 .f32) (a9 a10 : FVec Ideal S24x20000 .f32)
variable (o : Fin 24 → Fin 20000 → EReal) (ho : ∀ j p, k0_pay20 a1 a2 a3 a4 a5 a6 a7 a8 a9 a10 (ix2 j p) = o j p)
include ho

/-- The greatest overlap of a prior. -/
theorem pay21_apply (p : Fin 20000) :
    k0_pay21 a1 a2 a3 a4 a5 a6 a7 a8 a9 a10 (ix1 p) = o (first fun j => o j p) p := by
  pointwise [k0_pay21]
  simp only [ho, ofBits_bot]
  exact fold_max_first _ (first_spec fun j => o j p)

/-- Which box claims a prior: the last one's word, or minus one. -/
theorem pay22_apply (p : Fin 20000) :
    k0_pay22 a1 a2 a3 a4 a5 a6 a7 a8 a9 a10 (ix1 p)
      = claimed (fun j => first (o j)) p (fun j => BitVec.ofNat 32 j.val) 4294967295#32 := by
  pointwise [k0_pay22]
  simp only [ho, ofBits_bot, select_cmpi_eq]
  have hb : ∀ x : Fin 24, Finset.fold IntOp.minsi 2147483647#32
      (fun x_1 : Fin 20000 => if o x x_1 = Finset.fold max ⊥ (fun k => o x k) Finset.univ then BitVec.ofNat 32 x_1.val else 20000#32) Finset.univ
        = BitVec.ofNat 32 (first (o x)).val := fun x => by
    rw [fold_max_first _ (first_spec (o x))]
    convert fold_min_first (o x) 20000 le_rfl (by omega) (first_spec (o x)) using 3
  simp only [hb]
  rcases last_or_none (fun j => first (o j)) p with ⟨j, hj⟩ | h
  · rw [claimed_hit _ _ hj]
    exact fold_max_hit (fun j => first (o j)) p (by omega) (by omega) hj
  · rw [claimed_miss _ _ h]
    exact fold_max_miss (fun j => first (o j)) p (by omega) (by omega) h

/-- Whether some box claims a prior, as a choice. -/
theorem pay24_select {α : Type} (p : Fin 20000) (x y : α) :
    Scalar.select (k0_pay24 a1 a2 a3 a4 a5 a6 a7 a8 a9 a10 (ix1 p)) x y = claimed (fun j => first (o j)) p (fun _ => x) y := by
  have h24 : k0_pay24 a1 a2 a3 a4 a5 a6 a7 a8 a9 a10 (ix1 p)
      = IntOp.cmpi CmpIPredicate.sge (k0_pay22 a1 a2 a3 a4 a5 a6 a7 a8 a9 a10 (ix1 p)) 0#32 := by
    unfold k0_pay24
    rfl
  rw [h24, pay22_apply a1 a2 a3 a4 a5 a6 a7 a8 a9 a10 o ho]
  rcases last_or_none (fun j => first (o j)) p with ⟨j, hj⟩ | h
  · rw [claimed_hit _ _ hj, claimed_hit _ _ hj]
    rw [sge_small]
    exact select_true x y
  · rw [claimed_miss _ _ h, claimed_miss _ _ h, sge_neg]
    exact select_false x y

/-- The box a prior is matched to. -/
theorem pay23_apply (p : Fin 20000) :
    k0_pay23 a1 a2 a3 a4 a5 a6 a7 a8 a9 a10 (ix1 p)
      = BitVec.ofNat 32 (claimed (fun j => first (o j)) p id (first fun j => o j p)).val := by
  have h23 : k0_pay23 a1 a2 a3 a4 a5 a6 a7 a8 a9 a10 (ix1 p)
      = Scalar.select (k0_pay24 a1 a2 a3 a4 a5 a6 a7 a8 a9 a10 (ix1 p)) (k0_pay22 a1 a2 a3 a4 a5 a6 a7 a8 a9 a10 (ix1 p))
        (BitVec.ofNat 32 (first fun j => o j p).val) := by
    pointwise [k0_pay23, k0_pay24, k0_pay21]
    simp only [ho, ofBits_bot]
    rw [fold_max_first _ (first_spec fun j => o j p)]
    have hm : Finset.fold IntOp.minsi 2147483647#32 (fun x : Fin 24 => if o x p = o (first fun j => o j p) p then BitVec.ofNat 32 x.val else 24#32) Finset.univ
        = BitVec.ofNat 32 (first fun j => o j p).val := by
      convert fold_min_first (fun j => o j p) 24 le_rfl (by omega) (first_spec fun j => o j p) using 3
    rw [hm]
  rw [h23, pay24_select a1 a2 a3 a4 a5 a6 a7 a8 a9 a10 o ho, pay22_apply a1 a2 a3 a4 a5 a6 a7 a8 a9 a10 o ho]
  rcases last_or_none (fun j => first (o j)) p with ⟨j, hj⟩ | h
  · rw [claimed_hit _ _ hj, claimed_hit _ _ hj, claimed_hit _ _ hj]; rfl
  · rw [claimed_miss _ _ h, claimed_miss _ _ h]

end Match

end Cert.KernelIdeal.Block
end
-- ==== Proof.KBlock.lean ====
module

public import proofs.«01_k».proof.Proof.KMatch

/-
  One image of the kernel: the two entries of its row of partial results that the first result is made of, the location loss
  of the image and its number of priors that count.
-/

@[expose] public section

set_option maxRecDepth 16384

noncomputable section

open Idealize.ShloMosaic Idealize.ShloMosaic.TcCoe Idealize.SL.Sem

namespace Cert.KernelIdeal.Block

open Cert.KernelIdeal Cert.KernelIdeal.Gen Cert.Loss

variable (x0 : Vec Ideal S1x4x20000 .f32) (x1 : Vec Ideal S1x21x20000 .f32) (x2 : Vec Ideal S4x20000 .f32) (x3 : Vec Ideal S1x24x4 .f32) (x4 : Vec Ideal S1x24x1 .i32)

/-- A zero bit as a float. -/
theorem bit_zero : FloatOps.sitofp (F := Ideal) FTy.f32 (BitVec.setWidth 32 (BitVec.ofBool false)) = (0 : EReal) := by
  show (((BitVec.setWidth 32 (BitVec.ofBool false)).toInt : ℝ) : EReal) = 0
  rw [show (BitVec.setWidth 32 (BitVec.ofBool false)).toInt = 0 by decide]
  simp

/-- A one bit as a float. -/
theorem bit_one : FloatOps.sitofp (F := Ideal) FTy.f32 (BitVec.setWidth 32 (BitVec.ofBool true)) = (1 : EReal) := by
  show (((BitVec.setWidth 32 (BitVec.ofBool true)).toInt : ℝ) : EReal) = 1
  rw [show (BitVec.setWidth 32 (BitVec.ofBool true)).toInt = 1 by decide]
  simp

/-- One more than a label that is not negative is above zero. -/
theorem label_pos (z : ℤ) (h : 0 ≤ z) : (0 : EReal) < ((z : ℝ) : EReal) + 1 := by
  have : (0 : ℝ) < (z : ℝ) + 1 := by exact_mod_cast Int.lt_add_one_of_le h
  exact_mod_cast this

/-- The predicted offsets of a block, one coordinate. -/
abbrev locOf (p : Fin 20000) (r : Fin 4) : EReal := x0 (ix3 0 r p)

/-- The matched column of the boxes and labels: the entry of the box whose word the prior carries. -/
theorem gathered_apply (v66 : IVec S24x20000 32) (v90 : IVec S20000 32) (h66 : ∀ j p, v66 (ix2 j p) = BitVec.ofNat 32 j.val) (p : Fin 20000)
    (k : Fin 24) (hk : v90 (ix1 p) = BitVec.ofNat 32 k.val) (r : Fin 8) :
    k0_pay26 (k0_pay12 x3) (k0_pay17 x4) v66 v90 (ix2 r p)
      = if h : r.val < 4 then x3 (ix3 0 k ⟨r.val, h⟩) else if r.val - 4 < 1 then FloatOps.sitofp (F := Ideal) FTy.f32 (x4 (ix3 0 k 0)) else 0 := by
  pointwise [k0_pay26, k0_pay12, k0_pay17]
  simp only [h66, hk]
  exact sum_onehot (by omega) (fun x : Fin 24 => if h : r.val < 4 then x3 (ix3 0 x ⟨r.val, h⟩) else if r.val - 4 < 1 then FloatOps.sitofp (F := Ideal) FTy.f32 (x4 (ix3 0 x 0)) else 0) k

/-- A difference of predicted and encoded offsets. -/
theorem diff_apply (v66 : IVec S24x20000 32) (v90 : IVec S20000 32) (h66 : ∀ j p, v66 (ix2 j p) = BitVec.ofNat 32 j.val) (p : Fin 20000)
    (k : Fin 24) (hk : v90 (ix1 p) = BitVec.ofNat 32 k.val) (r : Fin 4) :
    k0_pay29 (k0_pay3 x2) (k0_pay12 x3) (k0_pay17 x4) v66 v90 x0 (ix2 r p) = x0 (ix3 0 r p) - enc (tbOf x3 k) (priOf x2 p) r := by
  have hg := gathered_apply x3 x4 v66 v90 h66 p k hk
  pointwise [k0_pay29, k0_pay3]
  simp only [hg]
  fin_cases r <;> rfl

/-- The class a prior is scored against: zero, or one more than the label of its box. -/
theorem class_apply (v66 : IVec S24x20000 32) (v90 : IVec S20000 32) (v68 v93 : FVec Ideal S20000 .f32) (v92 : IVec S20000 1)
    (h66 : ∀ j p, v66 (ix2 j p) = BitVec.ofNat 32 j.val) (p : Fin 20000) (k : Fin 24) (hk : v90 (ix1 p) = BitVec.ofNat 32 k.val) (q : EReal)
    (hj : Scalar.select (v92 (ix1 p)) (v93 (ix1 p)) (v68 (ix1 p)) = q) :
    k0_pay27 (k0_pay12 x3) (k0_pay17 x4) v66 v68 v90 v92 v93 (ix1 p) = if q < half then 0 else (((x4 (ix3 0 k 0)).toInt : ℝ) : EReal) + 1 := by
  pointwise [k0_pay27]
  rw [hj, gathered_apply x3 x4 v66 v90 h66 p k hk]
  rfl

/-- Whether a prior counts, as the kernel computes it. -/
theorem pos_apply (v66 : IVec S24x20000 32) (v90 : IVec S20000 32) (v68 v93 : FVec Ideal S20000 .f32) (v92 : IVec S20000 1)
    (h66 : ∀ j p, v66 (ix2 j p) = BitVec.ofNat 32 j.val) (p : Fin 20000)
    (k : Fin 24) (hk : v90 (ix1 p) = BitVec.ofNat 32 k.val) (hl : 0 ≤ (x4 (ix3 0 k 0)).toInt)
    (hj : Scalar.select (v92 (ix1 p)) (v93 (ix1 p)) (v68 (ix1 p)) = judged (tbOf x3) (priOf x2) p) :
    k0_pay28 (k0_pay12 x3) (k0_pay17 x4) v66 v68 v90 v92 v93 (ix1 p) = ind (tbOf x3) (priOf x2) p := by
  have h28 : k0_pay28 (k0_pay12 x3) (k0_pay17 x4) v66 v68 v90 v92 v93 (ix1 p)
      = FloatOps.sitofp (F := Ideal) FTy.f32 (BitVec.setWidth 32 (BitVec.ofBool (decide (0 < k0_pay27 (k0_pay12 x3) (k0_pay17 x4) v66 v68 v90 v92 v93 (ix1 p))))) := by
    pointwise [k0_pay28]
  rw [h28, class_apply x3 x4 v66 v90 v68 v93 v92 h66 p k hk _ hj]
  unfold ind
  by_cases h : judged (tbOf x3) (priOf x2) p < half
  · rw [if_pos h, if_pos h, decide_eq_false (lt_irrefl _)]
    exact bit_zero
  · rw [if_neg h, if_neg h, decide_eq_true (label_pos _ hl)]
    exact bit_one

omit x0 x1 x3 x4 in
/-- The whole block of priors. -/
theorem ld_pri : View.ld x2 r0_0 = x2 := View.ld_unit_lit _ x2 (by decide)
omit x0 x1 x2 x4 in
/-- The whole block of boxes. -/
theorem ld_box : View.ld x3 r0_1 = x3 := View.ld_unit_lit _ x3 (by decide)
omit x0 x1 x2 x3 in
/-- The whole block of labels. -/
theorem ld_lab : View.ld x4 r0_2 = x4 := View.ld_unit_lit _ x4 (by decide)

/-- The box a prior of the block is matched to. -/
theorem word_apply (p : Fin 20000) :
    k0_pay51 x0 x1 x2 x3 x4 (ix1 p) = BitVec.ofNat 32 (matched (tbOf x3) (priOf x2) p).val := by
  have h := pay23_apply (k0_pay8 x2) (k0_pay9 x2) (k0_pay10 x2) (k0_pay11 x2) (k0_pay13 x3) (k0_pay14 x3) (k0_pay15 x3) (k0_pay16 x3)
    (k0_pay18 x2 x3) (k0_pay19 x2 x3) (ov (tbOf x3) (priOf x2)) (OV_apply x2 x3) p
  unfold k0_pay51 k0_pay37 k0_pay38 k0_pay39 k0_pay40 k0_pay42 k0_pay43 k0_pay44 k0_pay45 k0_pay47 k0_pay48
  simp only [ld_pri, ld_box, ld_lab]
  exact h

/-- The overlap a prior of the block is judged by. -/
theorem judged_apply (p : Fin 20000) :
    Scalar.select (k0_pay52 x0 x1 x2 x3 x4 (ix1 p)) (k0_pay53 x0 x1 x2 x3 x4 (ix1 p)) (k0_pay50 x0 x1 x2 x3 x4 (ix1 p)) = judged (tbOf x3) (priOf x2) p := by
  have h := pay24_select (k0_pay8 x2) (k0_pay9 x2) (k0_pay10 x2) (k0_pay11 x2) (k0_pay13 x3) (k0_pay14 x3) (k0_pay15 x3) (k0_pay16 x3)
    (k0_pay18 x2 x3) (k0_pay19 x2 x3) (ov (tbOf x3) (priOf x2)) (OV_apply x2 x3) p two (bestOv (tbOf x3) (priOf x2) p)
  have h' := pay21_apply (k0_pay8 x2) (k0_pay9 x2) (k0_pay10 x2) (k0_pay11 x2) (k0_pay13 x3) (k0_pay14 x3) (k0_pay15 x3) (k0_pay16 x3)
    (k0_pay18 x2 x3) (k0_pay19 x2 x3) (ov (tbOf x3) (priOf x2)) (OV_apply x2 x3) p
  unfold k0_pay52 k0_pay53 k0_pay50 k0_pay37 k0_pay38 k0_pay39 k0_pay40 k0_pay42 k0_pay43 k0_pay44 k0_pay45 k0_pay47 k0_pay48
  simp only [ld_pri, ld_box, ld_lab]
  rw [h']
  exact h

variable (hl : ∀ j : Fin 24, 0 ≤ (x4 (ix3 0 j 0)).toInt)
include hl

/-- Whether a prior of the block counts. -/
theorem count_apply (p : Fin 20000) : k0_pay55 x0 x1 x2 x3 x4 (ix1 p) = ind (tbOf x3) (priOf x2) p := by
  have h := pos_apply x2 x3 x4 (k0_pay49 x0 x1 x2 x3 x4) (k0_pay51 x0 x1 x2 x3 x4) (k0_pay50 x0 x1 x2 x3 x4) (k0_pay53 x0 x1 x2 x3 x4) (k0_pay52 x0 x1 x2 x3 x4)
    (fun j p => by pointwise [k0_pay49]) p _ (word_apply x0 x1 x2 x3 x4 p) (hl _) (judged_apply x0 x1 x2 x3 x4 p)
  unfold k0_pay55 k0_pay41 k0_pay46
  simp only [ld_pri, ld_box, ld_lab]
  exact h

omit hl in
/-- A difference of the block. -/
theorem term_apply (p : Fin 20000) (r : Fin 4) :
    k0_pay29 (k0_pay36 x0 x1 x2 x3 x4) (k0_pay41 x0 x1 x2 x3 x4) (k0_pay46 x0 x1 x2 x3 x4) (k0_pay49 x0 x1 x2 x3 x4) (k0_pay51 x0 x1 x2 x3 x4) x0 (ix2 r p)
      = locOf x0 p r - enc (tbOf x3 (matched (tbOf x3) (priOf x2) p)) (priOf x2 p) r := by
  have h := diff_apply x0 x2 x3 x4 (k0_pay49 x0 x1 x2 x3 x4) (k0_pay51 x0 x1 x2 x3 x4) (fun j p => by pointwise [k0_pay49]) p _ (word_apply x0 x1 x2 x3 x4 p) r
  unfold k0_pay36 k0_pay41 k0_pay46
  simp only [ld_pri, ld_box, ld_lab]
  exact h

/-- The first entry of the image's row: its location loss. -/
theorem row_loss : out0_5 x0 x1 x2 x3 x4 (ix3 0 0 0) = locSum (tbOf x3) (priOf x2) (locOf x0) := by
  frame_out
  have h2 : ∀ (a : FVec Ideal S20000 .f32) (b : Ideal .f32) (c : FVec Ideal S20000 .f32), k0_pay2 a b c (ix3 0 0 0) = b := fun a b c => by
    pointwise [k0_pay2]
  rw [h2]
  pointwise [k0_pay33, k0_pay30, k0_pay31, k0_pay32]
  simp only [term_apply, count_apply x0 x1 x2 x3 x4 hl]
  rfl

/-- The third entry of the image's row: its number of priors that count. -/
theorem row_count : out0_5 x0 x1 x2 x3 x4 (ix3 0 2 0) = count (tbOf x3) (priOf x2) := by
  frame_out
  have h2 : ∀ (a : FVec Ideal S20000 .f32) (b : Ideal .f32) (c : FVec Ideal S20000 .f32), k0_pay2 a b c (ix3 0 2 0) = ∑ p, a (ix1 p) := fun a b c => by
    pointwise [k0_pay2]
    rfl
  rw [h2]
  exact Finset.sum_congr rfl fun p _ => count_apply x0 x1 x2 x3 x4 hl p

end Cert.KernelIdeal.Block
end
-- ==== Proof.KArray.lean ====
module

public import proofs.«01_k».proof.Proof.KBlock
public import Idealize.ShloMosaic.Lib.Pipeline.ValueKit
public import Idealize.ShloMosaic.Lib.Claim

/-
  The first launch's array of partial results: row zero of an image is its location loss, row two its number of priors that count.
-/

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Block Cert.Loss

variable (m : (ℓ : Loc nD τ sig) → Buf (Elt Ideal) ℓ) (ρ : Dev nD → PrngReg)

/-- The arguments, at their shapes. -/
abbrev A0 (c : Dev nD) : FVec Ideal S32x20000x4 .f32 := m ((c : Thread nD τ).loc main_arg0)
abbrev A2 (c : Dev nD) : FVec Ideal S20000x4 .f32 := m ((c : Thread nD τ).loc main_arg2)
abbrev A3 (c : Dev nD) : FVec Ideal S32x24x4 .f32 := m ((c : Thread nD τ).loc main_arg3)
abbrev A4 (c : Dev nD) : IVec S32x24 32 := m ((c : Thread nD τ).loc main_arg4)

/-- The boxes of image `b`. -/
abbrev boxes (x : FVec Ideal S32x24x4 .f32) (b : Fin 32) (j : Fin 24) (r : Fin 4) : EReal := x (ix3 b j r)
/-- The priors. -/
abbrev priors (x : FVec Ideal S20000x4 .f32) (p : Fin 20000) (r : Fin 4) : EReal := x (ix2 p r)
/-- The predicted offsets of image `b`. -/
abbrev locs (x : FVec Ideal S32x20000x4 .f32) (b : Fin 32) (p : Fin 20000) (r : Fin 4) : EReal := x (ix3 b p r)

/-- Where the first launch's blocks lie: each image its own, the priors whole. -/
theorem idx : ∀ t : Fin cfg0.N, win0_0.index t = ![t.val, 0, 0] ∧ win0_1.index t = ![t.val, 0, 0] ∧ win0_2.index t = ![0, 0] ∧ win0_3.index t = ![t.val, 0, 0]
    ∧ win0_4.index t = ![t.val, 0, 0] ∧ win0_5.index t = ![t.val, 0, 0] ∧ win0_6.index t = ![t.val, 0, 0] ∧ t.val < 32 :=
  (by decide +kernel : ∀ t : Fin grid0.N, _)

/-- What the first launch finds in this buffer. -/
theorem entry_v0 (c : Dev nD) : V1 m ρ c main_v0 = transpose S32x4x20000 [0, 2, 1] (A0 m c) Facts₀.transposes_S32x20000x4_S32x4x20000_0_2_1 := by
  unfold V1 W1
  entry_read
  rfl
/-- What the first launch finds in this buffer. -/
theorem entry_v3 (c : Dev nD) : V1 m ρ c main_v3 = transpose S4x20000 [1, 0] (A2 m c) Facts₀.transposes_S20000x4_S4x20000_1_0 := by
  unfold V1 W1
  entry_read
  rfl
/-- What the first launch finds in this buffer. -/
theorem entry_v2 (c : Dev nD) : V1 m ρ c main_v2 = shapeCast S32x24x1 (A4 m c) Facts₀.shapeCasts_S32x24_S32x24x1 := by
  unfold V1 W1
  entry_read
  rfl
/-- What the first launch finds in this buffer. -/
theorem entry_a3 (c : Dev nD) : V1 m ρ c main_arg3 = A3 m c := W1_args m ρ c main_arg3 (by decide)

/-- The image of a grid point. -/
def img (t : Fin cfg0.N) : Fin 32 := ⟨t.val, (idx t).2.2.2.2.2.2.2⟩

/-- A point's block of this operand, over the arguments. -/
theorem blk_loc (c : Dev nD) (t : Fin cfg0.N) (r : Fin 4) (p : Fin 20000) :
    (iblk0 (V1 m ρ) c 0 t : FVec Ideal S1x4x20000 .f32) (ix3 0 r p) = A0 m c (ix3 (img t) p r) := by
  unfold iblk0
  rw [show V1 m ρ c (Pipeline.arrRef spec0 0) = _ from entry_v0 m ρ c]
  blk_simp [idx t]
  pointwise []
  blk_ext [idx t, img]
/-- A point's block of this operand, over the arguments. -/
theorem blk_pri (c : Dev nD) (t : Fin cfg0.N) (r : Fin 4) (p : Fin 20000) :
    (iblk0 (V1 m ρ) c 2 t : FVec Ideal S4x20000 .f32) (ix2 r p) = A2 m c (ix2 p r) := by
  unfold iblk0
  rw [show V1 m ρ c (Pipeline.arrRef spec0 2) = _ from entry_v3 m ρ c]
  blk_simp [idx t]
  pointwise []
  blk_ext [idx t, img]
/-- A point's block of this operand, over the arguments. -/
theorem blk_box (c : Dev nD) (t : Fin cfg0.N) (j : Fin 24) (r : Fin 4) :
    (iblk0 (V1 m ρ) c 3 t : FVec Ideal S1x24x4 .f32) (ix3 0 j r) = A3 m c (ix3 (img t) j r) := by
  unfold iblk0
  rw [show V1 m ρ c (Pipeline.arrRef spec0 3) = _ from entry_a3 m ρ c]
  blk_ext [idx t, img]
/-- A point's block of this operand, over the arguments. -/
theorem blk_lab (c : Dev nD) (t : Fin cfg0.N) (j : Fin 24) :
    (iblk0 (V1 m ρ) c 4 t : IVec S1x24x1 32) (ix3 0 j 0) = A4 m c (ix2 (img t) j) := by
  unfold iblk0
  rw [show V1 m ρ c (Pipeline.arrRef spec0 4) = _ from entry_v2 m ρ c]
  blk_simp [idx t]
  pointwise []
  blk_ext [idx t, img]

/-- Rows zero and two of the array of partial results. -/
theorem part (c : Dev nD) (hl : ∀ b j, 0 ≤ (A4 m c (ix2 b j)).toInt) (i : S32x8x128.Idx) :
    ((i 1).val = 0 ∧ (i 2).val = 0 → ((dat0 (V1 m ρ) c).arrAt 5 cfg0.N : FVec Ideal S32x8x128 .f32) i = locSum (boxes (A3 m c) (i 0)) (priors (A2 m c)) (locs (A0 m c) (i 0)))
    ∧ ((i 1).val = 2 ∧ (i 2).val = 0 → ((dat0 (V1 m ρ) c).arrAt 5 cfg0.N : FVec Ideal S32x8x128 .f32) i = count (boxes (A3 m c) (i 0)) (priors (A2 m c))) := by
  refine (dat0 (V1 m ρ) c).arrAt_forall_of_covers 5 (fun (i : S32x8x128.Idx) (v : EReal) =>
    ((i 1).val = 0 ∧ (i 2).val = 0 → v = locSum (boxes (A3 m c) (i 0)) (priors (A2 m c)) (locs (A0 m c) (i 0)))
    ∧ ((i 1).val = 2 ∧ (i 2).val = 0 → v = count (boxes (A3 m c) (i 0)) (priors (A2 m c)))) (by decide +kernel) (fun t hf y => ?_) i
  blk_simp [idx t]
  rw [after0_5]
  obtain ⟨a, q, l, rfl⟩ : ∃ (a : Fin 1) (q : Fin 8) (l : Fin 128), y = ix3 a q l := ⟨_, _, _, eq_ix3 y⟩
  obtain rfl : a = 0 := Subsingleton.elim _ _
  have hx4 : ∀ j : Fin 24, 0 ≤ ((iblk0 (V1 m ρ) c 4 t : IVec S1x24x1 32) (ix3 0 j 0)).toInt := fun j => by rw [blk_lab]; exact hl _ j
  have h3 : tbOf (iblk0 (V1 m ρ) c 3 t) = boxes (A3 m c) (img t) := funext fun j => funext fun r => blk_box m ρ c t j r
  have h2 : priOf (iblk0 (V1 m ρ) c 2 t) = priors (A2 m c) := funext fun p => funext fun r => blk_pri m ρ c t r p
  have h0 : locOf (iblk0 (V1 m ρ) c 0 t) = locs (A0 m c) (img t) := funext fun p => funext fun r => blk_loc m ρ c t r p
  have he : ((win0_5.blk t).view.emb (ix3 0 q l) 0 : Fin 32) = img t := Fin.ext (by blk_simp [idx t, img]; rfl)
  constructor
  · rintro ⟨hq, hz⟩
    obtain rfl : q = 0 := Fin.ext hq
    obtain rfl : l = 0 := Fin.ext hz
    rw [he]
    exact (row_loss _ _ _ _ _ hx4).trans (by rw [h3, h2, h0])
  · rintro ⟨hq, hz⟩
    obtain rfl : q = 2 := Fin.ext hq
    obtain rfl : l = 0 := Fin.ext hz
    rw [he]
    exact (row_count _ _ _ _ _ hx4).trans (by rw [h3, h2])

end Cert.KernelIdeal.Array
-- ==== Proof.KResult.lean ====
module

public import proofs.«01_k».proof.Proof.KArray

/-
  The kernel's first result: the location losses of the images summed, over their numbers of priors that count summed.
-/

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Block Cert.Loss

variable (m : (ℓ : Loc nD τ sig) → Buf (Elt Ideal) ℓ) (ρ : Dev nD → PrngReg)

/-- What the second launch stores as its first result, over the array of partial results. -/
theorem pay15_apply (v : Vec Ideal S32x8x128 .f32) : k1_pay15 v (ix2 0 0) = Ideal.div (∑ b : Fin 32, v (ix3 b 0 0)) (∑ b : Fin 32, v (ix3 b 2 0)) := by
  pointwise [k1_pay15, k1_pay14, k1_pay13, k1_pay3, k1_pay4, k1_pay5]
  simp only [Finset.univ_unique, Finset.sum_singleton]

/-- The second launch's blocks are the whole arrays. -/
theorem idx1 : ∀ t : Fin cfg1.N, win1_0.index t = ![0, 0, 0] ∧ win1_1.index t = ![0, 0] ∧ win1_2.index t = ![0, 0] ∧ win1_3.index t = ![0, 0] :=
  (by decide +kernel : ∀ t : Fin grid1.N, _)

/-- A one-element array without axes is the element. -/
theorem scalar_apply (x : FVec Ideal S1x1 .f32) (h : S1x1.ShapeCasts S_) (i : S_.Idx) : shapeCast S_ x h i = x (ix2 0 0) := by
  obtain rfl : i = ix0 := ValueIdx.eq_ix0 i
  pointwise []

/-- The second launch's first output array: its payload over the array of partial results. -/
theorem final (V : (c : Dev nD) → (b : Ref sig .tc) → Buf (Elt Ideal) ((c : Thread nD τ).loc b)) (c : Dev nD) :
    (dat1 V c).arrAt 2 cfg1.N = k1_pay15 (V c main_v4_0 : Vec Ideal S32x8x128 .f32) := by
  refine (dat1 V c).arrAt_eq_of_after_last 2 t1_0 (by decide +kernel) _ fun j => ?_
  blk_simp
  rw [after1_2]
  unfold outsAt1
  frame_out
  have h : View.read (Elt Ideal) (View.whole cc1_stg0_0) ((Memref.isWhole_whole cc1_stg0_0).unread (iblk1 V c 0 t1_0)) = (V c main_v4_0 : Vec Ideal S32x8x128 .f32) := by
    rw [show View.read (Elt Ideal) (View.whole cc1_stg0_0) ((Memref.isWhole_whole cc1_stg0_0).unread (iblk1 V c 0 t1_0)) = iblk1 V c 0 t1_0 from (Memref.isWhole_whole cc1_stg0_0).read_unread _]
    funext i
    blk_ext [iblk1, idx1 t1_0]
  exact congrFun (congrArg k1_pay15 h) j

/-- The first result after the run. -/
theorem result (c : Dev nD) (hl : ∀ b j, 0 ≤ (A4 m c (ix2 b j)).toInt) (i : S_.Idx) :
    (W5 m ρ c (Proc.devRef .tc main_v7) : FVec Ideal S_ .f32) i
      = Ideal.div (∑ b : Fin 32, locSum (boxes (A3 m c) b) (priors (A2 m c)) (locs (A0 m c) b)) (∑ b : Fin 32, count (boxes (A3 m c) b) (priors (A2 m c))) := by
  have h5 : (W5 m ρ c (Proc.devRef .tc main_v7) : FVec Ideal S_ .f32) = shapeCast S_ (W4 m ρ c (Proc.devRef .tc main_v6_0) : FVec Ideal S1x1 .f32) Facts₀.shapeCasts_S1x1_S_ := by
    unfold W5
    entry_read
    rfl
  have h4 : (W4 m ρ c (Proc.devRef .tc main_v6_0) : FVec Ideal S1x1 .f32) = k1_pay15 (V3 m ρ c main_v4_0 : Vec Ideal S32x8x128 .f32) :=
    (W4_arr m ρ c 2).trans (final (V3 m ρ) c)
  have h3 : V3 m ρ c main_v4_0 = (dat0 (V1 m ρ) c).arrAt 5 cfg0.N := (W3_of m ρ c main_v4_0 (by decide)).trans (W2_arr m ρ c 5)
  rw [h5, h4, h3]
  have hp := part m ρ c hl
  rw [scalar_apply, pay15_apply]
  exact congrArg₂ Ideal.div (Finset.sum_congr rfl fun b _ => (hp (ix3 b 0 0)).1 ⟨rfl, rfl⟩) (Finset.sum_congr rfl fun b _ => (hp (ix3 b 2 0)).2 ⟨rfl, rfl⟩)

end Cert.KernelIdeal.Array
-- ==== Proof.RefOps.lean ====
module

public import proofs.«01_k».proof.Proof.Gen.ReferenceIdeal
public import Idealize.ShloMosaic.Lib.StableHlo.Run
public import Idealize.ShloMosaic.Lib.Pipeline.Frame

/-
  The reference's main function as a list of host operations, in windows, and what every operation touches.
-/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v12`, named. It packs its operands into a list of dependent pairs
    whose shapes a later argument's type mentions, so `simp` cannot rewrite an operand where it stands; applied by
    name, the operands are plain arguments, which the window lemmas below rewrite before the name unfolds. -/
def fn_main_v12 : (⟨S20000x2, .f32⟩ : BufTy).Contents (Elt F) → (⟨S20000x2, .f32⟩ : BufTy).Contents (Elt F) → (⟨S20000x4, .f32⟩ : BufTy).Contents (Elt F) :=
  (fun a b => concatenate S20000x4 1 [⟨S20000x2, a⟩, ⟨S20000x2, b⟩] concatenates_S20000x2_S20000x2_S20000x4_d1)

/-- The function of the operation that writes `main_v80`, named. It packs its operands into a list of dependent pairs
    whose shapes a later argument's type mentions, so `simp` cannot rewrite an operand where it stands; applied by
    name, the operands are plain arguments, which the window lemmas below rewrite before the name unfolds. -/
def fn_main_v80 : (⟨S32x24x1, .i32⟩ : BufTy).Contents (Elt F) → (⟨S32x24x1, .i32⟩ : BufTy).Contents (Elt F) → (⟨S32x24x2, .i32⟩ : BufTy).Contents (Elt F) :=
  (fun a b => concatenate S32x24x2 2 [⟨S32x24x1, a⟩, ⟨S32x24x1, b⟩] concatenates_S32x24x1_S32x24x1_S32x24x2_d2)

/-- The function of the operation that writes `main_v98`, named. It packs its operands into a list of dependent pairs
    whose shapes a later argument's type mentions, so `simp` cannot rewrite an operand where it stands; applied by
    name, the operands are plain arguments, which the window lemmas below rewrite before the name unfolds. -/
def fn_main_v98 : (⟨S32x24x1, .i32⟩ : BufTy).Contents (Elt F) → (⟨S32x24x1, .i32⟩ : BufTy).Contents (Elt F) → (⟨S32x24x2, .i32⟩ : BufTy).Contents (Elt F) :=
  (fun a b => concatenate S32x24x2 2 [⟨S32x24x1, a⟩, ⟨S32x24x1, b⟩] concatenates_S32x24x1_S32x24x1_S32x24x2_d2)

/-- The function of the operation that writes `main_v114`, named. It packs its operands into a list of dependent pairs
    whose shapes a later argument's type mentions, so `simp` cannot rewrite an operand where it stands; applied by
    name, the operands are plain arguments, which the window lemmas below rewrite before the name unfolds. -/
def fn_main_v114 : (⟨S32x20000x1, .i32⟩ : BufTy).Contents (Elt F) → (⟨S32x20000x1, .i32⟩ : BufTy).Contents (Elt F) → (⟨S32x20000x2, .i32⟩ : BufTy).Contents (Elt F) :=
  (fun a b => concatenate S32x20000x2 2 [⟨S32x20000x1, a⟩, ⟨S32x20000x1, b⟩] concatenates_S32x20000x1_S32x20000x1_S32x20000x2_d2)

/-- The function of the operation that writes `main_v129`, named. It packs its operands into a list of dependent pairs
    whose shapes a later argument's type mentions, so `simp` cannot rewrite an operand where it stands; applied by
    name, the operands are plain arguments, which the window lemmas below rewrite before the name unfolds. -/
def fn_main_v129 : (⟨S32x20000x1, .i32⟩ : BufTy).Contents (Elt F) → (⟨S32x20000x1, .i32⟩ : BufTy).Contents (Elt F) → (⟨S32x20000x2, .i32⟩ : BufTy).Contents (Elt F) :=
  (fun a b => concatenate S32x20000x2 2 [⟨S32x20000x1, a⟩, ⟨S32x20000x1, b⟩] concatenates_S32x20000x1_S32x20000x1_S32x20000x2_d2)

/-- The function of the operation that writes `main_v161`, named. It packs its operands into a list of dependent pairs
    whose shapes a later argument's type mentions, so `simp` cannot rewrite an operand where it stands; applied by
    name, the operands are plain arguments, which the window lemmas below rewrite before the name unfolds. -/
def fn_main_v161 : (⟨S32x20000x2, .f32⟩ : BufTy).Contents (Elt F) → (⟨S32x20000x2, .f32⟩ : BufTy).Contents (Elt F) → (⟨S32x20000x4, .f32⟩ : BufTy).Contents (Elt F) :=
  (fun a b => concatenate S32x20000x4 2 [⟨S32x20000x2, a⟩, ⟨S32x20000x2, b⟩] concatenates_S32x20000x2_S32x20000x2_S32x20000x4_d2)

/-- @main's operations 1 … 60 of 298 (window `main_part0`). -/
abbrev ops_part0 : List (HloOp τ sig (Elt F)) :=
  [ nullary main_v0 (iotaInDim S32 32 0),
    unary main_v0 main_v1 (broadcastInDim S32x1 ![0] bcast_S32_S32x1_0 : (⟨S32, .i32⟩ : BufTy).Contents (Elt F) → (⟨S32x1, .i32⟩ : BufTy).Contents (Elt F)),
    unary main_arg2 main_v2 ((extractStridedSlice S20000x2 ![0, 0] · slices_S20000x4_S20000x2_0_0) : (⟨S20000x4, .f32⟩ : BufTy).Contents (Elt F) → (⟨S20000x2, .f32⟩ : BufTy).Contents (Elt F)),
    unary main_arg2 main_v3 ((extractStridedSlice S20000x2 ![0, 2] · slices_S20000x4_S20000x2_0_2) : (⟨S20000x4, .f32⟩ : BufTy).Contents (Elt F) → (⟨S20000x2, .f32⟩ : BufTy).Contents (Elt F)),
    nullary main_cst (constant S_ .f32 0x40000000#32),
    unary main_cst main_v4 (broadcastInDim S20000x2 ![] bcast_S_S20000x2 : (⟨S_, .f32⟩ : BufTy).Contents (Elt F) → (⟨S20000x2, .f32⟩ : BufTy).Contents (Elt F)),
    binary main_v3 main_v4 main_v5 (Host.divf : (⟨S20000x2, .f32⟩ : BufTy).Contents (Elt F) → (⟨S20000x2, .f32⟩ : BufTy).Contents (Elt F) → (⟨S20000x2, .f32⟩ : BufTy).Contents (Elt F)),
    binary main_v2 main_v5 main_v6 (subf : (⟨S20000x2, .f32⟩ : BufTy).Contents (Elt F) → (⟨S20000x2, .f32⟩ : BufTy).Contents (Elt F) → (⟨S20000x2, .f32⟩ : BufTy).Contents (Elt F)),
    unary main_arg2 main_v7 ((extractStridedSlice S20000x2 ![0, 0] · slices_S20000x4_S20000x2_0_0) : (⟨S20000x4, .f32⟩ : BufTy).Contents (Elt F) → (⟨S20000x2, .f32⟩ : BufTy).Contents (Elt F)),
    unary main_arg2 main_v8 ((extractStridedSlice S20000x2 ![0, 2] · slices_S20000x4_S20000x2_0_2) : (⟨S20000x4, .f32⟩ : BufTy).Contents (Elt F) → (⟨S20000x2, .f32⟩ : BufTy).Contents (Elt F)),
    nullary main_cst_0 (constant S_ .f32 0x40000000#32),
    unary main_cst_0 main_v9 (broadcastInDim S20000x2 ![] bcast_S_S20000x2 : (⟨S_, .f32⟩ : BufTy).Contents (Elt F) → (⟨S20000x2, .f32⟩ : BufTy).Contents (Elt F)),
    binary main_v8 main_v9 main_v10 (Host.divf : (⟨S20000x2, .f32⟩ : BufTy).Contents (Elt F) → (⟨S20000x2, .f32⟩ : BufTy).Contents (Elt F) → (⟨S20000x2, .f32⟩ : BufTy).Contents (Elt F)),
    binary main_v7 main_v10 main_v11 (addf : (⟨S20000x2, .f32⟩ : BufTy).Contents (Elt F) → (⟨S20000x2, .f32⟩ : BufTy).Contents (Elt F) → (⟨S20000x2, .f32⟩ : BufTy).Contents (Elt F)),
    binary main_v6 main_v11 main_v12 (fn_main_v12 (F := F)),
    unary main_arg3 main_v13 ((extractStridedSlice S32x24x2 ![0, 0, 2] · slices_S32x24x4_S32x24x2_0_0_2) : (⟨S32x24x4, .f32⟩ : BufTy).Contents (Elt F) → (⟨S32x24x2, .f32⟩ : BufTy).Contents (Elt F)),
    unary main_v13 main_v14 (broadcastInDim S32x24x1x2 ![0, 1, 3] bcast_S32x24x2_S32x24x1x2_0_1_3 : (⟨S32x24x2, .f32⟩ : BufTy).Contents (Elt F) → (⟨S32x24x1x2, .f32⟩ : BufTy).Contents (Elt F)),
    unary main_v12 main_v15 ((extractStridedSlice S20000x2 ![0, 2] · slices_S20000x4_S20000x2_0_2) : (⟨S20000x4, .f32⟩ : BufTy).Contents (Elt F) → (⟨S20000x2, .f32⟩ : BufTy).Contents (Elt F)),
    unary main_v15 main_v16 (broadcastInDim S1x1x20000x2 ![2, 3] bcast_S20000x2_S1x1x20000x2_2_3 : (⟨S20000x2, .f32⟩ : BufTy).Contents (Elt F) → (⟨S1x1x20000x2, .f32⟩ : BufTy).Contents (Elt F)),
    unary main_v14 main_v17 (broadcastInDim S32x24x20000x2 ![0, 1, 2, 3] bcast_S32x24x1x2_S32x24x20000x2_0_1_2_3 : (⟨S32x24x1x2, .f32⟩ : BufTy).Contents (Elt F) → (⟨S32x24x20000x2, .f32⟩ : BufTy).Contents (Elt F)),
    unary main_v16 main_v18 (broadcastInDim S32x24x20000x2 ![0, 1, 2, 3] bcast_S1x1x20000x2_S32x24x20000x2_0_1_2_3 : (⟨S1x1x20000x2, .f32⟩ : BufTy).Contents (Elt F) → (⟨S32x24x20000x2, .f32⟩ : BufTy).Contents (Elt F)),
    binary main_v17 main_v18 main_v19 (minimumf : (⟨S32x24x20000x2, .f32⟩ : BufTy).Contents (Elt F) → (⟨S32x24x20000x2, .f32⟩ : BufTy).Contents (Elt F) → (⟨S32x24x20000x2, .f32⟩ : BufTy).Contents (Elt F)),
    unary main_arg3 main_v20 ((extractStridedSlice S32x24x2 ![0, 0, 0] · slices_S32x24x4_S32x24x2_0_0_0) : (⟨S32x24x4, .f32⟩ : BufTy).Contents (Elt F) → (⟨S32x24x2, .f32⟩ : BufTy).Contents (Elt F)),
    unary main_v20 main_v21 (broadcastInDim S32x24x1x2 ![0, 1, 3] bcast_S32x24x2_S32x24x1x2_0_1_3 : (⟨S32x24x2, .f32⟩ : BufTy).Contents (Elt F) → (⟨S32x24x1x2, .f32⟩ : BufTy).Contents (Elt F)),
    unary main_v12 main_v22 ((extractStridedSlice S20000x2 ![0, 0] · slices_S20000x4_S20000x2_0_0) : (⟨S20000x4, .f32⟩ : BufTy).Contents (Elt F) → (⟨S20000x2, .f32⟩ : BufTy).Contents (Elt F)),
    unary main_v22 main_v23 (broadcastInDim S1x1x20000x2 ![2, 3] bcast_S20000x2_S1x1x20000x2_2_3 : (⟨S20000x2, .f32⟩ : BufTy).Contents (Elt F) → (⟨S1x1x20000x2, .f32⟩ : BufTy).Contents (Elt F)),
    unary main_v21 main_v24 (broadcastInDim S32x24x20000x2 ![0, 1, 2, 3] bcast_S32x24x1x2_S32x24x20000x2_0_1_2_3 : (⟨S32x24x1x2, .f32⟩ : BufTy).Contents (Elt F) → (⟨S32x24x20000x2, .f32⟩ : BufTy).Contents (Elt F)),
    unary main_v23 main_v25 (broadcastInDim S32x24x20000x2 ![0, 1, 2, 3] bcast_S1x1x20000x2_S32x24x20000x2_0_1_2_3 : (⟨S1x1x20000x2, .f32⟩ : BufTy).Contents (Elt F) → (⟨S32x24x20000x2, .f32⟩ : BufTy).Contents (Elt F)),
    binary main_v24 main_v25 main_v26 (maximumf : (⟨S32x24x20000x2, .f32⟩ : BufTy).Contents (Elt F) → (⟨S32x24x20000x2, .f32⟩ : BufTy).Contents (Elt F) → (⟨S32x24x20000x2, .f32⟩ : BufTy).Contents (Elt F)),
    binary main_v19 main_v26 main_v27 (subf : (⟨S32x24x20000x2, .f32⟩ : BufTy).Contents (Elt F) → (⟨S32x24x20000x2, .f32⟩ : BufTy).Contents (Elt F) → (⟨S32x24x20000x2, .f32⟩ : BufTy).Contents (Elt F)),
    nullary main_cst_1 (constant S_ .f32 0x00000000#32),
    unary main_cst_1 main_v28 (broadcastInDim S32x24x20000x2 ![] bcast_S_S32x24x20000x2 : (⟨S_, .f32⟩ : BufTy).Contents (Elt F) → (⟨S32x24x20000x2, .f32⟩ : BufTy).Contents (Elt F)),
    binary main_v27 main_v28 main_v29 (maximumf : (⟨S32x24x20000x2, .f32⟩ : BufTy).Contents (Elt F) → (⟨S32x24x20000x2, .f32⟩ : BufTy).Contents (Elt F) → (⟨S32x24x20000x2, .f32⟩ : BufTy).Contents (Elt F)),
    unary main_v29 main_v30 ((extractStridedSlice S32x24x20000x1 ![0, 0, 0, 0] · slices_S32x24x20000x2_S32x24x20000x1_0_0_0_0) : (⟨S32x24x20000x2, .f32⟩ : BufTy).Contents (Elt F) → (⟨S32x24x20000x1, .f32⟩ : BufTy).Contents (Elt F)),
    reshape main_v30 main_v31 (rfl : (.f32 : EltTy) = .f32) shapeCasts_S32x24x20000x1_S32x24x20000,
    unary main_v29 main_v32 ((extractStridedSlice S32x24x20000x1 ![0, 0, 0, 1] · slices_S32x24x20000x2_S32x24x20000x1_0_0_0_1) : (⟨S32x24x20000x2, .f32⟩ : BufTy).Contents (Elt F) → (⟨S32x24x20000x1, .f32⟩ : BufTy).Contents (Elt F)),
    reshape main_v32 main_v33 (rfl : (.f32 : EltTy) = .f32) shapeCasts_S32x24x20000x1_S32x24x20000,
    binary main_v31 main_v33 main_v34 (mulf : (⟨S32x24x20000, .f32⟩ : BufTy).Contents (Elt F) → (⟨S32x24x20000, .f32⟩ : BufTy).Contents (Elt F) → (⟨S32x24x20000, .f32⟩ : BufTy).Contents (Elt F)),
    unary main_arg3 main_v35 ((extractStridedSlice S32x24x1 ![0, 0, 2] · slices_S32x24x4_S32x24x1_0_0_2) : (⟨S32x24x4, .f32⟩ : BufTy).Contents (Elt F) → (⟨S32x24x1, .f32⟩ : BufTy).Contents (Elt F)),
    reshape main_v35 main_v36 (rfl : (.f32 : EltTy) = .f32) shapeCasts_S32x24x1_S32x24,
    unary main_arg3 main_v37 ((extractStridedSlice S32x24x1 ![0, 0, 0] · slices_S32x24x4_S32x24x1_0_0_0) : (⟨S32x24x4, .f32⟩ : BufTy).Contents (Elt F) → (⟨S32x24x1, .f32⟩ : BufTy).Contents (Elt F)),
    reshape main_v37 main_v38 (rfl : (.f32 : EltTy) = .f32) shapeCasts_S32x24x1_S32x24,
    binary main_v36 main_v38 main_v39 (subf : (⟨S32x24, .f32⟩ : BufTy).Contents (Elt F) → (⟨S32x24, .f32⟩ : BufTy).Contents (Elt F) → (⟨S32x24, .f32⟩ : BufTy).Contents (Elt F)),
    unary main_arg3 main_v40 ((extractStridedSlice S32x24x1 ![0, 0, 3] · slices_S32x24x4_S32x24x1_0_0_3) : (⟨S32x24x4, .f32⟩ : BufTy).Contents (Elt F) → (⟨S32x24x1, .f32⟩ : BufTy).Contents (Elt F)),
    reshape main_v40 main_v41 (rfl : (.f32 : EltTy) = .f32) shapeCasts_S32x24x1_S32x24,
    unary main_arg3 main_v42 ((extractStridedSlice S32x24x1 ![0, 0, 1] · slices_S32x24x4_S32x24x1_0_0_1) : (⟨S32x24x4, .f32⟩ : BufTy).Contents (Elt F) → (⟨S32x24x1, .f32⟩ : BufTy).Contents (Elt F)),
    reshape main_v42 main_v43 (rfl : (.f32 : EltTy) = .f32) shapeCasts_S32x24x1_S32x24,
    binary main_v41 main_v43 main_v44 (subf : (⟨S32x24, .f32⟩ : BufTy).Contents (Elt F) → (⟨S32x24, .f32⟩ : BufTy).Contents (Elt F) → (⟨S32x24, .f32⟩ : BufTy).Contents (Elt F)),
    binary main_v39 main_v44 main_v45 (mulf : (⟨S32x24, .f32⟩ : BufTy).Contents (Elt F) → (⟨S32x24, .f32⟩ : BufTy).Contents (Elt F) → (⟨S32x24, .f32⟩ : BufTy).Contents (Elt F)),
    unary main_v45 main_v46 (broadcastInDim S32x24x1 ![0, 1] bcast_S32x24_S32x24x1_0_1 : (⟨S32x24, .f32⟩ : BufTy).Contents (Elt F) → (⟨S32x24x1, .f32⟩ : BufTy).Contents (Elt F)),
    unary main_v12 main_v47 ((extractStridedSlice S20000x1 ![0, 2] · slices_S20000x4_S20000x1_0_2) : (⟨S20000x4, .f32⟩ : BufTy).Contents (Elt F) → (⟨S20000x1, .f32⟩ : BufTy).Contents (Elt F)),
    reshape main_v47 main_v48 (rfl : (.f32 : EltTy) = .f32) shapeCasts_S20000x1_S20000,
    unary main_v12 main_v49 ((extractStridedSlice S20000x1 ![0, 0] · slices_S20000x4_S20000x1_0_0) : (⟨S20000x4, .f32⟩ : BufTy).Contents (Elt F) → (⟨S20000x1, .f32⟩ : BufTy).Contents (Elt F)),
    reshape main_v49 main_v50 (rfl : (.f32 : EltTy) = .f32) shapeCasts_S20000x1_S20000,
    binary main_v48 main_v50 main_v51 (subf : (⟨S20000, .f32⟩ : BufTy).Contents (Elt F) → (⟨S20000, .f32⟩ : BufTy).Contents (Elt F) → (⟨S20000, .f32⟩ : BufTy).Contents (Elt F)),
    unary main_v12 main_v52 ((extractStridedSlice S20000x1 ![0, 3] · slices_S20000x4_S20000x1_0_3) : (⟨S20000x4, .f32⟩ : BufTy).Contents (Elt F) → (⟨S20000x1, .f32⟩ : BufTy).Contents (Elt F)),
    reshape main_v52 main_v53 (rfl : (.f32 : EltTy) = .f32) shapeCasts_S20000x1_S20000,
    unary main_v12 main_v54 ((extractStridedSlice S20000x1 ![0, 1] · slices_S20000x4_S20000x1_0_1) : (⟨S20000x4, .f32⟩ : BufTy).Contents (Elt F) → (⟨S20000x1, .f32⟩ : BufTy).Contents (Elt F)),
    reshape main_v54 main_v55 (rfl : (.f32 : EltTy) = .f32) shapeCasts_S20000x1_S20000,
    binary main_v53 main_v55 main_v56 (subf : (⟨S20000, .f32⟩ : BufTy).Contents (Elt F) → (⟨S20000, .f32⟩ : BufTy).Contents (Elt F) → (⟨S20000, .f32⟩ : BufTy).Contents (Elt F)) ]

/-- @main's operations 61 … 90 of 298 (window `main_part1`). -/
abbrev ops_part1_0 : List (HloOp τ sig (Elt F)) :=
  [ binary main_v51 main_v56 main_v57 (mulf : (⟨S20000, .f32⟩ : BufTy).Contents (Elt F) → (⟨S20000, .f32⟩ : BufTy).Contents (Elt F) → (⟨S20000, .f32⟩ : BufTy).Contents (Elt F)),
    unary main_v57 main_v58 (broadcastInDim S1x1x20000 ![2] bcast_S20000_S1x1x20000_2 : (⟨S20000, .f32⟩ : BufTy).Contents (Elt F) → (⟨S1x1x20000, .f32⟩ : BufTy).Contents (Elt F)),
    unary main_v46 main_v59 (broadcastInDim S32x24x20000 ![0, 1, 2] bcast_S32x24x1_S32x24x20000_0_1_2 : (⟨S32x24x1, .f32⟩ : BufTy).Contents (Elt F) → (⟨S32x24x20000, .f32⟩ : BufTy).Contents (Elt F)),
    unary main_v58 main_v60 (broadcastInDim S32x24x20000 ![0, 1, 2] bcast_S1x1x20000_S32x24x20000_0_1_2 : (⟨S1x1x20000, .f32⟩ : BufTy).Contents (Elt F) → (⟨S32x24x20000, .f32⟩ : BufTy).Contents (Elt F)),
    binary main_v59 main_v60 main_v61 (addf : (⟨S32x24x20000, .f32⟩ : BufTy).Contents (Elt F) → (⟨S32x24x20000, .f32⟩ : BufTy).Contents (Elt F) → (⟨S32x24x20000, .f32⟩ : BufTy).Contents (Elt F)),
    binary main_v61 main_v34 main_v62 (subf : (⟨S32x24x20000, .f32⟩ : BufTy).Contents (Elt F) → (⟨S32x24x20000, .f32⟩ : BufTy).Contents (Elt F) → (⟨S32x24x20000, .f32⟩ : BufTy).Contents (Elt F)),
    binary main_v34 main_v62 main_v63 (Host.divf : (⟨S32x24x20000, .f32⟩ : BufTy).Contents (Elt F) → (⟨S32x24x20000, .f32⟩ : BufTy).Contents (Elt F) → (⟨S32x24x20000, .f32⟩ : BufTy).Contents (Elt F)),
    TRef.nullary (TRef.of (T := ⟨S32x24x20000, .i32⟩) main_call0_v0) (iotaInDim S32x24x20000 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32x24x20000, .f32⟩) main_v63) (TRef.of (T := ⟨S32x24x20000, .i32⟩) main_call0_v0) (TRef.of (T := ⟨S_, .f32⟩) main_call0_cst) (TRef.of (T := ⟨S_, .i32⟩) main_call0_c) (TRef.of (T := ⟨S32x24, .f32⟩) main_call0_v1_0) (fun x y u v => (fun j => (Host.argReduce reducer_argmax_f32_i32 x y u v reducesTo_S32x24x20000_S32x24_d2 h_S_ j).1)),
    TRef.quaternary (TRef.of (T := ⟨S32x24x20000, .f32⟩) main_v63) (TRef.of (T := ⟨S32x24x20000, .i32⟩) main_call0_v0) (TRef.of (T := ⟨S_, .f32⟩) main_call0_cst) (TRef.of (T := ⟨S_, .i32⟩) main_call0_c) (TRef.of (T := ⟨S32x24, .i32⟩) main_v64) (fun x y u v => (fun j => (Host.argReduce reducer_argmax_f32_i32 x y u v reducesTo_S32x24x20000_S32x24_d2 h_S_ j).2)),
    nullary main_cst_2 (constant S_ .f32 0xFF800000#32),
    binary main_v63 main_cst_2 main_v65 ((fun x v => Host.reduce FloatOps.maximumf x v reducesTo_S32x24x20000_S32x20000_d1 h_S_) : (⟨S32x24x20000, .f32⟩ : BufTy).Contents (Elt F) → (⟨S_, .f32⟩ : BufTy).Contents (Elt F) → (⟨S32x20000, .f32⟩ : BufTy).Contents (Elt F)),
    TRef.nullary (TRef.of (T := ⟨S32x24x20000, .i32⟩) main_call1_v0) (iotaInDim S32x24x20000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S32x24x20000, .f32⟩) main_v63) (TRef.of (T := ⟨S32x24x20000, .i32⟩) main_call1_v0) (TRef.of (T := ⟨S_, .f32⟩) main_call1_cst) (TRef.of (T := ⟨S_, .i32⟩) main_call1_c) (TRef.of (T := ⟨S32x20000, .f32⟩) main_call1_v1_0) (fun x y u v => (fun j => (Host.argReduce reducer_argmax_f32_i32 x y u v reducesTo_S32x24x20000_S32x20000_d1 h_S_ j).1)),
    TRef.quaternary (TRef.of (T := ⟨S32x24x20000, .f32⟩) main_v63) (TRef.of (T := ⟨S32x24x20000, .i32⟩) main_call1_v0) (TRef.of (T := ⟨S_, .f32⟩) main_call1_cst) (TRef.of (T := ⟨S_, .i32⟩) main_call1_c) (TRef.of (T := ⟨S32x20000, .i32⟩) main_v66) (fun x y u v => (fun j => (Host.argReduce reducer_argmax_f32_i32 x y u v reducesTo_S32x24x20000_S32x20000_d1 h_S_ j).2)),
    nullary main_c (constantI S_ 32 0#32),
    unary main_c main_v67 (broadcastInDim S32x1 ![] bcast_S_S32x1 : (⟨S_, .i32⟩ : BufTy).Contents (Elt F) → (⟨S32x1, .i32⟩ : BufTy).Contents (Elt F)),
    binary main_v1 main_v67 main_v68 (cmpi .slt : (⟨S32x1, .i32⟩ : BufTy).Contents (Elt F) → (⟨S32x1, .i32⟩ : BufTy).Contents (Elt F) → (⟨S32x1, .i1⟩ : BufTy).Contents (Elt F)),
    nullary main_c_3 (constantI S_ 32 32#32),
    unary main_c_3 main_v69 (broadcastInDim S32x1 ![] bcast_S_S32x1 : (⟨S_, .i32⟩ : BufTy).Contents (Elt F) → (⟨S32x1, .i32⟩ : BufTy).Contents (Elt F)),
    binary main_v1 main_v69 main_v70 (addi : (⟨S32x1, .i32⟩ : BufTy).Contents (Elt F) → (⟨S32x1, .i32⟩ : BufTy).Contents (Elt F) → (⟨S32x1, .i32⟩ : BufTy).Contents (Elt F)),
    ternary main_v68 main_v70 main_v1 main_v71 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_4 (constantI S_ 32 0#32),
    unary main_c_4 main_v72 (broadcastInDim S32x24 ![] bcast_S_S32x24 : (⟨S_, .i32⟩ : BufTy).Contents (Elt F) → (⟨S32x24, .i32⟩ : BufTy).Contents (Elt F)),
    binary main_v64 main_v72 main_v73 (cmpi .slt : (⟨S32x24, .i32⟩ : BufTy).Contents (Elt F) → (⟨S32x24, .i32⟩ : BufTy).Contents (Elt F) → (⟨S32x24, .i1⟩ : BufTy).Contents (Elt F)),
    nullary main_c_5 (constantI S_ 32 20000#32) ]

/-- @main's operations 91 … 120 of 298 (window `main_part1`). -/
abbrev ops_part1_1 : List (HloOp τ sig (Elt F)) :=
  [ unary main_c_5 main_v74 (broadcastInDim S32x24 ![] bcast_S_S32x24 : (⟨S_, .i32⟩ : BufTy).Contents (Elt F) → (⟨S32x24, .i32⟩ : BufTy).Contents (Elt F)),
    binary main_v64 main_v74 main_v75 (addi : (⟨S32x24, .i32⟩ : BufTy).Contents (Elt F) → (⟨S32x24, .i32⟩ : BufTy).Contents (Elt F) → (⟨S32x24, .i32⟩ : BufTy).Contents (Elt F)),
    ternary main_v73 main_v75 main_v64 main_v76 (select : (⟨S32x24, .i1⟩ : BufTy).Contents (Elt F) → (⟨S32x24, .i32⟩ : BufTy).Contents (Elt F) → (⟨S32x24, .i32⟩ : BufTy).Contents (Elt F) → (⟨S32x24, .i32⟩ : BufTy).Contents (Elt F)),
    unary main_v71 main_v77 (broadcastInDim S32x24 ![0, 1] bcast_S32x1_S32x24_0_1 : (⟨S32x1, .i32⟩ : BufTy).Contents (Elt F) → (⟨S32x24, .i32⟩ : BufTy).Contents (Elt F)),
    unary main_v77 main_v78 (broadcastInDim S32x24x1 ![0, 1] bcast_S32x24_S32x24x1_0_1 : (⟨S32x24, .i32⟩ : BufTy).Contents (Elt F) → (⟨S32x24x1, .i32⟩ : BufTy).Contents (Elt F)),
    unary main_v76 main_v79 (broadcastInDim S32x24x1 ![0, 1] bcast_S32x24_S32x24x1_0_1 : (⟨S32x24, .i32⟩ : BufTy).Contents (Elt F) → (⟨S32x24x1, .i32⟩ : BufTy).Contents (Elt F)),
    binary main_v78 main_v79 main_v80 (fn_main_v80 (F := F)),
    nullary main_cst_6 (constant S_ .f32 0x40000000#32),
    unary main_cst_6 main_v81 (broadcastInDim S32x24 ![] bcast_S_S32x24 : (⟨S_, .f32⟩ : BufTy).Contents (Elt F) → (⟨S32x24, .f32⟩ : BufTy).Contents (Elt F)),
    ternary main_v65 main_v80 main_v81 main_v82 ((fun x i u => Host.scatter scatter_S32x20000_S32x24x2_S32x24_n_01_01_2 (fun _ b => b) x i u) : (⟨S32x20000, .f32⟩ : BufTy).Contents (Elt F) → (⟨S32x24x2, .i32⟩ : BufTy).Contents (Elt F) → (⟨S32x24, .f32⟩ : BufTy).Contents (Elt F) → (⟨S32x20000, .f32⟩ : BufTy).Contents (Elt F)),
    nullary main_v83 (iotaInDim S24 32 0),
    unary main_v83 main_v84 (broadcastInDim S1x24 ![1] bcast_S24_S1x24_1 : (⟨S24, .i32⟩ : BufTy).Contents (Elt F) → (⟨S1x24, .i32⟩ : BufTy).Contents (Elt F)),
    nullary main_c_7 (constantI S_ 32 0#32),
    unary main_c_7 main_v85 (broadcastInDim S32x1 ![] bcast_S_S32x1 : (⟨S_, .i32⟩ : BufTy).Contents (Elt F) → (⟨S32x1, .i32⟩ : BufTy).Contents (Elt F)),
    binary main_v1 main_v85 main_v86 (cmpi .slt : (⟨S32x1, .i32⟩ : BufTy).Contents (Elt F) → (⟨S32x1, .i32⟩ : BufTy).Contents (Elt F) → (⟨S32x1, .i1⟩ : BufTy).Contents (Elt F)),
    nullary main_c_8 (constantI S_ 32 32#32),
    unary main_c_8 main_v87 (broadcastInDim S32x1 ![] bcast_S_S32x1 : (⟨S_, .i32⟩ : BufTy).Contents (Elt F) → (⟨S32x1, .i32⟩ : BufTy).Contents (Elt F)),
    binary main_v1 main_v87 main_v88 (addi : (⟨S32x1, .i32⟩ : BufTy).Contents (Elt F) → (⟨S32x1, .i32⟩ : BufTy).Contents (Elt F) → (⟨S32x1, .i32⟩ : BufTy).Contents (Elt F)),
    ternary main_v86 main_v88 main_v1 main_v89 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_9 (constantI S_ 32 0#32),
    unary main_c_9 main_v90 (broadcastInDim S32x24 ![] bcast_S_S32x24 : (⟨S_, .i32⟩ : BufTy).Contents (Elt F) → (⟨S32x24, .i32⟩ : BufTy).Contents (Elt F)),
    binary main_v64 main_v90 main_v91 (cmpi .slt : (⟨S32x24, .i32⟩ : BufTy).Contents (Elt F) → (⟨S32x24, .i32⟩ : BufTy).Contents (Elt F) → (⟨S32x24, .i1⟩ : BufTy).Contents (Elt F)),
    nullary main_c_10 (constantI S_ 32 20000#32),
    unary main_c_10 main_v92 (broadcastInDim S32x24 ![] bcast_S_S32x24 : (⟨S_, .i32⟩ : BufTy).Contents (Elt F) → (⟨S32x24, .i32⟩ : BufTy).Contents (Elt F)),
    binary main_v64 main_v92 main_v93 (addi : (⟨S32x24, .i32⟩ : BufTy).Contents (Elt F) → (⟨S32x24, .i32⟩ : BufTy).Contents (Elt F) → (⟨S32x24, .i32⟩ : BufTy).Contents (Elt F)),
    ternary main_v91 main_v93 main_v64 main_v94 (select : (⟨S32x24, .i1⟩ : BufTy).Contents (Elt F) → (⟨S32x24, .i32⟩ : BufTy).Contents (Elt F) → (⟨S32x24, .i32⟩ : BufTy).Contents (Elt F) → (⟨S32x24, .i32⟩ : BufTy).Contents (Elt F)),
    unary main_v89 main_v95 (broadcastInDim S32x24 ![0, 1] bcast_S32x1_S32x24_0_1 : (⟨S32x1, .i32⟩ : BufTy).Contents (Elt F) → (⟨S32x24, .i32⟩ : BufTy).Contents (Elt F)),
    unary main_v95 main_v96 (broadcastInDim S32x24x1 ![0, 1] bcast_S32x24_S32x24x1_0_1 : (⟨S32x24, .i32⟩ : BufTy).Contents (Elt F) → (⟨S32x24x1, .i32⟩ : BufTy).Contents (Elt F)),
    unary main_v94 main_v97 (broadcastInDim S32x24x1 ![0, 1] bcast_S32x24_S32x24x1_0_1 : (⟨S32x24, .i32⟩ : BufTy).Contents (Elt F) → (⟨S32x24x1, .i32⟩ : BufTy).Contents (Elt F)),
    binary main_v96 main_v97 main_v98 (fn_main_v98 (F := F)) ]

/-- @main's operations 121 … 128 of 298 (window `main_part1`). -/
abbrev ops_part1_2 : List (HloOp τ sig (Elt F)) :=
  [ unary main_v84 main_v99 (broadcastInDim S32x24 ![0, 1] bcast_S1x24_S32x24_0_1 : (⟨S1x24, .i32⟩ : BufTy).Contents (Elt F) → (⟨S32x24, .i32⟩ : BufTy).Contents (Elt F)),
    ternary main_v66 main_v98 main_v99 main_v100 ((fun x i u => Host.scatter scatter_S32x20000_S32x24x2_S32x24_n_01_01_2 (fun _ b => b) x i u) : (⟨S32x20000, .i32⟩ : BufTy).Contents (Elt F) → (⟨S32x24x2, .i32⟩ : BufTy).Contents (Elt F) → (⟨S32x24, .i32⟩ : BufTy).Contents (Elt F) → (⟨S32x20000, .i32⟩ : BufTy).Contents (Elt F)),
    nullary main_c_11 (constantI S_ 32 0#32),
    unary main_c_11 main_v101 (broadcastInDim S32x1 ![] bcast_S_S32x1 : (⟨S_, .i32⟩ : BufTy).Contents (Elt F) → (⟨S32x1, .i32⟩ : BufTy).Contents (Elt F)),
    binary main_v1 main_v101 main_v102 (cmpi .slt : (⟨S32x1, .i32⟩ : BufTy).Contents (Elt F) → (⟨S32x1, .i32⟩ : BufTy).Contents (Elt F) → (⟨S32x1, .i1⟩ : BufTy).Contents (Elt F)),
    nullary main_c_12 (constantI S_ 32 32#32),
    unary main_c_12 main_v103 (broadcastInDim S32x1 ![] bcast_S_S32x1 : (⟨S_, .i32⟩ : BufTy).Contents (Elt F) → (⟨S32x1, .i32⟩ : BufTy).Contents (Elt F)),
    binary main_v1 main_v103 main_v104 (addi : (⟨S32x1, .i32⟩ : BufTy).Contents (Elt F) → (⟨S32x1, .i32⟩ : BufTy).Contents (Elt F) → (⟨S32x1, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 129 … 158 of 298 (window `main_part2`). -/
abbrev ops_part2_0 : List (HloOp τ sig (Elt F)) :=
  [ ternary main_v102 main_v104 main_v1 main_v105 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_13 (constantI S_ 32 0#32),
    unary main_c_13 main_v106 (broadcastInDim S32x20000 ![] bcast_S_S32x20000 : (⟨S_, .i32⟩ : BufTy).Contents (Elt F) → (⟨S32x20000, .i32⟩ : BufTy).Contents (Elt F)),
    binary main_v100 main_v106 main_v107 (cmpi .slt : (⟨S32x20000, .i32⟩ : BufTy).Contents (Elt F) → (⟨S32x20000, .i32⟩ : BufTy).Contents (Elt F) → (⟨S32x20000, .i1⟩ : BufTy).Contents (Elt F)),
    nullary main_c_14 (constantI S_ 32 24#32),
    unary main_c_14 main_v108 (broadcastInDim S32x20000 ![] bcast_S_S32x20000 : (⟨S_, .i32⟩ : BufTy).Contents (Elt F) → (⟨S32x20000, .i32⟩ : BufTy).Contents (Elt F)),
    binary main_v100 main_v108 main_v109 (addi : (⟨S32x20000, .i32⟩ : BufTy).Contents (Elt F) → (⟨S32x20000, .i32⟩ : BufTy).Contents (Elt F) → (⟨S32x20000, .i32⟩ : BufTy).Contents (Elt F)),
    ternary main_v107 main_v109 main_v100 main_v110 (select : (⟨S32x20000, .i1⟩ : BufTy).Contents (Elt F) → (⟨S32x20000, .i32⟩ : BufTy).Contents (Elt F) → (⟨S32x20000, .i32⟩ : BufTy).Contents (Elt F) → (⟨S32x20000, .i32⟩ : BufTy).Contents (Elt F)),
    unary main_v105 main_v111 (broadcastInDim S32x20000 ![0, 1] bcast_S32x1_S32x20000_0_1 : (⟨S32x1, .i32⟩ : BufTy).Contents (Elt F) → (⟨S32x20000, .i32⟩ : BufTy).Contents (Elt F)),
    unary main_v111 main_v112 (broadcastInDim S32x20000x1 ![0, 1] bcast_S32x20000_S32x20000x1_0_1 : (⟨S32x20000, .i32⟩ : BufTy).Contents (Elt F) → (⟨S32x20000x1, .i32⟩ : BufTy).Contents (Elt F)),
    unary main_v110 main_v113 (broadcastInDim S32x20000x1 ![0, 1] bcast_S32x20000_S32x20000x1_0_1 : (⟨S32x20000, .i32⟩ : BufTy).Contents (Elt F) → (⟨S32x20000x1, .i32⟩ : BufTy).Contents (Elt F)),
    binary main_v112 main_v113 main_v114 (fn_main_v114 (F := F)),
    binary main_arg3 main_v114 main_v115 ((fun x i => Host.gather gather_S32x24x4_S32x20000x2_S32x20000x4_2_01_n_n_01_2_114 x i) : (⟨S32x24x4, .f32⟩ : BufTy).Contents (Elt F) → (⟨S32x20000x2, .i32⟩ : BufTy).Contents (Elt F) → (⟨S32x20000x4, .f32⟩ : BufTy).Contents (Elt F)),
    nullary main_c_15 (constantI S_ 32 0#32),
    unary main_c_15 main_v116 (broadcastInDim S32x1 ![] bcast_S_S32x1 : (⟨S_, .i32⟩ : BufTy).Contents (Elt F) → (⟨S32x1, .i32⟩ : BufTy).Contents (Elt F)),
    binary main_v1 main_v116 main_v117 (cmpi .slt : (⟨S32x1, .i32⟩ : BufTy).Contents (Elt F) → (⟨S32x1, .i32⟩ : BufTy).Contents (Elt F) → (⟨S32x1, .i1⟩ : BufTy).Contents (Elt F)),
    nullary main_c_16 (constantI S_ 32 32#32),
    unary main_c_16 main_v118 (broadcastInDim S32x1 ![] bcast_S_S32x1 : (⟨S_, .i32⟩ : BufTy).Contents (Elt F) → (⟨S32x1, .i32⟩ : BufTy).Contents (Elt F)),
    binary main_v1 main_v118 main_v119 (addi : (⟨S32x1, .i32⟩ : BufTy).Contents (Elt F) → (⟨S32x1, .i32⟩ : BufTy).Contents (Elt F) → (⟨S32x1, .i32⟩ : BufTy).Contents (Elt F)),
    ternary main_v117 main_v119 main_v1 main_v120 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_17 (constantI S_ 32 0#32),
    unary main_c_17 main_v121 (broadcastInDim S32x20000 ![] bcast_S_S32x20000 : (⟨S_, .i32⟩ : BufTy).Contents (Elt F) → (⟨S32x20000, .i32⟩ : BufTy).Contents (Elt F)),
    binary main_v100 main_v121 main_v122 (cmpi .slt : (⟨S32x20000, .i32⟩ : BufTy).Contents (Elt F) → (⟨S32x20000, .i32⟩ : BufTy).Contents (Elt F) → (⟨S32x20000, .i1⟩ : BufTy).Contents (Elt F)),
    nullary main_c_18 (constantI S_ 32 24#32),
    unary main_c_18 main_v123 (broadcastInDim S32x20000 ![] bcast_S_S32x20000 : (⟨S_, .i32⟩ : BufTy).Contents (Elt F) → (⟨S32x20000, .i32⟩ : BufTy).Contents (Elt F)),
    binary main_v100 main_v123 main_v124 (addi : (⟨S32x20000, .i32⟩ : BufTy).Contents (Elt F) → (⟨S32x20000, .i32⟩ : BufTy).Contents (Elt F) → (⟨S32x20000, .i32⟩ : BufTy).Contents (Elt F)),
    ternary main_v122 main_v124 main_v100 main_v125 (select : (⟨S32x20000, .i1⟩ : BufTy).Contents (Elt F) → (⟨S32x20000, .i32⟩ : BufTy).Contents (Elt F) → (⟨S32x20000, .i32⟩ : BufTy).Contents (Elt F) → (⟨S32x20000, .i32⟩ : BufTy).Contents (Elt F)),
    unary main_v120 main_v126 (broadcastInDim S32x20000 ![0, 1] bcast_S32x1_S32x20000_0_1 : (⟨S32x1, .i32⟩ : BufTy).Contents (Elt F) → (⟨S32x20000, .i32⟩ : BufTy).Contents (Elt F)),
    unary main_v126 main_v127 (broadcastInDim S32x20000x1 ![0, 1] bcast_S32x20000_S32x20000x1_0_1 : (⟨S32x20000, .i32⟩ : BufTy).Contents (Elt F) → (⟨S32x20000x1, .i32⟩ : BufTy).Contents (Elt F)),
    unary main_v125 main_v128 (broadcastInDim S32x20000x1 ![0, 1] bcast_S32x20000_S32x20000x1_0_1 : (⟨S32x20000, .i32⟩ : BufTy).Contents (Elt F) → (⟨S32x20000x1, .i32⟩ : BufTy).Contents (Elt F)) ]

/-- @main's operations 159 … 188 of 298 (window `main_part2`). -/
abbrev ops_part2_1 : List (HloOp τ sig (Elt F)) :=
  [ binary main_v127 main_v128 main_v129 (fn_main_v129 (F := F)),
    binary main_arg4 main_v129 main_v130 ((fun x i => Host.gather gather_S32x24_S32x20000x2_S32x20000_n_01_n_n_01_2_11 x i) : (⟨S32x24, .i32⟩ : BufTy).Contents (Elt F) → (⟨S32x20000x2, .i32⟩ : BufTy).Contents (Elt F) → (⟨S32x20000, .i32⟩ : BufTy).Contents (Elt F)),
    nullary main_c_19 (constantI S_ 32 1#32),
    unary main_c_19 main_v131 (broadcastInDim S32x20000 ![] bcast_S_S32x20000 : (⟨S_, .i32⟩ : BufTy).Contents (Elt F) → (⟨S32x20000, .i32⟩ : BufTy).Contents (Elt F)),
    binary main_v130 main_v131 main_v132 (addi : (⟨S32x20000, .i32⟩ : BufTy).Contents (Elt F) → (⟨S32x20000, .i32⟩ : BufTy).Contents (Elt F) → (⟨S32x20000, .i32⟩ : BufTy).Contents (Elt F)),
    nullary main_cst_20 (constant S_ .f32 0x3F000000#32),
    unary main_cst_20 main_v133 (broadcastInDim S32x20000 ![] bcast_S_S32x20000 : (⟨S_, .f32⟩ : BufTy).Contents (Elt F) → (⟨S32x20000, .f32⟩ : BufTy).Contents (Elt F)),
    binary main_v82 main_v133 main_v134 (cmpf .olt : (⟨S32x20000, .f32⟩ : BufTy).Contents (Elt F) → (⟨S32x20000, .f32⟩ : BufTy).Contents (Elt F) → (⟨S32x20000, .i1⟩ : BufTy).Contents (Elt F)),
    nullary main_c_21 (constantI S_ 32 0#32),
    TRef.unary (TRef.of (T := ⟨S_, .i32⟩) main_c_21) (TRef.of (T := ⟨S_, .i32⟩) main_call2_v0) id,
    TRef.unary (TRef.of (T := ⟨S_, .i32⟩) main_call2_v0) (TRef.of (T := ⟨S32x20000, .i32⟩) main_call2_v1) (broadcastInDim S32x20000 ![] bcast_S_S32x20000),
    TRef.ternary (TRef.of (T := ⟨S32x20000, .i1⟩) main_v134) (TRef.of (T := ⟨S32x20000, .i32⟩) main_call2_v1) (TRef.of (T := ⟨S32x20000, .i32⟩) main_v132) (TRef.of (T := ⟨S32x20000, .i32⟩) main_v135) select,
    unary main_v115 main_v136 ((extractStridedSlice S32x20000x2 ![0, 0, 0] · slices_S32x20000x4_S32x20000x2_0_0_0) : (⟨S32x20000x4, .f32⟩ : BufTy).Contents (Elt F) → (⟨S32x20000x2, .f32⟩ : BufTy).Contents (Elt F)),
    unary main_v115 main_v137 ((extractStridedSlice S32x20000x2 ![0, 0, 2] · slices_S32x20000x4_S32x20000x2_0_0_2) : (⟨S32x20000x4, .f32⟩ : BufTy).Contents (Elt F) → (⟨S32x20000x2, .f32⟩ : BufTy).Contents (Elt F)),
    binary main_v136 main_v137 main_v138 (addf : (⟨S32x20000x2, .f32⟩ : BufTy).Contents (Elt F) → (⟨S32x20000x2, .f32⟩ : BufTy).Contents (Elt F) → (⟨S32x20000x2, .f32⟩ : BufTy).Contents (Elt F)),
    nullary main_cst_22 (constant S_ .f32 0x40000000#32),
    unary main_cst_22 main_v139 (broadcastInDim S32x20000x2 ![] bcast_S_S32x20000x2 : (⟨S_, .f32⟩ : BufTy).Contents (Elt F) → (⟨S32x20000x2, .f32⟩ : BufTy).Contents (Elt F)),
    binary main_v138 main_v139 main_v140 (Host.divf : (⟨S32x20000x2, .f32⟩ : BufTy).Contents (Elt F) → (⟨S32x20000x2, .f32⟩ : BufTy).Contents (Elt F) → (⟨S32x20000x2, .f32⟩ : BufTy).Contents (Elt F)),
    unary main_arg2 main_v141 ((extractStridedSlice S20000x2 ![0, 0] · slices_S20000x4_S20000x2_0_0) : (⟨S20000x4, .f32⟩ : BufTy).Contents (Elt F) → (⟨S20000x2, .f32⟩ : BufTy).Contents (Elt F)),
    unary main_v141 main_v142 (broadcastInDim S1x20000x2 ![1, 2] bcast_S20000x2_S1x20000x2_1_2 : (⟨S20000x2, .f32⟩ : BufTy).Contents (Elt F) → (⟨S1x20000x2, .f32⟩ : BufTy).Contents (Elt F)),
    unary main_v142 main_v143 (broadcastInDim S32x20000x2 ![0, 1, 2] bcast_S1x20000x2_S32x20000x2_0_1_2 : (⟨S1x20000x2, .f32⟩ : BufTy).Contents (Elt F) → (⟨S32x20000x2, .f32⟩ : BufTy).Contents (Elt F)),
    binary main_v140 main_v143 main_v144 (subf : (⟨S32x20000x2, .f32⟩ : BufTy).Contents (Elt F) → (⟨S32x20000x2, .f32⟩ : BufTy).Contents (Elt F) → (⟨S32x20000x2, .f32⟩ : BufTy).Contents (Elt F)),
    unary main_arg2 main_v145 ((extractStridedSlice S20000x2 ![0, 2] · slices_S20000x4_S20000x2_0_2) : (⟨S20000x4, .f32⟩ : BufTy).Contents (Elt F) → (⟨S20000x2, .f32⟩ : BufTy).Contents (Elt F)),
    unary main_v145 main_v146 (broadcastInDim S1x20000x2 ![1, 2] bcast_S20000x2_S1x20000x2_1_2 : (⟨S20000x2, .f32⟩ : BufTy).Contents (Elt F) → (⟨S1x20000x2, .f32⟩ : BufTy).Contents (Elt F)),
    nullary main_cst_23 (constant S_ .f32 0x3DCCCCCD#32),
    unary main_cst_23 main_v147 (broadcastInDim S1x20000x2 ![] bcast_S_S1x20000x2 : (⟨S_, .f32⟩ : BufTy).Contents (Elt F) → (⟨S1x20000x2, .f32⟩ : BufTy).Contents (Elt F)),
    binary main_v147 main_v146 main_v148 (mulf : (⟨S1x20000x2, .f32⟩ : BufTy).Contents (Elt F) → (⟨S1x20000x2, .f32⟩ : BufTy).Contents (Elt F) → (⟨S1x20000x2, .f32⟩ : BufTy).Contents (Elt F)),
    unary main_v148 main_v149 (broadcastInDim S32x20000x2 ![0, 1, 2] bcast_S1x20000x2_S32x20000x2_0_1_2 : (⟨S1x20000x2, .f32⟩ : BufTy).Contents (Elt F) → (⟨S32x20000x2, .f32⟩ : BufTy).Contents (Elt F)),
    binary main_v144 main_v149 main_v150 (Host.divf : (⟨S32x20000x2, .f32⟩ : BufTy).Contents (Elt F) → (⟨S32x20000x2, .f32⟩ : BufTy).Contents (Elt F) → (⟨S32x20000x2, .f32⟩ : BufTy).Contents (Elt F)),
    unary main_v115 main_v151 ((extractStridedSlice S32x20000x2 ![0, 0, 2] · slices_S32x20000x4_S32x20000x2_0_0_2) : (⟨S32x20000x4, .f32⟩ : BufTy).Contents (Elt F) → (⟨S32x20000x2, .f32⟩ : BufTy).Contents (Elt F)) ]

/-- @main's operations 189 … 190 of 298 (window `main_part2`). -/
abbrev ops_part2_2 : List (HloOp τ sig (Elt F)) :=
  [ unary main_v115 main_v152 ((extractStridedSlice S32x20000x2 ![0, 0, 0] · slices_S32x20000x4_S32x20000x2_0_0_0) : (⟨S32x20000x4, .f32⟩ : BufTy).Contents (Elt F) → (⟨S32x20000x2, .f32⟩ : BufTy).Contents (Elt F)),
    binary main_v151 main_v152 main_v153 (subf : (⟨S32x20000x2, .f32⟩ : BufTy).Contents (Elt F) → (⟨S32x20000x2, .f32⟩ : BufTy).Contents (Elt F) → (⟨S32x20000x2, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 191 … 220 of 298 (window `main_part3`). -/
abbrev ops_part3_0 : List (HloOp τ sig (Elt F)) :=
  [ unary main_arg2 main_v154 ((extractStridedSlice S20000x2 ![0, 2] · slices_S20000x4_S20000x2_0_2) : (⟨S20000x4, .f32⟩ : BufTy).Contents (Elt F) → (⟨S20000x2, .f32⟩ : BufTy).Contents (Elt F)),
    unary main_v154 main_v155 (broadcastInDim S1x20000x2 ![1, 2] bcast_S20000x2_S1x20000x2_1_2 : (⟨S20000x2, .f32⟩ : BufTy).Contents (Elt F) → (⟨S1x20000x2, .f32⟩ : BufTy).Contents (Elt F)),
    unary main_v155 main_v156 (broadcastInDim S32x20000x2 ![0, 1, 2] bcast_S1x20000x2_S32x20000x2_0_1_2 : (⟨S1x20000x2, .f32⟩ : BufTy).Contents (Elt F) → (⟨S32x20000x2, .f32⟩ : BufTy).Contents (Elt F)),
    binary main_v153 main_v156 main_v157 (Host.divf : (⟨S32x20000x2, .f32⟩ : BufTy).Contents (Elt F) → (⟨S32x20000x2, .f32⟩ : BufTy).Contents (Elt F) → (⟨S32x20000x2, .f32⟩ : BufTy).Contents (Elt F)),
    unary main_v157 main_v158 (Host.log : (⟨S32x20000x2, .f32⟩ : BufTy).Contents (Elt F) → (⟨S32x20000x2, .f32⟩ : BufTy).Contents (Elt F)),
    nullary main_cst_24 (constant S_ .f32 0x3E4CCCCD#32),
    unary main_cst_24 main_v159 (broadcastInDim S32x20000x2 ![] bcast_S_S32x20000x2 : (⟨S_, .f32⟩ : BufTy).Contents (Elt F) → (⟨S32x20000x2, .f32⟩ : BufTy).Contents (Elt F)),
    binary main_v158 main_v159 main_v160 (Host.divf : (⟨S32x20000x2, .f32⟩ : BufTy).Contents (Elt F) → (⟨S32x20000x2, .f32⟩ : BufTy).Contents (Elt F) → (⟨S32x20000x2, .f32⟩ : BufTy).Contents (Elt F)),
    binary main_v150 main_v160 main_v161 (fn_main_v161 (F := F)),
    nullary main_c_25 (constantI S_ 32 0#32),
    unary main_c_25 main_v162 (broadcastInDim S32x20000 ![] bcast_S_S32x20000 : (⟨S_, .i32⟩ : BufTy).Contents (Elt F) → (⟨S32x20000, .i32⟩ : BufTy).Contents (Elt F)),
    binary main_v135 main_v162 main_v163 (cmpi .ne : (⟨S32x20000, .i32⟩ : BufTy).Contents (Elt F) → (⟨S32x20000, .i32⟩ : BufTy).Contents (Elt F) → (⟨S32x20000, .i1⟩ : BufTy).Contents (Elt F)),
    binary main_arg0 main_v161 main_v164 (subf : (⟨S32x20000x4, .f32⟩ : BufTy).Contents (Elt F) → (⟨S32x20000x4, .f32⟩ : BufTy).Contents (Elt F) → (⟨S32x20000x4, .f32⟩ : BufTy).Contents (Elt F)),
    unary main_v164 main_v165 (Host.absf : (⟨S32x20000x4, .f32⟩ : BufTy).Contents (Elt F) → (⟨S32x20000x4, .f32⟩ : BufTy).Contents (Elt F)),
    nullary main_cst_26 (constant S_ .f32 0x3F800000#32),
    unary main_cst_26 main_v166 (broadcastInDim S32x20000x4 ![] bcast_S_S32x20000x4 : (⟨S_, .f32⟩ : BufTy).Contents (Elt F) → (⟨S32x20000x4, .f32⟩ : BufTy).Contents (Elt F)),
    binary main_v165 main_v166 main_v167 (cmpf .olt : (⟨S32x20000x4, .f32⟩ : BufTy).Contents (Elt F) → (⟨S32x20000x4, .f32⟩ : BufTy).Contents (Elt F) → (⟨S32x20000x4, .i1⟩ : BufTy).Contents (Elt F)),
    nullary main_cst_27 (constant S_ .f32 0x3F000000#32),
    unary main_cst_27 main_v168 (broadcastInDim S32x20000x4 ![] bcast_S_S32x20000x4 : (⟨S_, .f32⟩ : BufTy).Contents (Elt F) → (⟨S32x20000x4, .f32⟩ : BufTy).Contents (Elt F)),
    binary main_v168 main_v164 main_v169 (mulf : (⟨S32x20000x4, .f32⟩ : BufTy).Contents (Elt F) → (⟨S32x20000x4, .f32⟩ : BufTy).Contents (Elt F) → (⟨S32x20000x4, .f32⟩ : BufTy).Contents (Elt F)),
    binary main_v169 main_v164 main_v170 (mulf : (⟨S32x20000x4, .f32⟩ : BufTy).Contents (Elt F) → (⟨S32x20000x4, .f32⟩ : BufTy).Contents (Elt F) → (⟨S32x20000x4, .f32⟩ : BufTy).Contents (Elt F)),
    nullary main_cst_28 (constant S_ .f32 0x3F000000#32),
    unary main_cst_28 main_v171 (broadcastInDim S32x20000x4 ![] bcast_S_S32x20000x4 : (⟨S_, .f32⟩ : BufTy).Contents (Elt F) → (⟨S32x20000x4, .f32⟩ : BufTy).Contents (Elt F)),
    binary main_v165 main_v171 main_v172 (subf : (⟨S32x20000x4, .f32⟩ : BufTy).Contents (Elt F) → (⟨S32x20000x4, .f32⟩ : BufTy).Contents (Elt F) → (⟨S32x20000x4, .f32⟩ : BufTy).Contents (Elt F)),
    TRef.ternary (TRef.of (T := ⟨S32x20000x4, .i1⟩) main_v167) (TRef.of (T := ⟨S32x20000x4, .f32⟩) main_v170) (TRef.of (T := ⟨S32x20000x4, .f32⟩) main_v172) (TRef.of (T := ⟨S32x20000x4, .f32⟩) main_v173) select,
    unary main_v163 main_v174 (broadcastInDim S32x20000x1 ![0, 1] bcast_S32x20000_S32x20000x1_0_1 : (⟨S32x20000, .i1⟩ : BufTy).Contents (Elt F) → (⟨S32x20000x1, .i1⟩ : BufTy).Contents (Elt F)),
    unary main_v174 main_v175 (uitofp .f32 : (⟨S32x20000x1, .i1⟩ : BufTy).Contents (Elt F) → (⟨S32x20000x1, .f32⟩ : BufTy).Contents (Elt F)),
    unary main_v175 main_v176 (broadcastInDim S32x20000x4 ![0, 1, 2] bcast_S32x20000x1_S32x20000x4_0_1_2 : (⟨S32x20000x1, .f32⟩ : BufTy).Contents (Elt F) → (⟨S32x20000x4, .f32⟩ : BufTy).Contents (Elt F)),
    binary main_v173 main_v176 main_v177 (mulf : (⟨S32x20000x4, .f32⟩ : BufTy).Contents (Elt F) → (⟨S32x20000x4, .f32⟩ : BufTy).Contents (Elt F) → (⟨S32x20000x4, .f32⟩ : BufTy).Contents (Elt F)),
    nullary main_cst_29 (constant S_ .f32 0x00000000#32) ]

/-- @main's operations 221 … 250 of 298 (window `main_part3`). -/
abbrev ops_part3_1 : List (HloOp τ sig (Elt F)) :=
  [ binary main_v177 main_cst_29 main_v178 ((fun x v => Host.reduceAdd x v reducesTo_S32x20000x4_S_d0_1_2 h_S_) : (⟨S32x20000x4, .f32⟩ : BufTy).Contents (Elt F) → (⟨S_, .f32⟩ : BufTy).Contents (Elt F) → (⟨S_, .f32⟩ : BufTy).Contents (Elt F)),
    TRef.nullary (TRef.of (T := ⟨S_, .f32⟩) main_call4_cst) (constant S_ .f32 0xFF800000#32),
    TRef.binary (TRef.of (T := ⟨S32x20000x21, .f32⟩) main_arg1) (TRef.of (T := ⟨S_, .f32⟩) main_call4_cst) (TRef.of (T := ⟨S32x20000, .f32⟩) main_call4_v0) (fun x v => Host.reduce FloatOps.maximumf x v reducesTo_S32x20000x21_S32x20000_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S32x20000, .f32⟩) main_call4_v1) (broadcastInDim S32x20000 ![] bcast_S_S32x20000),
    TRef.binary (TRef.of (T := ⟨S32x20000, .f32⟩) main_call4_v1) (TRef.of (T := ⟨S32x20000, .f32⟩) main_call4_v0) (TRef.of (T := ⟨S32x20000, .f32⟩) main_call4_v2) maximumf,
    TRef.unary (TRef.of (T := ⟨S32x20000, .f32⟩) main_call4_v2) (TRef.of (T := ⟨S32x20000x1, .f32⟩) main_call4_v3) (broadcastInDim S32x20000x1 ![0, 1] bcast_S32x20000_S32x20000x1_0_1),
    TRef.unary (TRef.of (T := ⟨S32x20000x1, .f32⟩) main_call4_v3) (TRef.of (T := ⟨S32x20000x21, .f32⟩) main_call4_v4) (broadcastInDim S32x20000x21 ![0, 1, 2] bcast_S32x20000x1_S32x20000x21_0_1_2),
    TRef.binary (TRef.of (T := ⟨S32x20000x21, .f32⟩) main_arg1) (TRef.of (T := ⟨S32x20000x21, .f32⟩) main_call4_v4) (TRef.of (T := ⟨S32x20000x21, .f32⟩) main_call4_v5) subf,
    TRef.unary (TRef.of (T := ⟨S32x20000x21, .f32⟩) main_call4_v5) (TRef.of (T := ⟨S32x20000x21, .f32⟩) main_call4_v6) Host.exp,
    TRef.nullary (TRef.of (T := ⟨S_, .f32⟩) main_call4_cst_1) (constant S_ .f32 0x00000000#32),
    TRef.binary (TRef.of (T := ⟨S32x20000x21, .f32⟩) main_call4_v6) (TRef.of (T := ⟨S_, .f32⟩) main_call4_cst_1) (TRef.of (T := ⟨S32x20000, .f32⟩) main_call4_v7) (fun x v => Host.reduceAdd x v reducesTo_S32x20000x21_S32x20000_d2 h_S_),
    TRef.unary (TRef.of (T := ⟨S32x20000, .f32⟩) main_call4_v7) (TRef.of (T := ⟨S32x20000x1, .f32⟩) main_call4_v8) (broadcastInDim S32x20000x1 ![0, 1] bcast_S32x20000_S32x20000x1_0_1),
    TRef.unary (TRef.of (T := ⟨S32x20000x1, .f32⟩) main_call4_v8) (TRef.of (T := ⟨S32x20000x1, .f32⟩) main_call4_v9) Host.log,
    TRef.unary (TRef.of (T := ⟨S32x20000x1, .f32⟩) main_call4_v9) (TRef.of (T := ⟨S32x20000x21, .f32⟩) main_call4_v10) (broadcastInDim S32x20000x21 ![0, 1, 2] bcast_S32x20000x1_S32x20000x21_0_1_2),
    TRef.binary (TRef.of (T := ⟨S32x20000x21, .f32⟩) main_call4_v5) (TRef.of (T := ⟨S32x20000x21, .f32⟩) main_call4_v10) (TRef.of (T := ⟨S32x20000x21, .f32⟩) main_v179) subf,
    unary main_v135 main_v180 (broadcastInDim S32x20000x1 ![0, 1] bcast_S32x20000_S32x20000x1_0_1 : (⟨S32x20000, .i32⟩ : BufTy).Contents (Elt F) → (⟨S32x20000x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S32x20000x1, .i32⟩) main_call5_v0) (broadcastInDim S32x20000x1 ![] bcast_S_S32x20000x1),
    TRef.binary (TRef.of (T := ⟨S32x20000x1, .i32⟩) main_v180) (TRef.of (T := ⟨S32x20000x1, .i32⟩) main_call5_v0) (TRef.of (T := ⟨S32x20000x1, .i1⟩) main_call5_v1) (cmpi .slt),
    TRef.nullary (TRef.of (T := ⟨S_, .i32⟩) main_call5_c_0) (constantI S_ 32 21#32),
    TRef.unary (TRef.of (T := ⟨S_, .i32⟩) main_call5_c_0) (TRef.of (T := ⟨S32x20000x1, .i32⟩) main_call5_v2) (broadcastInDim S32x20000x1 ![] bcast_S_S32x20000x1),
    TRef.binary (TRef.of (T := ⟨S32x20000x1, .i32⟩) main_v180) (TRef.of (T := ⟨S32x20000x1, .i32⟩) main_call5_v2) (TRef.of (T := ⟨S32x20000x1, .i32⟩) main_call5_v3) addi,
    TRef.ternary (TRef.of (T := ⟨S32x20000x1, .i1⟩) main_call5_v1) (TRef.of (T := ⟨S32x20000x1, .i32⟩) main_call5_v3) (TRef.of (T := ⟨S32x20000x1, .i32⟩) main_v180) (TRef.of (T := ⟨S32x20000x1, .i32⟩) main_call5_v4) select,
    TRef.reshape (TRef.of (T := ⟨S32x20000x1, .i32⟩) main_call5_v4) (TRef.of (T := ⟨S32x20000x1x1, .i32⟩) main_call5_v5) (rfl : (.i32 : EltTy) = .i32) shapeCasts_S32x20000x1_S32x20000x1x1,
    TRef.nullary (TRef.of (T := ⟨S1, .i32⟩) main_call5_c_1) (constantI S1 32 20#32),
    TRef.nullary (TRef.of (T := ⟨S_, .i32⟩) main_call5_c_2) (constantI S_ 32 0#32),
    TRef.unary (TRef.of (T := ⟨S_, .i32⟩) main_call5_c_2) (TRef.of (T := ⟨S32x20000x1x1, .i32⟩) main_call5_v6) (broadcastInDim S32x20000x1x1 ![] bcast_S_S32x20000x1x1),
    TRef.binary (TRef.of (T := ⟨S32x20000x1x1, .i32⟩) main_call5_v5) (TRef.of (T := ⟨S32x20000x1x1, .i32⟩) main_call5_v6) (TRef.of (T := ⟨S32x20000x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3) ]

/-- @main's operations 251 … 280 of 298 (window `main_part3`). -/
abbrev ops_part3_2 : List (HloOp τ sig (Elt F)) :=
  [ TRef.unary (TRef.of (T := ⟨S1x1x1x1, .i32⟩) main_call5_v8) (TRef.of (T := ⟨S32x20000x1x1, .i32⟩) main_call5_v9) (broadcastInDim S32x20000x1x1 ![0, 1, 2, 3] bcast_S1x1x1x1_S32x20000x1x1_0_1_2_3),
    TRef.binary (TRef.of (T := ⟨S32x20000x1x1, .i32⟩) main_call5_v5) (TRef.of (T := ⟨S32x20000x1x1, .i32⟩) main_call5_v9) (TRef.of (T := ⟨S32x20000x1x1, .i1⟩) main_call5_v10) (cmpi .sle),
    TRef.binary (TRef.of (T := ⟨S32x20000x1x1, .i1⟩) main_call5_v7) (TRef.of (T := ⟨S32x20000x1x1, .i1⟩) main_call5_v10) (TRef.of (T := ⟨S32x20000x1x1, .i1⟩) main_call5_v11) andi,
    TRef.nullary (TRef.of (T := ⟨S_, .i1⟩) main_call5_c_3) (constantI S_ 1 1#1),
    TRef.binary (TRef.of (T := ⟨S32x20000x1x1, .i1⟩) main_call5_v11) (TRef.of (T := ⟨S_, .i1⟩) main_call5_c_3) (TRef.of (T := ⟨S32x20000x1, .i1⟩) main_call5_v12) (fun x v => Host.reduce IntOp.andi x v reducesTo_S32x20000x1x1_S32x20000x1_d3 h_S_),
    TRef.binary (TRef.of (T := ⟨S32x20000x21, .f32⟩) main_v179) (TRef.of (T := ⟨S32x20000x1x1, .i32⟩) main_call5_v5) (TRef.of (T := ⟨S32x20000x1, .f32⟩) main_call5_v13) (fun x i => Host.gather gather_S32x20000x21_S32x20000x1x1_S32x20000x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S32x20000x1, .f32⟩) main_call5_v14) (broadcastInDim S32x20000x1 ![] bcast_S_S32x20000x1),
    TRef.ternary (TRef.of (T := ⟨S32x20000x1, .i1⟩) main_call5_v12) (TRef.of (T := ⟨S32x20000x1, .f32⟩) main_call5_v13) (TRef.of (T := ⟨S32x20000x1, .f32⟩) main_call5_v14) (TRef.of (T := ⟨S32x20000x1, .f32⟩) main_v181) select,
    reshape main_v181 main_v182 (rfl : (.f32 : EltTy) = .f32) shapeCasts_S32x20000x1_S32x20000,
    unary main_v182 main_v183 (Host.negf : (⟨S32x20000, .f32⟩ : BufTy).Contents (Elt F) → (⟨S32x20000, .f32⟩ : BufTy).Contents (Elt F)),
    unary main_v163 main_v184 (uitofp .f32 : (⟨S32x20000, .i1⟩ : BufTy).Contents (Elt F) → (⟨S32x20000, .f32⟩ : BufTy).Contents (Elt F)),
    binary main_v183 main_v184 main_v185 (mulf : (⟨S32x20000, .f32⟩ : BufTy).Contents (Elt F) → (⟨S32x20000, .f32⟩ : BufTy).Contents (Elt F) → (⟨S32x20000, .f32⟩ : BufTy).Contents (Elt F)),
    nullary main_cst_30 (constant S_ .f32 0x00000000#32),
    binary main_v185 main_cst_30 main_v186 ((fun x v => Host.reduceAdd x v reducesTo_S32x20000_S_d0_1 h_S_) : (⟨S32x20000, .f32⟩ : BufTy).Contents (Elt F) → (⟨S_, .f32⟩ : BufTy).Contents (Elt F) → (⟨S_, .f32⟩ : BufTy).Contents (Elt F)),
    unary main_v163 main_v187 ((extui 32 · natLt_1_32) : (⟨S32x20000, .i1⟩ : BufTy).Contents (Elt F) → (⟨S32x20000, .i32⟩ : BufTy).Contents (Elt F)),
    nullary main_c_31 (constantI S_ 32 0#32),
    binary main_v187 main_c_31 main_v188 ((fun x v => Host.reduce IntOp.addi x v reducesTo_S32x20000_S32_d1 h_S_) : (⟨S32x20000, .i32⟩ : BufTy).Contents (Elt F) → (⟨S_, .i32⟩ : BufTy).Contents (Elt F) → (⟨S32, .i32⟩ : BufTy).Contents (Elt F)),
    unary main_v188 main_v189 (broadcastInDim S32x1 ![0] bcast_S32_S32x1_0 : (⟨S32, .i32⟩ : BufTy).Contents (Elt F) → (⟨S32x1, .i32⟩ : BufTy).Contents (Elt F)),
    nullary main_c_32 (constantI S_ 32 3#32),
    unary main_c_32 main_v190 (broadcastInDim S32x1 ![] bcast_S_S32x1 : (⟨S_, .i32⟩ : BufTy).Contents (Elt F) → (⟨S32x1, .i32⟩ : BufTy).Contents (Elt F)),
    binary main_v190 main_v189 main_v191 (muli : (⟨S32x1, .i32⟩ : BufTy).Contents (Elt F) → (⟨S32x1, .i32⟩ : BufTy).Contents (Elt F) → (⟨S32x1, .i32⟩ : BufTy).Contents (Elt F)),
    nullary main_c_33 (constantI S_ 32 19999#32),
    unary main_c_33 main_v192 (broadcastInDim S32x1 ![] bcast_S_S32x1 : (⟨S_, .i32⟩ : BufTy).Contents (Elt F) → (⟨S32x1, .i32⟩ : BufTy).Contents (Elt F)),
    binary main_v191 main_v192 main_v193 (minsi : (⟨S32x1, .i32⟩ : BufTy).Contents (Elt F) → (⟨S32x1, .i32⟩ : BufTy).Contents (Elt F) → (⟨S32x1, .i32⟩ : BufTy).Contents (Elt F)),
    unary main_v163 main_v194 (uitofp .f32 : (⟨S32x20000, .i1⟩ : BufTy).Contents (Elt F) → (⟨S32x20000, .f32⟩ : BufTy).Contents (Elt F)),
    nullary main_cst_34 (constant S_ .f32 0x3F800000#32),
    unary main_cst_34 main_v195 (broadcastInDim S32x20000 ![] bcast_S_S32x20000 : (⟨S_, .f32⟩ : BufTy).Contents (Elt F) → (⟨S32x20000, .f32⟩ : BufTy).Contents (Elt F)),
    binary main_v195 main_v194 main_v196 (subf : (⟨S32x20000, .f32⟩ : BufTy).Contents (Elt F) → (⟨S32x20000, .f32⟩ : BufTy).Contents (Elt F) → (⟨S32x20000, .f32⟩ : BufTy).Contents (Elt F)),
    binary main_v183 main_v196 main_v197 (mulf : (⟨S32x20000, .f32⟩ : BufTy).Contents (Elt F) → (⟨S32x20000, .f32⟩ : BufTy).Contents (Elt F) → (⟨S32x20000, .f32⟩ : BufTy).Contents (Elt F)) ]

/-- @main's operations 281 … 285 of 298 (window `main_part3`). -/
abbrev ops_part3_3 : List (HloOp τ sig (Elt F)) :=
  [ unary main_v197 main_v198 (Host.negf : (⟨S32x20000, .f32⟩ : BufTy).Contents (Elt F) → (⟨S32x20000, .f32⟩ : BufTy).Contents (Elt F)),
    TRef.unary (TRef.of (T := ⟨S32x20000, .f32⟩) main_v198) (TRef.of (T := ⟨S32x20000, .f32⟩) main_v199) (fun x => Host.sort S32x20000 1 comparator_f32_d1 x),
    unary main_v199 main_v200 (Host.negf : (⟨S32x20000, .f32⟩ : BufTy).Contents (Elt F) → (⟨S32x20000, .f32⟩ : BufTy).Contents (Elt F)),
    nullary main_v201 (iotaInDim S20000 32 0),
    unary main_v201 main_v202 (broadcastInDim S1x20000 ![1] bcast_S20000_S1x20000_1 : (⟨S20000, .i32⟩ : BufTy).Contents (Elt F) → (⟨S1x20000, .i32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2 ++ (ops_part3_3)))

/-- @main's operations 286 … 298 of 298 (window `main_part4`). -/
abbrev ops_part4 : List (HloOp τ sig (Elt F)) :=
  [ unary main_v202 main_v203 (broadcastInDim S32x20000 ![0, 1] bcast_S1x20000_S32x20000_0_1 : (⟨S1x20000, .i32⟩ : BufTy).Contents (Elt F) → (⟨S32x20000, .i32⟩ : BufTy).Contents (Elt F)),
    unary main_v193 main_v204 (broadcastInDim S32x20000 ![0, 1] bcast_S32x1_S32x20000_0_1 : (⟨S32x1, .i32⟩ : BufTy).Contents (Elt F) → (⟨S32x20000, .i32⟩ : BufTy).Contents (Elt F)),
    binary main_v203 main_v204 main_v205 (cmpi .slt : (⟨S32x20000, .i32⟩ : BufTy).Contents (Elt F) → (⟨S32x20000, .i32⟩ : BufTy).Contents (Elt F) → (⟨S32x20000, .i1⟩ : BufTy).Contents (Elt F)),
    unary main_v205 main_v206 (uitofp .f32 : (⟨S32x20000, .i1⟩ : BufTy).Contents (Elt F) → (⟨S32x20000, .f32⟩ : BufTy).Contents (Elt F)),
    binary main_v200 main_v206 main_v207 (mulf : (⟨S32x20000, .f32⟩ : BufTy).Contents (Elt F) → (⟨S32x20000, .f32⟩ : BufTy).Contents (Elt F) → (⟨S32x20000, .f32⟩ : BufTy).Contents (Elt F)),
    nullary main_cst_35 (constant S_ .f32 0x00000000#32),
    binary main_v207 main_cst_35 main_v208 ((fun x v => Host.reduceAdd x v reducesTo_S32x20000_S_d0_1 h_S_) : (⟨S32x20000, .f32⟩ : BufTy).Contents (Elt F) → (⟨S_, .f32⟩ : BufTy).Contents (Elt F) → (⟨S_, .f32⟩ : BufTy).Contents (Elt F)),
    nullary main_c_36 (constantI S_ 32 0#32),
    binary main_v189 main_c_36 main_v209 ((fun x v => Host.reduce IntOp.addi x v reducesTo_S32x1_S_d0_1 h_S_) : (⟨S32x1, .i32⟩ : BufTy).Contents (Elt F) → (⟨S_, .i32⟩ : BufTy).Contents (Elt F) → (⟨S_, .i32⟩ : BufTy).Contents (Elt F)),
    unary main_v209 main_v210 (sitofp .f32 : (⟨S_, .i32⟩ : BufTy).Contents (Elt F) → (⟨S_, .f32⟩ : BufTy).Contents (Elt F)),
    binary main_v178 main_v210 main_v211 (Host.divf : (⟨S_, .f32⟩ : BufTy).Contents (Elt F) → (⟨S_, .f32⟩ : BufTy).Contents (Elt F) → (⟨S_, .f32⟩ : BufTy).Contents (Elt F)),
    binary main_v186 main_v208 main_v212 (addf : (⟨S_, .f32⟩ : BufTy).Contents (Elt F) → (⟨S_, .f32⟩ : BufTy).Contents (Elt F) → (⟨S_, .f32⟩ : BufTy).Contents (Elt F)),
    binary main_v212 main_v210 main_v213 (Host.divf : (⟨S_, .f32⟩ : BufTy).Contents (Elt F) → (⟨S_, .f32⟩ : BufTy).Contents (Elt F) → (⟨S_, .f32⟩ : BufTy).Contents (Elt F)) ]

/-- @main's 298 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨binary_bufs_sub .., unary_bufs_sub .., unary_bufs_sub .., unary_bufs_sub .., binary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., ternary_bufs_sub .., nullary_bufs_sub .., unary_bufs_sub .., binary_bufs_sub .., nullary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., unary_bufs_sub .., binary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., binary_bufs_sub ..⟩
set_option maxRecDepth 8192 in
theorem ops_part2_2_fresh : (ops_part2_2 : List (HloOp τ sig (Elt F))).Forall fun op => op.fresh = ∅ :=
  ⟨rfl, rfl⟩
set_option maxRecDepth 8192 in
theorem ops_part3_0_sub : (ops_part3_0 : List (HloOp τ sig (Elt F))).Forall fun op => op.bufs ⊆ tcRefs τ sig :=
  ⟨unary_bufs_sub .., unary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., binary_bufs_sub .., nullary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩
set_option maxRecDepth 8192 in
theorem ops_part3_2_fresh : (ops_part3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_3_sub : (ops_part3_3 : List (HloOp τ sig (Elt F))).Forall fun op => op.bufs ⊆ tcRefs τ sig :=
  ⟨unary_bufs_sub .., unary_bufs_sub .., unary_bufs_sub .., nullary_bufs_sub .., unary_bufs_sub ..⟩
set_option maxRecDepth 8192 in
theorem ops_part3_3_fresh : (ops_part3_3 : List (HloOp τ sig (Elt F))).Forall fun op => op.fresh = ∅ :=
  ⟨rfl, rfl, rfl, rfl, rfl⟩
set_option maxRecDepth 8192 in
theorem ops_part4_sub : (ops_part4 : List (HloOp τ sig (Elt F))).Forall fun op => op.bufs ⊆ tcRefs τ sig :=
  ⟨unary_bufs_sub .., unary_bufs_sub .., binary_bufs_sub .., unary_bufs_sub .., binary_bufs_sub .., nullary_bufs_sub .., binary_bufs_sub .., nullary_bufs_sub .., binary_bufs_sub .., unary_bufs_sub .., binary_bufs_sub .., binary_bufs_sub .., binary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, ops_part2, ops_part3, List.mem_append, or_assoc] at h
    rcases h with h | h | h | h | h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part3_3_sub op h, List.forall_iff_forall_mem.mp ops_part4_sub op h]
theorem ops_fresh : ∀ op ∈ (ops : List (HloOp τ sig (Elt F))), op.fresh = ∅ := fun op h => by
    simp only [ops, ops_part1, ops_part2, ops_part3, List.mem_append, or_assoc] at h
    rcases h with h | h | h | h | h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part3_3_fresh op h, List.forall_iff_forall_mem.mp ops_part4_fresh op h]

end Cert.ReferenceIdeal.Value

end
-- ==== Proof.RefTerms.lean ====
module

public import proofs.«01_k».proof.Proof.RefOps

/-
  The reference's intermediate arrays as terms of the arguments' contents, each one used several times named.
-/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v1`'s composed term of the arguments (named: it is used 12 times). -/
def res_main_v1 (V0 : Valuation τ sig (Elt F)) : (Proc.devRef .tc main_v1 : DevRef τ sig).ty.Contents (Elt F) :=
  broadcastInDim S32x1 ![0] bcast_S32_S32x1_0 (iotaInDim S32 32 0)

set_option maxRecDepth 8192 in
/-- `main_v12`'s composed term of the arguments (named: it is used 6 times). -/
def res_main_v12 (V0 : Valuation τ sig (Elt F)) : (Proc.devRef .tc main_v12 : DevRef τ sig).ty.Contents (Elt F) :=
  concatenate S20000x4 1 [⟨S20000x2, (subf (extractStridedSlice S20000x2 ![0, 0] (V0 (Proc.devRef .tc main_arg2)) slices_S20000x4_S20000x2_0_0) (Host.divf (extractStridedSlice S20000x2 ![0, 2] (V0 (Proc.devRef .tc main_arg2)) slices_S20000x4_S20000x2_0_2) (broadcastInDim S20000x2 ![] bcast_S_S20000x2 (constant S_ .f32 0x40000000#32))))⟩, ⟨S20000x2, (addf (extractStridedSlice S20000x2 ![0, 0] (V0 (Proc.devRef .tc main_arg2)) slices_S20000x4_S20000x2_0_0) (Host.divf (extractStridedSlice S20000x2 ![0, 2] (V0 (Proc.devRef .tc main_arg2)) slices_S20000x4_S20000x2_0_2) (broadcastInDim S20000x2 ![] bcast_S_S20000x2 (constant S_ .f32 0x40000000#32))))⟩] concatenates_S20000x2_S20000x2_S20000x4_d1

set_option maxRecDepth 8192 in
/-- `main_v29`'s composed term of the arguments (named: it is used 2 times). -/
def res_main_v29 (V0 : Valuation τ sig (Elt F)) : (Proc.devRef .tc main_v29 : DevRef τ sig).ty.Contents (Elt F) :=
  maximumf (subf (minimumf (broadcastInDim S32x24x20000x2 ![0, 1, 2, 3] bcast_S32x24x1x2_S32x24x20000x2_0_1_2_3 (broadcastInDim S32x24x1x2 ![0, 1, 3] bcast_S32x24x2_S32x24x1x2_0_1_3 (extractStridedSlice S32x24x2 ![0, 0, 2] (V0 (Proc.devRef .tc main_arg3)) slices_S32x24x4_S32x24x2_0_0_2))) (broadcastInDim S32x24x20000x2 ![0, 1, 2, 3] bcast_S1x1x20000x2_S32x24x20000x2_0_1_2_3 (broadcastInDim S1x1x20000x2 ![2, 3] bcast_S20000x2_S1x1x20000x2_2_3 (extractStridedSlice S20000x2 ![0, 2] (res_main_v12 V0) slices_S20000x4_S20000x2_0_2)))) (maximumf (broadcastInDim S32x24x20000x2 ![0, 1, 2, 3] bcast_S32x24x1x2_S32x24x20000x2_0_1_2_3 (broadcastInDim S32x24x1x2 ![0, 1, 3] bcast_S32x24x2_S32x24x1x2_0_1_3 (extractStridedSlice S32x24x2 ![0, 0, 0] (V0 (Proc.devRef .tc main_arg3)) slices_S32x24x4_S32x24x2_0_0_0))) (broadcastInDim S32x24x20000x2 ![0, 1, 2, 3] bcast_S1x1x20000x2_S32x24x20000x2_0_1_2_3 (broadcastInDim S1x1x20000x2 ![2, 3] bcast_S20000x2_S1x1x20000x2_2_3 (extractStridedSlice S20000x2 ![0, 0] (res_main_v12 V0) slices_S20000x4_S20000x2_0_0))))) (broadcastInDim S32x24x20000x2 ![] bcast_S_S32x24x20000x2 (constant S_ .f32 0x00000000#32))

set_option maxRecDepth 8192 in
/-- `main_v34`'s composed term of the arguments (named: it is used 2 times). -/
def res_main_v34 (V0 : Valuation τ sig (Elt F)) : (Proc.devRef .tc main_v34 : DevRef τ sig).ty.Contents (Elt F) :=
  mulf (shapeCast _ (extractStridedSlice S32x24x20000x1 ![0, 0, 0, 0] (res_main_v29 V0) slices_S32x24x20000x2_S32x24x20000x1_0_0_0_0) shapeCasts_S32x24x20000x1_S32x24x20000) (shapeCast _ (extractStridedSlice S32x24x20000x1 ![0, 0, 0, 1] (res_main_v29 V0) slices_S32x24x20000x2_S32x24x20000x1_0_0_0_1) shapeCasts_S32x24x20000x1_S32x24x20000)

set_option maxRecDepth 8192 in
/-- `main_v63`'s composed term of the arguments (named: it is used 5 times). -/
def res_main_v63 (V0 : Valuation τ sig (Elt F)) : (Proc.devRef .tc main_v63 : DevRef τ sig).ty.Contents (Elt F) :=
  Host.divf (res_main_v34 V0) (subf (addf (broadcastInDim S32x24x20000 ![0, 1, 2] bcast_S32x24x1_S32x24x20000_0_1_2 (broadcastInDim S32x24x1 ![0, 1] bcast_S32x24_S32x24x1_0_1 (mulf (subf (shapeCast _ (extractStridedSlice S32x24x1 ![0, 0, 2] (V0 (Proc.devRef .tc main_arg3)) slices_S32x24x4_S32x24x1_0_0_2) shapeCasts_S32x24x1_S32x24) (shapeCast _ (extractStridedSlice S32x24x1 ![0, 0, 0] (V0 (Proc.devRef .tc main_arg3)) slices_S32x24x4_S32x24x1_0_0_0) shapeCasts_S32x24x1_S32x24)) (subf (shapeCast _ (extractStridedSlice S32x24x1 ![0, 0, 3] (V0 (Proc.devRef .tc main_arg3)) slices_S32x24x4_S32x24x1_0_0_3) shapeCasts_S32x24x1_S32x24) (shapeCast _ (extractStridedSlice S32x24x1 ![0, 0, 1] (V0 (Proc.devRef .tc main_arg3)) slices_S32x24x4_S32x24x1_0_0_1) shapeCasts_S32x24x1_S32x24))))) (broadcastInDim S32x24x20000 ![0, 1, 2] bcast_S1x1x20000_S32x24x20000_0_1_2 (broadcastInDim S1x1x20000 ![2] bcast_S20000_S1x1x20000_2 (mulf (subf (shapeCast _ (extractStridedSlice S20000x1 ![0, 2] (res_main_v12 V0) slices_S20000x4_S20000x1_0_2) shapeCasts_S20000x1_S20000) (shapeCast _ (extractStridedSlice S20000x1 ![0, 0] (res_main_v12 V0) slices_S20000x4_S20000x1_0_0) shapeCasts_S20000x1_S20000)) (subf (shapeCast _ (extractStridedSlice S20000x1 ![0, 3] (res_main_v12 V0) slices_S20000x4_S20000x1_0_3) shapeCasts_S20000x1_S20000) (shapeCast _ (extractStridedSlice S20000x1 ![0, 1] (res_main_v12 V0) slices_S20000x4_S20000x1_0_1) shapeCasts_S20000x1_S20000)))))) (res_main_v34 V0))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S32x24x20000 32 2

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v64`'s composed term of the arguments (named: it is used 6 times). -/
def res_main_v64 (V0 : Valuation τ sig (Elt F)) : (Proc.devRef .tc main_v64 : DevRef τ sig).ty.Contents (Elt F) :=
  (fun j => (Host.argReduce reducer_argmax_f32_i32 (res_main_v63 V0) (res_main_call0_v0 V0) (res_main_call0_cst V0) (res_main_call0_c V0) reducesTo_S32x24x20000_S32x24_d2 h_S_ j).2)

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S32x24x20000 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v100`'s composed term of the arguments (named: it is used 6 times). -/
def res_main_v100 (V0 : Valuation τ sig (Elt F)) : (Proc.devRef .tc main_v100 : DevRef τ sig).ty.Contents (Elt F) :=
  Host.scatter scatter_S32x20000_S32x24x2_S32x24_n_01_01_2 (fun _ b => b) ((fun j => (Host.argReduce reducer_argmax_f32_i32 (res_main_v63 V0) (res_main_call1_v0 V0) (res_main_call1_cst V0) (res_main_call1_c V0) reducesTo_S32x24x20000_S32x20000_d1 h_S_ j).2)) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![0, 1] bcast_S1x24_S32x24_0_1 (broadcastInDim S1x24 ![1] bcast_S24_S1x24_1 (iotaInDim S24 32 0)))

set_option maxRecDepth 8192 in
/-- `main_v115`'s composed term of the arguments (named: it is used 4 times). -/
def res_main_v115 (V0 : Valuation τ sig (Elt F)) : (Proc.devRef .tc main_v115 : DevRef τ sig).ty.Contents (Elt F) :=
  Host.gather gather_S32x24x4_S32x20000x2_S32x20000x4_2_01_n_n_01_2_114 (V0 (Proc.devRef .tc main_arg3)) (concatenate S32x20000x2 2 [⟨S32x20000x1, (broadcastInDim S32x20000x1 ![0, 1] bcast_S32x20000_S32x20000x1_0_1 (broadcastInDim S32x20000 ![0, 1] bcast_S32x1_S32x20000_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x20000x1, (broadcastInDim S32x20000x1 ![0, 1] bcast_S32x20000_S32x20000x1_0_1 (select (cmpi .slt (res_main_v100 V0) (broadcastInDim S32x20000 ![] bcast_S_S32x20000 (constantI S_ 32 0#32))) (addi (res_main_v100 V0) (broadcastInDim S32x20000 ![] bcast_S_S32x20000 (constantI S_ 32 24#32))) (res_main_v100 V0)))⟩] concatenates_S32x20000x1_S32x20000x1_S32x20000x2_d2)

set_option maxRecDepth 8192 in
/-- `main_v135`'s composed term of the arguments (named: it is used 2 times). -/
def res_main_v135 (V0 : Valuation τ sig (Elt F)) : (Proc.devRef .tc main_v135 : DevRef τ sig).ty.Contents (Elt F) :=
  select (cmpf .olt (Host.scatter scatter_S32x20000_S32x24x2_S32x24_n_01_01_2 (fun _ b => b) (Host.reduce FloatOps.maximumf (res_main_v63 V0) (constant S_ .f32 0xFF800000#32) reducesTo_S32x24x20000_S32x20000_d1 h_S_) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![] bcast_S_S32x24 (constant S_ .f32 0x40000000#32))) (broadcastInDim S32x20000 ![] bcast_S_S32x20000 (constant S_ .f32 0x3F000000#32))) (broadcastInDim S32x20000 ![] bcast_S_S32x20000 (id (constantI S_ 32 0#32))) (addi (Host.gather gather_S32x24_S32x20000x2_S32x20000_n_01_n_n_01_2_11 (V0 (Proc.devRef .tc main_arg4)) (concatenate S32x20000x2 2 [⟨S32x20000x1, (broadcastInDim S32x20000x1 ![0, 1] bcast_S32x20000_S32x20000x1_0_1 (broadcastInDim S32x20000 ![0, 1] bcast_S32x1_S32x20000_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x20000x1, (broadcastInDim S32x20000x1 ![0, 1] bcast_S32x20000_S32x20000x1_0_1 (select (cmpi .slt (res_main_v100 V0) (broadcastInDim S32x20000 ![] bcast_S_S32x20000 (constantI S_ 32 0#32))) (addi (res_main_v100 V0) (broadcastInDim S32x20000 ![] bcast_S_S32x20000 (constantI S_ 32 24#32))) (res_main_v100 V0)))⟩] concatenates_S32x20000x1_S32x20000x1_S32x20000x2_d2)) (broadcastInDim S32x20000 ![] bcast_S_S32x20000 (constantI S_ 32 1#32)))

set_option maxRecDepth 8192 in
/-- `main_v163`'s composed term of the arguments (named: it is used 4 times). -/
def res_main_v163 (V0 : Valuation τ sig (Elt F)) : (Proc.devRef .tc main_v163 : DevRef τ sig).ty.Contents (Elt F) :=
  cmpi .ne (res_main_v135 V0) (broadcastInDim S32x20000 ![] bcast_S_S32x20000 (constantI S_ 32 0#32))

set_option maxRecDepth 8192 in
/-- `main_v164`'s composed term of the arguments (named: it is used 3 times). -/
def res_main_v164 (V0 : Valuation τ sig (Elt F)) : (Proc.devRef .tc main_v164 : DevRef τ sig).ty.Contents (Elt F) :=
  subf (V0 (Proc.devRef .tc main_arg0)) (concatenate S32x20000x4 2 [⟨S32x20000x2, (Host.divf (subf (Host.divf (addf (extractStridedSlice S32x20000x2 ![0, 0, 0] (res_main_v115 V0) slices_S32x20000x4_S32x20000x2_0_0_0) (extractStridedSlice S32x20000x2 ![0, 0, 2] (res_main_v115 V0) slices_S32x20000x4_S32x20000x2_0_0_2)) (broadcastInDim S32x20000x2 ![] bcast_S_S32x20000x2 (constant S_ .f32 0x40000000#32))) (broadcastInDim S32x20000x2 ![0, 1, 2] bcast_S1x20000x2_S32x20000x2_0_1_2 (broadcastInDim S1x20000x2 ![1, 2] bcast_S20000x2_S1x20000x2_1_2 (extractStridedSlice S20000x2 ![0, 0] (V0 (Proc.devRef .tc main_arg2)) slices_S20000x4_S20000x2_0_0)))) (broadcastInDim S32x20000x2 ![0, 1, 2] bcast_S1x20000x2_S32x20000x2_0_1_2 (mulf (broadcastInDim S1x20000x2 ![] bcast_S_S1x20000x2 (constant S_ .f32 0x3DCCCCCD#32)) (broadcastInDim S1x20000x2 ![1, 2] bcast_S20000x2_S1x20000x2_1_2 (extractStridedSlice S20000x2 ![0, 2] (V0 (Proc.devRef .tc main_arg2)) slices_S20000x4_S20000x2_0_2)))))⟩, ⟨S32x20000x2, (Host.divf (Host.log (Host.divf (subf (extractStridedSlice S32x20000x2 ![0, 0, 2] (res_main_v115 V0) slices_S32x20000x4_S32x20000x2_0_0_2) (extractStridedSlice S32x20000x2 ![0, 0, 0] (res_main_v115 V0) slices_S32x20000x4_S32x20000x2_0_0_0)) (broadcastInDim S32x20000x2 ![0, 1, 2] bcast_S1x20000x2_S32x20000x2_0_1_2 (broadcastInDim S1x20000x2 ![1, 2] bcast_S20000x2_S1x20000x2_1_2 (extractStridedSlice S20000x2 ![0, 2] (V0 (Proc.devRef .tc main_arg2)) slices_S20000x4_S20000x2_0_2))))) (broadcastInDim S32x20000x2 ![] bcast_S_S32x20000x2 (constant S_ .f32 0x3E4CCCCD#32)))⟩] concatenates_S32x20000x2_S32x20000x2_S32x20000x4_d2)

set_option maxRecDepth 8192 in
/-- `main_v165`'s composed term of the arguments (named: it is used 2 times). -/
def res_main_v165 (V0 : Valuation τ sig (Elt F)) : (Proc.devRef .tc main_v165 : DevRef τ sig).ty.Contents (Elt F) :=
  Host.absf (res_main_v164 V0)

set_option maxRecDepth 8192 in
/-- `main_call4_v5`'s composed term of the arguments (named: it is used 2 times). -/
def res_main_call4_v5 (V0 : Valuation τ sig (Elt F)) : (Proc.devRef .tc main_call4_v5 : DevRef τ sig).ty.Contents (Elt F) :=
  subf (V0 (Proc.devRef .tc main_arg1)) (broadcastInDim S32x20000x21 ![0, 1, 2] bcast_S32x20000x1_S32x20000x21_0_1_2 (broadcastInDim S32x20000x1 ![0, 1] bcast_S32x20000_S32x20000x1_0_1 (maximumf (broadcastInDim S32x20000 ![] bcast_S_S32x20000 (constant S_ .f32 0xFF800000#32)) (Host.reduce FloatOps.maximumf (V0 (Proc.devRef .tc main_arg1)) (constant S_ .f32 0xFF800000#32) reducesTo_S32x20000x21_S32x20000_d2 h_S_))))

set_option maxRecDepth 8192 in
/-- `main_v180`'s composed term of the arguments (named: it is used 3 times). -/
def res_main_v180 (V0 : Valuation τ sig (Elt F)) : (Proc.devRef .tc main_v180 : DevRef τ sig).ty.Contents (Elt F) :=
  broadcastInDim S32x20000x1 ![0, 1] bcast_S32x20000_S32x20000x1_0_1 (res_main_v135 V0)

set_option maxRecDepth 8192 in
/-- `main_call5_v5`'s composed term of the arguments (named: it is used 3 times). -/
def res_main_call5_v5 (V0 : Valuation τ sig (Elt F)) : (Proc.devRef .tc main_call5_v5 : DevRef τ sig).ty.Contents (Elt F) :=
  shapeCast _ (select (cmpi .slt (res_main_v180 V0) (broadcastInDim S32x20000x1 ![] bcast_S_S32x20000x1 (constantI S_ 32 0#32))) (addi (res_main_v180 V0) (broadcastInDim S32x20000x1 ![] bcast_S_S32x20000x1 (constantI S_ 32 21#32))) (res_main_v180 V0)) shapeCasts_S32x20000x1_S32x20000x1x1

set_option maxRecDepth 8192 in
/-- `main_v183`'s composed term of the arguments (named: it is used 2 times). -/
def res_main_v183 (V0 : Valuation τ sig (Elt F)) : (Proc.devRef .tc main_v183 : DevRef τ sig).ty.Contents (Elt F) :=
  Host.negf (shapeCast _ (select (Host.reduce IntOp.andi (andi (cmpi .sge (res_main_call5_v5 V0) (broadcastInDim S32x20000x1x1 ![] bcast_S_S32x20000x1x1 (constantI S_ 32 0#32))) (cmpi .sle (res_main_call5_v5 V0) (broadcastInDim S32x20000x1x1 ![0, 1, 2, 3] bcast_S1x1x1x1_S32x20000x1x1_0_1_2_3 (broadcastInDim S1x1x1x1 ![3] bcast_S1_S1x1x1x1_3 (constantI S1 32 20#32))))) (constantI S_ 1 1#1) reducesTo_S32x20000x1x1_S32x20000x1_d3 h_S_) (Host.gather gather_S32x20000x21_S32x20000x1x1_S32x20000x1_n_2_01_01_2_3_111 (subf (res_main_call4_v5 V0) (broadcastInDim S32x20000x21 ![0, 1, 2] bcast_S32x20000x1_S32x20000x21_0_1_2 (Host.log (broadcastInDim S32x20000x1 ![0, 1] bcast_S32x20000_S32x20000x1_0_1 (Host.reduceAdd (Host.exp (res_main_call4_v5 V0)) (constant S_ .f32 0x00000000#32) reducesTo_S32x20000x21_S32x20000_d2 h_S_))))) (res_main_call5_v5 V0)) (broadcastInDim S32x20000x1 ![] bcast_S_S32x20000x1 (constant S_ .f32 0x7FC00000#32))) shapeCasts_S32x20000x1_S32x20000)

set_option maxRecDepth 8192 in
/-- `main_v189`'s composed term of the arguments (named: it is used 2 times). -/
def res_main_v189 (V0 : Valuation τ sig (Elt F)) : (Proc.devRef .tc main_v189 : DevRef τ sig).ty.Contents (Elt F) :=
  broadcastInDim S32x1 ![0] bcast_S32_S32x1_0 (Host.reduce IntOp.addi (extui 32 (res_main_v163 V0) natLt_1_32) (constantI S_ 32 0#32) reducesTo_S32x20000_S32_d1 h_S_)

set_option maxRecDepth 8192 in
/-- `main_v210`'s composed term of the arguments (named: it is used 2 times). -/
def res_main_v210 (V0 : Valuation τ sig (Elt F)) : (Proc.devRef .tc main_v210 : DevRef τ sig).ty.Contents (Elt F) :=
  sitofp .f32 (Host.reduce IntOp.addi (res_main_v189 V0) (constantI S_ 32 0#32) reducesTo_S32x1_S_d0_1 h_S_)

end Cert.ReferenceIdeal.Value

end
-- ==== Proof.Pick.lean ====
module

public import proofs.«01_k».proof.Proof.Words
public import proofs.«01_k».proof.Proof.Gen.ReferenceIdeal
public import Idealize.ShloMosaic.Lib.ValueIdxCore

/-
  The reference's first greatest place: its fold over pairs (value, place) keeps the greater value and, of equal values, the
  lower place, in whatever order the pairs come; so the place it returns is the first greatest one of the row.
-/

@[expose] public section

noncomputable section

namespace Cert.Loss

open Idealize.ShloMosaic Cert.ReferenceIdeal

/-- One step of the fold: the pair with the greater value, of equal values the one with the lower place. -/
theorem reducer_eq (a b : EReal × BitVec 32) :
    reducer_argmax_f32_i32 (F := Ideal) a b = if b.1 < a.1 ∨ (a.1 = b.1 ∧ a.2.toInt < b.2.toInt) then a else b := by
  obtain ⟨a1, a2⟩ := a
  obtain ⟨b1, b2⟩ := b
  have hs : IntOp.cmpi CmpIPredicate.slt a2 b2 = BitVec.ofBool (decide (a2.toInt < b2.toInt)) := by
    simp [IntOp.cmpi, BitVec.slt]
  have hg : FloatOps.cmpf (F := Ideal) (φ := FTy.f32) CmpFPredicate.ogt a1 b1 = BitVec.ofBool (decide (b1 < a1)) := rfl
  have hu : FloatOps.cmpf (F := Ideal) (φ := FTy.f32) CmpFPredicate.une a1 a1 = BitVec.ofBool false := by
    show BitVec.ofBool (decide (a1 ≠ a1)) = _
    simp
  have he : FloatOps.cmpf (F := Ideal) (φ := FTy.f32) CmpFPredicate.oeq a1 b1 = BitVec.ofBool (decide (a1 = b1)) := rfl
  unfold reducer_argmax_f32_i32
  simp only [hs, hg, hu, he]
  by_cases h1 : b1 < a1
  · by_cases h2 : a1 = b1 <;> by_cases h3 : a2.toInt < b2.toInt <;> simp [h1, h2, h3, Scalar.select, IntOp.ori, IntOp.andi]
  · by_cases h2 : a1 = b1
    · subst h2
      by_cases h3 : a2.toInt < b2.toInt <;> simp [h3, Scalar.select, IntOp.ori, IntOp.andi]
    · by_cases h3 : a2.toInt < b2.toInt <;> simp [h1, h2, h3, Scalar.select, IntOp.ori, IntOp.andi]

/-- `r` is at least as good as `q`: a greater value, or the same value at a place that is not later. -/
def Better (r q : EReal × BitVec 32) : Prop := q.1 < r.1 ∨ (q.1 = r.1 ∧ r.2.toInt ≤ q.2.toInt)

/-- Being at least as good carries over. -/
theorem Better.trans {a b c : EReal × BitVec 32} (h : Better a b) (h' : Better b c) : Better a c := by
  unfold Better at *
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- A step's result is at least as good as both pairs, and is one of them. -/
theorem reducer_spec (a b : EReal × BitVec 32) :
    Better (reducer_argmax_f32_i32 (F := Ideal) a b) a ∧ Better (reducer_argmax_f32_i32 (F := Ideal) a b) b ∧
      (reducer_argmax_f32_i32 (F := Ideal) a b = a ∨ reducer_argmax_f32_i32 (F := Ideal) a b = b) := by
  rw [reducer_eq]
  split
  · rename_i h
    refine ⟨Or.inr ⟨rfl, le_refl _⟩, ?_, Or.inl rfl⟩
    rcases h with h | ⟨h, k⟩
    · exact Or.inl h
    · exact Or.inr ⟨h.symm, k.le⟩
  · rename_i h
    rw [not_or, not_and] at h
    refine ⟨?_, Or.inr ⟨rfl, le_refl _⟩, Or.inr rfl⟩
    rcases (not_lt.1 h.1).lt_or_eq with h1 | h1
    · exact Or.inl h1
    · exact Or.inr ⟨h1, not_lt.1 (h.2 h1)⟩

/-- The fold's result is at least as good as the start and as every pair of the list, and is one of them. -/
theorem foldl_reducer_spec (L : List (EReal × BitVec 32)) (z : EReal × BitVec 32) :
    Better (L.foldl (reducer_argmax_f32_i32 (F := Ideal)) z) z ∧ (∀ q ∈ L, Better (L.foldl (reducer_argmax_f32_i32 (F := Ideal)) z) q) ∧
      (L.foldl (reducer_argmax_f32_i32 (F := Ideal)) z = z ∨ L.foldl (reducer_argmax_f32_i32 (F := Ideal)) z ∈ L) := by
  induction L generalizing z with
  | nil => exact ⟨Or.inr ⟨rfl, le_refl _⟩, by simp, Or.inl rfl⟩
  | cons a L ih =>
    rw [List.foldl_cons]
    obtain ⟨h1, h2, h3⟩ := ih (reducer_argmax_f32_i32 (F := Ideal) z a)
    obtain ⟨s1, s2, s3⟩ := reducer_spec z a
    refine ⟨h1.trans s1, fun q hq => ?_, ?_⟩
    · rcases List.mem_cons.1 hq with rfl | hq
      · exact h1.trans s2
      · exact h2 q hq
    · rcases h3 with h3 | h3
      · rw [h3]
        rcases s3 with s3 | s3
        · exact Or.inl s3
        · exact Or.inr (by rw [s3]; exact List.mem_cons_self)
      · exact Or.inr (List.mem_cons_of_mem _ h3)

/-- Over a list that holds exactly the pairs (`f k`, the word of `k`), from (below everything, zero): the word of the first greatest place. -/
theorem foldl_first {n : ℕ} (hn : n < 2 ^ 31) (f : Fin n → EReal) {i : Fin n} (h : IsFirst f i) (L : List (EReal × BitVec 32))
    (hL : ∀ q, q ∈ L ↔ ∃ k : Fin n, q = (f k, BitVec.ofNat 32 k.val)) :
    (L.foldl (reducer_argmax_f32_i32 (F := Ideal)) (⊥, 0#32)).2 = BitVec.ofNat 32 i.val := by
  obtain ⟨h1, h2, h3⟩ := foldl_reducer_spec L (⊥, 0#32)
  have hin := i.isLt
  have hi := h2 _ ((hL _).2 ⟨i, rfl⟩)
  rcases h3 with h3 | h3
  · rw [h3] at hi ⊢
    rcases hi with hi | ⟨hi, -⟩
    · exact absurd hi not_lt_bot
    · have h0 : i ≤ ⟨0, by omega⟩ := h.2 _ (by
        have hb : f i = ⊥ := hi
        rw [hb]; exact le_bot_iff.1 (hb ▸ h.1 _))
      have : i.val = 0 := Nat.le_zero.1 h0
      rw [this]
  · obtain ⟨k, hk⟩ := (hL _).1 h3
    rw [hk] at hi ⊢
    have hkn := k.isLt
    have hki : f k = f i := by
      rcases hi with hi | ⟨hi, -⟩
      · exact absurd hi (not_lt.2 (h.1 k))
      · exact hi.symm
    have hle : k.val ≤ i.val := by
      rcases hi with hi | ⟨-, hi⟩
      · exact absurd hi (not_lt.2 (h.1 k))
      · simp only at hi
        rw [toInt_small k.val (by omega), toInt_small i.val (by omega)] at hi
        exact_mod_cast hi
    rw [show k = i from le_antisymm hle (h.2 k hki)]

open Idealize.ShloMosaic.ValueIdx in
/-- The fiber of a fold along the last axis holds exactly the pairs along that axis. -/
theorem mem_fiber_last (x : S32x24x20000.Idx → EReal) (y : S32x24x20000.Idx → BitVec 32) (h : S32x24x20000.ReducesTo [2] S32x24)
    (b : Fin 32) (j : Fin 24) (q : EReal × BitVec 32) :
    q ∈ Host.argReduceFiber x y h (ix2 b j) ↔ ∃ k : Fin 20000, q = (x (ix3 b j k), y (ix3 b j k)) := by
  have hd : ∀ (b' : Fin 32) (j' : Fin 24) (k : Fin 20000), h.drop (ix3 b' j' k) = ix2 b' j' := fun b' j' k => by
    exact (eq_ix2 _).trans (congrArg₂ ix2 (Fin.ext (h.drop_apply_val_of_eq _ 0 0)) (Fin.ext (h.drop_apply_val_of_eq _ 1 1)))
  unfold Host.argReduceFiber
  simp only [List.mem_map, List.mem_filter, List.mem_finRange, true_and, decide_eq_true_eq]
  constructor
  · rintro ⟨n, hn, rfl⟩
    obtain ⟨b', j', p', he⟩ : ∃ (b' : Fin 32) (j' : Fin 24) (p' : Fin 20000), S32x24x20000.rowMajor.symm n = ix3 b' j' p' := ⟨_, _, _, eq_ix3 _⟩
    rw [he] at hn ⊢
    rw [hd] at hn
    have h0 : b' = b := congrFun hn 0
    have h1 : j' = j := congrFun hn 1
    subst h0 h1
    exact ⟨p', rfl⟩
  · rintro ⟨k, rfl⟩
    exact ⟨S32x24x20000.rowMajor (ix3 b j k), by rw [Equiv.symm_apply_apply, hd], by rw [Equiv.symm_apply_apply]⟩

open Idealize.ShloMosaic.ValueIdx in
/-- The fiber of a fold along the middle axis holds exactly the pairs along that axis. -/
theorem mem_fiber_mid (x : S32x24x20000.Idx → EReal) (y : S32x24x20000.Idx → BitVec 32) (h : S32x24x20000.ReducesTo [1] S32x20000)
    (b : Fin 32) (p : Fin 20000) (q : EReal × BitVec 32) :
    q ∈ Host.argReduceFiber x y h (ix2 b p) ↔ ∃ k : Fin 24, q = (x (ix3 b k p), y (ix3 b k p)) := by
  have hd : ∀ (b' : Fin 32) (k : Fin 24) (p' : Fin 20000), h.drop (ix3 b' k p') = ix2 b' p' := fun b' k p' => by
    exact (eq_ix2 _).trans (congrArg₂ ix2 (Fin.ext (h.drop_apply_val_of_eq _ 0 0)) (Fin.ext (h.drop_apply_val_of_eq _ 1 2)))
  unfold Host.argReduceFiber
  simp only [List.mem_map, List.mem_filter, List.mem_finRange, true_and, decide_eq_true_eq]
  constructor
  · rintro ⟨n, hn, rfl⟩
    obtain ⟨b', j', p', he⟩ : ∃ (b' : Fin 32) (j' : Fin 24) (p' : Fin 20000), S32x24x20000.rowMajor.symm n = ix3 b' j' p' := ⟨_, _, _, eq_ix3 _⟩
    rw [he] at hn ⊢
    rw [hd] at hn
    have h0 : b' = b := congrFun hn 0
    have h1 : p' = p := congrFun hn 1
    subst h0 h1
    exact ⟨j', rfl⟩
  · rintro ⟨k, rfl⟩
    exact ⟨S32x24x20000.rowMajor (ix3 b k p), by rw [Equiv.symm_apply_apply, hd], by rw [Equiv.symm_apply_apply]⟩

end Cert.Loss
end
-- ==== Proof.RefMatch.lean ====
module

public import proofs.«01_k».proof.Proof.RefTerms
public import proofs.«01_k».proof.Proof.Pick
public import Idealize.ShloMosaic.PureOps.Ideal.Laws
public import Idealize.ShloMosaic.Lib.Pipeline.ValueKit
public import Idealize.ShloMosaic.Lib.ScatterToDense.RefScatter

/-
  The reference's matching: its two greatest places, its two scatters and its two gathers, each read at an index.
-/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Loss

/-- The word of minus infinity reads as the bottom value. -/
theorem bits_bot : Ideal.ofBits FTy.f32 4286578688#32 = (⊥ : EReal) := by simp [Ideal.ofBits, Ideal.ieee]

/-- The place the reference finds along the last axis. -/
theorem arg_last (x : S32x24x20000.Idx → EReal) (b : Fin 32) (j : Fin 24) :
    (Host.argReduce (reducer_argmax_f32_i32 (F := Ideal)) x (iotaInDim S32x24x20000 32 2) (constant (F := Ideal) S_ .f32 0xFF800000#32) (constantI S_ 32 0#32) reducesTo_S32x24x20000_S32x24_d2 h_S_ (ix2 b j)).2
      = BitVec.ofNat 32 (first fun k : Fin 20000 => x (ix3 b j k)).val := by
  rw [Ideal.argReduce_eq_reduce2, Host.reduce2_eq_foldl_fiber]
  refine Eq.trans ?_ (foldl_first (by decide) (fun k : Fin 20000 => x (ix3 b j k)) (first_spec _) _ fun q => mem_fiber_last x (iotaInDim S32x24x20000 32 2) reducesTo_S32x24x20000_S32x24_d2 b j q)
  rw [← bits_bot]
  rfl

/-- The place the reference finds along the middle axis. -/
theorem arg_mid (x : S32x24x20000.Idx → EReal) (b : Fin 32) (p : Fin 20000) :
    (Host.argReduce (reducer_argmax_f32_i32 (F := Ideal)) x (iotaInDim S32x24x20000 32 1) (constant (F := Ideal) S_ .f32 0xFF800000#32) (constantI S_ 32 0#32) reducesTo_S32x24x20000_S32x20000_d1 h_S_ (ix2 b p)).2
      = BitVec.ofNat 32 (first fun k : Fin 24 => x (ix3 b k p)).val := by
  rw [Ideal.argReduce_eq_reduce2, Host.reduce2_eq_foldl_fiber]
  refine Eq.trans ?_ (foldl_first (by decide) (fun k : Fin 24 => x (ix3 b k p)) (first_spec _) _ fun q => mem_fiber_mid x (iotaInDim S32x24x20000 32 1) reducesTo_S32x24x20000_S32x20000_d1 b p q)
  rw [← bits_bot]
  rfl

/-- The pairs (image, prior) at which a scatter writes, from the place of each box. -/
def claims (v1 : IVec S32x1 32) (v : IVec S32x24 32) : IVec S32x24x2 32 :=
  concatenate S32x24x2 2 [⟨S32x24x1, (broadcastInDim S32x24x1 ![0, 1] bcast_S32x24_S32x24x1_0_1 (broadcastInDim S32x24 ![0, 1] bcast_S32x1_S32x24_0_1 (select (cmpi .slt v1 (broadcastInDim S32x1 ![] bcast_S_S32x1 (constantI S_ 32 0#32))) (addi v1 (broadcastInDim S32x1 ![] bcast_S_S32x1 (constantI S_ 32 32#32))) v1)))⟩, ⟨S32x24x1, (broadcastInDim S32x24x1 ![0, 1] bcast_S32x24_S32x24x1_0_1 (select (cmpi .slt v (broadcastInDim S32x24 ![] bcast_S_S32x24 (constantI S_ 32 0#32))) (addi v (broadcastInDim S32x24 ![] bcast_S_S32x24 (constantI S_ 32 20000#32))) v))⟩] concatenates_S32x24x1_S32x24x1_S32x24x2_d2

/-- The pairs (image, box) that a gather reads, from the box of each prior. -/
def reads (v1 : IVec S32x1 32) (v : IVec S32x20000 32) : IVec S32x20000x2 32 :=
  concatenate S32x20000x2 2 [⟨S32x20000x1, (broadcastInDim S32x20000x1 ![0, 1] bcast_S32x20000_S32x20000x1_0_1 (broadcastInDim S32x20000 ![0, 1] bcast_S32x1_S32x20000_0_1 (select (cmpi .slt v1 (broadcastInDim S32x1 ![] bcast_S_S32x1 (constantI S_ 32 0#32))) (addi v1 (broadcastInDim S32x1 ![] bcast_S_S32x1 (constantI S_ 32 32#32))) v1)))⟩, ⟨S32x20000x1, (broadcastInDim S32x20000x1 ![0, 1] bcast_S32x20000_S32x20000x1_0_1 (select (cmpi .slt v (broadcastInDim S32x20000 ![] bcast_S_S32x20000 (constantI S_ 32 0#32))) (addi v (broadcastInDim S32x20000 ![] bcast_S_S32x20000 (constantI S_ 32 24#32))) v))⟩] concatenates_S32x20000x1_S32x20000x1_S32x20000x2_d2

/-- A word that is small is not wrapped. -/
theorem wrap_small (n : ℕ) (a : BitVec 32) (hn : n < 2 ^ 31) :
    Scalar.select (IntOp.cmpi CmpIPredicate.slt (BitVec.ofNat 32 n) 0#32) (IntOp.addi (BitVec.ofNat 32 n) a) (BitVec.ofNat 32 n) = BitVec.ofNat 32 n :=
  Routing.wrap_of_lt _ _ (by rw [BitVec.toNat_ofNat]; exact (Nat.mod_le _ _).trans_lt hn)

/-- One word of a claimed pair names its image … -/
theorem claims_image (V0 : Valuation τ sig (Elt Ideal)) (v : IVec S32x24 32) (b : Fin 32) (j : Fin 24) : claims (res_main_v1 V0) v (ix3 b j 0) = BitVec.ofNat 32 b.val := by
  pointwise [claims, res_main_v1]
  exact wrap_small b.val 32#32 (by have := b.isLt; omega)
/-- … and the other names its place. -/
theorem claims_place (V0 : Valuation τ sig (Elt Ideal)) (v : IVec S32x24 32) (b : Fin 32) (j : Fin 24) (n : ℕ) (hn : n < 2 ^ 31) (hv : v (ix2 b j) = BitVec.ofNat 32 n) :
    claims (res_main_v1 V0) v (ix3 b j 1) = BitVec.ofNat 32 n := by
  pointwise [claims, res_main_v1]
  rw [hv]
  exact wrap_small n 20000#32 hn
/-- One word of a pair read names its image … -/
theorem reads_image (V0 : Valuation τ sig (Elt Ideal)) (v : IVec S32x20000 32) (b : Fin 32) (p : Fin 20000) : reads (res_main_v1 V0) v (ix3 b p 0) = BitVec.ofNat 32 b.val := by
  pointwise [reads, res_main_v1]
  exact wrap_small b.val 32#32 (by have := b.isLt; omega)
/-- … and the other names its box. -/
theorem reads_place (V0 : Valuation τ sig (Elt Ideal)) (v : IVec S32x20000 32) (b : Fin 32) (p : Fin 20000) (n : ℕ) (hn : n < 2 ^ 31) (hv : v (ix2 b p) = BitVec.ofNat 32 n) :
    reads (res_main_v1 V0) v (ix3 b p 1) = BitVec.ofNat 32 n := by
  pointwise [reads, res_main_v1]
  rw [hv]
  exact wrap_small n 24#32 hn

/-- A scatter at the places boxes claim: at a claimed prior the last claiming box's value, elsewhere what was there. -/
theorem scatter_claimed {α : Type} (x0 : S32x20000.Idx → α) (idx : IVec S32x24x2 32) (upd : S32x24.Idx → α) (g : Fin 32 → Fin 24 → Fin 20000)
    (h0 : ∀ b j, idx (ix3 b j 0) = BitVec.ofNat 32 b.val) (h1 : ∀ b j, idx (ix3 b j 1) = BitVec.ofNat 32 (g b j).val) (b : Fin 32) (p : Fin 20000) :
    Host.scatter scatter_S32x20000_S32x24x2_S32x24_n_01_01_2 (fun _ b => b) x0 idx upd (ix2 b p)
      = claimed (g b) p (fun j => upd (ix2 b j)) (x0 (ix2 b p)) := by
  have hw : ∀ k : Fin 24, (BitVec.ofNat 32 (g b k).val).toNat = (g b k).val := fun k => by
    have := (g b k).isLt
    rw [BitVec.toNat_ofNat]; exact Nat.mod_eq_of_lt (by omega)
  refine (ScatterToDense.scatter_eq_GS scatter_S32x20000_S32x24x2_S32x24_n_01_01_2 rfl rfl rfl (by decide) (by decide) x0 idx upd
    (fun b k => if h : k < 24 then BitVec.ofNat 32 (g b ⟨k, h⟩).val else 0) (fun b' k => if h : k < 24 then upd (ix2 b' ⟨k, h⟩) else x0 (ix2 b p))
    h0 (fun i k => (h1 i k).trans (by rw [dif_pos k.isLt])) (fun i k => by rw [dif_pos k.isLt]; rfl) b p).trans ?_
  unfold ScatterToDense.GS
  rcases last_or_none (g b) p with ⟨j, hj⟩ | hn
  · rw [claimed_hit _ _ hj]
    refine (LaneScatter.lastHit_of_last _ _ (k := j.val) ?_ j.isLt ?_).trans ?_
    · dsimp only; rw [dif_pos j.isLt, hw]; exact congrArg Fin.val hj.1.symm
    · intro k hjk hk he
      dsimp only at he
      rw [dif_pos hk, hw] at he
      exact absurd (hj.2 ⟨k, hk⟩ (Fin.ext he.symm)) (not_le.2 hjk)
    · rw [dif_pos j.isLt]
  · rw [claimed_miss _ _ hn]
    refine LaneScatter.lastHit_of_none _ _ fun k hk he => ?_
    dsimp only at he
    rw [dif_pos hk, hw] at he
    exact hn ⟨k, hk⟩ (Fin.ext he.symm)

/-- A gather of boxes by pairs. -/
theorem gather_boxes (x : FVec Ideal S32x24x4 .f32) (idx : IVec S32x20000x2 32) (b : Fin 32) (p : Fin 20000) (r : Fin 4) (k : Fin 24)
    (h0 : idx (ix3 b p 0) = BitVec.ofNat 32 b.val) (h1 : idx (ix3 b p 1) = BitVec.ofNat 32 k.val) :
    Host.gather gather_S32x24x4_S32x20000x2_S32x20000x4_2_01_n_n_01_2_114 x idx (ix3 b p r) = x (ix3 b k r) := by
  unfold Host.gather
  refine congrArg x (funext fun a => Fin.ext ?_)
  have hs0 : gather_S32x24x4_S32x20000x2_S32x20000x4_2_01_n_n_01_2_114.start (ix3 b p r) idx 0 = min (idx (ix3 b p 0)).toInt.toNat 31 := by
    refine congrArg (fun i => min (idx i).toInt.toNat 31) (funext fun q => Fin.ext ?_)
    fin_cases q <;> rfl
  have hs1 : gather_S32x24x4_S32x20000x2_S32x20000x4_2_01_n_n_01_2_114.start (ix3 b p r) idx 1 = min (idx (ix3 b p 1)).toInt.toNat 23 := by
    refine congrArg (fun i => min (idx i).toInt.toNat 23) (funext fun q => Fin.ext ?_)
    fin_cases q <;> rfl
  have hb := b.isLt
  have hk := k.isLt
  rw [h0, toInt_small b.val (by omega)] at hs0
  rw [h1, toInt_small k.val (by omega)] at hs1
  fin_cases a
  · show gather_S32x24x4_S32x20000x2_S32x20000x4_2_01_n_n_01_2_114.start (ix3 b p r) idx 0 + 0 + 0 = b.val
    rw [hs0]; omega
  · show gather_S32x24x4_S32x20000x2_S32x20000x4_2_01_n_n_01_2_114.start (ix3 b p r) idx 1 + 0 + 0 = k.val
    rw [hs1]; omega
  · show 0 + 0 + r.val = r.val
    omega

/-- A gather of labels by pairs. -/
theorem gather_labels (x : IVec S32x24 32) (idx : IVec S32x20000x2 32) (b : Fin 32) (p : Fin 20000) (k : Fin 24)
    (h0 : idx (ix3 b p 0) = BitVec.ofNat 32 b.val) (h1 : idx (ix3 b p 1) = BitVec.ofNat 32 k.val) :
    Host.gather gather_S32x24_S32x20000x2_S32x20000_n_01_n_n_01_2_11 x idx (ix2 b p) = x (ix2 b k) := by
  unfold Host.gather
  refine congrArg x (funext fun a => Fin.ext ?_)
  have hs0 : gather_S32x24_S32x20000x2_S32x20000_n_01_n_n_01_2_11.start (ix2 b p) idx 0 = min (idx (ix3 b p 0)).toInt.toNat 31 := by
    refine congrArg (fun i => min (idx i).toInt.toNat 31) (funext fun q => Fin.ext ?_)
    fin_cases q <;> rfl
  have hs1 : gather_S32x24_S32x20000x2_S32x20000_n_01_n_n_01_2_11.start (ix2 b p) idx 1 = min (idx (ix3 b p 1)).toInt.toNat 23 := by
    refine congrArg (fun i => min (idx i).toInt.toNat 23) (funext fun q => Fin.ext ?_)
    fin_cases q <;> rfl
  have hb := b.isLt
  have hk := k.isLt
  rw [h0, toInt_small b.val (by omega)] at hs0
  rw [h1, toInt_small k.val (by omega)] at hs1
  fin_cases a
  · show gather_S32x24_S32x20000x2_S32x20000_n_01_n_n_01_2_11.start (ix2 b p) idx 0 + 0 + 0 = b.val
    rw [hs0]; omega
  · show gather_S32x24_S32x20000x2_S32x20000_n_01_n_n_01_2_11.start (ix2 b p) idx 1 + 0 + 0 = k.val
    rw [hs1]; omega

end Cert.ReferenceIdeal.Value
-- ==== Proof.RefArrays.lean ====
module

public import proofs.«01_k».proof.Proof.RefMatch

/-
  The reference's intermediate arrays, read at an index: overlaps, places, matched boxes, which priors count, and the terms.
-/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Loss

/-! ## The reference's intermediate arrays -/

variable (V0 : Valuation τ sig (Elt Ideal))

/-- The boxes of image `b`, as the reference finds them. -/
abbrev tb (b : Fin 32) (j : Fin 24) (r : Fin 4) : EReal := (V0 (Proc.devRef .tc main_arg3) : FVec Ideal S32x24x4 .f32) (ix3 b j r)
/-- The priors, as the reference finds them. -/
abbrev pr (p : Fin 20000) (r : Fin 4) : EReal := (V0 (Proc.devRef .tc main_arg2) : FVec Ideal S20000x4 .f32) (ix2 p r)

/-- The overlaps. -/
theorem v63_apply (b : Fin 32) (j : Fin 24) (p : Fin 20000) : (res_main_v63 V0 : FVec Ideal S32x24x20000 .f32) (ix3 b j p) = ov (tb V0 b) (pr V0) j p := by
  pointwise [res_main_v63, res_main_v34, res_main_v29, res_main_v12]
  simp only [ov, overlap, share, span]

/-- The reference's places along the last axis, spelt out. -/
theorem v64_eq : (res_main_v64 V0 : IVec S32x24 32) = fun j => (Host.argReduce (reducer_argmax_f32_i32 (F := Ideal)) (res_main_v63 V0 : FVec Ideal S32x24x20000 .f32) (iotaInDim S32x24x20000 32 2) (constant (F := Ideal) S_ .f32 0xFF800000#32) (constantI S_ 32 0#32) reducesTo_S32x24x20000_S32x24_d2 h_S_ j).2 := by
  delta res_main_v64 res_main_call0_v0 res_main_call0_cst res_main_call0_c
  rfl

/-- The place along the last axis of a row that is known. -/
theorem arg_last_of (x : S32x24x20000.Idx → EReal) (f : Fin 20000 → EReal) (b : Fin 32) (j : Fin 24) (h : (fun k : Fin 20000 => x (ix3 b j k)) = f) :
    (Host.argReduce (reducer_argmax_f32_i32 (F := Ideal)) x (iotaInDim S32x24x20000 32 2) (constant (F := Ideal) S_ .f32 0xFF800000#32) (constantI S_ 32 0#32) reducesTo_S32x24x20000_S32x24_d2 h_S_ (ix2 b j)).2
      = BitVec.ofNat 32 (first f).val := h ▸ arg_last x b j

/-- The place along the middle axis of a column that is known. -/
theorem arg_mid_of (x : S32x24x20000.Idx → EReal) (f : Fin 24 → EReal) (b : Fin 32) (p : Fin 20000) (h : (fun k : Fin 24 => x (ix3 b k p)) = f) :
    (Host.argReduce (reducer_argmax_f32_i32 (F := Ideal)) x (iotaInDim S32x24x20000 32 1) (constant (F := Ideal) S_ .f32 0xFF800000#32) (constantI S_ 32 0#32) reducesTo_S32x24x20000_S32x20000_d1 h_S_ (ix2 b p)).2
      = BitVec.ofNat 32 (first f).val := h ▸ arg_mid x b p

/-- The prior each box overlaps most. -/
theorem v64_apply (b : Fin 32) (j : Fin 24) : (res_main_v64 V0 : IVec S32x24 32) (ix2 b j) = BitVec.ofNat 32 (bestPrior (tb V0 b) (pr V0) j).val := by
  rw [v64_eq]
  unfold bestPrior
  exact arg_last_of (res_main_v63 V0) _ b j (funext fun k => v63_apply V0 b j k)

/-- The matched boxes, spelt out: the places along the middle axis with the claims scattered over them. -/
theorem v100_eq : (res_main_v100 V0 : IVec S32x20000 32) = Host.scatter scatter_S32x20000_S32x24x2_S32x24_n_01_01_2 (fun _ b => b)
      (fun j => (Host.argReduce (reducer_argmax_f32_i32 (F := Ideal)) (res_main_v63 V0 : FVec Ideal S32x24x20000 .f32) (iotaInDim S32x24x20000 32 1) (constant (F := Ideal) S_ .f32 0xFF800000#32) (constantI S_ 32 0#32) reducesTo_S32x24x20000_S32x20000_d1 h_S_ j).2)
      (claims (res_main_v1 V0) (res_main_v64 V0)) (broadcastInDim S32x24 ![0, 1] bcast_S1x24_S32x24_0_1 (broadcastInDim S1x24 ![1] bcast_S24_S1x24_1 (iotaInDim S24 32 0))) := by
  delta res_main_v100 res_main_call1_v0 res_main_call1_cst res_main_call1_c claims
  rfl

/-- The words the claims write: each box its own. -/
theorem box_word (b : Fin 32) (j : Fin 24) : (broadcastInDim S32x24 ![0, 1] bcast_S1x24_S32x24_0_1 (broadcastInDim S1x24 ![1] bcast_S24_S1x24_1 (iotaInDim S24 32 0)) : IVec S32x24 32) (ix2 b j) = BitVec.ofNat 32 j.val := by
  pointwise []

/-- Where the claims of an image write. -/
theorem claimed_place (b : Fin 32) (j : Fin 24) : claims (res_main_v1 V0) (res_main_v64 V0) (ix3 b j 1) = BitVec.ofNat 32 (bestPrior (tb V0 b) (pr V0) j).val :=
  claims_place V0 _ b j _ ((bestPrior (tb V0 b) (pr V0) j).isLt.trans (by decide)) (v64_apply V0 b j)

/-- A word at the last claiming box is the word of the value there. -/
theorem claimed_word {n : ℕ} (g : Fin 24 → Fin n) (p : Fin n) (e : Fin 24) :
    claimed g p (fun j => BitVec.ofNat 32 j.val) (BitVec.ofNat 32 e.val) = BitVec.ofNat 32 (claimed g p id e).val := by
  rcases last_or_none g p with ⟨j, hj⟩ | hn
  · rw [claimed_hit _ _ hj, claimed_hit _ _ hj]; rfl
  · rw [claimed_miss _ _ hn, claimed_miss _ _ hn]

/-- The box a prior is matched to. -/
theorem v100_apply (b : Fin 32) (p : Fin 20000) : (res_main_v100 V0 : IVec S32x20000 32) (ix2 b p) = BitVec.ofNat 32 (matched (tb V0 b) (pr V0) p).val := by
  rw [v100_eq, scatter_claimed _ _ _ (fun b => bestPrior (tb V0 b) (pr V0)) (claims_image V0 _) (claimed_place V0) b p]
  refine (congrArg₂ (claimed _ p) (funext fun j => box_word b j) (arg_mid_of (res_main_v63 V0) _ b p (funext fun k => v63_apply V0 b k p))).trans ?_
  rw [claimed_word]
  unfold matched bestBox
  rfl

/-- The greatest value of a column that is known. -/
theorem max_mid (x : FVec Ideal S32x24x20000 .f32) (f : Fin 24 → EReal) (b : Fin 32) (p : Fin 20000) (h : (fun k : Fin 24 => x (ix3 b k p)) = f) :
    Host.reduce FloatOps.maximumf x (constant (F := Ideal) S_ .f32 0xFF800000#32) reducesTo_S32x24x20000_S32x20000_d1 h_S_ (ix2 b p) = f (first f) := by
  subst h
  pointwise []
  rw [bits_bot]
  exact fold_max_first _ (first_spec fun k : Fin 24 => x (ix3 b k p))

/-- The overlaps priors are judged by, spelt out. -/
def judgedArr : FVec Ideal S32x20000 .f32 :=
  Host.scatter scatter_S32x20000_S32x24x2_S32x24_n_01_01_2 (fun _ b => b) (Host.reduce FloatOps.maximumf (res_main_v63 V0 : FVec Ideal S32x24x20000 .f32) (constant (F := Ideal) S_ .f32 0xFF800000#32) reducesTo_S32x24x20000_S32x20000_d1 h_S_)
    (claims (res_main_v1 V0) (res_main_v64 V0)) (broadcastInDim S32x24 ![] bcast_S_S32x24 (constant (F := Ideal) S_ .f32 0x40000000#32))

/-- A claiming box writes two. -/
theorem two_apply (b : Fin 32) (j : Fin 24) : (broadcastInDim S32x24 ![] bcast_S_S32x24 (constant (F := Ideal) S_ .f32 0x40000000#32) : FVec Ideal S32x24 .f32) (ix2 b j) = two := by
  pointwise []

/-- The overlap a prior is judged by. -/
theorem judgedArr_apply (b : Fin 32) (p : Fin 20000) : judgedArr V0 (ix2 b p) = judged (tb V0 b) (pr V0) p := by
  unfold judgedArr
  rw [scatter_claimed _ _ _ (fun b => bestPrior (tb V0 b) (pr V0)) (claims_image V0 _) (claimed_place V0) b p]
  refine (congrArg₂ (claimed _ p) (funext fun j => two_apply b j) (max_mid (res_main_v63 V0) _ b p (funext fun k => v63_apply V0 b k p))).trans ?_
  unfold judged bestOv bestBox
  rfl

/-- The labels priors are scored by, spelt out. -/
def labelArr : IVec S32x20000 32 :=
  Host.gather gather_S32x24_S32x20000x2_S32x20000_n_01_n_n_01_2_11 (V0 (Proc.devRef .tc main_arg4) : IVec S32x24 32) (reads (res_main_v1 V0) (res_main_v100 V0))

/-- The label of a prior: that of its matched box. -/
theorem labelArr_apply (b : Fin 32) (p : Fin 20000) : labelArr V0 (ix2 b p) = (V0 (Proc.devRef .tc main_arg4) : IVec S32x24 32) (ix2 b (matched (tb V0 b) (pr V0) p)) :=
  gather_labels _ _ b p _ (reads_image V0 _ b p) (reads_place V0 _ b p _ ((matched (tb V0 b) (pr V0) p).isLt.trans (by decide)) (v100_apply V0 b p))

/-- The class of each prior, spelt out. -/
theorem v135_eq : (res_main_v135 V0 : IVec S32x20000 32) = select (cmpf .olt (judgedArr V0) (broadcastInDim S32x20000 ![] bcast_S_S32x20000 (constant (F := Ideal) S_ .f32 0x3F000000#32)))
    (broadcastInDim S32x20000 ![] bcast_S_S32x20000 (id (constantI S_ 32 0#32))) (addi (labelArr V0) (broadcastInDim S32x20000 ![] bcast_S_S32x20000 (constantI S_ 32 1#32))) := by
  delta res_main_v135 judgedArr labelArr claims reads
  rfl

/-- The class of a prior over arrays that are known. -/
theorem class_of (x : FVec Ideal S32x20000 .f32) (y : IVec S32x20000 32) (b : Fin 32) (p : Fin 20000) :
    (cmpi .ne (select (cmpf .olt x (broadcastInDim S32x20000 ![] bcast_S_S32x20000 (constant (F := Ideal) S_ .f32 0x3F000000#32)))
      (broadcastInDim S32x20000 ![] bcast_S_S32x20000 (id (constantI S_ 32 0#32))) (addi y (broadcastInDim S32x20000 ![] bcast_S_S32x20000 (constantI S_ 32 1#32))))
      (broadcastInDim S32x20000 ![] bcast_S_S32x20000 (constantI S_ 32 0#32)) : IVec S32x20000 1) (ix2 b p)
      = IntOp.cmpi .ne (Scalar.select (FloatOps.cmpf (F := Ideal) (φ := FTy.f32) .olt (x (ix2 b p)) half) 0#32 (IntOp.addi (y (ix2 b p)) 1#32)) 0#32 := by
  pointwise []
  rfl

open Classical in
/-- Which priors count, as a bit. -/
theorem v163_apply (hl : ∀ b j, 0 ≤ ((V0 (Proc.devRef .tc main_arg4) : IVec S32x24 32) (ix2 b j)).toInt)
    (b : Fin 32) (p : Fin 20000) : (res_main_v163 V0 : IVec S32x20000 1) (ix2 b p) = BitVec.ofBool (decide ¬ judged (tb V0 b) (pr V0) p < half) := by
  unfold res_main_v163
  rw [v135_eq]
  refine (class_of _ _ b p).trans ?_
  rw [judgedArr_apply, labelArr_apply]
  have h := hl b (matched (tb V0 b) (pr V0) p)
  generalize (V0 (Proc.devRef .tc main_arg4) : IVec S32x24 32) (ix2 b (matched (tb V0 b) (pr V0) p)) = z at h
  have hz : IntOp.addi z 1#32 ≠ 0#32 := by
    intro e
    have e2 := congrArg BitVec.toNat e
    have hn : z.toNat < 2 ^ 31 := by
      have := BitVec.toInt_eq_toNat_cond z
      split at this <;> omega
    simp only [IntOp.addi, BitVec.toNat_add, BitVec.toNat_ofNat] at e2
    omega
  show IntOp.cmpi .ne (Scalar.select (BitVec.ofBool (decide (judged (tb V0 b) (pr V0) p < half))) 0#32 (IntOp.addi z 1#32)) 0#32 = _
  by_cases hc : judged (tb V0 b) (pr V0) p < half
  · simp [hc, Scalar.select, IntOp.cmpi]
  · have hb : (IntOp.addi z 1#32 != 0#32) = true := bne_iff_ne.2 hz
    simp [hc, Scalar.select, IntOp.cmpi, hb]

/-- The boxes priors are matched to. -/
theorem v115_apply (b : Fin 32) (p : Fin 20000) (r : Fin 4) : (res_main_v115 V0 : FVec Ideal S32x20000x4 .f32) (ix3 b p r) = tb V0 b (matched (tb V0 b) (pr V0) p) r := by
  have h : (res_main_v115 V0 : FVec Ideal S32x20000x4 .f32) = Host.gather gather_S32x24x4_S32x20000x2_S32x20000x4_2_01_n_n_01_2_114 (V0 (Proc.devRef .tc main_arg3) : FVec Ideal S32x24x4 .f32) (reads (res_main_v1 V0) (res_main_v100 V0)) := by
    delta res_main_v115 reads
    rfl
  rw [h]
  exact gather_boxes _ _ b p r _ (reads_image V0 _ b p) (reads_place V0 _ b p _ ((matched (tb V0 b) (pr V0) p).isLt.trans (by decide)) (v100_apply V0 b p))

/-- The predicted offsets of image `b`, as the reference finds them. -/
abbrev lc (b : Fin 32) (p : Fin 20000) (r : Fin 4) : EReal := (V0 (Proc.devRef .tc main_arg0) : FVec Ideal S32x20000x4 .f32) (ix3 b p r)

/-- A difference of predicted and encoded offsets. -/
theorem v164_apply (b : Fin 32) (p : Fin 20000) (r : Fin 4) :
    (res_main_v164 V0 : FVec Ideal S32x20000x4 .f32) (ix3 b p r) = lc V0 b p r - enc (tb V0 b (matched (tb V0 b) (pr V0) p)) (pr V0 p) r := by
  pointwise [res_main_v164]
  have hv := v115_apply V0 b p
  simp only [hv]
  fin_cases r <;> rfl

end Cert.ReferenceIdeal.Value
-- ==== Proof.RefWindows.lean ====
module

public import proofs.«01_k».proof.Proof.RefTerms

/-
  What each window of the reference's operations leaves in the buffers that later windows read: the first windows.
-/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_cst, main_v4, main_v5, main_v6, main_v7, main_v8, main_cst_0, main_v9, main_v10, main_v11, main_v12, main_v13, main_v14, main_v15, main_v16, main_v17, main_v18, main_v19, main_v20, main_v21, main_v22, main_v23, main_v24, main_v25, main_v26, main_v27, main_cst_1, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
set_option maxRecDepth 8192 in
theorem ops_part0_writes : (ops_part0 : List (HloOp τ sig (Elt F))).Forall fun op => op.writes ⊆ (ops_part0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
set_option maxRecDepth 8192 in
set_option maxHeartbeats 2000000 in
theorem val1_main_v1 (V0 : Valuation τ sig (Elt F)) : val1 V0 (no_index (Proc.devRef .tc main_v1)) = res_main_v1 V0 := by
  unfold val1
  simp only [ops_part0]
  after_results_simp
  all_goals rfl
set_option maxRecDepth 8192 in
set_option maxHeartbeats 2000000 in
theorem val1_main_v34 (V0 : Valuation τ sig (Elt F)) : val1 V0 (no_index (Proc.devRef .tc main_v34)) = res_main_v34 V0 := by
  unfold val1
  simp only [ops_part0]
  after_results_simp
  simp only [val0_main_arg2, val0_main_arg3] <;> rfl
set_option maxRecDepth 8192 in
set_option maxHeartbeats 2000000 in
theorem val1_main_v46 (V0 : Valuation τ sig (Elt F)) : val1 V0 (no_index (Proc.devRef .tc main_v46)) = broadcastInDim S32x24x1 ![0, 1] bcast_S32x24_S32x24x1_0_1 (mulf (subf (shapeCast _ (extractStridedSlice S32x24x1 ![0, 0, 2] (V0 (Proc.devRef .tc main_arg3)) slices_S32x24x4_S32x24x1_0_0_2) shapeCasts_S32x24x1_S32x24) (shapeCast _ (extractStridedSlice S32x24x1 ![0, 0, 0] (V0 (Proc.devRef .tc main_arg3)) slices_S32x24x4_S32x24x1_0_0_0) shapeCasts_S32x24x1_S32x24)) (subf (shapeCast _ (extractStridedSlice S32x24x1 ![0, 0, 3] (V0 (Proc.devRef .tc main_arg3)) slices_S32x24x4_S32x24x1_0_0_3) shapeCasts_S32x24x1_S32x24) (shapeCast _ (extractStridedSlice S32x24x1 ![0, 0, 1] (V0 (Proc.devRef .tc main_arg3)) slices_S32x24x4_S32x24x1_0_0_1) shapeCasts_S32x24x1_S32x24))) := by
  unfold val1
  simp only [ops_part0]
  after_results_simp
  simp only [val0_main_arg3] <;> rfl
set_option maxRecDepth 8192 in
set_option maxHeartbeats 2000000 in
theorem val1_main_v51 (V0 : Valuation τ sig (Elt F)) : val1 V0 (no_index (Proc.devRef .tc main_v51)) = subf (shapeCast _ (extractStridedSlice S20000x1 ![0, 2] (res_main_v12 V0) slices_S20000x4_S20000x1_0_2) shapeCasts_S20000x1_S20000) (shapeCast _ (extractStridedSlice S20000x1 ![0, 0] (res_main_v12 V0) slices_S20000x4_S20000x1_0_0) shapeCasts_S20000x1_S20000) := by
  unfold val1
  simp only [ops_part0]
  after_results_simp
  simp only [val0_main_arg2] <;> rfl
set_option maxRecDepth 8192 in
set_option maxHeartbeats 2000000 in
theorem val1_main_v56 (V0 : Valuation τ sig (Elt F)) : val1 V0 (no_index (Proc.devRef .tc main_v56)) = subf (shapeCast _ (extractStridedSlice S20000x1 ![0, 3] (res_main_v12 V0) slices_S20000x4_S20000x1_0_3) shapeCasts_S20000x1_S20000) (shapeCast _ (extractStridedSlice S20000x1 ![0, 1] (res_main_v12 V0) slices_S20000x4_S20000x1_0_1) shapeCasts_S20000x1_S20000) := by
  unfold val1
  simp only [ops_part0]
  after_results_simp
  simp only [val0_main_arg2] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v57, main_v58, main_v59, main_v60, main_v61, main_v62, main_v63, main_call0_v0, main_call0_cst, main_call0_c, main_call0_v1_0, main_v64, main_cst_2, main_v65, main_call1_v0, main_call1_cst, main_call1_c, main_call1_v1_0, main_v66, main_c, main_v67, main_v68, main_c_3, main_v69, main_v70, main_v71, main_c_4, main_v72, main_v73, main_c_5]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_v1 (V0 : Valuation τ sig (Elt F)) : val1_1 V0 (no_index (Proc.devRef .tc main_v1)) = res_main_v1 V0 :=
  (val1_1_keep V0 main_v1 (by decide)).trans (val1_main_v1 V0)
set_option maxRecDepth 8192 in
set_option maxHeartbeats 2000000 in
theorem val1_1_main_v64 (V0 : Valuation τ sig (Elt F)) : val1_1 V0 (no_index (Proc.devRef .tc main_v64)) = res_main_v64 V0 := by
  unfold val1_1
  simp only [ops_part1_0, TRef.nullary, TRef.quaternary, TRef.toBuf, TRef.ofBuf, cast_eq]
  after_results_simp
  simp only [val1_main_v56, val1_main_v51, val1_main_v46, val1_main_v34] <;> rfl
set_option maxRecDepth 8192 in
set_option maxHeartbeats 2000000 in
theorem val1_1_main_v65 (V0 : Valuation τ sig (Elt F)) : val1_1 V0 (no_index (Proc.devRef .tc main_v65)) = Host.reduce FloatOps.maximumf (res_main_v63 V0) (constant S_ .f32 0xFF800000#32) reducesTo_S32x24x20000_S32x20000_d1 h_S_ := by
  unfold val1_1
  simp only [ops_part1_0, TRef.nullary, TRef.quaternary, TRef.toBuf, TRef.ofBuf, cast_eq]
  after_results_simp
  simp only [val1_main_v56, val1_main_v51, val1_main_v46, val1_main_v34] <;> rfl
set_option maxRecDepth 8192 in
set_option maxHeartbeats 2000000 in
theorem val1_1_main_v66 (V0 : Valuation τ sig (Elt F)) : val1_1 V0 (no_index (Proc.devRef .tc main_v66)) = (fun j => (Host.argReduce reducer_argmax_f32_i32 (res_main_v63 V0) (res_main_call1_v0 V0) (res_main_call1_cst V0) (res_main_call1_c V0) reducesTo_S32x24x20000_S32x20000_d1 h_S_ j).2) := by
  unfold val1_1
  simp only [ops_part1_0, TRef.nullary, TRef.quaternary, TRef.toBuf, TRef.ofBuf, cast_eq]
  after_results_simp
  simp only [val1_main_v56, val1_main_v51, val1_main_v46, val1_main_v34] <;> rfl
set_option maxRecDepth 8192 in
set_option maxHeartbeats 2000000 in
theorem val1_1_main_v71 (V0 : Valuation τ sig (Elt F)) : val1_1 V0 (no_index (Proc.devRef .tc main_v71)) = select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0) := by
  unfold val1_1
  simp only [ops_part1_0, TRef.nullary, TRef.quaternary, TRef.toBuf, TRef.ofBuf, cast_eq]
  after_results_simp
  simp only [val1_main_v1] <;> rfl
set_option maxRecDepth 8192 in
set_option maxHeartbeats 2000000 in
theorem val1_1_main_v73 (V0 : Valuation τ sig (Elt F)) : val1_1 V0 (no_index (Proc.devRef .tc main_v73)) = cmpi .slt (res_main_v64 V0) (broadcastInDim S32x24 ![] bcast_S_S32x24 (constantI S_ 32 0#32)) := by
  unfold val1_1
  simp only [ops_part1_0, TRef.nullary, TRef.quaternary, TRef.toBuf, TRef.ofBuf, cast_eq]
  after_results_simp
  simp only [val1_main_v56, val1_main_v51, val1_main_v46, val1_main_v34] <;> rfl
set_option maxRecDepth 8192 in
set_option maxHeartbeats 2000000 in
theorem val1_1_main_c_5 (V0 : Valuation τ sig (Elt F)) : val1_1 V0 (no_index (Proc.devRef .tc main_c_5)) = constantI S_ 32 20000#32 := by
  unfold val1_1
  simp only [ops_part1_0, TRef.nullary, TRef.quaternary, TRef.toBuf, TRef.ofBuf, cast_eq]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v74, main_v75, main_v76, main_v77, main_v78, main_v79, main_v80, main_cst_6, main_v81, main_v82, main_v83, main_v84, main_c_7, main_v85, main_v86, main_c_8, main_v87, main_v88, main_v89, main_c_9, main_v90, main_v91, main_c_10, main_v92, main_v93, main_v94, main_v95, main_v96, main_v97, main_v98]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_v1 (V0 : Valuation τ sig (Elt F)) : val1_2 V0 (no_index (Proc.devRef .tc main_v1)) = res_main_v1 V0 :=
  (val1_2_keep V0 main_v1 (by decide)).trans (val1_1_main_v1 V0)
theorem val1_2_main_v66 (V0 : Valuation τ sig (Elt F)) : val1_2 V0 (no_index (Proc.devRef .tc main_v66)) = (fun j => (Host.argReduce reducer_argmax_f32_i32 (res_main_v63 V0) (res_main_call1_v0 V0) (res_main_call1_cst V0) (res_main_call1_c V0) reducesTo_S32x24x20000_S32x20000_d1 h_S_ j).2) :=
  (val1_2_keep V0 main_v66 (by decide)).trans (val1_1_main_v66 V0)
set_option maxRecDepth 8192 in
set_option maxHeartbeats 2000000 in
theorem val1_2_main_v82 (V0 : Valuation τ sig (Elt F)) : val1_2 V0 (no_index (Proc.devRef .tc main_v82)) = Host.scatter scatter_S32x20000_S32x24x2_S32x24_n_01_01_2 (fun _ b => b) (Host.reduce FloatOps.maximumf (res_main_v63 V0) (constant S_ .f32 0xFF800000#32) reducesTo_S32x24x20000_S32x20000_d1 h_S_) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![] bcast_S_S32x24 (constant S_ .f32 0x40000000#32)) := by
  unfold val1_2
  simp only [ops_part1_1]
  after_results_simp
  simp only [val1_1_main_v64, val1_1_main_c_5, val1_1_main_v73, val1_1_main_v71, val1_1_main_v65] <;> rfl
set_option maxRecDepth 8192 in
set_option maxHeartbeats 2000000 in
theorem val1_2_main_v84 (V0 : Valuation τ sig (Elt F)) : val1_2 V0 (no_index (Proc.devRef .tc main_v84)) = broadcastInDim S1x24 ![1] bcast_S24_S1x24_1 (iotaInDim S24 32 0) := by
  unfold val1_2
  simp only [ops_part1_1]
  after_results_simp
  all_goals rfl
set_option maxRecDepth 8192 in
set_option maxHeartbeats 2000000 in
theorem val1_2_main_v98 (V0 : Valuation τ sig (Elt F)) : val1_2 V0 (no_index (Proc.devRef .tc main_v98)) = concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2 := by
  unfold val1_2
  simp only [ops_part1_1]
  after_results_simp
  simp only [val1_1_main_v64, val1_1_main_v1] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v99, main_v100, main_c_11, main_v101, main_v102, main_c_12, main_v103, main_v104]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_v1 (V0 : Valuation τ sig (Elt F)) : val2 V0 (no_index (Proc.devRef .tc main_v1)) = res_main_v1 V0 :=
  (val2_keep V0 main_v1 (by decide)).trans (val1_2_main_v1 V0)
theorem val2_main_v82 (V0 : Valuation τ sig (Elt F)) : val2 V0 (no_index (Proc.devRef .tc main_v82)) = Host.scatter scatter_S32x20000_S32x24x2_S32x24_n_01_01_2 (fun _ b => b) (Host.reduce FloatOps.maximumf (res_main_v63 V0) (constant S_ .f32 0xFF800000#32) reducesTo_S32x24x20000_S32x20000_d1 h_S_) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![] bcast_S_S32x24 (constant S_ .f32 0x40000000#32)) :=
  (val2_keep V0 main_v82 (by decide)).trans (val1_2_main_v82 V0)
set_option maxRecDepth 8192 in
theorem val2_main_v100 (V0 : Valuation τ sig (Elt F)) : val2 V0 (no_index (Proc.devRef .tc main_v100)) = res_main_v100 V0 := by
  unfold val2
  simp only [ops_part1_2]
  after_results_simp
  simp only [val1_2_main_v84, val1_2_main_v98, val1_2_main_v66] <;> rfl
set_option maxRecDepth 8192 in
theorem val2_main_v102 (V0 : Valuation τ sig (Elt F)) : val2 V0 (no_index (Proc.devRef .tc main_v102)) = cmpi .slt (res_main_v1 V0) (broadcastInDim S32x1 ![] bcast_S_S32x1 (constantI S_ 32 0#32)) := by
  unfold val2
  simp only [ops_part1_2]
  after_results_simp
  simp only [val1_2_main_v1] <;> rfl
set_option maxRecDepth 8192 in
theorem val2_main_v104 (V0 : Valuation τ sig (Elt F)) : val2 V0 (no_index (Proc.devRef .tc main_v104)) = addi (res_main_v1 V0) (broadcastInDim S32x1 ![] bcast_S_S32x1 (constantI S_ 32 32#32)) := by
  unfold val2
  simp only [ops_part1_2]
  after_results_simp
  simp only [val1_2_main_v1] <;> rfl

/-- The device's buffer contents after @main's first 158 operations. -/
def val2_1 (V0 : Valuation τ sig (Elt F)) : Valuation τ sig (Elt F) := after ops_part2_0 (val2 V0)
/-- The buffers that window `ops_part2_0`'s operations write. -/
abbrev ops_part2_0_W : List (Ref sig .tc) := [main_v105, main_c_13, main_v106, main_v107, main_c_14, main_v108, main_v109, main_v110, main_v111, main_v112, main_v113, main_v114, main_v115, main_c_15, main_v116, main_v117, main_c_16, main_v118, main_v119, main_v120, main_c_17, main_v121, main_v122, main_c_18, main_v123, main_v124, main_v125, main_v126, main_v127, main_v128]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_v82 (V0 : Valuation τ sig (Elt F)) : val2_1 V0 (no_index (Proc.devRef .tc main_v82)) = Host.scatter scatter_S32x20000_S32x24x2_S32x24_n_01_01_2 (fun _ b => b) (Host.reduce FloatOps.maximumf (res_main_v63 V0) (constant S_ .f32 0xFF800000#32) reducesTo_S32x24x20000_S32x20000_d1 h_S_) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![] bcast_S_S32x24 (constant S_ .f32 0x40000000#32)) :=
  (val2_1_keep V0 main_v82 (by decide)).trans (val2_main_v82 V0)
set_option maxRecDepth 8192 in
set_option maxHeartbeats 2000000 in
theorem val2_1_main_v115 (V0 : Valuation τ sig (Elt F)) : val2_1 V0 (no_index (Proc.devRef .tc main_v115)) = res_main_v115 V0 := by
  unfold val2_1
  simp only [ops_part2_0]
  after_results_simp
  simp only [val2_main_v100, val2_main_v1, val2_main_v104, val2_main_v102, val2_main_arg3] <;> rfl
set_option maxRecDepth 8192 in
set_option maxHeartbeats 2000000 in
theorem val2_1_main_v127 (V0 : Valuation τ sig (Elt F)) : val2_1 V0 (no_index (Proc.devRef .tc main_v127)) = broadcastInDim S32x20000x1 ![0, 1] bcast_S32x20000_S32x20000x1_0_1 (broadcastInDim S32x20000 ![0, 1] bcast_S32x1_S32x20000_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))) := by
  unfold val2_1
  simp only [ops_part2_0]
  after_results_simp
  simp only [val2_main_v1] <;> rfl
set_option maxRecDepth 8192 in
set_option maxHeartbeats 2000000 in
theorem val2_1_main_v128 (V0 : Valuation τ sig (Elt F)) : val2_1 V0 (no_index (Proc.devRef .tc main_v128)) = broadcastInDim S32x20000x1 ![0, 1] bcast_S32x20000_S32x20000x1_0_1 (select (cmpi .slt (res_main_v100 V0) (broadcastInDim S32x20000 ![] bcast_S_S32x20000 (constantI S_ 32 0#32))) (addi (res_main_v100 V0) (broadcastInDim S32x20000 ![] bcast_S_S32x20000 (constantI S_ 32 24#32))) (res_main_v100 V0)) := by
  unfold val2_1
  simp only [ops_part2_0]
  after_results_simp
  simp only [val2_main_v100] <;> rfl

/-- The device's buffer contents after @main's first 188 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v129, main_v130, main_c_19, main_v131, main_v132, main_cst_20, main_v133, main_v134, main_c_21, main_call2_v0, main_call2_v1, main_v135, main_v136, main_v137, main_v138, main_cst_22, main_v139, main_v140, main_v141, main_v142, main_v143, main_v144, main_v145, main_v146, main_cst_23, main_v147, main_v148, main_v149, main_v150, main_v151]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_v115 (V0 : Valuation τ sig (Elt F)) : val2_2 V0 (no_index (Proc.devRef .tc main_v115)) = res_main_v115 V0 :=
  (val2_2_keep V0 main_v115 (by decide)).trans (val2_1_main_v115 V0)
set_option maxRecDepth 8192 in
set_option maxHeartbeats 2000000 in
theorem val2_2_main_v135 (V0 : Valuation τ sig (Elt F)) : val2_2 V0 (no_index (Proc.devRef .tc main_v135)) = res_main_v135 V0 := by
  unfold val2_2
  simp only [ops_part2_1, TRef.ternary, TRef.unary, TRef.toBuf, TRef.ofBuf, cast_eq]
  after_results_simp
  simp only [val2_1_main_v128, val2_1_main_v127, val2_1_main_arg4, val2_1_main_v82] <;> rfl
set_option maxRecDepth 8192 in
set_option maxHeartbeats 2000000 in
theorem val2_2_main_v150 (V0 : Valuation τ sig (Elt F)) : val2_2 V0 (no_index (Proc.devRef .tc main_v150)) = Host.divf (subf (Host.divf (addf (extractStridedSlice S32x20000x2 ![0, 0, 0] (res_main_v115 V0) slices_S32x20000x4_S32x20000x2_0_0_0) (extractStridedSlice S32x20000x2 ![0, 0, 2] (res_main_v115 V0) slices_S32x20000x4_S32x20000x2_0_0_2)) (broadcastInDim S32x20000x2 ![] bcast_S_S32x20000x2 (constant S_ .f32 0x40000000#32))) (broadcastInDim S32x20000x2 ![0, 1, 2] bcast_S1x20000x2_S32x20000x2_0_1_2 (broadcastInDim S1x20000x2 ![1, 2] bcast_S20000x2_S1x20000x2_1_2 (extractStridedSlice S20000x2 ![0, 0] (V0 (Proc.devRef .tc main_arg2)) slices_S20000x4_S20000x2_0_0)))) (broadcastInDim S32x20000x2 ![0, 1, 2] bcast_S1x20000x2_S32x20000x2_0_1_2 (mulf (broadcastInDim S1x20000x2 ![] bcast_S_S1x20000x2 (constant S_ .f32 0x3DCCCCCD#32)) (broadcastInDim S1x20000x2 ![1, 2] bcast_S20000x2_S1x20000x2_1_2 (extractStridedSlice S20000x2 ![0, 2] (V0 (Proc.devRef .tc main_arg2)) slices_S20000x4_S20000x2_0_2)))) := by
  unfold val2_2
  simp only [ops_part2_1, TRef.ternary, TRef.unary, TRef.toBuf, TRef.ofBuf, cast_eq]
  after_results_simp
  simp only [val2_1_main_arg2, val2_1_main_v115] <;> rfl
set_option maxRecDepth 8192 in
set_option maxHeartbeats 2000000 in
theorem val2_2_main_v151 (V0 : Valuation τ sig (Elt F)) : val2_2 V0 (no_index (Proc.devRef .tc main_v151)) = extractStridedSlice S32x20000x2 ![0, 0, 2] (res_main_v115 V0) slices_S32x20000x4_S32x20000x2_0_0_2 := by
  unfold val2_2
  simp only [ops_part2_1, TRef.ternary, TRef.unary, TRef.toBuf, TRef.ofBuf, cast_eq]
  after_results_simp
  simp only [val2_1_main_v115] <;> rfl

end Cert.ReferenceIdeal.Value

end
-- ==== Proof.RefRun.lean ====
module

public import proofs.«01_k».proof.Proof.RefWindows

/-
  The last windows of the reference's operations, and its run: the results at their composed terms, the arguments unchanged.
-/

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v152, main_v153]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_v135 (V0 : Valuation τ sig (Elt F)) : val3 V0 (no_index (Proc.devRef .tc main_v135)) = res_main_v135 V0 :=
  (val3_keep V0 main_v135 (by decide)).trans (val2_2_main_v135 V0)
theorem val3_main_v150 (V0 : Valuation τ sig (Elt F)) : val3 V0 (no_index (Proc.devRef .tc main_v150)) = Host.divf (subf (Host.divf (addf (extractStridedSlice S32x20000x2 ![0, 0, 0] (res_main_v115 V0) slices_S32x20000x4_S32x20000x2_0_0_0) (extractStridedSlice S32x20000x2 ![0, 0, 2] (res_main_v115 V0) slices_S32x20000x4_S32x20000x2_0_0_2)) (broadcastInDim S32x20000x2 ![] bcast_S_S32x20000x2 (constant S_ .f32 0x40000000#32))) (broadcastInDim S32x20000x2 ![0, 1, 2] bcast_S1x20000x2_S32x20000x2_0_1_2 (broadcastInDim S1x20000x2 ![1, 2] bcast_S20000x2_S1x20000x2_1_2 (extractStridedSlice S20000x2 ![0, 0] (V0 (Proc.devRef .tc main_arg2)) slices_S20000x4_S20000x2_0_0)))) (broadcastInDim S32x20000x2 ![0, 1, 2] bcast_S1x20000x2_S32x20000x2_0_1_2 (mulf (broadcastInDim S1x20000x2 ![] bcast_S_S1x20000x2 (constant S_ .f32 0x3DCCCCCD#32)) (broadcastInDim S1x20000x2 ![1, 2] bcast_S20000x2_S1x20000x2_1_2 (extractStridedSlice S20000x2 ![0, 2] (V0 (Proc.devRef .tc main_arg2)) slices_S20000x4_S20000x2_0_2)))) :=
  (val3_keep V0 main_v150 (by decide)).trans (val2_2_main_v150 V0)
set_option maxRecDepth 8192 in
theorem val3_main_v153 (V0 : Valuation τ sig (Elt F)) : val3 V0 (no_index (Proc.devRef .tc main_v153)) = subf (extractStridedSlice S32x20000x2 ![0, 0, 2] (res_main_v115 V0) slices_S32x20000x4_S32x20000x2_0_0_2) (extractStridedSlice S32x20000x2 ![0, 0, 0] (res_main_v115 V0) slices_S32x20000x4_S32x20000x2_0_0_0) := by
  unfold val3
  simp only [ops_part2_2]
  after_results_simp
  simp only [val2_2_main_v115, val2_2_main_v151] <;> rfl

/-- The device's buffer contents after @main's first 220 operations. -/
def val3_1 (V0 : Valuation τ sig (Elt F)) : Valuation τ sig (Elt F) := after ops_part3_0 (val3 V0)
/-- The buffers that window `ops_part3_0`'s operations write. -/
abbrev ops_part3_0_W : List (Ref sig .tc) := [main_v154, main_v155, main_v156, main_v157, main_v158, main_cst_24, main_v159, main_v160, main_v161, main_c_25, main_v162, main_v163, main_v164, main_v165, main_cst_26, main_v166, main_v167, main_cst_27, main_v168, main_v169, main_v170, main_cst_28, main_v171, main_v172, main_v173, main_v174, main_v175, main_v176, main_v177, main_cst_29]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
theorem val3_1_main_arg4 (V0 : Valuation τ sig (Elt F)) : val3_1 V0 (no_index (Proc.devRef .tc main_arg4)) = V0 (Proc.devRef .tc main_arg4) :=
  (val3_1_keep V0 main_arg4 (by decide)).trans (val3_main_arg4 V0)
theorem val3_1_main_v135 (V0 : Valuation τ sig (Elt F)) : val3_1 V0 (no_index (Proc.devRef .tc main_v135)) = res_main_v135 V0 :=
  (val3_1_keep V0 main_v135 (by decide)).trans (val3_main_v135 V0)
set_option maxRecDepth 8192 in
set_option maxHeartbeats 2000000 in
theorem val3_1_main_v163 (V0 : Valuation τ sig (Elt F)) : val3_1 V0 (no_index (Proc.devRef .tc main_v163)) = res_main_v163 V0 := by
  unfold val3_1
  simp only [ops_part3_0, TRef.ternary, TRef.toBuf, TRef.ofBuf, cast_eq]
  after_results_simp
  simp only [val3_main_v135] <;> rfl
set_option maxRecDepth 8192 in
set_option maxHeartbeats 2000000 in
theorem val3_1_main_v177 (V0 : Valuation τ sig (Elt F)) : val3_1 V0 (no_index (Proc.devRef .tc main_v177)) = mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0)))) := by
  unfold val3_1
  simp only [ops_part3_0, TRef.ternary, TRef.toBuf, TRef.ofBuf, cast_eq]
  after_results_simp
  simp only [val3_main_v135, val3_main_arg2, val3_main_v153, val3_main_v150, val3_main_arg0] <;> rfl
set_option maxRecDepth 8192 in
set_option maxHeartbeats 2000000 in
theorem val3_1_main_cst_29 (V0 : Valuation τ sig (Elt F)) : val3_1 V0 (no_index (Proc.devRef .tc main_cst_29)) = constant S_ .f32 0x00000000#32 := by
  unfold val3_1
  simp only [ops_part3_0, TRef.ternary, TRef.toBuf, TRef.ofBuf, cast_eq]
  after_results_simp
  all_goals rfl

/-- The device's buffer contents after @main's first 250 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v178, main_call4_cst, main_call4_v0, main_call4_cst_0, main_call4_v1, main_call4_v2, main_call4_v3, main_call4_v4, main_call4_v5, main_call4_v6, main_call4_cst_1, main_call4_v7, main_call4_v8, main_call4_v9, main_call4_v10, main_v179, main_v180, main_call5_c, main_call5_v0, main_call5_v1, main_call5_c_0, main_call5_v2, main_call5_v3, main_call5_v4, main_call5_v5, main_call5_c_1, main_call5_c_2, main_call5_v6, main_call5_v7, main_call5_v8]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_arg4 (V0 : Valuation τ sig (Elt F)) : val3_2 V0 (no_index (Proc.devRef .tc main_arg4)) = V0 (Proc.devRef .tc main_arg4) :=
  (val3_2_keep V0 main_arg4 (by decide)).trans (val3_1_main_arg4 V0)
theorem val3_2_main_v163 (V0 : Valuation τ sig (Elt F)) : val3_2 V0 (no_index (Proc.devRef .tc main_v163)) = res_main_v163 V0 :=
  (val3_2_keep V0 main_v163 (by decide)).trans (val3_1_main_v163 V0)
set_option maxRecDepth 8192 in
set_option maxHeartbeats 2000000 in
theorem val3_2_main_v178 (V0 : Valuation τ sig (Elt F)) : val3_2 V0 (no_index (Proc.devRef .tc main_v178)) = Host.reduceAdd (mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0))))) (constant S_ .f32 0x00000000#32) reducesTo_S32x20000x4_S_d0_1_2 h_S_ := by
  unfold val3_2
  simp only [ops_part3_1, TRef.binary, TRef.nullary, TRef.reshape, TRef.ternary, TRef.unary, TRef.toBuf, TRef.ofBuf, cast_eq]
  after_results_simp
  simp only [val3_1_main_cst_29, val3_1_main_v177] <;> rfl
set_option maxRecDepth 8192 in
set_option maxHeartbeats 2000000 in
theorem val3_2_main_v179 (V0 : Valuation τ sig (Elt F)) : val3_2 V0 (no_index (Proc.devRef .tc main_v179)) = subf (res_main_call4_v5 V0) (broadcastInDim S32x20000x21 ![0, 1, 2] bcast_S32x20000x1_S32x20000x21_0_1_2 (Host.log (broadcastInDim S32x20000x1 ![0, 1] bcast_S32x20000_S32x20000x1_0_1 (Host.reduceAdd (Host.exp (res_main_call4_v5 V0)) (constant S_ .f32 0x00000000#32) reducesTo_S32x20000x21_S32x20000_d2 h_S_)))) := by
  unfold val3_2
  simp only [ops_part3_1, TRef.binary, TRef.nullary, TRef.reshape, TRef.ternary, TRef.unary, TRef.toBuf, TRef.ofBuf, cast_eq]
  after_results_simp
  simp only [val3_1_main_arg1] <;> rfl
set_option maxRecDepth 8192 in
set_option maxHeartbeats 2000000 in
theorem val3_2_main_call5_v5 (V0 : Valuation τ sig (Elt F)) : val3_2 V0 (no_index (Proc.devRef .tc main_call5_v5)) = res_main_call5_v5 V0 := by
  unfold val3_2
  simp only [ops_part3_1, TRef.binary, TRef.nullary, TRef.reshape, TRef.ternary, TRef.unary, TRef.toBuf, TRef.ofBuf, cast_eq]
  after_results_simp
  simp only [val3_1_main_v135] <;> rfl
set_option maxRecDepth 8192 in
set_option maxHeartbeats 2000000 in
theorem val3_2_main_call5_v7 (V0 : Valuation τ sig (Elt F)) : val3_2 V0 (no_index (Proc.devRef .tc main_call5_v7)) = cmpi .sge (res_main_call5_v5 V0) (broadcastInDim S32x20000x1x1 ![] bcast_S_S32x20000x1x1 (constantI S_ 32 0#32)) := by
  unfold val3_2
  simp only [ops_part3_1, TRef.binary, TRef.nullary, TRef.reshape, TRef.ternary, TRef.unary, TRef.toBuf, TRef.ofBuf, cast_eq]
  after_results_simp
  simp only [val3_1_main_v135] <;> rfl
set_option maxRecDepth 8192 in
set_option maxHeartbeats 2000000 in
theorem val3_2_main_call5_v8 (V0 : Valuation τ sig (Elt F)) : val3_2 V0 (no_index (Proc.devRef .tc main_call5_v8)) = broadcastInDim S1x1x1x1 ![3] bcast_S1_S1x1x1x1_3 (constantI S1 32 20#32) := by
  unfold val3_2
  simp only [ops_part3_1, TRef.binary, TRef.nullary, TRef.reshape, TRef.ternary, TRef.unary, TRef.toBuf, TRef.ofBuf, cast_eq]
  after_results_simp
  all_goals rfl

/-- The device's buffer contents after @main's first 280 operations. -/
def val3_3 (V0 : Valuation τ sig (Elt F)) : Valuation τ sig (Elt F) := after ops_part3_2 (val3_2 V0)
/-- The buffers that window `ops_part3_2`'s operations write. -/
abbrev ops_part3_2_W : List (Ref sig .tc) := [main_call5_v9, main_call5_v10, main_call5_v11, main_call5_c_3, main_call5_v12, main_call5_v13, main_call5_cst, main_call5_v14, main_v181, main_v182, main_v183, main_v184, main_v185, main_cst_30, main_v186, main_v187, main_c_31, main_v188, main_v189, main_c_32, main_v190, main_v191, main_c_33, main_v192, main_v193, main_v194, main_cst_34, main_v195, main_v196, main_v197]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_2` does not write keeps its contents through it. -/
theorem val3_3_keep (V0 : Valuation τ sig (Elt F)) (r : Ref sig .tc) (h : r ∉ ops_part3_2_W) :
    val3_3 V0 (Proc.devRef .tc r) = val3_2 V0 (Proc.devRef .tc r) :=
  after_of_writes_sub ops_part3_2 _ ops_part3_2_writes h
theorem val3_3_main_arg0 (V0 : Valuation τ sig (Elt F)) : val3_3 V0 (no_index (Proc.devRef .tc main_arg0)) = V0 (Proc.devRef .tc main_arg0) :=
  (val3_3_keep V0 main_arg0 (by decide)).trans (val3_2_main_arg0 V0)
theorem val3_3_main_arg1 (V0 : Valuation τ sig (Elt F)) : val3_3 V0 (no_index (Proc.devRef .tc main_arg1)) = V0 (Proc.devRef .tc main_arg1) :=
  (val3_3_keep V0 main_arg1 (by decide)).trans (val3_2_main_arg1 V0)
theorem val3_3_main_arg2 (V0 : Valuation τ sig (Elt F)) : val3_3 V0 (no_index (Proc.devRef .tc main_arg2)) = V0 (Proc.devRef .tc main_arg2) :=
  (val3_3_keep V0 main_arg2 (by decide)).trans (val3_2_main_arg2 V0)
theorem val3_3_main_arg3 (V0 : Valuation τ sig (Elt F)) : val3_3 V0 (no_index (Proc.devRef .tc main_arg3)) = V0 (Proc.devRef .tc main_arg3) :=
  (val3_3_keep V0 main_arg3 (by decide)).trans (val3_2_main_arg3 V0)
theorem val3_3_main_arg4 (V0 : Valuation τ sig (Elt F)) : val3_3 V0 (no_index (Proc.devRef .tc main_arg4)) = V0 (Proc.devRef .tc main_arg4) :=
  (val3_3_keep V0 main_arg4 (by decide)).trans (val3_2_main_arg4 V0)
theorem val3_3_main_v178 (V0 : Valuation τ sig (Elt F)) : val3_3 V0 (no_index (Proc.devRef .tc main_v178)) = Host.reduceAdd (mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0))))) (constant S_ .f32 0x00000000#32) reducesTo_S32x20000x4_S_d0_1_2 h_S_ :=
  (val3_3_keep V0 main_v178 (by decide)).trans (val3_2_main_v178 V0)
set_option maxRecDepth 8192 in
set_option maxHeartbeats 2000000 in
theorem val3_3_main_v186 (V0 : Valuation τ sig (Elt F)) : val3_3 V0 (no_index (Proc.devRef .tc main_v186)) = Host.reduceAdd (mulf (res_main_v183 V0) (uitofp .f32 (res_main_v163 V0))) (constant S_ .f32 0x00000000#32) reducesTo_S32x20000_S_d0_1 h_S_ := by
  unfold val3_3
  simp only [ops_part3_2, TRef.binary, TRef.nullary, TRef.ternary, TRef.unary, TRef.toBuf, TRef.ofBuf, cast_eq]
  after_results_simp
  simp only [val3_2_main_v163, val3_2_main_call5_v5, val3_2_main_v179, val3_2_main_call5_v8, val3_2_main_call5_v7] <;> rfl
set_option maxRecDepth 8192 in
set_option maxHeartbeats 2000000 in
theorem val3_3_main_v189 (V0 : Valuation τ sig (Elt F)) : val3_3 V0 (no_index (Proc.devRef .tc main_v189)) = res_main_v189 V0 := by
  unfold val3_3
  simp only [ops_part3_2, TRef.binary, TRef.nullary, TRef.ternary, TRef.unary, TRef.toBuf, TRef.ofBuf, cast_eq]
  after_results_simp
  simp only [val3_2_main_v163] <;> rfl
set_option maxRecDepth 8192 in
set_option maxHeartbeats 2000000 in
theorem val3_3_main_v193 (V0 : Valuation τ sig (Elt F)) : val3_3 V0 (no_index (Proc.devRef .tc main_v193)) = minsi (muli (broadcastInDim S32x1 ![] bcast_S_S32x1 (constantI S_ 32 3#32)) (res_main_v189 V0)) (broadcastInDim S32x1 ![] bcast_S_S32x1 (constantI S_ 32 19999#32)) := by
  unfold val3_3
  simp only [ops_part3_2, TRef.binary, TRef.nullary, TRef.ternary, TRef.unary, TRef.toBuf, TRef.ofBuf, cast_eq]
  after_results_simp
  simp only [val3_2_main_v163] <;> rfl
set_option maxRecDepth 8192 in
set_option maxHeartbeats 2000000 in
theorem val3_3_main_v197 (V0 : Valuation τ sig (Elt F)) : val3_3 V0 (no_index (Proc.devRef .tc main_v197)) = mulf (res_main_v183 V0) (subf (broadcastInDim S32x20000 ![] bcast_S_S32x20000 (constant S_ .f32 0x3F800000#32)) (uitofp .f32 (res_main_v163 V0))) := by
  unfold val3_3
  simp only [ops_part3_2, TRef.binary, TRef.nullary, TRef.ternary, TRef.unary, TRef.toBuf, TRef.ofBuf, cast_eq]
  after_results_simp
  simp only [val3_2_main_v163, val3_2_main_call5_v5, val3_2_main_v179, val3_2_main_call5_v8, val3_2_main_call5_v7] <;> rfl

/-- The device's buffer contents after @main's first 4 windows. -/
def val4 (V0 : Valuation τ sig (Elt F)) : Valuation τ sig (Elt F) := after ops_part3_3 (val3_3 V0)
/-- The buffers that window `ops_part3_3`'s operations write. -/
abbrev ops_part3_3_W : List (Ref sig .tc) := [main_v198, main_v199, main_v200, main_v201, main_v202]
set_option maxRecDepth 8192 in
theorem ops_part3_3_writes : (ops_part3_3 : List (HloOp τ sig (Elt F))).Forall fun op => op.writes ⊆ (ops_part3_3_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_3` does not write keeps its contents through it. -/
theorem val4_keep (V0 : Valuation τ sig (Elt F)) (r : Ref sig .tc) (h : r ∉ ops_part3_3_W) :
    val4 V0 (Proc.devRef .tc r) = val3_3 V0 (Proc.devRef .tc r) :=
  after_of_writes_sub ops_part3_3 _ ops_part3_3_writes h
theorem val4_main_arg0 (V0 : Valuation τ sig (Elt F)) : val4 V0 (no_index (Proc.devRef .tc main_arg0)) = V0 (Proc.devRef .tc main_arg0) :=
  (val4_keep V0 main_arg0 (by decide)).trans (val3_3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_3_main_arg4 V0)
theorem val4_main_v178 (V0 : Valuation τ sig (Elt F)) : val4 V0 (no_index (Proc.devRef .tc main_v178)) = Host.reduceAdd (mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0))))) (constant S_ .f32 0x00000000#32) reducesTo_S32x20000x4_S_d0_1_2 h_S_ :=
  (val4_keep V0 main_v178 (by decide)).trans (val3_3_main_v178 V0)
theorem val4_main_v186 (V0 : Valuation τ sig (Elt F)) : val4 V0 (no_index (Proc.devRef .tc main_v186)) = Host.reduceAdd (mulf (res_main_v183 V0) (uitofp .f32 (res_main_v163 V0))) (constant S_ .f32 0x00000000#32) reducesTo_S32x20000_S_d0_1 h_S_ :=
  (val4_keep V0 main_v186 (by decide)).trans (val3_3_main_v186 V0)
theorem val4_main_v189 (V0 : Valuation τ sig (Elt F)) : val4 V0 (no_index (Proc.devRef .tc main_v189)) = res_main_v189 V0 :=
  (val4_keep V0 main_v189 (by decide)).trans (val3_3_main_v189 V0)
theorem val4_main_v193 (V0 : Valuation τ sig (Elt F)) : val4 V0 (no_index (Proc.devRef .tc main_v193)) = minsi (muli (broadcastInDim S32x1 ![] bcast_S_S32x1 (constantI S_ 32 3#32)) (res_main_v189 V0)) (broadcastInDim S32x1 ![] bcast_S_S32x1 (constantI S_ 32 19999#32)) :=
  (val4_keep V0 main_v193 (by decide)).trans (val3_3_main_v193 V0)
set_option maxRecDepth 8192 in
theorem val4_main_v200 (V0 : Valuation τ sig (Elt F)) : val4 V0 (no_index (Proc.devRef .tc main_v200)) = Host.negf (Host.sort S32x20000 1 comparator_f32_d1 (Host.negf (mulf (res_main_v183 V0) (subf (broadcastInDim S32x20000 ![] bcast_S_S32x20000 (constant S_ .f32 0x3F800000#32)) (uitofp .f32 (res_main_v163 V0)))))) := by
  unfold val4
  simp only [ops_part3_3, TRef.unary, TRef.toBuf, TRef.ofBuf, cast_eq]
  after_results_simp
  simp only [val3_3_main_v197] <;> rfl
set_option maxRecDepth 8192 in
theorem val4_main_v202 (V0 : Valuation τ sig (Elt F)) : val4 V0 (no_index (Proc.devRef .tc main_v202)) = broadcastInDim S1x20000 ![1] bcast_S20000_S1x20000_1 (iotaInDim S20000 32 0) := by
  unfold val4
  simp only [ops_part3_3, TRef.unary, TRef.toBuf, TRef.ofBuf, cast_eq]
  after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v203, main_v204, main_v205, main_v206, main_v207, main_cst_35, main_v208, main_c_36, main_v209, main_v210, main_v211, main_v212, main_v213]
set_option maxRecDepth 8192 in
theorem ops_part4_writes : (ops_part4 : List (HloOp τ sig (Elt F))).Forall fun op => op.writes ⊆ (ops_part4_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
set_option maxRecDepth 8192 in
set_option maxHeartbeats 1300000 in
theorem val5_main_v211 (V0 : Valuation τ sig (Elt F)) : val5 V0 (no_index (Proc.devRef .tc main_v211)) = Host.divf (Host.reduceAdd (mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0))))) (constant S_ .f32 0x00000000#32) reducesTo_S32x20000x4_S_d0_1_2 h_S_) (res_main_v210 V0) := by
  unfold val5
  simp only [ops_part4]
  after_results_simp
  simp only [val4_main_v189, val4_main_v178] <;> rfl
set_option maxRecDepth 8192 in
set_option maxHeartbeats 1300000 in
theorem val5_main_v213 (V0 : Valuation τ sig (Elt F)) : val5 V0 (no_index (Proc.devRef .tc main_v213)) = Host.divf (addf (Host.reduceAdd (mulf (res_main_v183 V0) (uitofp .f32 (res_main_v163 V0))) (constant S_ .f32 0x00000000#32) reducesTo_S32x20000_S_d0_1 h_S_) (Host.reduceAdd (mulf (Host.negf (Host.sort S32x20000 1 comparator_f32_d1 (Host.negf (mulf (res_main_v183 V0) (subf (broadcastInDim S32x20000 ![] bcast_S_S32x20000 (constant S_ .f32 0x3F800000#32)) (uitofp .f32 (res_main_v163 V0))))))) (uitofp .f32 (cmpi .slt (broadcastInDim S32x20000 ![0, 1] bcast_S1x20000_S32x20000_0_1 (broadcastInDim S1x20000 ![1] bcast_S20000_S1x20000_1 (iotaInDim S20000 32 0))) (broadcastInDim S32x20000 ![0, 1] bcast_S32x1_S32x20000_0_1 (minsi (muli (broadcastInDim S32x1 ![] bcast_S_S32x1 (constantI S_ 32 3#32)) (res_main_v189 V0)) (broadcastInDim S32x1 ![] bcast_S_S32x1 (constantI S_ 32 19999#32))))))) (constant S_ .f32 0x00000000#32) reducesTo_S32x20000_S_d0_1 h_S_)) (res_main_v210 V0) := by
  unfold val5
  simp only [ops_part4]
  after_results_simp
  simp only [val4_main_v189, val4_main_v193, val4_main_v202, val4_main_v200, val4_main_v186] <;> rfl

theorem after_ops (V0 : Valuation τ sig (Elt F)) : after ops V0 = val5 V0 := by
  simp only [ops, ops_part1, ops_part2, ops_part3, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v211) = Host.divf (Host.reduceAdd (mulf (select (cmpf .olt (res_main_v165 (launchContents m c)) (broadcastInDim S32x20000x4 ![] bcast_S_S32x20000x4 (constant S_ .f32 0x3F800000#32))) (mulf (mulf (broadcastInDim S32x20000x4 ![] bcast_S_S32x20000x4 (constant S_ .f32 0x3F000000#32)) (res_main_v164 (launchContents m c))) (res_main_v164 (launchContents m c))) (subf (res_main_v165 (launchContents m c)) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 (launchContents m c)))))) (constant S_ .f32 0x00000000#32) reducesTo_S32x20000x4_S_d0_1_2 h_S_) (res_main_v210 (launchContents m c))
      ∧ r.2.mem ((c.tc : Thread nD τ).loc main_v213) = Host.divf (addf (Host.reduceAdd (mulf (res_main_v183 (launchContents m c)) (uitofp .f32 (res_main_v163 (launchContents m c)))) (constant S_ .f32 0x00000000#32) reducesTo_S32x20000_S_d0_1 h_S_) (Host.reduceAdd (mulf (Host.negf (Host.sort S32x20000 1 comparator_f32_d1 (Host.negf (mulf (res_main_v183 (launchContents m c)) (subf (broadcastInDim S32x20000 ![] bcast_S_S32x20000 (constant S_ .f32 0x3F800000#32)) (uitofp .f32 (res_main_v163 (launchContents m c)))))))) (uitofp .f32 (cmpi .slt (broadcastInDim S32x20000 ![0, 1] bcast_S1x20000_S32x20000_0_1 (broadcastInDim S1x20000 ![1] bcast_S20000_S1x20000_1 (iotaInDim S20000 32 0))) (broadcastInDim S32x20000 ![0, 1] bcast_S32x1_S32x20000_0_1 (minsi (muli (broadcastInDim S32x1 ![] bcast_S_S32x1 (constantI S_ 32 3#32)) (res_main_v189 (launchContents m c))) (broadcastInDim S32x1 ![] bcast_S_S32x1 (constantI S_ 32 19999#32))))))) (constant S_ .f32 0x00000000#32) reducesTo_S32x20000_S_d0_1 h_S_)) (res_main_v210 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v211).trans ((congrFun (after_ops (launchContents m c)) (Proc.devRef .tc main_v211)).trans (val5_main_v211 (launchContents m c))),
      (h c main_v213).trans ((congrFun (after_ops (launchContents m c)) (Proc.devRef .tc main_v213)).trans (val5_main_v213 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c))),
      (h c main_arg4).trans ((congrFun (after_ops (launchContents m c)) (Proc.devRef .tc main_arg4)).trans (val5_main_arg4 (launchContents m c)))⟩)
    (run_seq scopedRefs_eq scopedSems_eq defs main (fun _ => ops) main_eq (fun _ => ops_sub) m ρ fun _ => ops_fresh)

end Cert.ReferenceIdeal.Value

end
-- ==== Proof.RefValue.lean ====
module

public import proofs.«01_k».proof.Proof.RefArrays
public import proofs.«01_k».proof.Proof.RefRun

/-
  The reference's first result over its arguments: the sum of the images' location losses over the number of priors that count.
-/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Loss

/-! ## Counts -/

/-- The extended real of a sum of natural numbers is the sum of theirs. -/
theorem coe_sum_nat {ι : Type} [DecidableEq ι] (s : Finset ι) (f : ι → ℕ) : (((∑ i ∈ s, f i : ℕ) : ℝ) : EReal) = ∑ i ∈ s, (((f i : ℕ) : ℝ) : EReal) := by
  induction s using Finset.induction_on with
  | empty => simp
  | insert a s ha ih => rw [Finset.sum_insert ha, Finset.sum_insert ha, Nat.cast_add, EReal.coe_add, ih]

/-- The words of a one-column array, added up: no more than the word length holds, hence the sum. -/
theorem total (x : IVec S32x1 32) (f : Fin 32 → ℕ) (hx : ∀ b, (x (ix2 b 0)).toNat = f b) (hf : ∑ b, f b < 2 ^ 31) :
    (Host.reduce IntOp.addi x (constantI S_ 32 0#32) reducesTo_S32x1_S_d0_1 h_S_ ix0).toNat = ∑ b, f b := by
  classical
  have hsum : ∑ i ∈ Finset.univ.filter (fun i : S32x1.Idx => reducesTo_S32x1_S_d0_1.drop i = ix0), (x i).toNat = ∑ b, f b := by
    refine Finset.sum_bij' (fun i _ => i 0) (fun b _ => ix2 b 0) (fun _ _ => Finset.mem_univ _)
      (fun b _ => Finset.mem_filter.2 ⟨Finset.mem_univ _, ValueIdx.eq_ix0 _⟩) (fun i _ => ?_) (fun _ _ => rfl) (fun i _ => ?_)
    · funext a
      match a with
      | ⟨0, _⟩ => rfl
      | ⟨1, _⟩ => exact (Subsingleton.elim (α := Fin 1) _ _)
    · refine Eq.trans (congrArg BitVec.toNat (congrArg x (?_ : i = ix2 (i 0) 0))) (hx (i 0))
      funext a
      match a with
      | ⟨0, _⟩ => rfl
      | ⟨1, _⟩ => exact (Subsingleton.elim (α := Fin 1) _ _)
  rw [Host.reduce_eq_fold]
  show (Finset.fold IntOp.addi 0#32 x (Finset.univ.filter fun i : S32x1.Idx => reducesTo_S32x1_S_d0_1.drop i = ix0)).toNat = _
  rw [StableHlo.Predicate.toNat_fold_addi _ _ (by rw [hsum]; omega), hsum]

variable (V0 : Valuation τ sig (Elt Ideal))

/-- No label is below zero. -/
abbrev Natural : Prop := ∀ b j, 0 ≤ ((V0 (Proc.devRef .tc main_arg4) : IVec S32x24 32) (ix2 b j)).toInt

/-- The labels are those of classes. -/
abbrev Ranged : Prop := ∀ b j, 0 ≤ ((V0 (Proc.devRef .tc main_arg4) : IVec S32x24 32) (ix2 b j)).toInt ∧ ((V0 (Proc.devRef .tc main_arg4) : IVec S32x24 32) (ix2 b j)).toInt < 20

/-- Labels of classes are not below zero. -/
theorem Ranged.natural {V0 : Valuation τ sig (Elt Ideal)} (hl : Ranged V0) : Natural V0 := fun b j => (hl b j).1

/-- How many priors of an image count, as a word. -/
theorem v189_apply (b : Fin 32) : ((res_main_v189 V0 : IVec S32x1 32) (ix2 b 0)).toNat
    = (Finset.univ.filter fun p : Fin 20000 => (res_main_v163 V0 : IVec S32x20000 1) (ix2 b p) = 1#1).card := by
  have h : (res_main_v189 V0 : IVec S32x1 32) (ix2 b 0) = Host.reduce IntOp.addi (extui 32 (res_main_v163 V0 : IVec S32x20000 1) natLt_1_32) (constantI S_ 32 0#32) reducesTo_S32x20000_S32_d1 h_S_ (ix1 b) := by
    unfold res_main_v189
    refine congrArg (Host.reduce IntOp.addi _ _ _ _) ?_
    funext a
    match a with
    | ⟨0, _⟩ => rfl
  rw [h, StableHlo.Predicate.toNat_reduce_count_cols (by decide)]
  refine congrArg Finset.card (Finset.filter_congr fun p _ => ?_)
  have he : (StableHlo.Predicate.ij (ix1 b 0) p : S32x20000.Idx) = ix2 b p := funext fun a => match a with | ⟨0, _⟩ => rfl | ⟨1, _⟩ => rfl
  exact Eq.to_iff (congrArg (fun i => (res_main_v163 V0 : IVec S32x20000 1) i = 1#1) he)

/-- The two bits differ. -/
theorem zero_ne_bit : ¬ (0#1 = 1#1) := by decide

/-- The bit of a prior as a number is its indicator. -/
theorem ind_eq (hl : Natural V0) (b : Fin 32) (p : Fin 20000) :
    (if (res_main_v163 V0 : IVec S32x20000 1) (ix2 b p) = 1#1 then (1 : EReal) else 0) = ind (tb V0 b) (pr V0) p := by
  rw [v163_apply V0 hl b p]
  unfold ind
  by_cases h : judged (tb V0 b) (pr V0) p < half
  · rw [if_pos h, decide_eq_false (not_not.2 h)]
    exact if_neg zero_ne_bit
  · simp [h]

/-- The bit of a prior read as a float is its indicator. -/
theorem uitofp_eq (hl : Natural V0) (b : Fin 32) (p : Fin 20000) :
    (FloatOps.uitofp (F := Ideal) .f32 ((res_main_v163 V0 : IVec S32x20000 1) (ix2 b p)) : EReal) = ind (tb V0 b) (pr V0) p := by
  rw [← ind_eq V0 hl b p]
  generalize (res_main_v163 V0 : IVec S32x20000 1) (ix2 b p) = z
  show (((z.toNat : ℝ)) : EReal) = _
  rcases BitVec.eq_zero_or_eq_one z with rfl | rfl
  · rw [if_neg zero_ne_bit]; simp
  · simp

/-- The number of priors that count, over all images. -/
theorem v210_apply (hl : Natural V0) : (res_main_v210 V0 : FVec Ideal S_ .f32) ix0 = ∑ b : Fin 32, Loss.count (tb V0 b) (pr V0) := by
  have hc : ∀ b : Fin 32, (Finset.univ.filter fun p : Fin 20000 => (res_main_v163 V0 : IVec S32x20000 1) (ix2 b p) = 1#1).card ≤ 20000 := fun b =>
    (Finset.card_le_univ _).trans (by simp)
  have hs : ∑ b : Fin 32, (Finset.univ.filter fun p : Fin 20000 => (res_main_v163 V0 : IVec S32x20000 1) (ix2 b p) = 1#1).card ≤ 640000 :=
    (Finset.sum_le_sum fun b _ => hc b).trans (by simp)
  have ht := total (res_main_v189 V0) _ (v189_apply V0) (by omega)
  have h : (res_main_v210 V0 : FVec Ideal S_ .f32) ix0 = FloatOps.sitofp (F := Ideal) .f32 (Host.reduce IntOp.addi (res_main_v189 V0 : IVec S32x1 32) (constantI S_ 32 0#32) reducesTo_S32x1_S_d0_1 h_S_ ix0) := rfl
  rw [h]
  generalize Host.reduce IntOp.addi (res_main_v189 V0 : IVec S32x1 32) (constantI S_ 32 0#32) reducesTo_S32x1_S_d0_1 h_S_ ix0 = z at ht
  show (((z.toInt : ℤ) : ℝ) : EReal) = _
  have hz : z.toInt = (z.toNat : ℤ) := by
    rw [BitVec.toInt_eq_toNat_cond]
    split <;> omega
  rw [hz, ht, Int.cast_natCast, coe_sum_nat]
  refine Finset.sum_congr rfl fun b _ => ?_
  rw [Finset.card_filter, coe_sum_nat]
  unfold Loss.count
  refine Finset.sum_congr rfl fun p _ => ?_
  rw [← ind_eq V0 hl b p]
  split <;> simp

/-! ## The location loss -/

/-- The quotient of the smooth L1 terms with their indicators, added up, over arrays that are known. -/
theorem sum_of (x y : FVec Ideal S32x20000x4 .f32) (w : IVec S32x20000 1) (d : FVec Ideal S_ .f32) (f : Fin 32 → Fin 20000 → Fin 4 → EReal) (g : Fin 32 → Fin 20000 → EReal) (e : EReal)
    (hx : ∀ b p r, x (ix3 b p r) = f b p r) (hy : ∀ b p r, y (ix3 b p r) = max (f b p r) (-f b p r))
    (hw : ∀ b p, (FloatOps.uitofp (F := Ideal) .f32 (w (ix2 b p)) : EReal) = g b p) (hd : d ix0 = e) :
    (Host.divf (Host.reduceAdd (mulf (select (cmpf .olt y (broadcastInDim S32x20000x4 ![] bcast_S_S32x20000x4 (constant S_ .f32 0x3F800000#32))) (mulf (mulf (broadcastInDim S32x20000x4 ![] bcast_S_S32x20000x4 (constant S_ .f32 0x3F000000#32)) x) x) (subf y (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 w)))) (constant S_ .f32 0x00000000#32) reducesTo_S32x20000x4_S_d0_1_2 h_S_) d : FVec Ideal S_ .f32) ix0
      = Ideal.div (∑ b, ∑ p, ∑ r, smooth (f b p r) * g b p) e := by
  pointwise []
  simp only [hx, hy, hw, hd]
  rfl

/-- The first result: the sum of the location losses over the number of priors that count. -/
theorem result (hl : Natural V0) (i : S_.Idx) :
    (Host.divf (Host.reduceAdd (mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0))))) (constant S_ .f32 0x00000000#32) reducesTo_S32x20000x4_S_d0_1_2 h_S_) (res_main_v210 V0) : FVec Ideal S_ .f32) i
      = Ideal.div (∑ b : Fin 32, locSum (tb V0 b) (pr V0) (lc V0 b)) (∑ b : Fin 32, Loss.count (tb V0 b) (pr V0)) := by
  obtain rfl : i = ix0 := ValueIdx.eq_ix0 i
  refine (sum_of (res_main_v164 V0) (res_main_v165 V0) (res_main_v163 V0) (res_main_v210 V0) _ _ _ (v164_apply V0)
    (fun b p r => congrArg (fun z : EReal => max z (-z)) (v164_apply V0 b p r)) (uitofp_eq V0 hl) (v210_apply V0 hl)).trans ?_
  refine congrArg₂ Ideal.div (Finset.sum_congr rfl fun b _ => ?_) rfl
  unfold locSum
  refine Finset.sum_congr rfl fun p _ => ?_
  rw [sum_mul_ind]
  rfl

end Cert.ReferenceIdeal.Value
-- ==== Proof.Labels.lean ====
module

public import proofs.«01_k».proof.Pre_labels_not_negative
public import proofs.«01_k».proof.On_first_result
public import Idealize.ShloMosaic.Lib.Pipeline.ValueKit

/-
  What the preconditions say of a label: it is at least zero, or at least zero and below twenty.
-/

@[expose] public section

set_option maxRecDepth 16384

noncomputable section

open Idealize.ShloMosaic Idealize.ShloMosaic.TcCoe Idealize.SL.Sem

namespace Cert.Labels

/-- The precondition's shape relations hold. -/
theorem pre_facts : Cert.Pre_labels_not_negative.Facts where
  bcast_S_S32x24 := by decide

/-- The mask has no shape relations. -/
theorem on_facts : Cert.On_first_result.Facts where

/-- Both comparisons of a word hold: it is in the range. -/
theorem range_of_bits (z : BitVec 32) (h : IntOp.andi (IntOp.cmpi .sge z 0#32) (IntOp.cmpi .slt z 20#32) = 1#1) : 0 ≤ z.toInt ∧ z.toInt < 20 := by
  have h1 : IntOp.cmpi .sge z 0#32 = BitVec.ofBool ((0#32).sle z) := rfl
  have h2 : IntOp.cmpi .slt z 20#32 = BitVec.ofBool (z.slt 20#32) := rfl
  have e0 : (0#32).toInt = 0 := rfl
  have e20 : (20#32).toInt = 20 := rfl
  rw [h1, h2, BitVec.sle_eq_decide, BitVec.slt_eq_decide, e0, e20] at h
  by_cases ha : 0 ≤ z.toInt
  · by_cases hb : z.toInt < 20
    · exact ⟨ha, hb⟩
    · rw [decide_eq_true ha, decide_eq_false hb] at h
      exact absurd h (by decide)
  · rw [decide_eq_false ha] at h
    by_cases hb : z.toInt < 20
    · rw [decide_eq_true hb] at h
      exact absurd h (by decide)
    · rw [decide_eq_false hb] at h
      exact absurd h (by decide)

/-- The comparison of a word holds: it is not below zero. -/
theorem natural_of_bit (z : BitVec 32) (h : IntOp.cmpi .sge z 0#32 = 1#1) : 0 ≤ z.toInt := by
  have h1 : IntOp.cmpi .sge z 0#32 = BitVec.ofBool ((0#32).sle z) := rfl
  have e0 : (0#32).toInt = 0 := rfl
  rw [h1, BitVec.sle_eq_decide, e0] at h
  by_cases ha : 0 ≤ z.toInt
  · exact ha
  · rw [decide_eq_false ha] at h
    exact absurd h (by decide)

open Cert.Pre_labels_not_negative in
/-- Labels of which the precondition holds are not below zero. -/
theorem natural_of_pre (hP : Cert.Pre_labels_not_negative.Facts) (x0 : FVec Ideal S32x20000x4 .f32) (x1 : FVec Ideal S32x20000x21 .f32) (x2 : FVec Ideal S20000x4 .f32)
    (x3 : FVec Ideal S32x24x4 .f32) (x4 : IVec S32x24 32) (h : Cert.Pre_labels_not_negative.fn (F := Ideal) x0 x1 x2 x3 x4 = fun _ => 1#1) (b : Fin 32) (j : Fin 24) :
    0 ≤ (x4 (ix2 b j)).toInt :=
  natural_of_bit _ (congrFun h (ix2 b j))

end Cert.Labels
-- ==== Proof.Equation.lean ====
module

public import proofs.«01_k».proof.Defs
public import proofs.«01_k».proof.Proof.KRun
public import proofs.«01_k».proof.Proof.KResult
public import proofs.«01_k».proof.Proof.RefValue
public import proofs.«01_k».proof.Proof.Labels

/-
  The equation of the first results: from arguments that agree, the idealized kernel and the idealized reference end with the
  same location loss.
-/

@[expose] public section

set_option maxRecDepth 16384

noncomputable section

open Idealize.ShloMosaic Idealize.ShloMosaic.TcCoe Idealize.SL.Sem

namespace Cert.Equation

/-- The location loss of the kernel's arguments on a device. -/
def value (m : (ℓ : Loc Cert.KernelIdeal.nD Cert.KernelIdeal.τ Cert.KernelIdeal.sig) → Buf (Elt Ideal) ℓ) (c : Dev Cert.KernelIdeal.nD) : EReal :=
  Ideal.div (∑ b : Fin 32, Cert.Loss.locSum (Cert.KernelIdeal.Array.boxes (Cert.KernelIdeal.Array.A3 m c) b) (Cert.KernelIdeal.Array.priors (Cert.KernelIdeal.Array.A2 m c)) (Cert.KernelIdeal.Array.locs (Cert.KernelIdeal.Array.A0 m c) b))
    (∑ b : Fin 32, Cert.Loss.count (Cert.KernelIdeal.Array.boxes (Cert.KernelIdeal.Array.A3 m c) b) (Cert.KernelIdeal.Array.priors (Cert.KernelIdeal.Array.A2 m c)))

/-- The first results agree. -/
theorem algebraic : Cert.algebraic_KernelIdeal_ReferenceIdeal_on_first_result_pre_labels_not_negative (hKernelIdeal := Cert.KernelIdeal.Gen.facts)
    (hReferenceIdeal := Cert.ReferenceIdeal.Gen.facts) (hPre_labels_not_negative := Cert.Labels.pre_facts) (hOn_first_result := Cert.Labels.on_facts) := by
  intro m g m' g' hpre hag
  have hl : ∀ (c : Dev Cert.KernelIdeal.nD) (b : Fin 32) (j : Fin 24), 0 ≤ (Cert.KernelIdeal.Array.A4 m c (ix2 b j)).toInt :=
    fun c b j => Cert.Labels.natural_of_pre Cert.Labels.pre_facts _ _ _ _ _ (hpre c) b j
  refine ⟨fun c _ => value m c, fun c _ => (0 : EReal), ?_, ?_⟩
  · refine (θ_run Cert.KernelIdeal.defs _ _).mono (fun r h c => ?_) (Cert.KernelIdeal.Gen.run_value (F := Ideal) m g)
    obtain ⟨h7, _, ha⟩ := h.1 c
    refine ⟨fun i _ => ?_, fun i hi => absurd hi ?_, ha⟩
    · exact (congrFun h7 i).trans (Cert.KernelIdeal.Array.result m g c (hl c) i)
    · show ¬ (0#1 = 1#1)
      decide
  · refine (θ_run Cert.ReferenceIdeal.defs _ _).mono (fun r h c => ?_) (Cert.ReferenceIdeal.Value.run (F := Ideal) m' g')
    obtain ⟨h7, _, ha⟩ := h c
    refine ⟨fun i _ => ?_, fun i hi => absurd hi ?_, ha⟩
    · obtain ⟨e0, e1, e2, e3, e4⟩ := hag c
      have hr : Cert.ReferenceIdeal.Value.Natural (StableHlo.launchContents m' c) := fun b j => by
        have := hl c b j
        have e : (StableHlo.launchContents m' c (Proc.devRef .tc Cert.ReferenceIdeal.main_arg4) : IVec Cert.ReferenceIdeal.S32x24 32) = Cert.KernelIdeal.Array.A4 m c := e4
        rw [e]
        exact this
      refine (congrFun h7 i).trans ((Cert.ReferenceIdeal.Value.result (StableHlo.launchContents m' c) hr i).trans ?_)
      have f3 : Cert.ReferenceIdeal.Value.tb (StableHlo.launchContents m' c) = Cert.KernelIdeal.Array.boxes (Cert.KernelIdeal.Array.A3 m c) :=
        congrArg (fun x : FVec Ideal Cert.KernelIdeal.S32x24x4 .f32 => Cert.KernelIdeal.Array.boxes x) e3
      have f2 : Cert.ReferenceIdeal.Value.pr (StableHlo.launchContents m' c) = Cert.KernelIdeal.Array.priors (Cert.KernelIdeal.Array.A2 m c) :=
        congrArg (fun x : FVec Ideal Cert.KernelIdeal.S20000x4 .f32 => Cert.KernelIdeal.Array.priors x) e2
      have f0 : Cert.ReferenceIdeal.Value.lc (StableHlo.launchContents m' c) = Cert.KernelIdeal.Array.locs (Cert.KernelIdeal.Array.A0 m c) :=
        congrArg (fun x : FVec Ideal Cert.KernelIdeal.S32x20000x4 .f32 => Cert.KernelIdeal.Array.locs x) e0
      rw [f3, f2, f0]
      rfl
    · show ¬ (0#1 = 1#1)
      decide

end Cert.Equation
-- ==== Proof.ImgOps.lean ====
module

public import proofs.«01_k».proof.Proof.Gen.ImageLossesIdeal
public import Idealize.ShloMosaic.Lib.StableHlo.Run
public import Idealize.ShloMosaic.Lib.Pipeline.Frame

/-
  The image losses' main function as a list of host operations, in windows, and what every operation touches.
-/

@[expose] public section

set_option Elab.async false

noncomputable section

namespace Cert.ImageLossesIdeal.Value

open Cert.ImageLossesIdeal Cert.ImageLossesIdeal.Gen Idealize.ShloMosaic Idealize.ShloMosaic.TcCoe Idealize.SL.Sem Idealize.ShloMosaic.StableHlo

variable {F : FTy → Type} [FloatOps F]

/-- The function of the operation that writes `main_v12`, named. It packs its operands into a list of dependent pairs
    whose shapes a later argument's type mentions, so `simp` cannot rewrite an operand where it stands; applied by
    name, the operands are plain arguments, which the window lemmas below rewrite before the name unfolds. -/
def fn_main_v12 : (⟨S20000x2, .f32⟩ : BufTy).Contents (Elt F) → (⟨S20000x2, .f32⟩ : BufTy).Contents (Elt F) → (⟨S20000x4, .f32⟩ : BufTy).Contents (Elt F) :=
  (fun a b => concatenate S20000x4 1 [⟨S20000x2, a⟩, ⟨S20000x2, b⟩] concatenates_S20000x2_S20000x2_S20000x4_d1)

/-- The function of the operation that writes `main_v80`, named. It packs its operands into a list of dependent pairs
    whose shapes a later argument's type mentions, so `simp` cannot rewrite an operand where it stands; applied by
    name, the operands are plain arguments, which the window lemmas below rewrite before the name unfolds. -/
def fn_main_v80 : (⟨S32x24x1, .i32⟩ : BufTy).Contents (Elt F) → (⟨S32x24x1, .i32⟩ : BufTy).Contents (Elt F) → (⟨S32x24x2, .i32⟩ : BufTy).Contents (Elt F) :=
  (fun a b => concatenate S32x24x2 2 [⟨S32x24x1, a⟩, ⟨S32x24x1, b⟩] concatenates_S32x24x1_S32x24x1_S32x24x2_d2)

/-- The function of the operation that writes `main_v98`, named. It packs its operands into a list of dependent pairs
    whose shapes a later argument's type mentions, so `simp` cannot rewrite an operand where it stands; applied by
    name, the operands are plain arguments, which the window lemmas below rewrite before the name unfolds. -/
def fn_main_v98 : (⟨S32x24x1, .i32⟩ : BufTy).Contents (Elt F) → (⟨S32x24x1, .i32⟩ : BufTy).Contents (Elt F) → (⟨S32x24x2, .i32⟩ : BufTy).Contents (Elt F) :=
  (fun a b => concatenate S32x24x2 2 [⟨S32x24x1, a⟩, ⟨S32x24x1, b⟩] concatenates_S32x24x1_S32x24x1_S32x24x2_d2)

/-- The function of the operation that writes `main_v114`, named. It packs its operands into a list of dependent pairs
    whose shapes a later argument's type mentions, so `simp` cannot rewrite an operand where it stands; applied by
    name, the operands are plain arguments, which the window lemmas below rewrite before the name unfolds. -/
def fn_main_v114 : (⟨S32x20000x1, .i32⟩ : BufTy).Contents (Elt F) → (⟨S32x20000x1, .i32⟩ : BufTy).Contents (Elt F) → (⟨S32x20000x2, .i32⟩ : BufTy).Contents (Elt F) :=
  (fun a b => concatenate S32x20000x2 2 [⟨S32x20000x1, a⟩, ⟨S32x20000x1, b⟩] concatenates_S32x20000x1_S32x20000x1_S32x20000x2_d2)

/-- The function of the operation that writes `main_v129`, named. It packs its operands into a list of dependent pairs
    whose shapes a later argument's type mentions, so `simp` cannot rewrite an operand where it stands; applied by
    name, the operands are plain arguments, which the window lemmas below rewrite before the name unfolds. -/
def fn_main_v129 : (⟨S32x20000x1, .i32⟩ : BufTy).Contents (Elt F) → (⟨S32x20000x1, .i32⟩ : BufTy).Contents (Elt F) → (⟨S32x20000x2, .i32⟩ : BufTy).Contents (Elt F) :=
  (fun a b => concatenate S32x20000x2 2 [⟨S32x20000x1, a⟩, ⟨S32x20000x1, b⟩] concatenates_S32x20000x1_S32x20000x1_S32x20000x2_d2)

/-- The function of the operation that writes `main_v161`, named. It packs its operands into a list of dependent pairs
    whose shapes a later argument's type mentions, so `simp` cannot rewrite an operand where it stands; applied by
    name, the operands are plain arguments, which the window lemmas below rewrite before the name unfolds. -/
def fn_main_v161 : (⟨S32x20000x2, .f32⟩ : BufTy).Contents (Elt F) → (⟨S32x20000x2, .f32⟩ : BufTy).Contents (Elt F) → (⟨S32x20000x4, .f32⟩ : BufTy).Contents (Elt F) :=
  (fun a b => concatenate S32x20000x4 2 [⟨S32x20000x2, a⟩, ⟨S32x20000x2, b⟩] concatenates_S32x20000x2_S32x20000x2_S32x20000x4_d2)

/-- The function of the operation that writes `main_v198`, named. It packs its operands into a list of dependent pairs
    whose shapes a later argument's type mentions, so `simp` cannot rewrite an operand where it stands; applied by
    name, the operands are plain arguments, which the window lemmas below rewrite before the name unfolds. -/
def fn_main_v198 : (main_v195 : Ref sig .tc).ty.Contents (Elt F) → (main_v196 : Ref sig .tc).ty.Contents (Elt F) → (main_v197 : Ref sig .tc).ty.Contents (Elt F) → (main_v198 : Ref sig .tc).ty.Contents (Elt F) :=
  (fun u0 u1 u2 => (concatenate S32x3 1 [⟨S32x1, (u0 : (⟨S32x1, .f32⟩ : BufTy).Contents (Elt F))⟩, ⟨S32x1, (u1 : (⟨S32x1, .f32⟩ : BufTy).Contents (Elt F))⟩, ⟨S32x1, (u2 : (⟨S32x1, .f32⟩ : BufTy).Contents (Elt F))⟩] concatenates_S32x1_S32x1_S32x1_S32x3_d1 : (⟨S32x3, .f32⟩ : BufTy).Contents (Elt F)))

/-- The function of the operation that writes `main_v199`, named. It packs its operands into a list of dependent pairs
    whose shapes a later argument's type mentions, so `simp` cannot rewrite an operand where it stands; applied by
    name, the operands are plain arguments, which the window lemmas below rewrite before the name unfolds. -/
def fn_main_v199 : (⟨S32x3, .f32⟩ : BufTy).Contents (Elt F) → (⟨S32x5, .f32⟩ : BufTy).Contents (Elt F) → (⟨S32x8, .f32⟩ : BufTy).Contents (Elt F) :=
  (fun a b => concatenate S32x8 1 [⟨S32x3, a⟩, ⟨S32x5, b⟩] concatenates_S32x3_S32x5_S32x8_d1)

/-- @main's operations 1 … 60 of 284 (window `main_part0`). -/
abbrev ops_part0 : List (HloOp τ sig (Elt F)) :=
  [ nullary main_v0 (iotaInDim S32 32 0),
    unary main_v0 main_v1 (broadcastInDim S32x1 ![0] bcast_S32_S32x1_0 : (⟨S32, .i32⟩ : BufTy).Contents (Elt F) → (⟨S32x1, .i32⟩ : BufTy).Contents (Elt F)),
    unary main_arg2 main_v2 ((extractStridedSlice S20000x2 ![0, 0] · slices_S20000x4_S20000x2_0_0) : (⟨S20000x4, .f32⟩ : BufTy).Contents (Elt F) → (⟨S20000x2, .f32⟩ : BufTy).Contents (Elt F)),
    unary main_arg2 main_v3 ((extractStridedSlice S20000x2 ![0, 2] · slices_S20000x4_S20000x2_0_2) : (⟨S20000x4, .f32⟩ : BufTy).Contents (Elt F) → (⟨S20000x2, .f32⟩ : BufTy).Contents (Elt F)),
    nullary main_cst (constant S_ .f32 0x40000000#32),
    unary main_cst main_v4 (broadcastInDim S20000x2 ![] bcast_S_S20000x2 : (⟨S_, .f32⟩ : BufTy).Contents (Elt F) → (⟨S20000x2, .f32⟩ : BufTy).Contents (Elt F)),
    binary main_v3 main_v4 main_v5 (Host.divf : (⟨S20000x2, .f32⟩ : BufTy).Contents (Elt F) → (⟨S20000x2, .f32⟩ : BufTy).Contents (Elt F) → (⟨S20000x2, .f32⟩ : BufTy).Contents (Elt F)),
    binary main_v2 main_v5 main_v6 (subf : (⟨S20000x2, .f32⟩ : BufTy).Contents (Elt F) → (⟨S20000x2, .f32⟩ : BufTy).Contents (Elt F) → (⟨S20000x2, .f32⟩ : BufTy).Contents (Elt F)),
    unary main_arg2 main_v7 ((extractStridedSlice S20000x2 ![0, 0] · slices_S20000x4_S20000x2_0_0) : (⟨S20000x4, .f32⟩ : BufTy).Contents (Elt F) → (⟨S20000x2, .f32⟩ : BufTy).Contents (Elt F)),
    unary main_arg2 main_v8 ((extractStridedSlice S20000x2 ![0, 2] · slices_S20000x4_S20000x2_0_2) : (⟨S20000x4, .f32⟩ : BufTy).Contents (Elt F) → (⟨S20000x2, .f32⟩ : BufTy).Contents (Elt F)),
    nullary main_cst_0 (constant S_ .f32 0x40000000#32),
    unary main_cst_0 main_v9 (broadcastInDim S20000x2 ![] bcast_S_S20000x2 : (⟨S_, .f32⟩ : BufTy).Contents (Elt F) → (⟨S20000x2, .f32⟩ : BufTy).Contents (Elt F)),
    binary main_v8 main_v9 main_v10 (Host.divf : (⟨S20000x2, .f32⟩ : BufTy).Contents (Elt F) → (⟨S20000x2, .f32⟩ : BufTy).Contents (Elt F) → (⟨S20000x2, .f32⟩ : BufTy).Contents (Elt F)),
    binary main_v7 main_v10 main_v11 (addf : (⟨S20000x2, .f32⟩ : BufTy).Contents (Elt F) → (⟨S20000x2, .f32⟩ : BufTy).Contents (Elt F) → (⟨S20000x2, .f32⟩ : BufTy).Contents (Elt F)),
    binary main_v6 main_v11 main_v12 (fn_main_v12 (F := F)),
    unary main_arg3 main_v13 ((extractStridedSlice S32x24x2 ![0, 0, 2] · slices_S32x24x4_S32x24x2_0_0_2) : (⟨S32x24x4, .f32⟩ : BufTy).Contents (Elt F) → (⟨S32x24x2, .f32⟩ : BufTy).Contents (Elt F)),
    unary main_v13 main_v14 (broadcastInDim S32x24x1x2 ![0, 1, 3] bcast_S32x24x2_S32x24x1x2_0_1_3 : (⟨S32x24x2, .f32⟩ : BufTy).Contents (Elt F) → (⟨S32x24x1x2, .f32⟩ : BufTy).Contents (Elt F)),
    unary main_v12 main_v15 ((extractStridedSlice S20000x2 ![0, 2] · slices_S20000x4_S20000x2_0_2) : (⟨S20000x4, .f32⟩ : BufTy).Contents (Elt F) → (⟨S20000x2, .f32⟩ : BufTy).Contents (Elt F)),
    unary main_v15 main_v16 (broadcastInDim S1x1x20000x2 ![2, 3] bcast_S20000x2_S1x1x20000x2_2_3 : (⟨S20000x2, .f32⟩ : BufTy).Contents (Elt F) → (⟨S1x1x20000x2, .f32⟩ : BufTy).Contents (Elt F)),
    unary main_v14 main_v17 (broadcastInDim S32x24x20000x2 ![0, 1, 2, 3] bcast_S32x24x1x2_S32x24x20000x2_0_1_2_3 : (⟨S32x24x1x2, .f32⟩ : BufTy).Contents (Elt F) → (⟨S32x24x20000x2, .f32⟩ : BufTy).Contents (Elt F)),
    unary main_v16 main_v18 (broadcastInDim S32x24x20000x2 ![0, 1, 2, 3] bcast_S1x1x20000x2_S32x24x20000x2_0_1_2_3 : (⟨S1x1x20000x2, .f32⟩ : BufTy).Contents (Elt F) → (⟨S32x24x20000x2, .f32⟩ : BufTy).Contents (Elt F)),
    binary main_v17 main_v18 main_v19 (minimumf : (⟨S32x24x20000x2, .f32⟩ : BufTy).Contents (Elt F) → (⟨S32x24x20000x2, .f32⟩ : BufTy).Contents (Elt F) → (⟨S32x24x20000x2, .f32⟩ : BufTy).Contents (Elt F)),
    unary main_arg3 main_v20 ((extractStridedSlice S32x24x2 ![0, 0, 0] · slices_S32x24x4_S32x24x2_0_0_0) : (⟨S32x24x4, .f32⟩ : BufTy).Contents (Elt F) → (⟨S32x24x2, .f32⟩ : BufTy).Contents (Elt F)),
    unary main_v20 main_v21 (broadcastInDim S32x24x1x2 ![0, 1, 3] bcast_S32x24x2_S32x24x1x2_0_1_3 : (⟨S32x24x2, .f32⟩ : BufTy).Contents (Elt F) → (⟨S32x24x1x2, .f32⟩ : BufTy).Contents (Elt F)),
    unary main_v12 main_v22 ((extractStridedSlice S20000x2 ![0, 0] · slices_S20000x4_S20000x2_0_0) : (⟨S20000x4, .f32⟩ : BufTy).Contents (Elt F) → (⟨S20000x2, .f32⟩ : BufTy).Contents (Elt F)),
    unary main_v22 main_v23 (broadcastInDim S1x1x20000x2 ![2, 3] bcast_S20000x2_S1x1x20000x2_2_3 : (⟨S20000x2, .f32⟩ : BufTy).Contents (Elt F) → (⟨S1x1x20000x2, .f32⟩ : BufTy).Contents (Elt F)),
    unary main_v21 main_v24 (broadcastInDim S32x24x20000x2 ![0, 1, 2, 3] bcast_S32x24x1x2_S32x24x20000x2_0_1_2_3 : (⟨S32x24x1x2, .f32⟩ : BufTy).Contents (Elt F) → (⟨S32x24x20000x2, .f32⟩ : BufTy).Contents (Elt F)),
    unary main_v23 main_v25 (broadcastInDim S32x24x20000x2 ![0, 1, 2, 3] bcast_S1x1x20000x2_S32x24x20000x2_0_1_2_3 : (⟨S1x1x20000x2, .f32⟩ : BufTy).Contents (Elt F) → (⟨S32x24x20000x2, .f32⟩ : BufTy).Contents (Elt F)),
    binary main_v24 main_v25 main_v26 (maximumf : (⟨S32x24x20000x2, .f32⟩ : BufTy).Contents (Elt F) → (⟨S32x24x20000x2, .f32⟩ : BufTy).Contents (Elt F) → (⟨S32x24x20000x2, .f32⟩ : BufTy).Contents (Elt F)),
    binary main_v19 main_v26 main_v27 (subf : (⟨S32x24x20000x2, .f32⟩ : BufTy).Contents (Elt F) → (⟨S32x24x20000x2, .f32⟩ : BufTy).Contents (Elt F) → (⟨S32x24x20000x2, .f32⟩ : BufTy).Contents (Elt F)),
    nullary main_cst_1 (constant S_ .f32 0x00000000#32),
    unary main_cst_1 main_v28 (broadcastInDim S32x24x20000x2 ![] bcast_S_S32x24x20000x2 : (⟨S_, .f32⟩ : BufTy).Contents (Elt F) → (⟨S32x24x20000x2, .f32⟩ : BufTy).Contents (Elt F)),
    binary main_v27 main_v28 main_v29 (maximumf : (⟨S32x24x20000x2, .f32⟩ : BufTy).Contents (Elt F) → (⟨S32x24x20000x2, .f32⟩ : BufTy).Contents (Elt F) → (⟨S32x24x20000x2, .f32⟩ : BufTy).Contents (Elt F)),
    unary main_v29 main_v30 ((extractStridedSlice S32x24x20000x1 ![0, 0, 0, 0] · slices_S32x24x20000x2_S32x24x20000x1_0_0_0_0) : (⟨S32x24x20000x2, .f32⟩ : BufTy).Contents (Elt F) → (⟨S32x24x20000x1, .f32⟩ : BufTy).Contents (Elt F)),
    reshape main_v30 main_v31 (rfl : (.f32 : EltTy) = .f32) shapeCasts_S32x24x20000x1_S32x24x20000,
    unary main_v29 main_v32 ((extractStridedSlice S32x24x20000x1 ![0, 0, 0, 1] · slices_S32x24x20000x2_S32x24x20000x1_0_0_0_1) : (⟨S32x24x20000x2, .f32⟩ : BufTy).Contents (Elt F) → (⟨S32x24x20000x1, .f32⟩ : BufTy).Contents (Elt F)),
    reshape main_v32 main_v33 (rfl : (.f32 : EltTy) = .f32) shapeCasts_S32x24x20000x1_S32x24x20000,
    binary main_v31 main_v33 main_v34 (mulf : (⟨S32x24x20000, .f32⟩ : BufTy).Contents (Elt F) → (⟨S32x24x20000, .f32⟩ : BufTy).Contents (Elt F) → (⟨S32x24x20000, .f32⟩ : BufTy).Contents (Elt F)),
    unary main_arg3 main_v35 ((extractStridedSlice S32x24x1 ![0, 0, 2] · slices_S32x24x4_S32x24x1_0_0_2) : (⟨S32x24x4, .f32⟩ : BufTy).Contents (Elt F) → (⟨S32x24x1, .f32⟩ : BufTy).Contents (Elt F)),
    reshape main_v35 main_v36 (rfl : (.f32 : EltTy) = .f32) shapeCasts_S32x24x1_S32x24,
    unary main_arg3 main_v37 ((extractStridedSlice S32x24x1 ![0, 0, 0] · slices_S32x24x4_S32x24x1_0_0_0) : (⟨S32x24x4, .f32⟩ : BufTy).Contents (Elt F) → (⟨S32x24x1, .f32⟩ : BufTy).Contents (Elt F)),
    reshape main_v37 main_v38 (rfl : (.f32 : EltTy) = .f32) shapeCasts_S32x24x1_S32x24,
    binary main_v36 main_v38 main_v39 (subf : (⟨S32x24, .f32⟩ : BufTy).Contents (Elt F) → (⟨S32x24, .f32⟩ : BufTy).Contents (Elt F) → (⟨S32x24, .f32⟩ : BufTy).Contents (Elt F)),
    unary main_arg3 main_v40 ((extractStridedSlice S32x24x1 ![0, 0, 3] · slices_S32x24x4_S32x24x1_0_0_3) : (⟨S32x24x4, .f32⟩ : BufTy).Contents (Elt F) → (⟨S32x24x1, .f32⟩ : BufTy).Contents (Elt F)),
    reshape main_v40 main_v41 (rfl : (.f32 : EltTy) = .f32) shapeCasts_S32x24x1_S32x24,
    unary main_arg3 main_v42 ((extractStridedSlice S32x24x1 ![0, 0, 1] · slices_S32x24x4_S32x24x1_0_0_1) : (⟨S32x24x4, .f32⟩ : BufTy).Contents (Elt F) → (⟨S32x24x1, .f32⟩ : BufTy).Contents (Elt F)),
    reshape main_v42 main_v43 (rfl : (.f32 : EltTy) = .f32) shapeCasts_S32x24x1_S32x24,
    binary main_v41 main_v43 main_v44 (subf : (⟨S32x24, .f32⟩ : BufTy).Contents (Elt F) → (⟨S32x24, .f32⟩ : BufTy).Contents (Elt F) → (⟨S32x24, .f32⟩ : BufTy).Contents (Elt F)),
    binary main_v39 main_v44 main_v45 (mulf : (⟨S32x24, .f32⟩ : BufTy).Contents (Elt F) → (⟨S32x24, .f32⟩ : BufTy).Contents (Elt F) → (⟨S32x24, .f32⟩ : BufTy).Contents (Elt F)),
    unary main_v45 main_v46 (broadcastInDim S32x24x1 ![0, 1] bcast_S32x24_S32x24x1_0_1 : (⟨S32x24, .f32⟩ : BufTy).Contents (Elt F) → (⟨S32x24x1, .f32⟩ : BufTy).Contents (Elt F)),
    unary main_v12 main_v47 ((extractStridedSlice S20000x1 ![0, 2] · slices_S20000x4_S20000x1_0_2) : (⟨S20000x4, .f32⟩ : BufTy).Contents (Elt F) → (⟨S20000x1, .f32⟩ : BufTy).Contents (Elt F)),
    reshape main_v47 main_v48 (rfl : (.f32 : EltTy) = .f32) shapeCasts_S20000x1_S20000,
    unary main_v12 main_v49 ((extractStridedSlice S20000x1 ![0, 0] · slices_S20000x4_S20000x1_0_0) : (⟨S20000x4, .f32⟩ : BufTy).Contents (Elt F) → (⟨S20000x1, .f32⟩ : BufTy).Contents (Elt F)),
    reshape main_v49 main_v50 (rfl : (.f32 : EltTy) = .f32) shapeCasts_S20000x1_S20000,
    binary main_v48 main_v50 main_v51 (subf : (⟨S20000, .f32⟩ : BufTy).Contents (Elt F) → (⟨S20000, .f32⟩ : BufTy).Contents (Elt F) → (⟨S20000, .f32⟩ : BufTy).Contents (Elt F)),
    unary main_v12 main_v52 ((extractStridedSlice S20000x1 ![0, 3] · slices_S20000x4_S20000x1_0_3) : (⟨S20000x4, .f32⟩ : BufTy).Contents (Elt F) → (⟨S20000x1, .f32⟩ : BufTy).Contents (Elt F)),
    reshape main_v52 main_v53 (rfl : (.f32 : EltTy) = .f32) shapeCasts_S20000x1_S20000,
    unary main_v12 main_v54 ((extractStridedSlice S20000x1 ![0, 1] · slices_S20000x4_S20000x1_0_1) : (⟨S20000x4, .f32⟩ : BufTy).Contents (Elt F) → (⟨S20000x1, .f32⟩ : BufTy).Contents (Elt F)),
    reshape main_v54 main_v55 (rfl : (.f32 : EltTy) = .f32) shapeCasts_S20000x1_S20000,
    binary main_v53 main_v55 main_v56 (subf : (⟨S20000, .f32⟩ : BufTy).Contents (Elt F) → (⟨S20000, .f32⟩ : BufTy).Contents (Elt F) → (⟨S20000, .f32⟩ : BufTy).Contents (Elt F)) ]

/-- @main's operations 61 … 90 of 284 (window `main_part1`). -/
abbrev ops_part1_0 : List (HloOp τ sig (Elt F)) :=
  [ binary main_v51 main_v56 main_v57 (mulf : (⟨S20000, .f32⟩ : BufTy).Contents (Elt F) → (⟨S20000, .f32⟩ : BufTy).Contents (Elt F) → (⟨S20000, .f32⟩ : BufTy).Contents (Elt F)),
    unary main_v57 main_v58 (broadcastInDim S1x1x20000 ![2] bcast_S20000_S1x1x20000_2 : (⟨S20000, .f32⟩ : BufTy).Contents (Elt F) → (⟨S1x1x20000, .f32⟩ : BufTy).Contents (Elt F)),
    unary main_v46 main_v59 (broadcastInDim S32x24x20000 ![0, 1, 2] bcast_S32x24x1_S32x24x20000_0_1_2 : (⟨S32x24x1, .f32⟩ : BufTy).Contents (Elt F) → (⟨S32x24x20000, .f32⟩ : BufTy).Contents (Elt F)),
    unary main_v58 main_v60 (broadcastInDim S32x24x20000 ![0, 1, 2] bcast_S1x1x20000_S32x24x20000_0_1_2 : (⟨S1x1x20000, .f32⟩ : BufTy).Contents (Elt F) → (⟨S32x24x20000, .f32⟩ : BufTy).Contents (Elt F)),
    binary main_v59 main_v60 main_v61 (addf : (⟨S32x24x20000, .f32⟩ : BufTy).Contents (Elt F) → (⟨S32x24x20000, .f32⟩ : BufTy).Contents (Elt F) → (⟨S32x24x20000, .f32⟩ : BufTy).Contents (Elt F)),
    binary main_v61 main_v34 main_v62 (subf : (⟨S32x24x20000, .f32⟩ : BufTy).Contents (Elt F) → (⟨S32x24x20000, .f32⟩ : BufTy).Contents (Elt F) → (⟨S32x24x20000, .f32⟩ : BufTy).Contents (Elt F)),
    binary main_v34 main_v62 main_v63 (Host.divf : (⟨S32x24x20000, .f32⟩ : BufTy).Contents (Elt F) → (⟨S32x24x20000, .f32⟩ : BufTy).Contents (Elt F) → (⟨S32x24x20000, .f32⟩ : BufTy).Contents (Elt F)),
    TRef.nullary (TRef.of (T := ⟨S32x24x20000, .i32⟩) main_call0_v0) (iotaInDim S32x24x20000 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32x24x20000, .f32⟩) main_v63) (TRef.of (T := ⟨S32x24x20000, .i32⟩) main_call0_v0) (TRef.of (T := ⟨S_, .f32⟩) main_call0_cst) (TRef.of (T := ⟨S_, .i32⟩) main_call0_c) (TRef.of (T := ⟨S32x24, .f32⟩) main_call0_v1_0) (fun x y u v => (fun j => (Host.argReduce reducer_argmax_f32_i32 x y u v reducesTo_S32x24x20000_S32x24_d2 h_S_ j).1)),
    TRef.quaternary (TRef.of (T := ⟨S32x24x20000, .f32⟩) main_v63) (TRef.of (T := ⟨S32x24x20000, .i32⟩) main_call0_v0) (TRef.of (T := ⟨S_, .f32⟩) main_call0_cst) (TRef.of (T := ⟨S_, .i32⟩) main_call0_c) (TRef.of (T := ⟨S32x24, .i32⟩) main_v64) (fun x y u v => (fun j => (Host.argReduce reducer_argmax_f32_i32 x y u v reducesTo_S32x24x20000_S32x24_d2 h_S_ j).2)),
    nullary main_cst_2 (constant S_ .f32 0xFF800000#32),
    binary main_v63 main_cst_2 main_v65 ((fun x v => Host.reduce FloatOps.maximumf x v reducesTo_S32x24x20000_S32x20000_d1 h_S_) : (⟨S32x24x20000, .f32⟩ : BufTy).Contents (Elt F) → (⟨S_, .f32⟩ : BufTy).Contents (Elt F) → (⟨S32x20000, .f32⟩ : BufTy).Contents (Elt F)),
    TRef.nullary (TRef.of (T := ⟨S32x24x20000, .i32⟩) main_call1_v0) (iotaInDim S32x24x20000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S32x24x20000, .f32⟩) main_v63) (TRef.of (T := ⟨S32x24x20000, .i32⟩) main_call1_v0) (TRef.of (T := ⟨S_, .f32⟩) main_call1_cst) (TRef.of (T := ⟨S_, .i32⟩) main_call1_c) (TRef.of (T := ⟨S32x20000, .f32⟩) main_call1_v1_0) (fun x y u v => (fun j => (Host.argReduce reducer_argmax_f32_i32 x y u v reducesTo_S32x24x20000_S32x20000_d1 h_S_ j).1)),
    TRef.quaternary (TRef.of (T := ⟨S32x24x20000, .f32⟩) main_v63) (TRef.of (T := ⟨S32x24x20000, .i32⟩) main_call1_v0) (TRef.of (T := ⟨S_, .f32⟩) main_call1_cst) (TRef.of (T := ⟨S_, .i32⟩) main_call1_c) (TRef.of (T := ⟨S32x20000, .i32⟩) main_v66) (fun x y u v => (fun j => (Host.argReduce reducer_argmax_f32_i32 x y u v reducesTo_S32x24x20000_S32x20000_d1 h_S_ j).2)),
    nullary main_c (constantI S_ 32 0#32),
    unary main_c main_v67 (broadcastInDim S32x1 ![] bcast_S_S32x1 : (⟨S_, .i32⟩ : BufTy).Contents (Elt F) → (⟨S32x1, .i32⟩ : BufTy).Contents (Elt F)),
    binary main_v1 main_v67 main_v68 (cmpi .slt : (⟨S32x1, .i32⟩ : BufTy).Contents (Elt F) → (⟨S32x1, .i32⟩ : BufTy).Contents (Elt F) → (⟨S32x1, .i1⟩ : BufTy).Contents (Elt F)),
    nullary main_c_3 (constantI S_ 32 32#32),
    unary main_c_3 main_v69 (broadcastInDim S32x1 ![] bcast_S_S32x1 : (⟨S_, .i32⟩ : BufTy).Contents (Elt F) → (⟨S32x1, .i32⟩ : BufTy).Contents (Elt F)),
    binary main_v1 main_v69 main_v70 (addi : (⟨S32x1, .i32⟩ : BufTy).Contents (Elt F) → (⟨S32x1, .i32⟩ : BufTy).Contents (Elt F) → (⟨S32x1, .i32⟩ : BufTy).Contents (Elt F)),
    ternary main_v68 main_v70 main_v1 main_v71 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_4 (constantI S_ 32 0#32),
    unary main_c_4 main_v72 (broadcastInDim S32x24 ![] bcast_S_S32x24 : (⟨S_, .i32⟩ : BufTy).Contents (Elt F) → (⟨S32x24, .i32⟩ : BufTy).Contents (Elt F)),
    binary main_v64 main_v72 main_v73 (cmpi .slt : (⟨S32x24, .i32⟩ : BufTy).Contents (Elt F) → (⟨S32x24, .i32⟩ : BufTy).Contents (Elt F) → (⟨S32x24, .i1⟩ : BufTy).Contents (Elt F)),
    nullary main_c_5 (constantI S_ 32 20000#32) ]

/-- @main's operations 91 … 120 of 284 (window `main_part1`). -/
abbrev ops_part1_1 : List (HloOp τ sig (Elt F)) :=
  [ unary main_c_5 main_v74 (broadcastInDim S32x24 ![] bcast_S_S32x24 : (⟨S_, .i32⟩ : BufTy).Contents (Elt F) → (⟨S32x24, .i32⟩ : BufTy).Contents (Elt F)),
    binary main_v64 main_v74 main_v75 (addi : (⟨S32x24, .i32⟩ : BufTy).Contents (Elt F) → (⟨S32x24, .i32⟩ : BufTy).Contents (Elt F) → (⟨S32x24, .i32⟩ : BufTy).Contents (Elt F)),
    ternary main_v73 main_v75 main_v64 main_v76 (select : (⟨S32x24, .i1⟩ : BufTy).Contents (Elt F) → (⟨S32x24, .i32⟩ : BufTy).Contents (Elt F) → (⟨S32x24, .i32⟩ : BufTy).Contents (Elt F) → (⟨S32x24, .i32⟩ : BufTy).Contents (Elt F)),
    unary main_v71 main_v77 (broadcastInDim S32x24 ![0, 1] bcast_S32x1_S32x24_0_1 : (⟨S32x1, .i32⟩ : BufTy).Contents (Elt F) → (⟨S32x24, .i32⟩ : BufTy).Contents (Elt F)),
    unary main_v77 main_v78 (broadcastInDim S32x24x1 ![0, 1] bcast_S32x24_S32x24x1_0_1 : (⟨S32x24, .i32⟩ : BufTy).Contents (Elt F) → (⟨S32x24x1, .i32⟩ : BufTy).Contents (Elt F)),
    unary main_v76 main_v79 (broadcastInDim S32x24x1 ![0, 1] bcast_S32x24_S32x24x1_0_1 : (⟨S32x24, .i32⟩ : BufTy).Contents (Elt F) → (⟨S32x24x1, .i32⟩ : BufTy).Contents (Elt F)),
    binary main_v78 main_v79 main_v80 (fn_main_v80 (F := F)),
    nullary main_cst_6 (constant S_ .f32 0x40000000#32),
    unary main_cst_6 main_v81 (broadcastInDim S32x24 ![] bcast_S_S32x24 : (⟨S_, .f32⟩ : BufTy).Contents (Elt F) → (⟨S32x24, .f32⟩ : BufTy).Contents (Elt F)),
    ternary main_v65 main_v80 main_v81 main_v82 ((fun x i u => Host.scatter scatter_S32x20000_S32x24x2_S32x24_n_01_01_2 (fun _ b => b) x i u) : (⟨S32x20000, .f32⟩ : BufTy).Contents (Elt F) → (⟨S32x24x2, .i32⟩ : BufTy).Contents (Elt F) → (⟨S32x24, .f32⟩ : BufTy).Contents (Elt F) → (⟨S32x20000, .f32⟩ : BufTy).Contents (Elt F)),
    nullary main_v83 (iotaInDim S24 32 0),
    unary main_v83 main_v84 (broadcastInDim S1x24 ![1] bcast_S24_S1x24_1 : (⟨S24, .i32⟩ : BufTy).Contents (Elt F) → (⟨S1x24, .i32⟩ : BufTy).Contents (Elt F)),
    nullary main_c_7 (constantI S_ 32 0#32),
    unary main_c_7 main_v85 (broadcastInDim S32x1 ![] bcast_S_S32x1 : (⟨S_, .i32⟩ : BufTy).Contents (Elt F) → (⟨S32x1, .i32⟩ : BufTy).Contents (Elt F)),
    binary main_v1 main_v85 main_v86 (cmpi .slt : (⟨S32x1, .i32⟩ : BufTy).Contents (Elt F) → (⟨S32x1, .i32⟩ : BufTy).Contents (Elt F) → (⟨S32x1, .i1⟩ : BufTy).Contents (Elt F)),
    nullary main_c_8 (constantI S_ 32 32#32),
    unary main_c_8 main_v87 (broadcastInDim S32x1 ![] bcast_S_S32x1 : (⟨S_, .i32⟩ : BufTy).Contents (Elt F) → (⟨S32x1, .i32⟩ : BufTy).Contents (Elt F)),
    binary main_v1 main_v87 main_v88 (addi : (⟨S32x1, .i32⟩ : BufTy).Contents (Elt F) → (⟨S32x1, .i32⟩ : BufTy).Contents (Elt F) → (⟨S32x1, .i32⟩ : BufTy).Contents (Elt F)),
    ternary main_v86 main_v88 main_v1 main_v89 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_9 (constantI S_ 32 0#32),
    unary main_c_9 main_v90 (broadcastInDim S32x24 ![] bcast_S_S32x24 : (⟨S_, .i32⟩ : BufTy).Contents (Elt F) → (⟨S32x24, .i32⟩ : BufTy).Contents (Elt F)),
    binary main_v64 main_v90 main_v91 (cmpi .slt : (⟨S32x24, .i32⟩ : BufTy).Contents (Elt F) → (⟨S32x24, .i32⟩ : BufTy).Contents (Elt F) → (⟨S32x24, .i1⟩ : BufTy).Contents (Elt F)),
    nullary main_c_10 (constantI S_ 32 20000#32),
    unary main_c_10 main_v92 (broadcastInDim S32x24 ![] bcast_S_S32x24 : (⟨S_, .i32⟩ : BufTy).Contents (Elt F) → (⟨S32x24, .i32⟩ : BufTy).Contents (Elt F)),
    binary main_v64 main_v92 main_v93 (addi : (⟨S32x24, .i32⟩ : BufTy).Contents (Elt F) → (⟨S32x24, .i32⟩ : BufTy).Contents (Elt F) → (⟨S32x24, .i32⟩ : BufTy).Contents (Elt F)),
    ternary main_v91 main_v93 main_v64 main_v94 (select : (⟨S32x24, .i1⟩ : BufTy).Contents (Elt F) → (⟨S32x24, .i32⟩ : BufTy).Contents (Elt F) → (⟨S32x24, .i32⟩ : BufTy).Contents (Elt F) → (⟨S32x24, .i32⟩ : BufTy).Contents (Elt F)),
    unary main_v89 main_v95 (broadcastInDim S32x24 ![0, 1] bcast_S32x1_S32x24_0_1 : (⟨S32x1, .i32⟩ : BufTy).Contents (Elt F) → (⟨S32x24, .i32⟩ : BufTy).Contents (Elt F)),
    unary main_v95 main_v96 (broadcastInDim S32x24x1 ![0, 1] bcast_S32x24_S32x24x1_0_1 : (⟨S32x24, .i32⟩ : BufTy).Contents (Elt F) → (⟨S32x24x1, .i32⟩ : BufTy).Contents (Elt F)),
    unary main_v94 main_v97 (broadcastInDim S32x24x1 ![0, 1] bcast_S32x24_S32x24x1_0_1 : (⟨S32x24, .i32⟩ : BufTy).Contents (Elt F) → (⟨S32x24x1, .i32⟩ : BufTy).Contents (Elt F)),
    binary main_v96 main_v97 main_v98 (fn_main_v98 (F := F)) ]

/-- @main's operations 121 … 128 of 284 (window `main_part1`). -/
abbrev ops_part1_2 : List (HloOp τ sig (Elt F)) :=
  [ unary main_v84 main_v99 (broadcastInDim S32x24 ![0, 1] bcast_S1x24_S32x24_0_1 : (⟨S1x24, .i32⟩ : BufTy).Contents (Elt F) → (⟨S32x24, .i32⟩ : BufTy).Contents (Elt F)),
    ternary main_v66 main_v98 main_v99 main_v100 ((fun x i u => Host.scatter scatter_S32x20000_S32x24x2_S32x24_n_01_01_2 (fun _ b => b) x i u) : (⟨S32x20000, .i32⟩ : BufTy).Contents (Elt F) → (⟨S32x24x2, .i32⟩ : BufTy).Contents (Elt F) → (⟨S32x24, .i32⟩ : BufTy).Contents (Elt F) → (⟨S32x20000, .i32⟩ : BufTy).Contents (Elt F)),
    nullary main_c_11 (constantI S_ 32 0#32),
    unary main_c_11 main_v101 (broadcastInDim S32x1 ![] bcast_S_S32x1 : (⟨S_, .i32⟩ : BufTy).Contents (Elt F) → (⟨S32x1, .i32⟩ : BufTy).Contents (Elt F)),
    binary main_v1 main_v101 main_v102 (cmpi .slt : (⟨S32x1, .i32⟩ : BufTy).Contents (Elt F) → (⟨S32x1, .i32⟩ : BufTy).Contents (Elt F) → (⟨S32x1, .i1⟩ : BufTy).Contents (Elt F)),
    nullary main_c_12 (constantI S_ 32 32#32),
    unary main_c_12 main_v103 (broadcastInDim S32x1 ![] bcast_S_S32x1 : (⟨S_, .i32⟩ : BufTy).Contents (Elt F) → (⟨S32x1, .i32⟩ : BufTy).Contents (Elt F)),
    binary main_v1 main_v103 main_v104 (addi : (⟨S32x1, .i32⟩ : BufTy).Contents (Elt F) → (⟨S32x1, .i32⟩ : BufTy).Contents (Elt F) → (⟨S32x1, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 129 … 158 of 284 (window `main_part2`). -/
abbrev ops_part2_0 : List (HloOp τ sig (Elt F)) :=
  [ ternary main_v102 main_v104 main_v1 main_v105 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_13 (constantI S_ 32 0#32),
    unary main_c_13 main_v106 (broadcastInDim S32x20000 ![] bcast_S_S32x20000 : (⟨S_, .i32⟩ : BufTy).Contents (Elt F) → (⟨S32x20000, .i32⟩ : BufTy).Contents (Elt F)),
    binary main_v100 main_v106 main_v107 (cmpi .slt : (⟨S32x20000, .i32⟩ : BufTy).Contents (Elt F) → (⟨S32x20000, .i32⟩ : BufTy).Contents (Elt F) → (⟨S32x20000, .i1⟩ : BufTy).Contents (Elt F)),
    nullary main_c_14 (constantI S_ 32 24#32),
    unary main_c_14 main_v108 (broadcastInDim S32x20000 ![] bcast_S_S32x20000 : (⟨S_, .i32⟩ : BufTy).Contents (Elt F) → (⟨S32x20000, .i32⟩ : BufTy).Contents (Elt F)),
    binary main_v100 main_v108 main_v109 (addi : (⟨S32x20000, .i32⟩ : BufTy).Contents (Elt F) → (⟨S32x20000, .i32⟩ : BufTy).Contents (Elt F) → (⟨S32x20000, .i32⟩ : BufTy).Contents (Elt F)),
    ternary main_v107 main_v109 main_v100 main_v110 (select : (⟨S32x20000, .i1⟩ : BufTy).Contents (Elt F) → (⟨S32x20000, .i32⟩ : BufTy).Contents (Elt F) → (⟨S32x20000, .i32⟩ : BufTy).Contents (Elt F) → (⟨S32x20000, .i32⟩ : BufTy).Contents (Elt F)),
    unary main_v105 main_v111 (broadcastInDim S32x20000 ![0, 1] bcast_S32x1_S32x20000_0_1 : (⟨S32x1, .i32⟩ : BufTy).Contents (Elt F) → (⟨S32x20000, .i32⟩ : BufTy).Contents (Elt F)),
    unary main_v111 main_v112 (broadcastInDim S32x20000x1 ![0, 1] bcast_S32x20000_S32x20000x1_0_1 : (⟨S32x20000, .i32⟩ : BufTy).Contents (Elt F) → (⟨S32x20000x1, .i32⟩ : BufTy).Contents (Elt F)),
    unary main_v110 main_v113 (broadcastInDim S32x20000x1 ![0, 1] bcast_S32x20000_S32x20000x1_0_1 : (⟨S32x20000, .i32⟩ : BufTy).Contents (Elt F) → (⟨S32x20000x1, .i32⟩ : BufTy).Contents (Elt F)),
    binary main_v112 main_v113 main_v114 (fn_main_v114 (F := F)),
    binary main_arg3 main_v114 main_v115 ((fun x i => Host.gather gather_S32x24x4_S32x20000x2_S32x20000x4_2_01_n_n_01_2_114 x i) : (⟨S32x24x4, .f32⟩ : BufTy).Contents (Elt F) → (⟨S32x20000x2, .i32⟩ : BufTy).Contents (Elt F) → (⟨S32x20000x4, .f32⟩ : BufTy).Contents (Elt F)),
    nullary main_c_15 (constantI S_ 32 0#32),
    unary main_c_15 main_v116 (broadcastInDim S32x1 ![] bcast_S_S32x1 : (⟨S_, .i32⟩ : BufTy).Contents (Elt F) → (⟨S32x1, .i32⟩ : BufTy).Contents (Elt F)),
    binary main_v1 main_v116 main_v117 (cmpi .slt : (⟨S32x1, .i32⟩ : BufTy).Contents (Elt F) → (⟨S32x1, .i32⟩ : BufTy).Contents (Elt F) → (⟨S32x1, .i1⟩ : BufTy).Contents (Elt F)),
    nullary main_c_16 (constantI S_ 32 32#32),
    unary main_c_16 main_v118 (broadcastInDim S32x1 ![] bcast_S_S32x1 : (⟨S_, .i32⟩ : BufTy).Contents (Elt F) → (⟨S32x1, .i32⟩ : BufTy).Contents (Elt F)),
    binary main_v1 main_v118 main_v119 (addi : (⟨S32x1, .i32⟩ : BufTy).Contents (Elt F) → (⟨S32x1, .i32⟩ : BufTy).Contents (Elt F) → (⟨S32x1, .i32⟩ : BufTy).Contents (Elt F)),
    ternary main_v117 main_v119 main_v1 main_v120 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_17 (constantI S_ 32 0#32),
    unary main_c_17 main_v121 (broadcastInDim S32x20000 ![] bcast_S_S32x20000 : (⟨S_, .i32⟩ : BufTy).Contents (Elt F) → (⟨S32x20000, .i32⟩ : BufTy).Contents (Elt F)),
    binary main_v100 main_v121 main_v122 (cmpi .slt : (⟨S32x20000, .i32⟩ : BufTy).Contents (Elt F) → (⟨S32x20000, .i32⟩ : BufTy).Contents (Elt F) → (⟨S32x20000, .i1⟩ : BufTy).Contents (Elt F)),
    nullary main_c_18 (constantI S_ 32 24#32),
    unary main_c_18 main_v123 (broadcastInDim S32x20000 ![] bcast_S_S32x20000 : (⟨S_, .i32⟩ : BufTy).Contents (Elt F) → (⟨S32x20000, .i32⟩ : BufTy).Contents (Elt F)),
    binary main_v100 main_v123 main_v124 (addi : (⟨S32x20000, .i32⟩ : BufTy).Contents (Elt F) → (⟨S32x20000, .i32⟩ : BufTy).Contents (Elt F) → (⟨S32x20000, .i32⟩ : BufTy).Contents (Elt F)),
    ternary main_v122 main_v124 main_v100 main_v125 (select : (⟨S32x20000, .i1⟩ : BufTy).Contents (Elt F) → (⟨S32x20000, .i32⟩ : BufTy).Contents (Elt F) → (⟨S32x20000, .i32⟩ : BufTy).Contents (Elt F) → (⟨S32x20000, .i32⟩ : BufTy).Contents (Elt F)),
    unary main_v120 main_v126 (broadcastInDim S32x20000 ![0, 1] bcast_S32x1_S32x20000_0_1 : (⟨S32x1, .i32⟩ : BufTy).Contents (Elt F) → (⟨S32x20000, .i32⟩ : BufTy).Contents (Elt F)),
    unary main_v126 main_v127 (broadcastInDim S32x20000x1 ![0, 1] bcast_S32x20000_S32x20000x1_0_1 : (⟨S32x20000, .i32⟩ : BufTy).Contents (Elt F) → (⟨S32x20000x1, .i32⟩ : BufTy).Contents (Elt F)),
    unary main_v125 main_v128 (broadcastInDim S32x20000x1 ![0, 1] bcast_S32x20000_S32x20000x1_0_1 : (⟨S32x20000, .i32⟩ : BufTy).Contents (Elt F) → (⟨S32x20000x1, .i32⟩ : BufTy).Contents (Elt F)) ]

/-- @main's operations 159 … 188 of 284 (window `main_part2`). -/
abbrev ops_part2_1 : List (HloOp τ sig (Elt F)) :=
  [ binary main_v127 main_v128 main_v129 (fn_main_v129 (F := F)),
    binary main_arg4 main_v129 main_v130 ((fun x i => Host.gather gather_S32x24_S32x20000x2_S32x20000_n_01_n_n_01_2_11 x i) : (⟨S32x24, .i32⟩ : BufTy).Contents (Elt F) → (⟨S32x20000x2, .i32⟩ : BufTy).Contents (Elt F) → (⟨S32x20000, .i32⟩ : BufTy).Contents (Elt F)),
    nullary main_c_19 (constantI S_ 32 1#32),
    unary main_c_19 main_v131 (broadcastInDim S32x20000 ![] bcast_S_S32x20000 : (⟨S_, .i32⟩ : BufTy).Contents (Elt F) → (⟨S32x20000, .i32⟩ : BufTy).Contents (Elt F)),
    binary main_v130 main_v131 main_v132 (addi : (⟨S32x20000, .i32⟩ : BufTy).Contents (Elt F) → (⟨S32x20000, .i32⟩ : BufTy).Contents (Elt F) → (⟨S32x20000, .i32⟩ : BufTy).Contents (Elt F)),
    nullary main_cst_20 (constant S_ .f32 0x3F000000#32),
    unary main_cst_20 main_v133 (broadcastInDim S32x20000 ![] bcast_S_S32x20000 : (⟨S_, .f32⟩ : BufTy).Contents (Elt F) → (⟨S32x20000, .f32⟩ : BufTy).Contents (Elt F)),
    binary main_v82 main_v133 main_v134 (cmpf .olt : (⟨S32x20000, .f32⟩ : BufTy).Contents (Elt F) → (⟨S32x20000, .f32⟩ : BufTy).Contents (Elt F) → (⟨S32x20000, .i1⟩ : BufTy).Contents (Elt F)),
    nullary main_c_21 (constantI S_ 32 0#32),
    TRef.unary (TRef.of (T := ⟨S_, .i32⟩) main_c_21) (TRef.of (T := ⟨S_, .i32⟩) main_call2_v0) id,
    TRef.unary (TRef.of (T := ⟨S_, .i32⟩) main_call2_v0) (TRef.of (T := ⟨S32x20000, .i32⟩) main_call2_v1) (broadcastInDim S32x20000 ![] bcast_S_S32x20000),
    TRef.ternary (TRef.of (T := ⟨S32x20000, .i1⟩) main_v134) (TRef.of (T := ⟨S32x20000, .i32⟩) main_call2_v1) (TRef.of (T := ⟨S32x20000, .i32⟩) main_v132) (TRef.of (T := ⟨S32x20000, .i32⟩) main_v135) select,
    unary main_v115 main_v136 ((extractStridedSlice S32x20000x2 ![0, 0, 0] · slices_S32x20000x4_S32x20000x2_0_0_0) : (⟨S32x20000x4, .f32⟩ : BufTy).Contents (Elt F) → (⟨S32x20000x2, .f32⟩ : BufTy).Contents (Elt F)),
    unary main_v115 main_v137 ((extractStridedSlice S32x20000x2 ![0, 0, 2] · slices_S32x20000x4_S32x20000x2_0_0_2) : (⟨S32x20000x4, .f32⟩ : BufTy).Contents (Elt F) → (⟨S32x20000x2, .f32⟩ : BufTy).Contents (Elt F)),
    binary main_v136 main_v137 main_v138 (addf : (⟨S32x20000x2, .f32⟩ : BufTy).Contents (Elt F) → (⟨S32x20000x2, .f32⟩ : BufTy).Contents (Elt F) → (⟨S32x20000x2, .f32⟩ : BufTy).Contents (Elt F)),
    nullary main_cst_22 (constant S_ .f32 0x40000000#32),
    unary main_cst_22 main_v139 (broadcastInDim S32x20000x2 ![] bcast_S_S32x20000x2 : (⟨S_, .f32⟩ : BufTy).Contents (Elt F) → (⟨S32x20000x2, .f32⟩ : BufTy).Contents (Elt F)),
    binary main_v138 main_v139 main_v140 (Host.divf : (⟨S32x20000x2, .f32⟩ : BufTy).Contents (Elt F) → (⟨S32x20000x2, .f32⟩ : BufTy).Contents (Elt F) → (⟨S32x20000x2, .f32⟩ : BufTy).Contents (Elt F)),
    unary main_arg2 main_v141 ((extractStridedSlice S20000x2 ![0, 0] · slices_S20000x4_S20000x2_0_0) : (⟨S20000x4, .f32⟩ : BufTy).Contents (Elt F) → (⟨S20000x2, .f32⟩ : BufTy).Contents (Elt F)),
    unary main_v141 main_v142 (broadcastInDim S1x20000x2 ![1, 2] bcast_S20000x2_S1x20000x2_1_2 : (⟨S20000x2, .f32⟩ : BufTy).Contents (Elt F) → (⟨S1x20000x2, .f32⟩ : BufTy).Contents (Elt F)),
    unary main_v142 main_v143 (broadcastInDim S32x20000x2 ![0, 1, 2] bcast_S1x20000x2_S32x20000x2_0_1_2 : (⟨S1x20000x2, .f32⟩ : BufTy).Contents (Elt F) → (⟨S32x20000x2, .f32⟩ : BufTy).Contents (Elt F)),
    binary main_v140 main_v143 main_v144 (subf : (⟨S32x20000x2, .f32⟩ : BufTy).Contents (Elt F) → (⟨S32x20000x2, .f32⟩ : BufTy).Contents (Elt F) → (⟨S32x20000x2, .f32⟩ : BufTy).Contents (Elt F)),
    unary main_arg2 main_v145 ((extractStridedSlice S20000x2 ![0, 2] · slices_S20000x4_S20000x2_0_2) : (⟨S20000x4, .f32⟩ : BufTy).Contents (Elt F) → (⟨S20000x2, .f32⟩ : BufTy).Contents (Elt F)),
    unary main_v145 main_v146 (broadcastInDim S1x20000x2 ![1, 2] bcast_S20000x2_S1x20000x2_1_2 : (⟨S20000x2, .f32⟩ : BufTy).Contents (Elt F) → (⟨S1x20000x2, .f32⟩ : BufTy).Contents (Elt F)),
    nullary main_cst_23 (constant S_ .f32 0x3DCCCCCD#32),
    unary main_cst_23 main_v147 (broadcastInDim S1x20000x2 ![] bcast_S_S1x20000x2 : (⟨S_, .f32⟩ : BufTy).Contents (Elt F) → (⟨S1x20000x2, .f32⟩ : BufTy).Contents (Elt F)),
    binary main_v147 main_v146 main_v148 (mulf : (⟨S1x20000x2, .f32⟩ : BufTy).Contents (Elt F) → (⟨S1x20000x2, .f32⟩ : BufTy).Contents (Elt F) → (⟨S1x20000x2, .f32⟩ : BufTy).Contents (Elt F)),
    unary main_v148 main_v149 (broadcastInDim S32x20000x2 ![0, 1, 2] bcast_S1x20000x2_S32x20000x2_0_1_2 : (⟨S1x20000x2, .f32⟩ : BufTy).Contents (Elt F) → (⟨S32x20000x2, .f32⟩ : BufTy).Contents (Elt F)),
    binary main_v144 main_v149 main_v150 (Host.divf : (⟨S32x20000x2, .f32⟩ : BufTy).Contents (Elt F) → (⟨S32x20000x2, .f32⟩ : BufTy).Contents (Elt F) → (⟨S32x20000x2, .f32⟩ : BufTy).Contents (Elt F)),
    unary main_v115 main_v151 ((extractStridedSlice S32x20000x2 ![0, 0, 2] · slices_S32x20000x4_S32x20000x2_0_0_2) : (⟨S32x20000x4, .f32⟩ : BufTy).Contents (Elt F) → (⟨S32x20000x2, .f32⟩ : BufTy).Contents (Elt F)) ]

/-- @main's operations 189 … 190 of 284 (window `main_part2`). -/
abbrev ops_part2_2 : List (HloOp τ sig (Elt F)) :=
  [ unary main_v115 main_v152 ((extractStridedSlice S32x20000x2 ![0, 0, 0] · slices_S32x20000x4_S32x20000x2_0_0_0) : (⟨S32x20000x4, .f32⟩ : BufTy).Contents (Elt F) → (⟨S32x20000x2, .f32⟩ : BufTy).Contents (Elt F)),
    binary main_v151 main_v152 main_v153 (subf : (⟨S32x20000x2, .f32⟩ : BufTy).Contents (Elt F) → (⟨S32x20000x2, .f32⟩ : BufTy).Contents (Elt F) → (⟨S32x20000x2, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 191 … 220 of 284 (window `main_part3`). -/
abbrev ops_part3_0 : List (HloOp τ sig (Elt F)) :=
  [ unary main_arg2 main_v154 ((extractStridedSlice S20000x2 ![0, 2] · slices_S20000x4_S20000x2_0_2) : (⟨S20000x4, .f32⟩ : BufTy).Contents (Elt F) → (⟨S20000x2, .f32⟩ : BufTy).Contents (Elt F)),
    unary main_v154 main_v155 (broadcastInDim S1x20000x2 ![1, 2] bcast_S20000x2_S1x20000x2_1_2 : (⟨S20000x2, .f32⟩ : BufTy).Contents (Elt F) → (⟨S1x20000x2, .f32⟩ : BufTy).Contents (Elt F)),
    unary main_v155 main_v156 (broadcastInDim S32x20000x2 ![0, 1, 2] bcast_S1x20000x2_S32x20000x2_0_1_2 : (⟨S1x20000x2, .f32⟩ : BufTy).Contents (Elt F) → (⟨S32x20000x2, .f32⟩ : BufTy).Contents (Elt F)),
    binary main_v153 main_v156 main_v157 (Host.divf : (⟨S32x20000x2, .f32⟩ : BufTy).Contents (Elt F) → (⟨S32x20000x2, .f32⟩ : BufTy).Contents (Elt F) → (⟨S32x20000x2, .f32⟩ : BufTy).Contents (Elt F)),
    unary main_v157 main_v158 (Host.log : (⟨S32x20000x2, .f32⟩ : BufTy).Contents (Elt F) → (⟨S32x20000x2, .f32⟩ : BufTy).Contents (Elt F)),
    nullary main_cst_24 (constant S_ .f32 0x3E4CCCCD#32),
    unary main_cst_24 main_v159 (broadcastInDim S32x20000x2 ![] bcast_S_S32x20000x2 : (⟨S_, .f32⟩ : BufTy).Contents (Elt F) → (⟨S32x20000x2, .f32⟩ : BufTy).Contents (Elt F)),
    binary main_v158 main_v159 main_v160 (Host.divf : (⟨S32x20000x2, .f32⟩ : BufTy).Contents (Elt F) → (⟨S32x20000x2, .f32⟩ : BufTy).Contents (Elt F) → (⟨S32x20000x2, .f32⟩ : BufTy).Contents (Elt F)),
    binary main_v150 main_v160 main_v161 (fn_main_v161 (F := F)),
    nullary main_c_25 (constantI S_ 32 0#32),
    unary main_c_25 main_v162 (broadcastInDim S32x20000 ![] bcast_S_S32x20000 : (⟨S_, .i32⟩ : BufTy).Contents (Elt F) → (⟨S32x20000, .i32⟩ : BufTy).Contents (Elt F)),
    binary main_v135 main_v162 main_v163 (cmpi .ne : (⟨S32x20000, .i32⟩ : BufTy).Contents (Elt F) → (⟨S32x20000, .i32⟩ : BufTy).Contents (Elt F) → (⟨S32x20000, .i1⟩ : BufTy).Contents (Elt F)),
    binary main_arg0 main_v161 main_v164 (subf : (⟨S32x20000x4, .f32⟩ : BufTy).Contents (Elt F) → (⟨S32x20000x4, .f32⟩ : BufTy).Contents (Elt F) → (⟨S32x20000x4, .f32⟩ : BufTy).Contents (Elt F)),
    unary main_v164 main_v165 (Host.absf : (⟨S32x20000x4, .f32⟩ : BufTy).Contents (Elt F) → (⟨S32x20000x4, .f32⟩ : BufTy).Contents (Elt F)),
    nullary main_cst_26 (constant S_ .f32 0x3F800000#32),
    unary main_cst_26 main_v166 (broadcastInDim S32x20000x4 ![] bcast_S_S32x20000x4 : (⟨S_, .f32⟩ : BufTy).Contents (Elt F) → (⟨S32x20000x4, .f32⟩ : BufTy).Contents (Elt F)),
    binary main_v165 main_v166 main_v167 (cmpf .olt : (⟨S32x20000x4, .f32⟩ : BufTy).Contents (Elt F) → (⟨S32x20000x4, .f32⟩ : BufTy).Contents (Elt F) → (⟨S32x20000x4, .i1⟩ : BufTy).Contents (Elt F)),
    nullary main_cst_27 (constant S_ .f32 0x3F000000#32),
    unary main_cst_27 main_v168 (broadcastInDim S32x20000x4 ![] bcast_S_S32x20000x4 : (⟨S_, .f32⟩ : BufTy).Contents (Elt F) → (⟨S32x20000x4, .f32⟩ : BufTy).Contents (Elt F)),
    binary main_v168 main_v164 main_v169 (mulf : (⟨S32x20000x4, .f32⟩ : BufTy).Contents (Elt F) → (⟨S32x20000x4, .f32⟩ : BufTy).Contents (Elt F) → (⟨S32x20000x4, .f32⟩ : BufTy).Contents (Elt F)),
    binary main_v169 main_v164 main_v170 (mulf : (⟨S32x20000x4, .f32⟩ : BufTy).Contents (Elt F) → (⟨S32x20000x4, .f32⟩ : BufTy).Contents (Elt F) → (⟨S32x20000x4, .f32⟩ : BufTy).Contents (Elt F)),
    nullary main_cst_28 (constant S_ .f32 0x3F000000#32),
    unary main_cst_28 main_v171 (broadcastInDim S32x20000x4 ![] bcast_S_S32x20000x4 : (⟨S_, .f32⟩ : BufTy).Contents (Elt F) → (⟨S32x20000x4, .f32⟩ : BufTy).Contents (Elt F)),
    binary main_v165 main_v171 main_v172 (subf : (⟨S32x20000x4, .f32⟩ : BufTy).Contents (Elt F) → (⟨S32x20000x4, .f32⟩ : BufTy).Contents (Elt F) → (⟨S32x20000x4, .f32⟩ : BufTy).Contents (Elt F)),
    TRef.ternary (TRef.of (T := ⟨S32x20000x4, .i1⟩) main_v167) (TRef.of (T := ⟨S32x20000x4, .f32⟩) main_v170) (TRef.of (T := ⟨S32x20000x4, .f32⟩) main_v172) (TRef.of (T := ⟨S32x20000x4, .f32⟩) main_v173) select,
    unary main_v163 main_v174 (broadcastInDim S32x20000x1 ![0, 1] bcast_S32x20000_S32x20000x1_0_1 : (⟨S32x20000, .i1⟩ : BufTy).Contents (Elt F) → (⟨S32x20000x1, .i1⟩ : BufTy).Contents (Elt F)),
    unary main_v174 main_v175 (uitofp .f32 : (⟨S32x20000x1, .i1⟩ : BufTy).Contents (Elt F) → (⟨S32x20000x1, .f32⟩ : BufTy).Contents (Elt F)),
    unary main_v175 main_v176 (broadcastInDim S32x20000x4 ![0, 1, 2] bcast_S32x20000x1_S32x20000x4_0_1_2 : (⟨S32x20000x1, .f32⟩ : BufTy).Contents (Elt F) → (⟨S32x20000x4, .f32⟩ : BufTy).Contents (Elt F)),
    binary main_v173 main_v176 main_v177 (mulf : (⟨S32x20000x4, .f32⟩ : BufTy).Contents (Elt F) → (⟨S32x20000x4, .f32⟩ : BufTy).Contents (Elt F) → (⟨S32x20000x4, .f32⟩ : BufTy).Contents (Elt F)),
    nullary main_cst_29 (constant S_ .f32 0x00000000#32) ]

/-- @main's operations 221 … 250 of 284 (window `main_part3`). -/
abbrev ops_part3_1 : List (HloOp τ sig (Elt F)) :=
  [ binary main_v177 main_cst_29 main_v178 ((fun x v => Host.reduceAdd x v reducesTo_S32x20000x4_S32_d1_2 h_S_) : (⟨S32x20000x4, .f32⟩ : BufTy).Contents (Elt F) → (⟨S_, .f32⟩ : BufTy).Contents (Elt F) → (⟨S32, .f32⟩ : BufTy).Contents (Elt F)),
    TRef.nullary (TRef.of (T := ⟨S_, .f32⟩) main_call4_cst) (constant S_ .f32 0xFF800000#32),
    TRef.binary (TRef.of (T := ⟨S32x20000x21, .f32⟩) main_arg1) (TRef.of (T := ⟨S_, .f32⟩) main_call4_cst) (TRef.of (T := ⟨S32x20000, .f32⟩) main_call4_v0) (fun x v => Host.reduce FloatOps.maximumf x v reducesTo_S32x20000x21_S32x20000_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S32x20000, .f32⟩) main_call4_v1) (broadcastInDim S32x20000 ![] bcast_S_S32x20000),
    TRef.binary (TRef.of (T := ⟨S32x20000, .f32⟩) main_call4_v1) (TRef.of (T := ⟨S32x20000, .f32⟩) main_call4_v0) (TRef.of (T := ⟨S32x20000, .f32⟩) main_call4_v2) maximumf,
    TRef.unary (TRef.of (T := ⟨S32x20000, .f32⟩) main_call4_v2) (TRef.of (T := ⟨S32x20000x1, .f32⟩) main_call4_v3) (broadcastInDim S32x20000x1 ![0, 1] bcast_S32x20000_S32x20000x1_0_1),
    TRef.unary (TRef.of (T := ⟨S32x20000x1, .f32⟩) main_call4_v3) (TRef.of (T := ⟨S32x20000x21, .f32⟩) main_call4_v4) (broadcastInDim S32x20000x21 ![0, 1, 2] bcast_S32x20000x1_S32x20000x21_0_1_2),
    TRef.binary (TRef.of (T := ⟨S32x20000x21, .f32⟩) main_arg1) (TRef.of (T := ⟨S32x20000x21, .f32⟩) main_call4_v4) (TRef.of (T := ⟨S32x20000x21, .f32⟩) main_call4_v5) subf,
    TRef.unary (TRef.of (T := ⟨S32x20000x21, .f32⟩) main_call4_v5) (TRef.of (T := ⟨S32x20000x21, .f32⟩) main_call4_v6) Host.exp,
    TRef.nullary (TRef.of (T := ⟨S_, .f32⟩) main_call4_cst_1) (constant S_ .f32 0x00000000#32),
    TRef.binary (TRef.of (T := ⟨S32x20000x21, .f32⟩) main_call4_v6) (TRef.of (T := ⟨S_, .f32⟩) main_call4_cst_1) (TRef.of (T := ⟨S32x20000, .f32⟩) main_call4_v7) (fun x v => Host.reduceAdd x v reducesTo_S32x20000x21_S32x20000_d2 h_S_),
    TRef.unary (TRef.of (T := ⟨S32x20000, .f32⟩) main_call4_v7) (TRef.of (T := ⟨S32x20000x1, .f32⟩) main_call4_v8) (broadcastInDim S32x20000x1 ![0, 1] bcast_S32x20000_S32x20000x1_0_1),
    TRef.unary (TRef.of (T := ⟨S32x20000x1, .f32⟩) main_call4_v8) (TRef.of (T := ⟨S32x20000x1, .f32⟩) main_call4_v9) Host.log,
    TRef.unary (TRef.of (T := ⟨S32x20000x1, .f32⟩) main_call4_v9) (TRef.of (T := ⟨S32x20000x21, .f32⟩) main_call4_v10) (broadcastInDim S32x20000x21 ![0, 1, 2] bcast_S32x20000x1_S32x20000x21_0_1_2),
    TRef.binary (TRef.of (T := ⟨S32x20000x21, .f32⟩) main_call4_v5) (TRef.of (T := ⟨S32x20000x21, .f32⟩) main_call4_v10) (TRef.of (T := ⟨S32x20000x21, .f32⟩) main_v179) subf,
    unary main_v135 main_v180 (broadcastInDim S32x20000x1 ![0, 1] bcast_S32x20000_S32x20000x1_0_1 : (⟨S32x20000, .i32⟩ : BufTy).Contents (Elt F) → (⟨S32x20000x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S32x20000x1, .i32⟩) main_call5_v0) (broadcastInDim S32x20000x1 ![] bcast_S_S32x20000x1),
    TRef.binary (TRef.of (T := ⟨S32x20000x1, .i32⟩) main_v180) (TRef.of (T := ⟨S32x20000x1, .i32⟩) main_call5_v0) (TRef.of (T := ⟨S32x20000x1, .i1⟩) main_call5_v1) (cmpi .slt),
    TRef.nullary (TRef.of (T := ⟨S_, .i32⟩) main_call5_c_0) (constantI S_ 32 21#32),
    TRef.unary (TRef.of (T := ⟨S_, .i32⟩) main_call5_c_0) (TRef.of (T := ⟨S32x20000x1, .i32⟩) main_call5_v2) (broadcastInDim S32x20000x1 ![] bcast_S_S32x20000x1),
    TRef.binary (TRef.of (T := ⟨S32x20000x1, .i32⟩) main_v180) (TRef.of (T := ⟨S32x20000x1, .i32⟩) main_call5_v2) (TRef.of (T := ⟨S32x20000x1, .i32⟩) main_call5_v3) addi,
    TRef.ternary (TRef.of (T := ⟨S32x20000x1, .i1⟩) main_call5_v1) (TRef.of (T := ⟨S32x20000x1, .i32⟩) main_call5_v3) (TRef.of (T := ⟨S32x20000x1, .i32⟩) main_v180) (TRef.of (T := ⟨S32x20000x1, .i32⟩) main_call5_v4) select,
    TRef.reshape (TRef.of (T := ⟨S32x20000x1, .i32⟩) main_call5_v4) (TRef.of (T := ⟨S32x20000x1x1, .i32⟩) main_call5_v5) (rfl : (.i32 : EltTy) = .i32) shapeCasts_S32x20000x1_S32x20000x1x1,
    TRef.nullary (TRef.of (T := ⟨S1, .i32⟩) main_call5_c_1) (constantI S1 32 20#32),
    TRef.nullary (TRef.of (T := ⟨S_, .i32⟩) main_call5_c_2) (constantI S_ 32 0#32),
    TRef.unary (TRef.of (T := ⟨S_, .i32⟩) main_call5_c_2) (TRef.of (T := ⟨S32x20000x1x1, .i32⟩) main_call5_v6) (broadcastInDim S32x20000x1x1 ![] bcast_S_S32x20000x1x1),
    TRef.binary (TRef.of (T := ⟨S32x20000x1x1, .i32⟩) main_call5_v5) (TRef.of (T := ⟨S32x20000x1x1, .i32⟩) main_call5_v6) (TRef.of (T := ⟨S32x20000x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3) ]

/-- @main's operations 251 … 280 of 284 (window `main_part3`). -/
abbrev ops_part3_2 : List (HloOp τ sig (Elt F)) :=
  [ TRef.unary (TRef.of (T := ⟨S1x1x1x1, .i32⟩) main_call5_v8) (TRef.of (T := ⟨S32x20000x1x1, .i32⟩) main_call5_v9) (broadcastInDim S32x20000x1x1 ![0, 1, 2, 3] bcast_S1x1x1x1_S32x20000x1x1_0_1_2_3),
    TRef.binary (TRef.of (T := ⟨S32x20000x1x1, .i32⟩) main_call5_v5) (TRef.of (T := ⟨S32x20000x1x1, .i32⟩) main_call5_v9) (TRef.of (T := ⟨S32x20000x1x1, .i1⟩) main_call5_v10) (cmpi .sle),
    TRef.binary (TRef.of (T := ⟨S32x20000x1x1, .i1⟩) main_call5_v7) (TRef.of (T := ⟨S32x20000x1x1, .i1⟩) main_call5_v10) (TRef.of (T := ⟨S32x20000x1x1, .i1⟩) main_call5_v11) andi,
    TRef.nullary (TRef.of (T := ⟨S_, .i1⟩) main_call5_c_3) (constantI S_ 1 1#1),
    TRef.binary (TRef.of (T := ⟨S32x20000x1x1, .i1⟩) main_call5_v11) (TRef.of (T := ⟨S_, .i1⟩) main_call5_c_3) (TRef.of (T := ⟨S32x20000x1, .i1⟩) main_call5_v12) (fun x v => Host.reduce IntOp.andi x v reducesTo_S32x20000x1x1_S32x20000x1_d3 h_S_),
    TRef.binary (TRef.of (T := ⟨S32x20000x21, .f32⟩) main_v179) (TRef.of (T := ⟨S32x20000x1x1, .i32⟩) main_call5_v5) (TRef.of (T := ⟨S32x20000x1, .f32⟩) main_call5_v13) (fun x i => Host.gather gather_S32x20000x21_S32x20000x1x1_S32x20000x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S32x20000x1, .f32⟩) main_call5_v14) (broadcastInDim S32x20000x1 ![] bcast_S_S32x20000x1),
    TRef.ternary (TRef.of (T := ⟨S32x20000x1, .i1⟩) main_call5_v12) (TRef.of (T := ⟨S32x20000x1, .f32⟩) main_call5_v13) (TRef.of (T := ⟨S32x20000x1, .f32⟩) main_call5_v14) (TRef.of (T := ⟨S32x20000x1, .f32⟩) main_v181) select,
    reshape main_v181 main_v182 (rfl : (.f32 : EltTy) = .f32) shapeCasts_S32x20000x1_S32x20000,
    unary main_v182 main_v183 (Host.negf : (⟨S32x20000, .f32⟩ : BufTy).Contents (Elt F) → (⟨S32x20000, .f32⟩ : BufTy).Contents (Elt F)),
    unary main_v163 main_v184 (uitofp .f32 : (⟨S32x20000, .i1⟩ : BufTy).Contents (Elt F) → (⟨S32x20000, .f32⟩ : BufTy).Contents (Elt F)),
    binary main_v183 main_v184 main_v185 (mulf : (⟨S32x20000, .f32⟩ : BufTy).Contents (Elt F) → (⟨S32x20000, .f32⟩ : BufTy).Contents (Elt F) → (⟨S32x20000, .f32⟩ : BufTy).Contents (Elt F)),
    nullary main_cst_30 (constant S_ .f32 0x00000000#32),
    binary main_v185 main_cst_30 main_v186 ((fun x v => Host.reduceAdd x v reducesTo_S32x20000_S32_d1 h_S_) : (⟨S32x20000, .f32⟩ : BufTy).Contents (Elt F) → (⟨S_, .f32⟩ : BufTy).Contents (Elt F) → (⟨S32, .f32⟩ : BufTy).Contents (Elt F)),
    unary main_v163 main_v187 ((extui 32 · natLt_1_32) : (⟨S32x20000, .i1⟩ : BufTy).Contents (Elt F) → (⟨S32x20000, .i32⟩ : BufTy).Contents (Elt F)),
    nullary main_c_31 (constantI S_ 32 0#32),
    binary main_v187 main_c_31 main_v188 ((fun x v => Host.reduce IntOp.addi x v reducesTo_S32x20000_S32_d1 h_S_) : (⟨S32x20000, .i32⟩ : BufTy).Contents (Elt F) → (⟨S_, .i32⟩ : BufTy).Contents (Elt F) → (⟨S32, .i32⟩ : BufTy).Contents (Elt F)),
    unary main_v188 main_v189 (sitofp .f32 : (⟨S32, .i32⟩ : BufTy).Contents (Elt F) → (⟨S32, .f32⟩ : BufTy).Contents (Elt F)),
    unary main_v163 main_v190 (uitofp .f32 : (⟨S32x20000, .i1⟩ : BufTy).Contents (Elt F) → (⟨S32x20000, .f32⟩ : BufTy).Contents (Elt F)),
    nullary main_cst_32 (constant S_ .f32 0x3F800000#32),
    unary main_cst_32 main_v191 (broadcastInDim S32x20000 ![] bcast_S_S32x20000 : (⟨S_, .f32⟩ : BufTy).Contents (Elt F) → (⟨S32x20000, .f32⟩ : BufTy).Contents (Elt F)),
    binary main_v191 main_v190 main_v192 (subf : (⟨S32x20000, .f32⟩ : BufTy).Contents (Elt F) → (⟨S32x20000, .f32⟩ : BufTy).Contents (Elt F) → (⟨S32x20000, .f32⟩ : BufTy).Contents (Elt F)),
    binary main_v183 main_v192 main_v193 (mulf : (⟨S32x20000, .f32⟩ : BufTy).Contents (Elt F) → (⟨S32x20000, .f32⟩ : BufTy).Contents (Elt F) → (⟨S32x20000, .f32⟩ : BufTy).Contents (Elt F)),
    nullary main_cst_33 (constant S_ .f32 0x00000000#32),
    unary main_cst_33 main_v194 (broadcastInDim S32x5 ![] bcast_S_S32x5 : (⟨S_, .f32⟩ : BufTy).Contents (Elt F) → (⟨S32x5, .f32⟩ : BufTy).Contents (Elt F)),
    unary main_v178 main_v195 (broadcastInDim S32x1 ![0] bcast_S32_S32x1_0 : (⟨S32, .f32⟩ : BufTy).Contents (Elt F) → (⟨S32x1, .f32⟩ : BufTy).Contents (Elt F)),
    unary main_v186 main_v196 (broadcastInDim S32x1 ![0] bcast_S32_S32x1_0 : (⟨S32, .f32⟩ : BufTy).Contents (Elt F) → (⟨S32x1, .f32⟩ : BufTy).Contents (Elt F)),
    unary main_v189 main_v197 (broadcastInDim S32x1 ![0] bcast_S32_S32x1_0 : (⟨S32, .f32⟩ : BufTy).Contents (Elt F) → (⟨S32x1, .f32⟩ : BufTy).Contents (Elt F)),
    nary ![main_v195, main_v196, main_v197] main_v198 (fun u => fn_main_v198 (F := F) (u 0) (u 1) (u 2)) ]

/-- @main's operations 281 … 284 of 284 (window `main_part3`). -/
abbrev ops_part3_3 : List (HloOp τ sig (Elt F)) :=
  [ binary main_v198 main_v194 main_v199 (fn_main_v199 (F := F)),
    unary main_v199 main_v200 (broadcastInDim S32x8x1 ![0, 1] bcast_S32x8_S32x8x1_0_1 : (⟨S32x8, .f32⟩ : BufTy).Contents (Elt F) → (⟨S32x8x1, .f32⟩ : BufTy).Contents (Elt F)),
    unary main_v200 main_v201 (broadcastInDim S32x8x128 ![0, 1, 2] bcast_S32x8x1_S32x8x128_0_1_2 : (⟨S32x8x1, .f32⟩ : BufTy).Contents (Elt F) → (⟨S32x8x128, .f32⟩ : BufTy).Contents (Elt F)),
    unary main_v193 main_v202 (broadcastInDim S32x1x20000 ![0, 2] bcast_S32x20000_S32x1x20000_0_2 : (⟨S32x20000, .f32⟩ : BufTy).Contents (Elt F) → (⟨S32x1x20000, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2 ++ (ops_part3_3)))

/-- @main's 284 operations, in order (a called function's operations stand in its call's place, spelt `TRef.…`). -/
abbrev ops : List (HloOp τ sig (Elt F)) :=
  ops_part0 ++ (ops_part1 ++ (ops_part2 ++ (ops_part3)))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨binary_bufs_sub .., unary_bufs_sub .., unary_bufs_sub .., unary_bufs_sub .., binary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., ternary_bufs_sub .., nullary_bufs_sub .., unary_bufs_sub .., binary_bufs_sub .., nullary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., unary_bufs_sub .., binary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., binary_bufs_sub ..⟩
set_option maxRecDepth 8192 in
theorem ops_part2_2_fresh : (ops_part2_2 : List (HloOp τ sig (Elt F))).Forall fun op => op.fresh = ∅ :=
  ⟨rfl, rfl⟩
set_option maxRecDepth 8192 in
theorem ops_part3_0_sub : (ops_part3_0 : List (HloOp τ sig (Elt F))).Forall fun op => op.bufs ⊆ tcRefs τ sig :=
  ⟨unary_bufs_sub .., unary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., binary_bufs_sub .., nullary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., binary_bufs_sub .., nullary_bufs_sub .., binary_bufs_sub .., unary_bufs_sub .., nullary_bufs_sub .., binary_bufs_sub .., unary_bufs_sub .., unary_bufs_sub .., nullary_bufs_sub .., unary_bufs_sub .., binary_bufs_sub .., binary_bufs_sub .., nullary_bufs_sub .., unary_bufs_sub .., unary_bufs_sub .., unary_bufs_sub .., unary_bufs_sub .., nary_bufs_sub ..⟩
set_option maxRecDepth 8192 in
theorem ops_part3_2_fresh : (ops_part3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_3_sub : (ops_part3_3 : List (HloOp τ sig (Elt F))).Forall fun op => op.bufs ⊆ tcRefs τ sig :=
  ⟨binary_bufs_sub .., unary_bufs_sub .., unary_bufs_sub .., unary_bufs_sub ..⟩
set_option maxRecDepth 8192 in
theorem ops_part3_3_fresh : (ops_part3_3 : List (HloOp τ sig (Elt F))).Forall fun op => op.fresh = ∅ :=
  ⟨rfl, rfl, rfl, rfl⟩
theorem ops_sub : (ops : List (HloOp τ sig (Elt F))).Forall fun op => op.bufs ⊆ tcRefs τ sig :=
  List.forall_iff_forall_mem.mpr fun op h => by
    simp only [ops, ops_part1, ops_part2, ops_part3, List.mem_append, or_assoc] at h
    rcases h with h | h | h | h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part3_3_sub op h]
theorem ops_fresh : ∀ op ∈ (ops : List (HloOp τ sig (Elt F))), op.fresh = ∅ := fun op h => by
    simp only [ops, ops_part1, ops_part2, ops_part3, List.mem_append, or_assoc] at h
    rcases h with h | h | h | h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part3_3_fresh op h]

end Cert.ImageLossesIdeal.Value

end
-- ==== Proof.ImgTerms.lean ====
module

public import proofs.«01_k».proof.Proof.ImgOps

/-
  The image losses' intermediate arrays as terms of the arguments' contents, each one used several times named.
-/

@[expose] public section

set_option Elab.async false

noncomputable section

namespace Cert.ImageLossesIdeal.Value

open Cert.ImageLossesIdeal Cert.ImageLossesIdeal.Gen Idealize.ShloMosaic Idealize.ShloMosaic.TcCoe Idealize.SL.Sem Idealize.ShloMosaic.StableHlo

variable {F : FTy → Type} [FloatOps F]

set_option maxRecDepth 8192 in
/-- `main_v1`'s composed term of the arguments (named: it is used 12 times). -/
def res_main_v1 (V0 : Valuation τ sig (Elt F)) : (Proc.devRef .tc main_v1 : DevRef τ sig).ty.Contents (Elt F) :=
  broadcastInDim S32x1 ![0] bcast_S32_S32x1_0 (iotaInDim S32 32 0)

set_option maxRecDepth 8192 in
/-- `main_v12`'s composed term of the arguments (named: it is used 6 times). -/
def res_main_v12 (V0 : Valuation τ sig (Elt F)) : (Proc.devRef .tc main_v12 : DevRef τ sig).ty.Contents (Elt F) :=
  concatenate S20000x4 1 [⟨S20000x2, (subf (extractStridedSlice S20000x2 ![0, 0] (V0 (Proc.devRef .tc main_arg2)) slices_S20000x4_S20000x2_0_0) (Host.divf (extractStridedSlice S20000x2 ![0, 2] (V0 (Proc.devRef .tc main_arg2)) slices_S20000x4_S20000x2_0_2) (broadcastInDim S20000x2 ![] bcast_S_S20000x2 (constant S_ .f32 0x40000000#32))))⟩, ⟨S20000x2, (addf (extractStridedSlice S20000x2 ![0, 0] (V0 (Proc.devRef .tc main_arg2)) slices_S20000x4_S20000x2_0_0) (Host.divf (extractStridedSlice S20000x2 ![0, 2] (V0 (Proc.devRef .tc main_arg2)) slices_S20000x4_S20000x2_0_2) (broadcastInDim S20000x2 ![] bcast_S_S20000x2 (constant S_ .f32 0x40000000#32))))⟩] concatenates_S20000x2_S20000x2_S20000x4_d1

set_option maxRecDepth 8192 in
/-- `main_v29`'s composed term of the arguments (named: it is used 2 times). -/
def res_main_v29 (V0 : Valuation τ sig (Elt F)) : (Proc.devRef .tc main_v29 : DevRef τ sig).ty.Contents (Elt F) :=
  maximumf (subf (minimumf (broadcastInDim S32x24x20000x2 ![0, 1, 2, 3] bcast_S32x24x1x2_S32x24x20000x2_0_1_2_3 (broadcastInDim S32x24x1x2 ![0, 1, 3] bcast_S32x24x2_S32x24x1x2_0_1_3 (extractStridedSlice S32x24x2 ![0, 0, 2] (V0 (Proc.devRef .tc main_arg3)) slices_S32x24x4_S32x24x2_0_0_2))) (broadcastInDim S32x24x20000x2 ![0, 1, 2, 3] bcast_S1x1x20000x2_S32x24x20000x2_0_1_2_3 (broadcastInDim S1x1x20000x2 ![2, 3] bcast_S20000x2_S1x1x20000x2_2_3 (extractStridedSlice S20000x2 ![0, 2] (res_main_v12 V0) slices_S20000x4_S20000x2_0_2)))) (maximumf (broadcastInDim S32x24x20000x2 ![0, 1, 2, 3] bcast_S32x24x1x2_S32x24x20000x2_0_1_2_3 (broadcastInDim S32x24x1x2 ![0, 1, 3] bcast_S32x24x2_S32x24x1x2_0_1_3 (extractStridedSlice S32x24x2 ![0, 0, 0] (V0 (Proc.devRef .tc main_arg3)) slices_S32x24x4_S32x24x2_0_0_0))) (broadcastInDim S32x24x20000x2 ![0, 1, 2, 3] bcast_S1x1x20000x2_S32x24x20000x2_0_1_2_3 (broadcastInDim S1x1x20000x2 ![2, 3] bcast_S20000x2_S1x1x20000x2_2_3 (extractStridedSlice S20000x2 ![0, 0] (res_main_v12 V0) slices_S20000x4_S20000x2_0_0))))) (broadcastInDim S32x24x20000x2 ![] bcast_S_S32x24x20000x2 (constant S_ .f32 0x00000000#32))

set_option maxRecDepth 8192 in
/-- `main_v34`'s composed term of the arguments (named: it is used 2 times). -/
def res_main_v34 (V0 : Valuation τ sig (Elt F)) : (Proc.devRef .tc main_v34 : DevRef τ sig).ty.Contents (Elt F) :=
  mulf (shapeCast _ (extractStridedSlice S32x24x20000x1 ![0, 0, 0, 0] (res_main_v29 V0) slices_S32x24x20000x2_S32x24x20000x1_0_0_0_0) shapeCasts_S32x24x20000x1_S32x24x20000) (shapeCast _ (extractStridedSlice S32x24x20000x1 ![0, 0, 0, 1] (res_main_v29 V0) slices_S32x24x20000x2_S32x24x20000x1_0_0_0_1) shapeCasts_S32x24x20000x1_S32x24x20000)

set_option maxRecDepth 8192 in
/-- `main_v63`'s composed term of the arguments (named: it is used 5 times). -/
def res_main_v63 (V0 : Valuation τ sig (Elt F)) : (Proc.devRef .tc main_v63 : DevRef τ sig).ty.Contents (Elt F) :=
  Host.divf (res_main_v34 V0) (subf (addf (broadcastInDim S32x24x20000 ![0, 1, 2] bcast_S32x24x1_S32x24x20000_0_1_2 (broadcastInDim S32x24x1 ![0, 1] bcast_S32x24_S32x24x1_0_1 (mulf (subf (shapeCast _ (extractStridedSlice S32x24x1 ![0, 0, 2] (V0 (Proc.devRef .tc main_arg3)) slices_S32x24x4_S32x24x1_0_0_2) shapeCasts_S32x24x1_S32x24) (shapeCast _ (extractStridedSlice S32x24x1 ![0, 0, 0] (V0 (Proc.devRef .tc main_arg3)) slices_S32x24x4_S32x24x1_0_0_0) shapeCasts_S32x24x1_S32x24)) (subf (shapeCast _ (extractStridedSlice S32x24x1 ![0, 0, 3] (V0 (Proc.devRef .tc main_arg3)) slices_S32x24x4_S32x24x1_0_0_3) shapeCasts_S32x24x1_S32x24) (shapeCast _ (extractStridedSlice S32x24x1 ![0, 0, 1] (V0 (Proc.devRef .tc main_arg3)) slices_S32x24x4_S32x24x1_0_0_1) shapeCasts_S32x24x1_S32x24))))) (broadcastInDim S32x24x20000 ![0, 1, 2] bcast_S1x1x20000_S32x24x20000_0_1_2 (broadcastInDim S1x1x20000 ![2] bcast_S20000_S1x1x20000_2 (mulf (subf (shapeCast _ (extractStridedSlice S20000x1 ![0, 2] (res_main_v12 V0) slices_S20000x4_S20000x1_0_2) shapeCasts_S20000x1_S20000) (shapeCast _ (extractStridedSlice S20000x1 ![0, 0] (res_main_v12 V0) slices_S20000x4_S20000x1_0_0) shapeCasts_S20000x1_S20000)) (subf (shapeCast _ (extractStridedSlice S20000x1 ![0, 3] (res_main_v12 V0) slices_S20000x4_S20000x1_0_3) shapeCasts_S20000x1_S20000) (shapeCast _ (extractStridedSlice S20000x1 ![0, 1] (res_main_v12 V0) slices_S20000x4_S20000x1_0_1) shapeCasts_S20000x1_S20000)))))) (res_main_v34 V0))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S32x24x20000 32 2

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v64`'s composed term of the arguments (named: it is used 6 times). -/
def res_main_v64 (V0 : Valuation τ sig (Elt F)) : (Proc.devRef .tc main_v64 : DevRef τ sig).ty.Contents (Elt F) :=
  (fun j => (Host.argReduce reducer_argmax_f32_i32 (res_main_v63 V0) (res_main_call0_v0 V0) (res_main_call0_cst V0) (res_main_call0_c V0) reducesTo_S32x24x20000_S32x24_d2 h_S_ j).2)

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S32x24x20000 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v100`'s composed term of the arguments (named: it is used 6 times). -/
def res_main_v100 (V0 : Valuation τ sig (Elt F)) : (Proc.devRef .tc main_v100 : DevRef τ sig).ty.Contents (Elt F) :=
  Host.scatter scatter_S32x20000_S32x24x2_S32x24_n_01_01_2 (fun _ b => b) ((fun j => (Host.argReduce reducer_argmax_f32_i32 (res_main_v63 V0) (res_main_call1_v0 V0) (res_main_call1_cst V0) (res_main_call1_c V0) reducesTo_S32x24x20000_S32x20000_d1 h_S_ j).2)) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![0, 1] bcast_S1x24_S32x24_0_1 (broadcastInDim S1x24 ![1] bcast_S24_S1x24_1 (iotaInDim S24 32 0)))

set_option maxRecDepth 8192 in
/-- `main_v115`'s composed term of the arguments (named: it is used 4 times). -/
def res_main_v115 (V0 : Valuation τ sig (Elt F)) : (Proc.devRef .tc main_v115 : DevRef τ sig).ty.Contents (Elt F) :=
  Host.gather gather_S32x24x4_S32x20000x2_S32x20000x4_2_01_n_n_01_2_114 (V0 (Proc.devRef .tc main_arg3)) (concatenate S32x20000x2 2 [⟨S32x20000x1, (broadcastInDim S32x20000x1 ![0, 1] bcast_S32x20000_S32x20000x1_0_1 (broadcastInDim S32x20000 ![0, 1] bcast_S32x1_S32x20000_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x20000x1, (broadcastInDim S32x20000x1 ![0, 1] bcast_S32x20000_S32x20000x1_0_1 (select (cmpi .slt (res_main_v100 V0) (broadcastInDim S32x20000 ![] bcast_S_S32x20000 (constantI S_ 32 0#32))) (addi (res_main_v100 V0) (broadcastInDim S32x20000 ![] bcast_S_S32x20000 (constantI S_ 32 24#32))) (res_main_v100 V0)))⟩] concatenates_S32x20000x1_S32x20000x1_S32x20000x2_d2)

set_option maxRecDepth 8192 in
/-- `main_v135`'s composed term of the arguments (named: it is used 2 times). -/
def res_main_v135 (V0 : Valuation τ sig (Elt F)) : (Proc.devRef .tc main_v135 : DevRef τ sig).ty.Contents (Elt F) :=
  select (cmpf .olt (Host.scatter scatter_S32x20000_S32x24x2_S32x24_n_01_01_2 (fun _ b => b) (Host.reduce FloatOps.maximumf (res_main_v63 V0) (constant S_ .f32 0xFF800000#32) reducesTo_S32x24x20000_S32x20000_d1 h_S_) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![] bcast_S_S32x24 (constant S_ .f32 0x40000000#32))) (broadcastInDim S32x20000 ![] bcast_S_S32x20000 (constant S_ .f32 0x3F000000#32))) (broadcastInDim S32x20000 ![] bcast_S_S32x20000 (id (constantI S_ 32 0#32))) (addi (Host.gather gather_S32x24_S32x20000x2_S32x20000_n_01_n_n_01_2_11 (V0 (Proc.devRef .tc main_arg4)) (concatenate S32x20000x2 2 [⟨S32x20000x1, (broadcastInDim S32x20000x1 ![0, 1] bcast_S32x20000_S32x20000x1_0_1 (broadcastInDim S32x20000 ![0, 1] bcast_S32x1_S32x20000_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x20000x1, (broadcastInDim S32x20000x1 ![0, 1] bcast_S32x20000_S32x20000x1_0_1 (select (cmpi .slt (res_main_v100 V0) (broadcastInDim S32x20000 ![] bcast_S_S32x20000 (constantI S_ 32 0#32))) (addi (res_main_v100 V0) (broadcastInDim S32x20000 ![] bcast_S_S32x20000 (constantI S_ 32 24#32))) (res_main_v100 V0)))⟩] concatenates_S32x20000x1_S32x20000x1_S32x20000x2_d2)) (broadcastInDim S32x20000 ![] bcast_S_S32x20000 (constantI S_ 32 1#32)))

set_option maxRecDepth 8192 in
/-- `main_v163`'s composed term of the arguments (named: it is used 4 times). -/
def res_main_v163 (V0 : Valuation τ sig (Elt F)) : (Proc.devRef .tc main_v163 : DevRef τ sig).ty.Contents (Elt F) :=
  cmpi .ne (res_main_v135 V0) (broadcastInDim S32x20000 ![] bcast_S_S32x20000 (constantI S_ 32 0#32))

set_option maxRecDepth 8192 in
/-- `main_v164`'s composed term of the arguments (named: it is used 3 times). -/
def res_main_v164 (V0 : Valuation τ sig (Elt F)) : (Proc.devRef .tc main_v164 : DevRef τ sig).ty.Contents (Elt F) :=
  subf (V0 (Proc.devRef .tc main_arg0)) (concatenate S32x20000x4 2 [⟨S32x20000x2, (Host.divf (subf (Host.divf (addf (extractStridedSlice S32x20000x2 ![0, 0, 0] (res_main_v115 V0) slices_S32x20000x4_S32x20000x2_0_0_0) (extractStridedSlice S32x20000x2 ![0, 0, 2] (res_main_v115 V0) slices_S32x20000x4_S32x20000x2_0_0_2)) (broadcastInDim S32x20000x2 ![] bcast_S_S32x20000x2 (constant S_ .f32 0x40000000#32))) (broadcastInDim S32x20000x2 ![0, 1, 2] bcast_S1x20000x2_S32x20000x2_0_1_2 (broadcastInDim S1x20000x2 ![1, 2] bcast_S20000x2_S1x20000x2_1_2 (extractStridedSlice S20000x2 ![0, 0] (V0 (Proc.devRef .tc main_arg2)) slices_S20000x4_S20000x2_0_0)))) (broadcastInDim S32x20000x2 ![0, 1, 2] bcast_S1x20000x2_S32x20000x2_0_1_2 (mulf (broadcastInDim S1x20000x2 ![] bcast_S_S1x20000x2 (constant S_ .f32 0x3DCCCCCD#32)) (broadcastInDim S1x20000x2 ![1, 2] bcast_S20000x2_S1x20000x2_1_2 (extractStridedSlice S20000x2 ![0, 2] (V0 (Proc.devRef .tc main_arg2)) slices_S20000x4_S20000x2_0_2)))))⟩, ⟨S32x20000x2, (Host.divf (Host.log (Host.divf (subf (extractStridedSlice S32x20000x2 ![0, 0, 2] (res_main_v115 V0) slices_S32x20000x4_S32x20000x2_0_0_2) (extractStridedSlice S32x20000x2 ![0, 0, 0] (res_main_v115 V0) slices_S32x20000x4_S32x20000x2_0_0_0)) (broadcastInDim S32x20000x2 ![0, 1, 2] bcast_S1x20000x2_S32x20000x2_0_1_2 (broadcastInDim S1x20000x2 ![1, 2] bcast_S20000x2_S1x20000x2_1_2 (extractStridedSlice S20000x2 ![0, 2] (V0 (Proc.devRef .tc main_arg2)) slices_S20000x4_S20000x2_0_2))))) (broadcastInDim S32x20000x2 ![] bcast_S_S32x20000x2 (constant S_ .f32 0x3E4CCCCD#32)))⟩] concatenates_S32x20000x2_S32x20000x2_S32x20000x4_d2)

set_option maxRecDepth 8192 in
/-- `main_v165`'s composed term of the arguments (named: it is used 2 times). -/
def res_main_v165 (V0 : Valuation τ sig (Elt F)) : (Proc.devRef .tc main_v165 : DevRef τ sig).ty.Contents (Elt F) :=
  Host.absf (res_main_v164 V0)

set_option maxRecDepth 8192 in
/-- `main_call4_v5`'s composed term of the arguments (named: it is used 2 times). -/
def res_main_call4_v5 (V0 : Valuation τ sig (Elt F)) : (Proc.devRef .tc main_call4_v5 : DevRef τ sig).ty.Contents (Elt F) :=
  subf (V0 (Proc.devRef .tc main_arg1)) (broadcastInDim S32x20000x21 ![0, 1, 2] bcast_S32x20000x1_S32x20000x21_0_1_2 (broadcastInDim S32x20000x1 ![0, 1] bcast_S32x20000_S32x20000x1_0_1 (maximumf (broadcastInDim S32x20000 ![] bcast_S_S32x20000 (constant S_ .f32 0xFF800000#32)) (Host.reduce FloatOps.maximumf (V0 (Proc.devRef .tc main_arg1)) (constant S_ .f32 0xFF800000#32) reducesTo_S32x20000x21_S32x20000_d2 h_S_))))

set_option maxRecDepth 8192 in
/-- `main_v180`'s composed term of the arguments (named: it is used 3 times). -/
def res_main_v180 (V0 : Valuation τ sig (Elt F)) : (Proc.devRef .tc main_v180 : DevRef τ sig).ty.Contents (Elt F) :=
  broadcastInDim S32x20000x1 ![0, 1] bcast_S32x20000_S32x20000x1_0_1 (res_main_v135 V0)

set_option maxRecDepth 8192 in
/-- `main_call5_v5`'s composed term of the arguments (named: it is used 3 times). -/
def res_main_call5_v5 (V0 : Valuation τ sig (Elt F)) : (Proc.devRef .tc main_call5_v5 : DevRef τ sig).ty.Contents (Elt F) :=
  shapeCast _ (select (cmpi .slt (res_main_v180 V0) (broadcastInDim S32x20000x1 ![] bcast_S_S32x20000x1 (constantI S_ 32 0#32))) (addi (res_main_v180 V0) (broadcastInDim S32x20000x1 ![] bcast_S_S32x20000x1 (constantI S_ 32 21#32))) (res_main_v180 V0)) shapeCasts_S32x20000x1_S32x20000x1x1

set_option maxRecDepth 8192 in
/-- `main_v183`'s composed term of the arguments (named: it is used 2 times). -/
def res_main_v183 (V0 : Valuation τ sig (Elt F)) : (Proc.devRef .tc main_v183 : DevRef τ sig).ty.Contents (Elt F) :=
  Host.negf (shapeCast _ (select (Host.reduce IntOp.andi (andi (cmpi .sge (res_main_call5_v5 V0) (broadcastInDim S32x20000x1x1 ![] bcast_S_S32x20000x1x1 (constantI S_ 32 0#32))) (cmpi .sle (res_main_call5_v5 V0) (broadcastInDim S32x20000x1x1 ![0, 1, 2, 3] bcast_S1x1x1x1_S32x20000x1x1_0_1_2_3 (broadcastInDim S1x1x1x1 ![3] bcast_S1_S1x1x1x1_3 (constantI S1 32 20#32))))) (constantI S_ 1 1#1) reducesTo_S32x20000x1x1_S32x20000x1_d3 h_S_) (Host.gather gather_S32x20000x21_S32x20000x1x1_S32x20000x1_n_2_01_01_2_3_111 (subf (res_main_call4_v5 V0) (broadcastInDim S32x20000x21 ![0, 1, 2] bcast_S32x20000x1_S32x20000x21_0_1_2 (Host.log (broadcastInDim S32x20000x1 ![0, 1] bcast_S32x20000_S32x20000x1_0_1 (Host.reduceAdd (Host.exp (res_main_call4_v5 V0)) (constant S_ .f32 0x00000000#32) reducesTo_S32x20000x21_S32x20000_d2 h_S_))))) (res_main_call5_v5 V0)) (broadcastInDim S32x20000x1 ![] bcast_S_S32x20000x1 (constant S_ .f32 0x7FC00000#32))) shapeCasts_S32x20000x1_S32x20000)

end Cert.ImageLossesIdeal.Value

end
-- ==== Proof.ImgArrays.lean ====
module

public import proofs.«01_k».proof.Proof.ImgTerms
public import proofs.«01_k».proof.Proof.RefValue

/-
  The image losses' matching is the reference's: each intermediate array they share is the same term of the same arguments.
-/

@[expose] public section

set_option maxRecDepth 16384

noncomputable section

open Idealize.ShloMosaic Idealize.ShloMosaic.TcCoe Idealize.SL.Sem

namespace Cert.ImageLossesIdeal.Value

open Cert.ImageLossesIdeal Cert.ImageLossesIdeal.Gen Cert.Loss

/-- The reference's buffers and these hold the same five arguments. -/
structure Same (V0 : Valuation τ sig (Elt Ideal)) (W : Valuation Cert.ReferenceIdeal.τ Cert.ReferenceIdeal.sig (Elt Ideal)) : Prop where
  /-- The predicted offsets. -/
  a0 : (V0 (Proc.devRef .tc main_arg0) : FVec Ideal S32x20000x4 .f32) = W (Proc.devRef .tc Cert.ReferenceIdeal.main_arg0)
  /-- The scores. -/
  a1 : (V0 (Proc.devRef .tc main_arg1) : FVec Ideal S32x20000x21 .f32) = W (Proc.devRef .tc Cert.ReferenceIdeal.main_arg1)
  /-- The priors. -/
  a2 : (V0 (Proc.devRef .tc main_arg2) : FVec Ideal S20000x4 .f32) = W (Proc.devRef .tc Cert.ReferenceIdeal.main_arg2)
  /-- The boxes. -/
  a3 : (V0 (Proc.devRef .tc main_arg3) : FVec Ideal S32x24x4 .f32) = W (Proc.devRef .tc Cert.ReferenceIdeal.main_arg3)
  /-- The labels. -/
  a4 : (V0 (Proc.devRef .tc main_arg4) : IVec S32x24 32) = W (Proc.devRef .tc Cert.ReferenceIdeal.main_arg4)

variable {V0 : Valuation τ sig (Elt Ideal)} {W : Valuation Cert.ReferenceIdeal.τ Cert.ReferenceIdeal.sig (Elt Ideal)} (h : Same V0 W)
include h

/-- The priors' corners. -/
theorem same_v12 : (res_main_v12 V0 : FVec Ideal S20000x4 .f32) = Cert.ReferenceIdeal.Value.res_main_v12 W := by
  delta res_main_v12 Cert.ReferenceIdeal.Value.res_main_v12
  rw [h.a2]
/-- The shared intervals. -/
theorem same_v29 : (res_main_v29 V0 : FVec Ideal S32x24x20000x2 .f32) = Cert.ReferenceIdeal.Value.res_main_v29 W := by
  delta res_main_v29 Cert.ReferenceIdeal.Value.res_main_v29
  rw [same_v12 h, h.a3]
/-- The shared areas. -/
theorem same_v34 : (res_main_v34 V0 : FVec Ideal S32x24x20000 .f32) = Cert.ReferenceIdeal.Value.res_main_v34 W := by
  delta res_main_v34 Cert.ReferenceIdeal.Value.res_main_v34
  rw [same_v29 h]
  rfl
/-- The overlaps. -/
theorem same_v63 : (res_main_v63 V0 : FVec Ideal S32x24x20000 .f32) = Cert.ReferenceIdeal.Value.res_main_v63 W := by
  delta res_main_v63 Cert.ReferenceIdeal.Value.res_main_v63
  rw [same_v34 h, same_v12 h, h.a3]
/-- The prior each box overlaps most. -/
theorem same_v64 : (res_main_v64 V0 : IVec S32x24 32) = Cert.ReferenceIdeal.Value.res_main_v64 W := by
  delta res_main_v64 Cert.ReferenceIdeal.Value.res_main_v64
  rw [same_v63 h]
  rfl
/-- The matched boxes. -/
theorem same_v100 : (res_main_v100 V0 : IVec S32x20000 32) = Cert.ReferenceIdeal.Value.res_main_v100 W := by
  delta res_main_v100 Cert.ReferenceIdeal.Value.res_main_v100
  rw [same_v63 h, same_v64 h]
  rfl
/-- The boxes priors are matched to. -/
theorem same_v115 : (res_main_v115 V0 : FVec Ideal S32x20000x4 .f32) = Cert.ReferenceIdeal.Value.res_main_v115 W := by
  delta res_main_v115 Cert.ReferenceIdeal.Value.res_main_v115
  rw [same_v100 h, h.a3]
  rfl
/-- The classes. -/
theorem same_v135 : (res_main_v135 V0 : IVec S32x20000 32) = Cert.ReferenceIdeal.Value.res_main_v135 W := by
  delta res_main_v135 Cert.ReferenceIdeal.Value.res_main_v135
  rw [same_v63 h, same_v64 h, same_v100 h, h.a4]
  rfl
/-- Which priors count. -/
theorem same_v163 : (res_main_v163 V0 : IVec S32x20000 1) = Cert.ReferenceIdeal.Value.res_main_v163 W := by
  delta res_main_v163 Cert.ReferenceIdeal.Value.res_main_v163
  rw [same_v135 h]
/-- The differences. -/
theorem same_v164 : (res_main_v164 V0 : FVec Ideal S32x20000x4 .f32) = Cert.ReferenceIdeal.Value.res_main_v164 W := by
  delta res_main_v164 Cert.ReferenceIdeal.Value.res_main_v164
  rw [same_v115 h, h.a0, h.a2]

end Cert.ImageLossesIdeal.Value
-- ==== Proof.ImgWindows.lean ====
module

public import proofs.«01_k».proof.Proof.ImgTerms

/-
  What each window of the image losses' operations leaves in the buffers that later windows read: the first windows.
-/

@[expose] public section

set_option Elab.async false

noncomputable section

namespace Cert.ImageLossesIdeal.Value

open Cert.ImageLossesIdeal Cert.ImageLossesIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_cst, main_v4, main_v5, main_v6, main_v7, main_v8, main_cst_0, main_v9, main_v10, main_v11, main_v12, main_v13, main_v14, main_v15, main_v16, main_v17, main_v18, main_v19, main_v20, main_v21, main_v22, main_v23, main_v24, main_v25, main_v26, main_v27, main_cst_1, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
set_option maxRecDepth 8192 in
theorem ops_part0_writes : (ops_part0 : List (HloOp τ sig (Elt F))).Forall fun op => op.writes ⊆ (ops_part0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
set_option maxRecDepth 8192 in
set_option maxHeartbeats 2000000 in
theorem val1_main_v1 (V0 : Valuation τ sig (Elt F)) : val1 V0 (no_index (Proc.devRef .tc main_v1)) = res_main_v1 V0 := by
  unfold val1
  simp only [ops_part0]
  after_results_simp
  all_goals rfl
set_option maxRecDepth 8192 in
set_option maxHeartbeats 2000000 in
theorem val1_main_v34 (V0 : Valuation τ sig (Elt F)) : val1 V0 (no_index (Proc.devRef .tc main_v34)) = res_main_v34 V0 := by
  unfold val1
  simp only [ops_part0]
  after_results_simp
  simp only [val0_main_arg2, val0_main_arg3] <;> rfl
set_option maxRecDepth 8192 in
set_option maxHeartbeats 2000000 in
theorem val1_main_v46 (V0 : Valuation τ sig (Elt F)) : val1 V0 (no_index (Proc.devRef .tc main_v46)) = broadcastInDim S32x24x1 ![0, 1] bcast_S32x24_S32x24x1_0_1 (mulf (subf (shapeCast _ (extractStridedSlice S32x24x1 ![0, 0, 2] (V0 (Proc.devRef .tc main_arg3)) slices_S32x24x4_S32x24x1_0_0_2) shapeCasts_S32x24x1_S32x24) (shapeCast _ (extractStridedSlice S32x24x1 ![0, 0, 0] (V0 (Proc.devRef .tc main_arg3)) slices_S32x24x4_S32x24x1_0_0_0) shapeCasts_S32x24x1_S32x24)) (subf (shapeCast _ (extractStridedSlice S32x24x1 ![0, 0, 3] (V0 (Proc.devRef .tc main_arg3)) slices_S32x24x4_S32x24x1_0_0_3) shapeCasts_S32x24x1_S32x24) (shapeCast _ (extractStridedSlice S32x24x1 ![0, 0, 1] (V0 (Proc.devRef .tc main_arg3)) slices_S32x24x4_S32x24x1_0_0_1) shapeCasts_S32x24x1_S32x24))) := by
  unfold val1
  simp only [ops_part0]
  after_results_simp
  simp only [val0_main_arg3] <;> rfl
set_option maxRecDepth 8192 in
set_option maxHeartbeats 2000000 in
theorem val1_main_v51 (V0 : Valuation τ sig (Elt F)) : val1 V0 (no_index (Proc.devRef .tc main_v51)) = subf (shapeCast _ (extractStridedSlice S20000x1 ![0, 2] (res_main_v12 V0) slices_S20000x4_S20000x1_0_2) shapeCasts_S20000x1_S20000) (shapeCast _ (extractStridedSlice S20000x1 ![0, 0] (res_main_v12 V0) slices_S20000x4_S20000x1_0_0) shapeCasts_S20000x1_S20000) := by
  unfold val1
  simp only [ops_part0]
  after_results_simp
  simp only [val0_main_arg2] <;> rfl
set_option maxRecDepth 8192 in
set_option maxHeartbeats 2000000 in
theorem val1_main_v56 (V0 : Valuation τ sig (Elt F)) : val1 V0 (no_index (Proc.devRef .tc main_v56)) = subf (shapeCast _ (extractStridedSlice S20000x1 ![0, 3] (res_main_v12 V0) slices_S20000x4_S20000x1_0_3) shapeCasts_S20000x1_S20000) (shapeCast _ (extractStridedSlice S20000x1 ![0, 1] (res_main_v12 V0) slices_S20000x4_S20000x1_0_1) shapeCasts_S20000x1_S20000) := by
  unfold val1
  simp only [ops_part0]
  after_results_simp
  simp only [val0_main_arg2] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v57, main_v58, main_v59, main_v60, main_v61, main_v62, main_v63, main_call0_v0, main_call0_cst, main_call0_c, main_call0_v1_0, main_v64, main_cst_2, main_v65, main_call1_v0, main_call1_cst, main_call1_c, main_call1_v1_0, main_v66, main_c, main_v67, main_v68, main_c_3, main_v69, main_v70, main_v71, main_c_4, main_v72, main_v73, main_c_5]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_v1 (V0 : Valuation τ sig (Elt F)) : val1_1 V0 (no_index (Proc.devRef .tc main_v1)) = res_main_v1 V0 :=
  (val1_1_keep V0 main_v1 (by decide)).trans (val1_main_v1 V0)
set_option maxRecDepth 8192 in
set_option maxHeartbeats 2000000 in
theorem val1_1_main_v64 (V0 : Valuation τ sig (Elt F)) : val1_1 V0 (no_index (Proc.devRef .tc main_v64)) = res_main_v64 V0 := by
  unfold val1_1
  simp only [ops_part1_0, TRef.nullary, TRef.quaternary, TRef.toBuf, TRef.ofBuf, cast_eq]
  after_results_simp
  simp only [val1_main_v56, val1_main_v51, val1_main_v46, val1_main_v34] <;> rfl
set_option maxRecDepth 8192 in
set_option maxHeartbeats 2000000 in
theorem val1_1_main_v65 (V0 : Valuation τ sig (Elt F)) : val1_1 V0 (no_index (Proc.devRef .tc main_v65)) = Host.reduce FloatOps.maximumf (res_main_v63 V0) (constant S_ .f32 0xFF800000#32) reducesTo_S32x24x20000_S32x20000_d1 h_S_ := by
  unfold val1_1
  simp only [ops_part1_0, TRef.nullary, TRef.quaternary, TRef.toBuf, TRef.ofBuf, cast_eq]
  after_results_simp
  simp only [val1_main_v56, val1_main_v51, val1_main_v46, val1_main_v34] <;> rfl
set_option maxRecDepth 8192 in
set_option maxHeartbeats 2000000 in
theorem val1_1_main_v66 (V0 : Valuation τ sig (Elt F)) : val1_1 V0 (no_index (Proc.devRef .tc main_v66)) = (fun j => (Host.argReduce reducer_argmax_f32_i32 (res_main_v63 V0) (res_main_call1_v0 V0) (res_main_call1_cst V0) (res_main_call1_c V0) reducesTo_S32x24x20000_S32x20000_d1 h_S_ j).2) := by
  unfold val1_1
  simp only [ops_part1_0, TRef.nullary, TRef.quaternary, TRef.toBuf, TRef.ofBuf, cast_eq]
  after_results_simp
  simp only [val1_main_v56, val1_main_v51, val1_main_v46, val1_main_v34] <;> rfl
set_option maxRecDepth 8192 in
set_option maxHeartbeats 2000000 in
theorem val1_1_main_v71 (V0 : Valuation τ sig (Elt F)) : val1_1 V0 (no_index (Proc.devRef .tc main_v71)) = select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0) := by
  unfold val1_1
  simp only [ops_part1_0, TRef.nullary, TRef.quaternary, TRef.toBuf, TRef.ofBuf, cast_eq]
  after_results_simp
  simp only [val1_main_v1] <;> rfl
set_option maxRecDepth 8192 in
set_option maxHeartbeats 2000000 in
theorem val1_1_main_v73 (V0 : Valuation τ sig (Elt F)) : val1_1 V0 (no_index (Proc.devRef .tc main_v73)) = cmpi .slt (res_main_v64 V0) (broadcastInDim S32x24 ![] bcast_S_S32x24 (constantI S_ 32 0#32)) := by
  unfold val1_1
  simp only [ops_part1_0, TRef.nullary, TRef.quaternary, TRef.toBuf, TRef.ofBuf, cast_eq]
  after_results_simp
  simp only [val1_main_v56, val1_main_v51, val1_main_v46, val1_main_v34] <;> rfl
set_option maxRecDepth 8192 in
set_option maxHeartbeats 2000000 in
theorem val1_1_main_c_5 (V0 : Valuation τ sig (Elt F)) : val1_1 V0 (no_index (Proc.devRef .tc main_c_5)) = constantI S_ 32 20000#32 := by
  unfold val1_1
  simp only [ops_part1_0, TRef.nullary, TRef.quaternary, TRef.toBuf, TRef.ofBuf, cast_eq]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v74, main_v75, main_v76, main_v77, main_v78, main_v79, main_v80, main_cst_6, main_v81, main_v82, main_v83, main_v84, main_c_7, main_v85, main_v86, main_c_8, main_v87, main_v88, main_v89, main_c_9, main_v90, main_v91, main_c_10, main_v92, main_v93, main_v94, main_v95, main_v96, main_v97, main_v98]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_v1 (V0 : Valuation τ sig (Elt F)) : val1_2 V0 (no_index (Proc.devRef .tc main_v1)) = res_main_v1 V0 :=
  (val1_2_keep V0 main_v1 (by decide)).trans (val1_1_main_v1 V0)
theorem val1_2_main_v66 (V0 : Valuation τ sig (Elt F)) : val1_2 V0 (no_index (Proc.devRef .tc main_v66)) = (fun j => (Host.argReduce reducer_argmax_f32_i32 (res_main_v63 V0) (res_main_call1_v0 V0) (res_main_call1_cst V0) (res_main_call1_c V0) reducesTo_S32x24x20000_S32x20000_d1 h_S_ j).2) :=
  (val1_2_keep V0 main_v66 (by decide)).trans (val1_1_main_v66 V0)
set_option maxRecDepth 8192 in
set_option maxHeartbeats 2000000 in
theorem val1_2_main_v82 (V0 : Valuation τ sig (Elt F)) : val1_2 V0 (no_index (Proc.devRef .tc main_v82)) = Host.scatter scatter_S32x20000_S32x24x2_S32x24_n_01_01_2 (fun _ b => b) (Host.reduce FloatOps.maximumf (res_main_v63 V0) (constant S_ .f32 0xFF800000#32) reducesTo_S32x24x20000_S32x20000_d1 h_S_) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![] bcast_S_S32x24 (constant S_ .f32 0x40000000#32)) := by
  unfold val1_2
  simp only [ops_part1_1]
  after_results_simp
  simp only [val1_1_main_v64, val1_1_main_c_5, val1_1_main_v73, val1_1_main_v71, val1_1_main_v65] <;> rfl
set_option maxRecDepth 8192 in
set_option maxHeartbeats 2000000 in
theorem val1_2_main_v84 (V0 : Valuation τ sig (Elt F)) : val1_2 V0 (no_index (Proc.devRef .tc main_v84)) = broadcastInDim S1x24 ![1] bcast_S24_S1x24_1 (iotaInDim S24 32 0) := by
  unfold val1_2
  simp only [ops_part1_1]
  after_results_simp
  all_goals rfl
set_option maxRecDepth 8192 in
set_option maxHeartbeats 2000000 in
theorem val1_2_main_v98 (V0 : Valuation τ sig (Elt F)) : val1_2 V0 (no_index (Proc.devRef .tc main_v98)) = concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2 := by
  unfold val1_2
  simp only [ops_part1_1]
  after_results_simp
  simp only [val1_1_main_v64, val1_1_main_v1] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v99, main_v100, main_c_11, main_v101, main_v102, main_c_12, main_v103, main_v104]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_v1 (V0 : Valuation τ sig (Elt F)) : val2 V0 (no_index (Proc.devRef .tc main_v1)) = res_main_v1 V0 :=
  (val2_keep V0 main_v1 (by decide)).trans (val1_2_main_v1 V0)
theorem val2_main_v82 (V0 : Valuation τ sig (Elt F)) : val2 V0 (no_index (Proc.devRef .tc main_v82)) = Host.scatter scatter_S32x20000_S32x24x2_S32x24_n_01_01_2 (fun _ b => b) (Host.reduce FloatOps.maximumf (res_main_v63 V0) (constant S_ .f32 0xFF800000#32) reducesTo_S32x24x20000_S32x20000_d1 h_S_) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![] bcast_S_S32x24 (constant S_ .f32 0x40000000#32)) :=
  (val2_keep V0 main_v82 (by decide)).trans (val1_2_main_v82 V0)
set_option maxRecDepth 8192 in
theorem val2_main_v100 (V0 : Valuation τ sig (Elt F)) : val2 V0 (no_index (Proc.devRef .tc main_v100)) = res_main_v100 V0 := by
  unfold val2
  simp only [ops_part1_2]
  after_results_simp
  simp only [val1_2_main_v84, val1_2_main_v98, val1_2_main_v66] <;> rfl
set_option maxRecDepth 8192 in
theorem val2_main_v102 (V0 : Valuation τ sig (Elt F)) : val2 V0 (no_index (Proc.devRef .tc main_v102)) = cmpi .slt (res_main_v1 V0) (broadcastInDim S32x1 ![] bcast_S_S32x1 (constantI S_ 32 0#32)) := by
  unfold val2
  simp only [ops_part1_2]
  after_results_simp
  simp only [val1_2_main_v1] <;> rfl
set_option maxRecDepth 8192 in
theorem val2_main_v104 (V0 : Valuation τ sig (Elt F)) : val2 V0 (no_index (Proc.devRef .tc main_v104)) = addi (res_main_v1 V0) (broadcastInDim S32x1 ![] bcast_S_S32x1 (constantI S_ 32 32#32)) := by
  unfold val2
  simp only [ops_part1_2]
  after_results_simp
  simp only [val1_2_main_v1] <;> rfl

/-- The device's buffer contents after @main's first 158 operations. -/
def val2_1 (V0 : Valuation τ sig (Elt F)) : Valuation τ sig (Elt F) := after ops_part2_0 (val2 V0)
/-- The buffers that window `ops_part2_0`'s operations write. -/
abbrev ops_part2_0_W : List (Ref sig .tc) := [main_v105, main_c_13, main_v106, main_v107, main_c_14, main_v108, main_v109, main_v110, main_v111, main_v112, main_v113, main_v114, main_v115, main_c_15, main_v116, main_v117, main_c_16, main_v118, main_v119, main_v120, main_c_17, main_v121, main_v122, main_c_18, main_v123, main_v124, main_v125, main_v126, main_v127, main_v128]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_v82 (V0 : Valuation τ sig (Elt F)) : val2_1 V0 (no_index (Proc.devRef .tc main_v82)) = Host.scatter scatter_S32x20000_S32x24x2_S32x24_n_01_01_2 (fun _ b => b) (Host.reduce FloatOps.maximumf (res_main_v63 V0) (constant S_ .f32 0xFF800000#32) reducesTo_S32x24x20000_S32x20000_d1 h_S_) (concatenate S32x24x2 2 [⟨S32x24x1, (broadcastInDim S32x24x1 ![0, 1] bcast_S32x24_S32x24x1_0_1 (broadcastInDim S32x24 ![0, 1] bcast_S32x1_S32x24_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))))⟩, ⟨S32x24x1, (broadcastInDim S32x24x1 ![0, 1] bcast_S32x24_S32x24x1_0_1 (select (cmpi .slt (res_main_v64 V0) (broadcastInDim S32x24 ![] bcast_S_S32x24 (constantI S_ 32 0#32))) (addi (res_main_v64 V0) (broadcastInDim S32x24 ![] bcast_S_S32x24 (constantI S_ 32 20000#32))) (res_main_v64 V0)))⟩] concatenates_S32x24x1_S32x24x1_S32x24x2_d2) (broadcastInDim S32x24 ![] bcast_S_S32x24 (constant S_ .f32 0x40000000#32)) :=
  (val2_1_keep V0 main_v82 (by decide)).trans (val2_main_v82 V0)
set_option maxRecDepth 8192 in
set_option maxHeartbeats 2000000 in
theorem val2_1_main_v115 (V0 : Valuation τ sig (Elt F)) : val2_1 V0 (no_index (Proc.devRef .tc main_v115)) = res_main_v115 V0 := by
  unfold val2_1
  simp only [ops_part2_0]
  after_results_simp
  simp only [val2_main_v100, val2_main_v1, val2_main_v104, val2_main_v102, val2_main_arg3] <;> rfl
set_option maxRecDepth 8192 in
set_option maxHeartbeats 2000000 in
theorem val2_1_main_v127 (V0 : Valuation τ sig (Elt F)) : val2_1 V0 (no_index (Proc.devRef .tc main_v127)) = broadcastInDim S32x20000x1 ![0, 1] bcast_S32x20000_S32x20000x1_0_1 (broadcastInDim S32x20000 ![0, 1] bcast_S32x1_S32x20000_0_1 (select (cmpi .slt (res_main_v1 V0) (broadcastInDim S32x1 ![] bcast_S_S32x1 (constantI S_ 32 0#32))) (addi (res_main_v1 V0) (broadcastInDim S32x1 ![] bcast_S_S32x1 (constantI S_ 32 32#32))) (res_main_v1 V0))) := by
  unfold val2_1
  simp only [ops_part2_0]
  after_results_simp
  simp only [val2_main_v1] <;> rfl
set_option maxRecDepth 8192 in
set_option maxHeartbeats 2000000 in
theorem val2_1_main_v128 (V0 : Valuation τ sig (Elt F)) : val2_1 V0 (no_index (Proc.devRef .tc main_v128)) = broadcastInDim S32x20000x1 ![0, 1] bcast_S32x20000_S32x20000x1_0_1 (select (cmpi .slt (res_main_v100 V0) (broadcastInDim S32x20000 ![] bcast_S_S32x20000 (constantI S_ 32 0#32))) (addi (res_main_v100 V0) (broadcastInDim S32x20000 ![] bcast_S_S32x20000 (constantI S_ 32 24#32))) (res_main_v100 V0)) := by
  unfold val2_1
  simp only [ops_part2_0]
  after_results_simp
  simp only [val2_main_v100] <;> rfl

/-- The device's buffer contents after @main's first 188 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v129, main_v130, main_c_19, main_v131, main_v132, main_cst_20, main_v133, main_v134, main_c_21, main_call2_v0, main_call2_v1, main_v135, main_v136, main_v137, main_v138, main_cst_22, main_v139, main_v140, main_v141, main_v142, main_v143, main_v144, main_v145, main_v146, main_cst_23, main_v147, main_v148, main_v149, main_v150, main_v151]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_v115 (V0 : Valuation τ sig (Elt F)) : val2_2 V0 (no_index (Proc.devRef .tc main_v115)) = res_main_v115 V0 :=
  (val2_2_keep V0 main_v115 (by decide)).trans (val2_1_main_v115 V0)
set_option maxRecDepth 8192 in
set_option maxHeartbeats 2000000 in
theorem val2_2_main_v135 (V0 : Valuation τ sig (Elt F)) : val2_2 V0 (no_index (Proc.devRef .tc main_v135)) = res_main_v135 V0 := by
  unfold val2_2
  simp only [ops_part2_1, TRef.ternary, TRef.unary, TRef.toBuf, TRef.ofBuf, cast_eq]
  after_results_simp
  simp only [val2_1_main_v128, val2_1_main_v127, val2_1_main_arg4, val2_1_main_v82] <;> rfl
set_option maxRecDepth 8192 in
set_option maxHeartbeats 2000000 in
theorem val2_2_main_v150 (V0 : Valuation τ sig (Elt F)) : val2_2 V0 (no_index (Proc.devRef .tc main_v150)) = Host.divf (subf (Host.divf (addf (extractStridedSlice S32x20000x2 ![0, 0, 0] (res_main_v115 V0) slices_S32x20000x4_S32x20000x2_0_0_0) (extractStridedSlice S32x20000x2 ![0, 0, 2] (res_main_v115 V0) slices_S32x20000x4_S32x20000x2_0_0_2)) (broadcastInDim S32x20000x2 ![] bcast_S_S32x20000x2 (constant S_ .f32 0x40000000#32))) (broadcastInDim S32x20000x2 ![0, 1, 2] bcast_S1x20000x2_S32x20000x2_0_1_2 (broadcastInDim S1x20000x2 ![1, 2] bcast_S20000x2_S1x20000x2_1_2 (extractStridedSlice S20000x2 ![0, 0] (V0 (Proc.devRef .tc main_arg2)) slices_S20000x4_S20000x2_0_0)))) (broadcastInDim S32x20000x2 ![0, 1, 2] bcast_S1x20000x2_S32x20000x2_0_1_2 (mulf (broadcastInDim S1x20000x2 ![] bcast_S_S1x20000x2 (constant S_ .f32 0x3DCCCCCD#32)) (broadcastInDim S1x20000x2 ![1, 2] bcast_S20000x2_S1x20000x2_1_2 (extractStridedSlice S20000x2 ![0, 2] (V0 (Proc.devRef .tc main_arg2)) slices_S20000x4_S20000x2_0_2)))) := by
  unfold val2_2
  simp only [ops_part2_1, TRef.ternary, TRef.unary, TRef.toBuf, TRef.ofBuf, cast_eq]
  after_results_simp
  simp only [val2_1_main_arg2, val2_1_main_v115] <;> rfl
set_option maxRecDepth 8192 in
set_option maxHeartbeats 2000000 in
theorem val2_2_main_v151 (V0 : Valuation τ sig (Elt F)) : val2_2 V0 (no_index (Proc.devRef .tc main_v151)) = extractStridedSlice S32x20000x2 ![0, 0, 2] (res_main_v115 V0) slices_S32x20000x4_S32x20000x2_0_0_2 := by
  unfold val2_2
  simp only [ops_part2_1, TRef.ternary, TRef.unary, TRef.toBuf, TRef.ofBuf, cast_eq]
  after_results_simp
  simp only [val2_1_main_v115] <;> rfl

end Cert.ImageLossesIdeal.Value

end
-- ==== Proof.ImgRun.lean ====
module

public import proofs.«01_k».proof.Proof.ImgWindows

/-
  The last windows of the image losses' operations, and the run: the results at their composed terms, the arguments unchanged.
-/

@[expose] public section

set_option Elab.async false

noncomputable section

namespace Cert.ImageLossesIdeal.Value

open Cert.ImageLossesIdeal Cert.ImageLossesIdeal.Gen Idealize.ShloMosaic Idealize.ShloMosaic.TcCoe Idealize.SL.Sem Idealize.ShloMosaic.StableHlo

variable {F : FTy → Type} [FloatOps F]

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v152, main_v153]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_v135 (V0 : Valuation τ sig (Elt F)) : val3 V0 (no_index (Proc.devRef .tc main_v135)) = res_main_v135 V0 :=
  (val3_keep V0 main_v135 (by decide)).trans (val2_2_main_v135 V0)
theorem val3_main_v150 (V0 : Valuation τ sig (Elt F)) : val3 V0 (no_index (Proc.devRef .tc main_v150)) = Host.divf (subf (Host.divf (addf (extractStridedSlice S32x20000x2 ![0, 0, 0] (res_main_v115 V0) slices_S32x20000x4_S32x20000x2_0_0_0) (extractStridedSlice S32x20000x2 ![0, 0, 2] (res_main_v115 V0) slices_S32x20000x4_S32x20000x2_0_0_2)) (broadcastInDim S32x20000x2 ![] bcast_S_S32x20000x2 (constant S_ .f32 0x40000000#32))) (broadcastInDim S32x20000x2 ![0, 1, 2] bcast_S1x20000x2_S32x20000x2_0_1_2 (broadcastInDim S1x20000x2 ![1, 2] bcast_S20000x2_S1x20000x2_1_2 (extractStridedSlice S20000x2 ![0, 0] (V0 (Proc.devRef .tc main_arg2)) slices_S20000x4_S20000x2_0_0)))) (broadcastInDim S32x20000x2 ![0, 1, 2] bcast_S1x20000x2_S32x20000x2_0_1_2 (mulf (broadcastInDim S1x20000x2 ![] bcast_S_S1x20000x2 (constant S_ .f32 0x3DCCCCCD#32)) (broadcastInDim S1x20000x2 ![1, 2] bcast_S20000x2_S1x20000x2_1_2 (extractStridedSlice S20000x2 ![0, 2] (V0 (Proc.devRef .tc main_arg2)) slices_S20000x4_S20000x2_0_2)))) :=
  (val3_keep V0 main_v150 (by decide)).trans (val2_2_main_v150 V0)
set_option maxRecDepth 8192 in
theorem val3_main_v153 (V0 : Valuation τ sig (Elt F)) : val3 V0 (no_index (Proc.devRef .tc main_v153)) = subf (extractStridedSlice S32x20000x2 ![0, 0, 2] (res_main_v115 V0) slices_S32x20000x4_S32x20000x2_0_0_2) (extractStridedSlice S32x20000x2 ![0, 0, 0] (res_main_v115 V0) slices_S32x20000x4_S32x20000x2_0_0_0) := by
  unfold val3
  simp only [ops_part2_2]
  after_results_simp
  simp only [val2_2_main_v115, val2_2_main_v151] <;> rfl

/-- The device's buffer contents after @main's first 220 operations. -/
def val3_1 (V0 : Valuation τ sig (Elt F)) : Valuation τ sig (Elt F) := after ops_part3_0 (val3 V0)
/-- The buffers that window `ops_part3_0`'s operations write. -/
abbrev ops_part3_0_W : List (Ref sig .tc) := [main_v154, main_v155, main_v156, main_v157, main_v158, main_cst_24, main_v159, main_v160, main_v161, main_c_25, main_v162, main_v163, main_v164, main_v165, main_cst_26, main_v166, main_v167, main_cst_27, main_v168, main_v169, main_v170, main_cst_28, main_v171, main_v172, main_v173, main_v174, main_v175, main_v176, main_v177, main_cst_29]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
theorem val3_1_main_arg4 (V0 : Valuation τ sig (Elt F)) : val3_1 V0 (no_index (Proc.devRef .tc main_arg4)) = V0 (Proc.devRef .tc main_arg4) :=
  (val3_1_keep V0 main_arg4 (by decide)).trans (val3_main_arg4 V0)
theorem val3_1_main_v135 (V0 : Valuation τ sig (Elt F)) : val3_1 V0 (no_index (Proc.devRef .tc main_v135)) = res_main_v135 V0 :=
  (val3_1_keep V0 main_v135 (by decide)).trans (val3_main_v135 V0)
set_option maxRecDepth 8192 in
set_option maxHeartbeats 2000000 in
theorem val3_1_main_v163 (V0 : Valuation τ sig (Elt F)) : val3_1 V0 (no_index (Proc.devRef .tc main_v163)) = res_main_v163 V0 := by
  unfold val3_1
  simp only [ops_part3_0, TRef.ternary, TRef.toBuf, TRef.ofBuf, cast_eq]
  after_results_simp
  simp only [val3_main_v135] <;> rfl
set_option maxRecDepth 8192 in
set_option maxHeartbeats 2000000 in
theorem val3_1_main_v177 (V0 : Valuation τ sig (Elt F)) : val3_1 V0 (no_index (Proc.devRef .tc main_v177)) = mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0)))) := by
  unfold val3_1
  simp only [ops_part3_0, TRef.ternary, TRef.toBuf, TRef.ofBuf, cast_eq]
  after_results_simp
  simp only [val3_main_v135, val3_main_arg2, val3_main_v153, val3_main_v150, val3_main_arg0] <;> rfl
set_option maxRecDepth 8192 in
set_option maxHeartbeats 2000000 in
theorem val3_1_main_cst_29 (V0 : Valuation τ sig (Elt F)) : val3_1 V0 (no_index (Proc.devRef .tc main_cst_29)) = constant S_ .f32 0x00000000#32 := by
  unfold val3_1
  simp only [ops_part3_0, TRef.ternary, TRef.toBuf, TRef.ofBuf, cast_eq]
  after_results_simp
  all_goals rfl

/-- The device's buffer contents after @main's first 250 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v178, main_call4_cst, main_call4_v0, main_call4_cst_0, main_call4_v1, main_call4_v2, main_call4_v3, main_call4_v4, main_call4_v5, main_call4_v6, main_call4_cst_1, main_call4_v7, main_call4_v8, main_call4_v9, main_call4_v10, main_v179, main_v180, main_call5_c, main_call5_v0, main_call5_v1, main_call5_c_0, main_call5_v2, main_call5_v3, main_call5_v4, main_call5_v5, main_call5_c_1, main_call5_c_2, main_call5_v6, main_call5_v7, main_call5_v8]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_arg4 (V0 : Valuation τ sig (Elt F)) : val3_2 V0 (no_index (Proc.devRef .tc main_arg4)) = V0 (Proc.devRef .tc main_arg4) :=
  (val3_2_keep V0 main_arg4 (by decide)).trans (val3_1_main_arg4 V0)
theorem val3_2_main_v163 (V0 : Valuation τ sig (Elt F)) : val3_2 V0 (no_index (Proc.devRef .tc main_v163)) = res_main_v163 V0 :=
  (val3_2_keep V0 main_v163 (by decide)).trans (val3_1_main_v163 V0)
set_option maxRecDepth 8192 in
set_option maxHeartbeats 2000000 in
theorem val3_2_main_v178 (V0 : Valuation τ sig (Elt F)) : val3_2 V0 (no_index (Proc.devRef .tc main_v178)) = Host.reduceAdd (mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0))))) (constant S_ .f32 0x00000000#32) reducesTo_S32x20000x4_S32_d1_2 h_S_ := by
  unfold val3_2
  simp only [ops_part3_1, TRef.binary, TRef.nullary, TRef.reshape, TRef.ternary, TRef.unary, TRef.toBuf, TRef.ofBuf, cast_eq]
  after_results_simp
  simp only [val3_1_main_cst_29, val3_1_main_v177] <;> rfl
set_option maxRecDepth 8192 in
set_option maxHeartbeats 2000000 in
theorem val3_2_main_v179 (V0 : Valuation τ sig (Elt F)) : val3_2 V0 (no_index (Proc.devRef .tc main_v179)) = subf (res_main_call4_v5 V0) (broadcastInDim S32x20000x21 ![0, 1, 2] bcast_S32x20000x1_S32x20000x21_0_1_2 (Host.log (broadcastInDim S32x20000x1 ![0, 1] bcast_S32x20000_S32x20000x1_0_1 (Host.reduceAdd (Host.exp (res_main_call4_v5 V0)) (constant S_ .f32 0x00000000#32) reducesTo_S32x20000x21_S32x20000_d2 h_S_)))) := by
  unfold val3_2
  simp only [ops_part3_1, TRef.binary, TRef.nullary, TRef.reshape, TRef.ternary, TRef.unary, TRef.toBuf, TRef.ofBuf, cast_eq]
  after_results_simp
  simp only [val3_1_main_arg1] <;> rfl
set_option maxRecDepth 8192 in
set_option maxHeartbeats 2000000 in
theorem val3_2_main_call5_v5 (V0 : Valuation τ sig (Elt F)) : val3_2 V0 (no_index (Proc.devRef .tc main_call5_v5)) = res_main_call5_v5 V0 := by
  unfold val3_2
  simp only [ops_part3_1, TRef.binary, TRef.nullary, TRef.reshape, TRef.ternary, TRef.unary, TRef.toBuf, TRef.ofBuf, cast_eq]
  after_results_simp
  simp only [val3_1_main_v135] <;> rfl
set_option maxRecDepth 8192 in
set_option maxHeartbeats 2000000 in
theorem val3_2_main_call5_v7 (V0 : Valuation τ sig (Elt F)) : val3_2 V0 (no_index (Proc.devRef .tc main_call5_v7)) = cmpi .sge (res_main_call5_v5 V0) (broadcastInDim S32x20000x1x1 ![] bcast_S_S32x20000x1x1 (constantI S_ 32 0#32)) := by
  unfold val3_2
  simp only [ops_part3_1, TRef.binary, TRef.nullary, TRef.reshape, TRef.ternary, TRef.unary, TRef.toBuf, TRef.ofBuf, cast_eq]
  after_results_simp
  simp only [val3_1_main_v135] <;> rfl
set_option maxRecDepth 8192 in
set_option maxHeartbeats 2000000 in
theorem val3_2_main_call5_v8 (V0 : Valuation τ sig (Elt F)) : val3_2 V0 (no_index (Proc.devRef .tc main_call5_v8)) = broadcastInDim S1x1x1x1 ![3] bcast_S1_S1x1x1x1_3 (constantI S1 32 20#32) := by
  unfold val3_2
  simp only [ops_part3_1, TRef.binary, TRef.nullary, TRef.reshape, TRef.ternary, TRef.unary, TRef.toBuf, TRef.ofBuf, cast_eq]
  after_results_simp
  all_goals rfl

/-- The device's buffer contents after @main's first 280 operations. -/
def val3_3 (V0 : Valuation τ sig (Elt F)) : Valuation τ sig (Elt F) := after ops_part3_2 (val3_2 V0)
/-- The buffers that window `ops_part3_2`'s operations write. -/
abbrev ops_part3_2_W : List (Ref sig .tc) := [main_call5_v9, main_call5_v10, main_call5_v11, main_call5_c_3, main_call5_v12, main_call5_v13, main_call5_cst, main_call5_v14, main_v181, main_v182, main_v183, main_v184, main_v185, main_cst_30, main_v186, main_v187, main_c_31, main_v188, main_v189, main_v190, main_cst_32, main_v191, main_v192, main_v193, main_cst_33, main_v194, main_v195, main_v196, main_v197, main_v198]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_2` does not write keeps its contents through it. -/
theorem val3_3_keep (V0 : Valuation τ sig (Elt F)) (r : Ref sig .tc) (h : r ∉ ops_part3_2_W) :
    val3_3 V0 (Proc.devRef .tc r) = val3_2 V0 (Proc.devRef .tc r) :=
  after_of_writes_sub ops_part3_2 _ ops_part3_2_writes h
theorem val3_3_main_arg0 (V0 : Valuation τ sig (Elt F)) : val3_3 V0 (no_index (Proc.devRef .tc main_arg0)) = V0 (Proc.devRef .tc main_arg0) :=
  (val3_3_keep V0 main_arg0 (by decide)).trans (val3_2_main_arg0 V0)
theorem val3_3_main_arg1 (V0 : Valuation τ sig (Elt F)) : val3_3 V0 (no_index (Proc.devRef .tc main_arg1)) = V0 (Proc.devRef .tc main_arg1) :=
  (val3_3_keep V0 main_arg1 (by decide)).trans (val3_2_main_arg1 V0)
theorem val3_3_main_arg2 (V0 : Valuation τ sig (Elt F)) : val3_3 V0 (no_index (Proc.devRef .tc main_arg2)) = V0 (Proc.devRef .tc main_arg2) :=
  (val3_3_keep V0 main_arg2 (by decide)).trans (val3_2_main_arg2 V0)
theorem val3_3_main_arg3 (V0 : Valuation τ sig (Elt F)) : val3_3 V0 (no_index (Proc.devRef .tc main_arg3)) = V0 (Proc.devRef .tc main_arg3) :=
  (val3_3_keep V0 main_arg3 (by decide)).trans (val3_2_main_arg3 V0)
theorem val3_3_main_arg4 (V0 : Valuation τ sig (Elt F)) : val3_3 V0 (no_index (Proc.devRef .tc main_arg4)) = V0 (Proc.devRef .tc main_arg4) :=
  (val3_3_keep V0 main_arg4 (by decide)).trans (val3_2_main_arg4 V0)
set_option maxRecDepth 8192 in
set_option maxHeartbeats 2000000 in
theorem val3_3_main_v193 (V0 : Valuation τ sig (Elt F)) : val3_3 V0 (no_index (Proc.devRef .tc main_v193)) = mulf (res_main_v183 V0) (subf (broadcastInDim S32x20000 ![] bcast_S_S32x20000 (constant S_ .f32 0x3F800000#32)) (uitofp .f32 (res_main_v163 V0))) := by
  unfold val3_3
  simp only [ops_part3_2, TRef.binary, TRef.nullary, TRef.ternary, TRef.unary, TRef.toBuf, TRef.ofBuf, cast_eq]
  after_results_simp
  try dsimp only [Matrix.cons_val]
  try after_results_simp
  simp only [val3_2_main_v163, val3_2_main_call5_v5, val3_2_main_v179, val3_2_main_call5_v8, val3_2_main_call5_v7] <;> rfl
set_option maxRecDepth 8192 in
set_option maxHeartbeats 2000000 in
theorem val3_3_main_v194 (V0 : Valuation τ sig (Elt F)) : val3_3 V0 (no_index (Proc.devRef .tc main_v194)) = broadcastInDim S32x5 ![] bcast_S_S32x5 (constant S_ .f32 0x00000000#32) := by
  unfold val3_3
  simp only [ops_part3_2, TRef.binary, TRef.nullary, TRef.ternary, TRef.unary, TRef.toBuf, TRef.ofBuf, cast_eq]
  after_results_simp
  try dsimp only [Matrix.cons_val]
  try after_results_simp
  all_goals rfl
set_option maxRecDepth 8192 in
set_option maxHeartbeats 2000000 in
theorem val3_3_main_v198 (V0 : Valuation τ sig (Elt F)) : val3_3 V0 (no_index (Proc.devRef .tc main_v198)) = (concatenate S32x3 1 [⟨S32x1, ((broadcastInDim S32x1 ![0] bcast_S32_S32x1_0 (Host.reduceAdd (mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0))))) (constant S_ .f32 0x00000000#32) reducesTo_S32x20000x4_S32_d1_2 h_S_)) : (⟨S32x1, .f32⟩ : BufTy).Contents (Elt F))⟩, ⟨S32x1, ((broadcastInDim S32x1 ![0] bcast_S32_S32x1_0 (Host.reduceAdd (mulf (res_main_v183 V0) (uitofp .f32 (res_main_v163 V0))) (constant S_ .f32 0x00000000#32) reducesTo_S32x20000_S32_d1 h_S_)) : (⟨S32x1, .f32⟩ : BufTy).Contents (Elt F))⟩, ⟨S32x1, ((broadcastInDim S32x1 ![0] bcast_S32_S32x1_0 (sitofp .f32 (Host.reduce IntOp.addi (extui 32 (res_main_v163 V0) natLt_1_32) (constantI S_ 32 0#32) reducesTo_S32x20000_S32_d1 h_S_))) : (⟨S32x1, .f32⟩ : BufTy).Contents (Elt F))⟩] concatenates_S32x1_S32x1_S32x1_S32x3_d1 : (⟨S32x3, .f32⟩ : BufTy).Contents (Elt F)) := by
  unfold val3_3
  simp only [ops_part3_2, TRef.binary, TRef.nullary, TRef.ternary, TRef.unary, TRef.toBuf, TRef.ofBuf, cast_eq]
  after_results_simp
  try dsimp only [Matrix.cons_val]
  try after_results_simp
  simp only [val3_2_main_v163, val3_2_main_call5_v5, val3_2_main_v179, val3_2_main_call5_v8, val3_2_main_call5_v7, val3_2_main_v178] <;> rfl

/-- The device's buffer contents after @main's first 4 windows. -/
def val4 (V0 : Valuation τ sig (Elt F)) : Valuation τ sig (Elt F) := after ops_part3_3 (val3_3 V0)
/-- The buffers that window `ops_part3_3`'s operations write. -/
abbrev ops_part3_3_W : List (Ref sig .tc) := [main_v199, main_v200, main_v201, main_v202]
set_option maxRecDepth 8192 in
theorem ops_part3_3_writes : (ops_part3_3 : List (HloOp τ sig (Elt F))).Forall fun op => op.writes ⊆ (ops_part3_3_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_3` does not write keeps its contents through it. -/
theorem val4_keep (V0 : Valuation τ sig (Elt F)) (r : Ref sig .tc) (h : r ∉ ops_part3_3_W) :
    val4 V0 (Proc.devRef .tc r) = val3_3 V0 (Proc.devRef .tc r) :=
  after_of_writes_sub ops_part3_3 _ ops_part3_3_writes h
theorem val4_main_arg0 (V0 : Valuation τ sig (Elt F)) : val4 V0 (no_index (Proc.devRef .tc main_arg0)) = V0 (Proc.devRef .tc main_arg0) :=
  (val4_keep V0 main_arg0 (by decide)).trans (val3_3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_3_main_arg4 V0)
set_option maxRecDepth 8192 in
theorem val4_main_v201 (V0 : Valuation τ sig (Elt F)) : val4 V0 (no_index (Proc.devRef .tc main_v201)) = broadcastInDim S32x8x128 ![0, 1, 2] bcast_S32x8x1_S32x8x128_0_1_2 (broadcastInDim S32x8x1 ![0, 1] bcast_S32x8_S32x8x1_0_1 (concatenate S32x8 1 [⟨S32x3, ((concatenate S32x3 1 [⟨S32x1, ((broadcastInDim S32x1 ![0] bcast_S32_S32x1_0 (Host.reduceAdd (mulf (select (cmpf .olt (res_main_v165 V0) (broadcastInDim S32x20000x4 ![] bcast_S_S32x20000x4 (constant S_ .f32 0x3F800000#32))) (mulf (mulf (broadcastInDim S32x20000x4 ![] bcast_S_S32x20000x4 (constant S_ .f32 0x3F000000#32)) (res_main_v164 V0)) (res_main_v164 V0)) (subf (res_main_v165 V0) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 V0))))) (constant S_ .f32 0x00000000#32) reducesTo_S32x20000x4_S32_d1_2 h_S_)) : (⟨S32x1, .f32⟩ : BufTy).Contents (Elt F))⟩, ⟨S32x1, ((broadcastInDim S32x1 ![0] bcast_S32_S32x1_0 (Host.reduceAdd (mulf (res_main_v183 V0) (uitofp .f32 (res_main_v163 V0))) (constant S_ .f32 0x00000000#32) reducesTo_S32x20000_S32_d1 h_S_)) : (⟨S32x1, .f32⟩ : BufTy).Contents (Elt F))⟩, ⟨S32x1, ((broadcastInDim S32x1 ![0] bcast_S32_S32x1_0 (sitofp .f32 (Host.reduce IntOp.addi (extui 32 (res_main_v163 V0) natLt_1_32) (constantI S_ 32 0#32) reducesTo_S32x20000_S32_d1 h_S_))) : (⟨S32x1, .f32⟩ : BufTy).Contents (Elt F))⟩] concatenates_S32x1_S32x1_S32x1_S32x3_d1 : (⟨S32x3, .f32⟩ : BufTy).Contents (Elt F)))⟩, ⟨S32x5, (broadcastInDim S32x5 ![] bcast_S_S32x5 (constant S_ .f32 0x00000000#32))⟩] concatenates_S32x3_S32x5_S32x8_d1)) := by
  unfold val4
  simp only [ops_part3_3]
  after_results_simp
  simp only [val3_3_main_v194, val3_3_main_v198] <;> rfl
set_option maxRecDepth 8192 in
theorem val4_main_v202 (V0 : Valuation τ sig (Elt F)) : val4 V0 (no_index (Proc.devRef .tc main_v202)) = broadcastInDim S32x1x20000 ![0, 2] bcast_S32x20000_S32x1x20000_0_2 (mulf (res_main_v183 V0) (subf (broadcastInDim S32x20000 ![] bcast_S_S32x20000 (constant S_ .f32 0x3F800000#32)) (uitofp .f32 (res_main_v163 V0)))) := by
  unfold val4
  simp only [ops_part3_3]
  after_results_simp
  simp only [val3_3_main_v193] <;> rfl

theorem after_ops (V0 : Valuation τ sig (Elt F)) : after ops V0 = val4 V0 := by
  simp only [ops, ops_part1, ops_part2, ops_part3, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v201) = broadcastInDim S32x8x128 ![0, 1, 2] bcast_S32x8x1_S32x8x128_0_1_2 (broadcastInDim S32x8x1 ![0, 1] bcast_S32x8_S32x8x1_0_1 (concatenate S32x8 1 [⟨S32x3, ((concatenate S32x3 1 [⟨S32x1, ((broadcastInDim S32x1 ![0] bcast_S32_S32x1_0 (Host.reduceAdd (mulf (select (cmpf .olt (res_main_v165 (launchContents m c)) (broadcastInDim S32x20000x4 ![] bcast_S_S32x20000x4 (constant S_ .f32 0x3F800000#32))) (mulf (mulf (broadcastInDim S32x20000x4 ![] bcast_S_S32x20000x4 (constant S_ .f32 0x3F000000#32)) (res_main_v164 (launchContents m c))) (res_main_v164 (launchContents m c))) (subf (res_main_v165 (launchContents m c)) (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 (res_main_v163 (launchContents m c)))))) (constant S_ .f32 0x00000000#32) reducesTo_S32x20000x4_S32_d1_2 h_S_)) : (⟨S32x1, .f32⟩ : BufTy).Contents (Elt F))⟩, ⟨S32x1, ((broadcastInDim S32x1 ![0] bcast_S32_S32x1_0 (Host.reduceAdd (mulf (res_main_v183 (launchContents m c)) (uitofp .f32 (res_main_v163 (launchContents m c)))) (constant S_ .f32 0x00000000#32) reducesTo_S32x20000_S32_d1 h_S_)) : (⟨S32x1, .f32⟩ : BufTy).Contents (Elt F))⟩, ⟨S32x1, ((broadcastInDim S32x1 ![0] bcast_S32_S32x1_0 (sitofp .f32 (Host.reduce IntOp.addi (extui 32 (res_main_v163 (launchContents m c)) natLt_1_32) (constantI S_ 32 0#32) reducesTo_S32x20000_S32_d1 h_S_))) : (⟨S32x1, .f32⟩ : BufTy).Contents (Elt F))⟩] concatenates_S32x1_S32x1_S32x1_S32x3_d1 : (⟨S32x3, .f32⟩ : BufTy).Contents (Elt F)))⟩, ⟨S32x5, (broadcastInDim S32x5 ![] bcast_S_S32x5 (constant S_ .f32 0x00000000#32))⟩] concatenates_S32x3_S32x5_S32x8_d1))
      ∧ r.2.mem ((c.tc : Thread nD τ).loc main_v202) = broadcastInDim S32x1x20000 ![0, 2] bcast_S32x20000_S32x1x20000_0_2 (mulf (res_main_v183 (launchContents m c)) (subf (broadcastInDim S32x20000 ![] bcast_S_S32x20000 (constant S_ .f32 0x3F800000#32)) (uitofp .f32 (res_main_v163 (launchContents m c)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v201).trans ((congrFun (after_ops (launchContents m c)) (Proc.devRef .tc main_v201)).trans (val4_main_v201 (launchContents m c))),
      (h c main_v202).trans ((congrFun (after_ops (launchContents m c)) (Proc.devRef .tc main_v202)).trans (val4_main_v202 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c)))⟩)
    (run_seq scopedRefs_eq scopedSems_eq defs main (fun _ => ops) main_eq (fun _ => ops_sub) m ρ fun _ => ops_fresh)

end Cert.ImageLossesIdeal.Value

end
-- ==== Proof.Scores.lean ====
module

public import proofs.«01_k».proof.Proof.Spec
public import proofs.«01_k».proof.Proof.Words

/-
  The confidence loss of a prior: the class it is scored against, and the logarithm of the sum of the exponentials of its scores
  less the score of that class.
-/

@[expose] public section

noncomputable section

open Idealize.ShloMosaic Idealize.ShloMosaic.TcCoe Idealize.SL.Sem

namespace Cert.Loss

/-- A label word as one of the twenty classes. -/
def labelOf (z : BitVec 32) : Fin 20 := Fin.ofNat 20 z.toNat

/-- A label in the range is its class. -/
theorem labelOf_toInt (z : BitVec 32) (h : 0 ≤ z.toInt ∧ z.toInt < 20) : z.toInt = ((labelOf z).val : ℤ) := by
  have hc := BitVec.toInt_eq_toNat_cond z
  have hm : (labelOf z).val = z.toNat % 20 := rfl
  split at hc <;> omega

open Classical in
/-- The class a prior is scored against: zero below one half, else one more than the label of its box. -/
def cls (tb : Fin 24 → Fin 4 → EReal) (pri : Fin 20000 → Fin 4 → EReal) (lab : Fin 24 → Fin 20) (p : Fin 20000) : Fin 21 :=
  if judged tb pri p < half then 0 else (lab (matched tb pri p)).succ

/-- The confidence loss of scores `s` at the class `k`. -/
def score (s : Fin 21 → EReal) (k : Fin 21) : EReal := Ideal.log (∑ x, Ideal.exp (s x - s (first s))) + s (first s) - s k

/-- The same, as the logarithm of a share taken negative, when the scores are finite. -/
theorem score_neg (s : Fin 21 → EReal) (k : Fin 21) (hs : ∀ x, ∃ r : ℝ, s x = (r : EReal)) :
    -(s k - s (first s) - Ideal.log (∑ x, Ideal.exp (s x - s (first s)))) = score s k := by
  unfold score
  obtain ⟨a, ha⟩ := hs k
  obtain ⟨b, hb⟩ := hs (first s)
  generalize Ideal.log (∑ x, Ideal.exp (s x - s (first s))) = L
  rw [ha, hb]
  induction L with
  | bot => simp [← EReal.coe_sub]
  | top => simp [← EReal.coe_sub]
  | coe l => norm_cast; ring_nf

/-- A whole number from zero to twenty read as a word. -/
theorem fptosi_small (k : Fin 21) (x : EReal) (hx : x = (((k.val : ℕ) : ℝ) : EReal)) : FloatOps.fptosi (F := Ideal) (φ := FTy.f32) 32 x = BitVec.ofNat 32 k.val := by
  subst hx
  show Ideal.fptosi 32 _ = _
  have hk := k.isLt
  have h0 : (0 : ℝ) ≤ ((k.val : ℕ) : ℝ) := Nat.cast_nonneg _
  have hi : Ideal.toIntClamped (-(2 ^ (32 - 1) : Nat)) ((2 ^ (32 - 1) : Nat) - 1) (((k.val : ℕ) : ℝ) : EReal) = ((k.val : ℕ) : ℤ) := by
    show max _ (min _ (if (0 : ℝ) ≤ ((k.val : ℕ) : ℝ) then ⌊((k.val : ℕ) : ℝ)⌋ else ⌈((k.val : ℕ) : ℝ)⌉)) = _
    rw [if_pos h0, Int.floor_natCast]
    omega
  unfold Ideal.fptosi
  rw [hi]
  exact BitVec.ofInt_natCast 32 k.val

end Cert.Loss
-- ==== Proof.KScores.lean ====
module

public import proofs.«01_k».proof.Proof.KBlock
public import proofs.«01_k».proof.Proof.Scores

/-
  One image of the kernel: the confidence losses of its priors, and the whole of what the first launch writes for it.
-/

@[expose] public section

set_option maxRecDepth 16384

noncomputable section

open Idealize.ShloMosaic Idealize.ShloMosaic.TcCoe Idealize.SL.Sem

namespace Cert.KernelIdeal.Block

open Cert.KernelIdeal Cert.KernelIdeal.Gen Cert.Loss

/-- The word of minus infinity. -/
theorem bits_bot : Ideal.ofBits FTy.f32 4286578688#32 = (⊥ : EReal) := by
  simp [Ideal.ofBits, Ideal.ieee]

/-- A score chosen by comparing places with a class: that of the class. -/
theorem sum_chosen (s : Fin 21 → EReal) (k : Fin 21) :
    ∑ x : Fin 21, Scalar.select (IntOp.cmpi CmpIPredicate.eq (BitVec.ofNat 32 x.val) (BitVec.ofNat 32 k.val)) (s x) 0 = s k := by
  have h : ∀ x : Fin 21, Scalar.select (IntOp.cmpi CmpIPredicate.eq (BitVec.ofNat 32 x.val) (BitVec.ofNat 32 k.val)) (s x) 0 = if x = k then s x else 0 := fun x => by
    rw [select_cmpi_eq]
    refine if_congr ?_ rfl rfl
    rw [ofNat_inj_small (x.isLt.trans (by decide)) (k.isLt.trans (by decide)), Fin.val_inj]
  rw [Finset.sum_congr rfl fun x _ => h x]
  simp

/-- A prior's confidence loss, from a float that holds its class. -/
theorem score_apply (v : FVec Ideal S20000 .f32) (y : Vec Ideal S1x21x20000 .f32) (p : Fin 20000) (k : Fin 21)
    (hv : FloatOps.fptosi (F := Ideal) (φ := FTy.f32) 32 (v (ix1 p)) = BitVec.ofNat 32 k.val) : k0_pay34 v y (ix1 p) = score (fun x => y (ix3 0 x p)) k := by
  pointwise [k0_pay34]
  rw [hv, sum_chosen (fun x => y (ix3 0 x p)) k, bits_bot, fold_max_first _ (first_spec fun x : Fin 21 => y (ix3 0 x p))]
  rfl

/-- The image's row, any entry of it: location loss, confidence loss of the priors that count, how many count, and zeros. -/
theorem row_apply (a c : FVec Ideal S20000 .f32) (b : Ideal .f32) (q : Fin 8) (l : Fin 128) :
    k0_pay2 a b c (ix3 0 q l) = if q = 0 then b else if q = 1 then ∑ p, c (ix1 p) * a (ix1 p) else if q = 2 then ∑ p, a (ix1 p) else 0 := by
  pointwise [k0_pay2]
  fin_cases q <;> rfl

/-- The loss of a prior that does not count. -/
theorem rest_apply (v a : FVec Ideal S20000 .f32) (y : Vec Ideal S1x21x20000 .f32) (p : Fin 20000) :
    k0_pay1 (k0_pay35 v a y) (ix3 0 0 p) = k0_pay34 v y (ix1 p) * (1 - a (ix1 p)) := by
  pointwise [k0_pay1, k0_pay35]

variable (x0 : Vec Ideal S1x4x20000 .f32) (x1 : Vec Ideal S1x21x20000 .f32) (x2 : Vec Ideal S4x20000 .f32) (x3 : Vec Ideal S1x24x4 .f32) (x4 : Vec Ideal S1x24x1 .i32)

/-- The classes of the block's boxes. -/
abbrev labs (j : Fin 24) : Fin 20 := labelOf (x4 (ix3 0 j 0))

/-- The scores of a prior of the block. -/
abbrev scoresOf (p : Fin 20000) (x : Fin 21) : EReal := x1 (ix3 0 x p)

variable (hl : ∀ j : Fin 24, 0 ≤ (x4 (ix3 0 j 0)).toInt ∧ (x4 (ix3 0 j 0)).toInt < 20)
include hl

/-- The class of a prior of the block, as the kernel holds it. -/
theorem cls_apply (p : Fin 20000) :
    FloatOps.fptosi (F := Ideal) (φ := FTy.f32) 32 (k0_pay54 x0 x1 x2 x3 x4 (ix1 p)) = BitVec.ofNat 32 (cls (tbOf x3) (priOf x2) (labs x4) p).val := by
  have h := class_apply x3 x4 (k0_pay49 x0 x1 x2 x3 x4) (k0_pay51 x0 x1 x2 x3 x4) (k0_pay50 x0 x1 x2 x3 x4) (k0_pay53 x0 x1 x2 x3 x4) (k0_pay52 x0 x1 x2 x3 x4)
    (fun j p => by pointwise [k0_pay49]) p _ (word_apply x0 x1 x2 x3 x4 p) _ (judged_apply x0 x1 x2 x3 x4 p)
  have h' : k0_pay54 x0 x1 x2 x3 x4 (ix1 p) = if judged (tbOf x3) (priOf x2) p < half then 0 else (((x4 (ix3 0 (matched (tbOf x3) (priOf x2) p) 0)).toInt : ℝ) : EReal) + 1 := by
    unfold k0_pay54 k0_pay41 k0_pay46
    simp only [ld_pri, ld_box, ld_lab]
    exact h
  refine fptosi_small _ _ (h'.trans ?_)
  unfold cls
  by_cases hj : judged (tbOf x3) (priOf x2) p < half
  · rw [if_pos hj, if_pos hj]
    simp
  · rw [if_neg hj, if_neg hj, labelOf_toInt _ (hl _), Fin.val_succ, Nat.cast_succ, EReal.coe_add]
    rfl

/-- The confidence loss of a prior of the block. -/
theorem conf_apply (p : Fin 20000) : k0_pay34 (k0_pay54 x0 x1 x2 x3 x4) x1 (ix1 p) = score (scoresOf x1 p) (cls (tbOf x3) (priOf x2) (labs x4) p) :=
  score_apply _ x1 p _ (cls_apply x0 x1 x2 x3 x4 hl p)

/-- Every entry of the image's row. -/
theorem row_entry (q : Fin 8) (l : Fin 128) : out0_5 x0 x1 x2 x3 x4 (ix3 0 q l)
    = if q = 0 then locSum (tbOf x3) (priOf x2) (locOf x0)
      else if q = 1 then ∑ p, score (scoresOf x1 p) (cls (tbOf x3) (priOf x2) (labs x4) p) * ind (tbOf x3) (priOf x2) p
      else if q = 2 then count (tbOf x3) (priOf x2) else 0 := by
  have h0 := row_loss x0 x1 x2 x3 x4 fun j => (hl j).1
  have hc := count_apply x0 x1 x2 x3 x4 fun j => (hl j).1
  have hs := conf_apply x0 x1 x2 x3 x4 hl
  revert h0
  frame_out
  intro h0
  rw [row_apply, if_pos rfl] at h0
  rw [row_apply, h0]
  simp only [hc, hs]
  rfl

/-- Every prior's loss where it does not count. -/
theorem rest_entry (p : Fin 20000) : out0_6 x0 x1 x2 x3 x4 (ix3 0 0 p)
    = score (scoresOf x1 p) (cls (tbOf x3) (priOf x2) (labs x4) p) * (1 - ind (tbOf x3) (priOf x2) p) := by
  frame_out
  rw [rest_apply, conf_apply x0 x1 x2 x3 x4 hl, count_apply x0 x1 x2 x3 x4 fun j => (hl j).1]

end Cert.KernelIdeal.Block
-- ==== Proof.FirstArray.lean ====
module

public import proofs.«01_k».proof.Proof.KScores
public import proofs.«01_k».proof.Proof.KArray
public import proofs.«01_k».proof.Proof.Gen.FirstCallIdeal.Value

/-
  The first launch as a program of its own: both of its arrays, every entry, over the arguments.
-/

@[expose] public section

set_option maxRecDepth 16384

noncomputable section

open Idealize.ShloMosaic Idealize.ShloMosaic.TcCoe Idealize.SL.Sem
open Idealize.ShloMosaic.Pipeline (Dat)

namespace Cert.FirstCallIdeal.Array

open Cert.FirstCallIdeal Cert.FirstCallIdeal.Gen Cert.Loss
open Cert.KernelIdeal.Array (boxes priors locs)
open Cert.KernelIdeal.Block (tbOf priOf locOf labs scoresOf)

variable (m : (ℓ : Loc nD τ sig) → Buf (Elt Ideal) ℓ)

/-- The arguments, at their shapes. -/
abbrev A0 (c : Dev nD) : FVec Ideal S32x20000x4 .f32 := m ((c : Thread nD τ).loc main_arg0)
abbrev A1 (c : Dev nD) : FVec Ideal S32x20000x21 .f32 := m ((c : Thread nD τ).loc main_arg1)
abbrev A2 (c : Dev nD) : FVec Ideal S20000x4 .f32 := m ((c : Thread nD τ).loc main_arg2)
abbrev A3 (c : Dev nD) : FVec Ideal S32x24x4 .f32 := m ((c : Thread nD τ).loc main_arg3)
abbrev A4 (c : Dev nD) : IVec S32x24 32 := m ((c : Thread nD τ).loc main_arg4)

/-- The scores of a prior of image `b`. -/
abbrev scores (x : FVec Ideal S32x20000x21 .f32) (b : Fin 32) (p : Fin 20000) (k : Fin 21) : EReal := x (ix3 b p k)
/-- The classes of the boxes of image `b`. -/
abbrev labels (x : IVec S32x24 32) (b : Fin 32) (j : Fin 24) : Fin 20 := labelOf (x (ix2 b j))

/-- Where the blocks lie: each image its own, the priors whole. -/
theorem idx : ∀ t : Fin cfg0.N, win0_0.index t = ![t.val, 0, 0] ∧ win0_1.index t = ![t.val, 0, 0] ∧ win0_2.index t = ![0, 0] ∧ win0_3.index t = ![t.val, 0, 0]
    ∧ win0_4.index t = ![t.val, 0, 0] ∧ win0_5.index t = ![t.val, 0, 0] ∧ win0_6.index t = ![t.val, 0, 0] ∧ t.val < 32 :=
  (by decide +kernel : ∀ t : Fin grid0.N, _)

/-- What the launch finds in this buffer. -/
theorem entry_v0 (c : Dev nD) : V m c main_v0 = transpose S32x4x20000 [0, 2, 1] (A0 m c) Facts₀.transposes_S32x20000x4_S32x4x20000_0_2_1 := by
  entry_read
  rfl
/-- What the launch finds in this buffer. -/
theorem entry_v1 (c : Dev nD) : V m c main_v1 = transpose S32x21x20000 [0, 2, 1] (A1 m c) Facts₀.transposes_S32x20000x21_S32x21x20000_0_2_1 := by
  entry_read
  rfl
/-- What the launch finds in this buffer. -/
theorem entry_v3 (c : Dev nD) : V m c main_v3 = transpose S4x20000 [1, 0] (A2 m c) Facts₀.transposes_S20000x4_S4x20000_1_0 := by
  entry_read
  rfl
/-- What the launch finds in this buffer. -/
theorem entry_v2 (c : Dev nD) : V m c main_v2 = shapeCast S32x24x1 (A4 m c) Facts₀.shapeCasts_S32x24_S32x24x1 := by
  entry_read
  rfl

/-- The image of a grid point. -/
def img (t : Fin cfg0.N) : Fin 32 := ⟨t.val, (idx t).2.2.2.2.2.2.2⟩

/-- A point's block of this operand, over the arguments. -/
theorem blk_loc (c : Dev nD) (t : Fin cfg0.N) (r : Fin 4) (p : Fin 20000) :
    (iblk m c 0 t : FVec Ideal S1x4x20000 .f32) (ix3 0 r p) = A0 m c (ix3 (img t) p r) := by
  unfold iblk
  rw [show V m c (Pipeline.arrRef spec0 0) = _ from entry_v0 m c]
  blk_simp [idx t]
  pointwise []
  blk_ext [idx t, img]
/-- A point's block of this operand, over the arguments. -/
theorem blk_score (c : Dev nD) (t : Fin cfg0.N) (x : Fin 21) (p : Fin 20000) :
    (iblk m c 1 t : FVec Ideal S1x21x20000 .f32) (ix3 0 x p) = A1 m c (ix3 (img t) p x) := by
  unfold iblk
  rw [show V m c (Pipeline.arrRef spec0 1) = _ from entry_v1 m c]
  blk_simp [idx t]
  pointwise []
  blk_ext [idx t, img]
/-- A point's block of this operand, over the arguments. -/
theorem blk_pri (c : Dev nD) (t : Fin cfg0.N) (r : Fin 4) (p : Fin 20000) :
    (iblk m c 2 t : FVec Ideal S4x20000 .f32) (ix2 r p) = A2 m c (ix2 p r) := by
  unfold iblk
  rw [show V m c (Pipeline.arrRef spec0 2) = _ from entry_v3 m c]
  blk_simp [idx t]
  pointwise []
  blk_ext [idx t, img]
/-- A point's block of this operand, over the arguments. -/
theorem blk_box (c : Dev nD) (t : Fin cfg0.N) (j : Fin 24) (r : Fin 4) :
    (iblk m c 3 t : FVec Ideal S1x24x4 .f32) (ix3 0 j r) = A3 m c (ix3 (img t) j r) := by
  unfold iblk
  rw [show V m c (Pipeline.arrRef spec0 3) = _ from V_main_arg3 m c]
  blk_ext [idx t, img]
/-- A point's block of this operand, over the arguments. -/
theorem blk_lab (c : Dev nD) (t : Fin cfg0.N) (j : Fin 24) :
    (iblk m c 4 t : IVec S1x24x1 32) (ix3 0 j 0) = A4 m c (ix2 (img t) j) := by
  unfold iblk
  rw [show V m c (Pipeline.arrRef spec0 4) = _ from entry_v2 m c]
  blk_simp [idx t]
  pointwise []
  blk_ext [idx t, img]

/-- The confidence loss of a prior of image `b`. -/
def conf (x1 : FVec Ideal S32x20000x21 .f32) (x2 : FVec Ideal S20000x4 .f32) (x3 : FVec Ideal S32x24x4 .f32) (x4 : IVec S32x24 32) (b : Fin 32) (p : Fin 20000) : EReal :=
  score (scores x1 b p) (cls (boxes x3 b) (priors x2) (labels x4 b) p)

/-- An entry of the rows of partial results. -/
def rowVal (x0 : FVec Ideal S32x20000x4 .f32) (x1 : FVec Ideal S32x20000x21 .f32) (x2 : FVec Ideal S20000x4 .f32) (x3 : FVec Ideal S32x24x4 .f32) (x4 : IVec S32x24 32) (b : Fin 32) (q : Fin 8) : EReal :=
  if q = 0 then locSum (boxes x3 b) (priors x2) (locs x0 b)
  else if q = 1 then ∑ p, conf x1 x2 x3 x4 b p * ind (boxes x3 b) (priors x2) p
  else if q = 2 then count (boxes x3 b) (priors x2) else 0

/-- An entry of the losses of the priors that do not count. -/
def restVal (x1 : FVec Ideal S32x20000x21 .f32) (x2 : FVec Ideal S20000x4 .f32) (x3 : FVec Ideal S32x24x4 .f32) (x4 : IVec S32x24 32) (b : Fin 32) (p : Fin 20000) : EReal :=
  conf x1 x2 x3 x4 b p * (1 - ind (boxes x3 b) (priors x2) p)

section
variable (c : Dev nD) (t : Fin cfg0.N)

/-- The point's boxes, priors, offsets, scores and classes are those of its image. -/
theorem of_box : tbOf (iblk m c 3 t) = boxes (A3 m c) (img t) := funext fun j => funext fun r => blk_box m c t j r
theorem of_pri : priOf (iblk m c 2 t) = priors (A2 m c) := funext fun p => funext fun r => blk_pri m c t r p
theorem of_loc : locOf (iblk m c 0 t) = locs (A0 m c) (img t) := funext fun p => funext fun r => blk_loc m c t r p
theorem of_score (p : Fin 20000) : scoresOf (iblk m c 1 t) p = scores (A1 m c) (img t) p := funext fun x => blk_score m c t x p
theorem of_lab : labs (iblk m c 4 t) = labels (A4 m c) (img t) := funext fun j => congrArg labelOf (blk_lab m c t j)
end

/-- Every entry of the array of partial results. -/
theorem part (c : Dev nD) (hl : ∀ b j, 0 ≤ (A4 m c (ix2 b j)).toInt ∧ (A4 m c (ix2 b j)).toInt < 20) (i : S32x8x128.Idx) :
    ((dats m 0 c).arrAt 5 cfg0.N : FVec Ideal S32x8x128 .f32) i = rowVal (A0 m c) (A1 m c) (A2 m c) (A3 m c) (A4 m c) (i 0) (i 1) := by
  refine (dats m 0 c).arrAt_forall_of_covers 5 (fun (i : S32x8x128.Idx) (v : EReal) =>
    v = rowVal (A0 m c) (A1 m c) (A2 m c) (A3 m c) (A4 m c) (i 0) (i 1)) (by decide +kernel) (fun t hf y => ?_) i
  blk_simp [idx t]
  rw [after0_5]
  obtain ⟨a, q, l, rfl⟩ : ∃ (a : Fin 1) (q : Fin 8) (l : Fin 128), y = ix3 a q l := ⟨_, _, _, eq_ix3 y⟩
  obtain rfl : a = 0 := Subsingleton.elim _ _
  have hx4 : ∀ j : Fin 24, 0 ≤ ((iblk m c 4 t : IVec S1x24x1 32) (ix3 0 j 0)).toInt ∧ ((iblk m c 4 t : IVec S1x24x1 32) (ix3 0 j 0)).toInt < 20 := fun j => by rw [blk_lab]; exact hl _ j
  have he : ((win0_5.blk t).view.emb (ix3 0 q l) 0 : Fin 32) = img t := Fin.ext (by blk_simp [idx t, img]; rfl)
  have hq : ((win0_5.blk t).view.emb (ix3 0 q l) 1 : Fin 8) = q := Fin.ext (by blk_simp [idx t])
  rw [he, hq]
  refine (Cert.KernelIdeal.Block.row_entry _ _ _ _ _ hx4 q l).trans ?_
  simp only [of_box, of_pri, of_loc, of_score, of_lab]
  rfl

/-- Every entry of the array of the other priors' losses. -/
theorem rest (c : Dev nD) (hl : ∀ b j, 0 ≤ (A4 m c (ix2 b j)).toInt ∧ (A4 m c (ix2 b j)).toInt < 20) (i : S32x1x20000.Idx) :
    ((dats m 0 c).arrAt 6 cfg0.N : FVec Ideal S32x1x20000 .f32) i = restVal (A1 m c) (A2 m c) (A3 m c) (A4 m c) (i 0) (i 2) := by
  refine (dats m 0 c).arrAt_forall_of_covers 6 (fun (i : S32x1x20000.Idx) (v : EReal) =>
    v = restVal (A1 m c) (A2 m c) (A3 m c) (A4 m c) (i 0) (i 2)) (by decide +kernel) (fun t hf y => ?_) i
  blk_simp [idx t]
  rw [after0_6]
  obtain ⟨a, q, p, rfl⟩ : ∃ (a : Fin 1) (q : Fin 1) (p : Fin 20000), y = ix3 a q p := ⟨_, _, _, eq_ix3 y⟩
  obtain rfl : a = 0 := Subsingleton.elim _ _
  obtain rfl : q = 0 := Subsingleton.elim _ _
  have hx4 : ∀ j : Fin 24, 0 ≤ ((iblk m c 4 t : IVec S1x24x1 32) (ix3 0 j 0)).toInt ∧ ((iblk m c 4 t : IVec S1x24x1 32) (ix3 0 j 0)).toInt < 20 := fun j => by rw [blk_lab]; exact hl _ j
  have he : ((win0_6.blk t).view.emb (ix3 0 0 p) 0 : Fin 32) = img t := Fin.ext (by blk_simp [idx t, img]; rfl)
  have hp : ((win0_6.blk t).view.emb (ix3 0 0 p) 2 : Fin 20000) = p := Fin.ext (by blk_simp [idx t])
  rw [he, hp]
  refine (Cert.KernelIdeal.Block.rest_entry (iblk m c 0 t) _ _ _ _ hx4 p).trans ?_
  rw [of_box, of_pri, of_score, of_lab]
  rfl

end Cert.FirstCallIdeal.Array
-- ==== Proof.ImgValue.lean ====
module

public import proofs.«01_k».proof.Proof.ImgArrays
public import proofs.«01_k».proof.Proof.ImgRun
public import proofs.«01_k».proof.Proof.FirstArray
public import Idealize.ShloMosaic.Lib.ReduceAll

/-
  The image losses' two results over their arguments: the row of each image and the losses of the priors that do not count.
-/

@[expose] public section

set_option maxRecDepth 16384

noncomputable section

open Idealize.ShloMosaic Idealize.ShloMosaic.TcCoe Idealize.SL.Sem

namespace Cert.ImageLossesIdeal.Value

open Cert.ImageLossesIdeal Cert.ImageLossesIdeal.Gen Cert.Loss
open Cert.ReferenceIdeal.Value (tb pr lc Ranged)
open Cert.FirstCallIdeal.Array (scores labels conf rowVal restVal)

/-- A gather of one score of each prior by its class. -/
theorem gather_scores (x : FVec Ideal S32x20000x21 .f32) (idx : IVec S32x20000x1x1 32) (b : Fin 32) (p : Fin 20000) (k : Fin 21)
    (hk : idx (ix4 b p 0 0) = BitVec.ofNat 32 k.val) :
    Host.gather gather_S32x20000x21_S32x20000x1x1_S32x20000x1_n_2_01_01_2_3_111 x idx (ix3 b p 0) = x (ix3 b p k) := by
  unfold Host.gather
  refine congrArg x (funext fun a => Fin.ext ?_)
  have hs : gather_S32x20000x21_S32x20000x1x1_S32x20000x1_n_2_01_01_2_3_111.start (ix3 b p 0) idx 2 = min (idx (ix4 b p 0 0)).toInt.toNat 20 := by
    refine congrArg (fun i => min (idx i).toInt.toNat 20) (funext fun q => Fin.ext ?_)
    fin_cases q <;> rfl
  have hb := k.isLt
  rw [hk, toInt_small k.val (by omega)] at hs
  fin_cases a
  · show 0 + b.val + 0 = b.val
    omega
  · show 0 + p.val + 0 = p.val
    omega
  · show gather_S32x20000x21_S32x20000x1x1_S32x20000x1_n_2_01_01_2_3_111.start (ix3 b p 0) idx 2 + 0 + 0 = k.val
    rw [hs]; omega

/-- The class word of a prior over arrays that are known. -/
theorem word_of (w : IVec S32x20000 32) (b : Fin 32) (p : Fin 20000) (k : Fin 21) (hw : w (ix2 b p) = BitVec.ofNat 32 k.val)
    (h1 : S32x20000.BroadcastsInDim S32x20000x1 ![0, 1]) (h2 : S_.BroadcastsInDim S32x20000x1 ![]) (h3 : S32x20000x1.ShapeCasts S32x20000x1x1) :
    (shapeCast S32x20000x1x1 (select (cmpi .slt (broadcastInDim S32x20000x1 ![0, 1] h1 w) (broadcastInDim S32x20000x1 ![] h2 (constantI S_ 32 0#32))) (addi (broadcastInDim S32x20000x1 ![0, 1] h1 w) (broadcastInDim S32x20000x1 ![] h2 (constantI S_ 32 21#32))) (broadcastInDim S32x20000x1 ![0, 1] h1 w)) h3 : IVec S32x20000x1x1 32) (ix4 b p 0 0)
      = BitVec.ofNat 32 k.val := by
  pointwise []
  rw [hw]
  exact Cert.ReferenceIdeal.Value.wrap_small k.val 21#32 (by have := k.isLt; omega)

/-- The class of a prior is in the range of classes. -/
theorem in_range (k : Fin 21) : IntOp.andi (IntOp.cmpi .sge (BitVec.ofNat 32 k.val) 0#32) (IntOp.cmpi .sle (BitVec.ofNat 32 k.val) 20#32) = 1#1 := by
  revert k
  decide

/-- The loss of a prior, from its scores less their greatest and from the words of the classes. -/
theorem loss_of (y : FVec Ideal S32x20000x21 .f32) (idx : IVec S32x20000x1x1 32) (f : Fin 32 → Fin 20000 → Fin 21 → EReal) (K : Fin 32 → Fin 20000 → Fin 21)
    (hy : ∀ b p x, y (ix3 b p x) = f b p x) (hk : ∀ b p, idx (ix4 b p 0 0) = BitVec.ofNat 32 (K b p).val) (b : Fin 32) (p : Fin 20000) :
    (Host.negf (shapeCast S32x20000 (select (Host.reduce IntOp.andi (andi (cmpi .sge idx (broadcastInDim S32x20000x1x1 ![] bcast_S_S32x20000x1x1 (constantI S_ 32 0#32))) (cmpi .sle idx (broadcastInDim S32x20000x1x1 ![0, 1, 2, 3] bcast_S1x1x1x1_S32x20000x1x1_0_1_2_3 (broadcastInDim S1x1x1x1 ![3] bcast_S1_S1x1x1x1_3 (constantI S1 32 20#32))))) (constantI S_ 1 1#1) reducesTo_S32x20000x1x1_S32x20000x1_d3 h_S_)
      (Host.gather gather_S32x20000x21_S32x20000x1x1_S32x20000x1_n_2_01_01_2_3_111 (subf y (broadcastInDim S32x20000x21 ![0, 1, 2] bcast_S32x20000x1_S32x20000x21_0_1_2 (Host.log (broadcastInDim S32x20000x1 ![0, 1] bcast_S32x20000_S32x20000x1_0_1 (Host.reduceAdd (Host.exp y) (constant S_ .f32 0x00000000#32) reducesTo_S32x20000x21_S32x20000_d2 h_S_))))) idx)
      (broadcastInDim S32x20000x1 ![] bcast_S_S32x20000x1 (constant S_ .f32 0x7FC00000#32))) shapeCasts_S32x20000x1_S32x20000) : FVec Ideal S32x20000 .f32) (ix2 b p)
      = -(f b p (K b p) - Ideal.log (∑ x, Ideal.exp (f b p x))) := by
  have hg := fun x : FVec Ideal S32x20000x21 .f32 => gather_scores x idx b p (K b p) (hk b p)
  have ha : Host.reduce IntOp.andi (andi (cmpi .sge idx (broadcastInDim S32x20000x1x1 ![] bcast_S_S32x20000x1x1 (constantI S_ 32 0#32))) (cmpi .sle idx (broadcastInDim S32x20000x1x1 ![0, 1, 2, 3] bcast_S1x1x1x1_S32x20000x1x1_0_1_2_3 (broadcastInDim S1x1x1x1 ![3] bcast_S1_S1x1x1x1_3 (constantI S1 32 20#32))))) (constantI S_ 1 1#1) reducesTo_S32x20000x1x1_S32x20000x1_d3 h_S_ (ix3 b p 0) = 1#1 := by
    refine Host.reduce_andi_one _ _ _ _ _ rfl fun i => ?_
    obtain ⟨b', p', u, v, rfl⟩ : ∃ (b' : Fin 32) (p' : Fin 20000) (u v : Fin 1), i = ix4 b' p' u v := ⟨_, _, _, _, eq_ix4 i⟩
    obtain rfl : u = 0 := Subsingleton.elim _ _
    obtain rfl : v = 0 := Subsingleton.elim _ _
    show IntOp.andi (IntOp.cmpi .sge (idx (ix4 b' p' 0 0)) 0#32) (IntOp.cmpi .sle (idx (ix4 b' p' 0 0)) 20#32) = 1#1
    rw [hk]
    exact in_range _
  generalize Host.reduce IntOp.andi (andi (cmpi .sge idx (broadcastInDim S32x20000x1x1 ![] bcast_S_S32x20000x1x1 (constantI S_ 32 0#32))) (cmpi .sle idx (broadcastInDim S32x20000x1x1 ![0, 1, 2, 3] bcast_S1x1x1x1_S32x20000x1x1_0_1_2_3 (broadcastInDim S1x1x1x1 ![3] bcast_S1_S1x1x1x1_3 (constantI S1 32 20#32))))) (constantI S_ 1 1#1) reducesTo_S32x20000x1x1_S32x20000x1_d3 h_S_ = bit at ha
  have hg' := hg (subf y (broadcastInDim S32x20000x21 ![0, 1, 2] bcast_S32x20000x1_S32x20000x21_0_1_2 (Host.log (broadcastInDim S32x20000x1 ![0, 1] bcast_S32x20000_S32x20000x1_0_1 (Host.reduceAdd (Host.exp y) (constant S_ .f32 0x00000000#32) reducesTo_S32x20000x21_S32x20000_d2 h_S_)))))
  generalize Host.gather gather_S32x20000x21_S32x20000x1x1_S32x20000x1_n_2_01_01_2_3_111 (subf y (broadcastInDim S32x20000x21 ![0, 1, 2] bcast_S32x20000x1_S32x20000x21_0_1_2 (Host.log (broadcastInDim S32x20000x1 ![0, 1] bcast_S32x20000_S32x20000x1_0_1 (Host.reduceAdd (Host.exp y) (constant S_ .f32 0x00000000#32) reducesTo_S32x20000x21_S32x20000_d2 h_S_))))) idx = G at hg'
  have hy' : (subf y (broadcastInDim S32x20000x21 ![0, 1, 2] bcast_S32x20000x1_S32x20000x21_0_1_2 (Host.log (broadcastInDim S32x20000x1 ![0, 1] bcast_S32x20000_S32x20000x1_0_1 (Host.reduceAdd (Host.exp y) (constant S_ .f32 0x00000000#32) reducesTo_S32x20000x21_S32x20000_d2 h_S_)))) : FVec Ideal S32x20000x21 .f32) (ix3 b p (K b p))
      = f b p (K b p) - Ideal.log (∑ x, Ideal.exp (f b p x)) := by
    pointwise []
    simp only [hy]
  rw [hy'] at hg'
  pointwise []
  rw [ha, hg']
  rfl

/-- The greatest value of a row. -/
theorem max_row (x : FVec Ideal S32x20000x21 .f32) (b : Fin 32) (p : Fin 20000) :
    Host.reduce FloatOps.maximumf x (constant (F := Ideal) S_ .f32 0xFF800000#32) reducesTo_S32x20000x21_S32x20000_d2 h_S_ (ix2 b p) = x (ix3 b p (first fun k => x (ix3 b p k))) := by
  pointwise []
  rw [Cert.ReferenceIdeal.Value.bits_bot]
  exact fold_max_first _ (first_spec fun k : Fin 21 => x (ix3 b p k))

/-- The same, no less than minus infinity. -/
theorem max_last (M : FVec Ideal S32x20000 .f32) (b : Fin 32) (p : Fin 20000) :
    (maximumf (broadcastInDim S32x20000 ![] bcast_S_S32x20000 (constant S_ .f32 0xFF800000#32)) M : FVec Ideal S32x20000 .f32) (ix2 b p) = M (ix2 b p) := by
  pointwise []
  rw [Cert.ReferenceIdeal.Value.bits_bot, max_bot_left]

/-- A row less its greatest value. -/
theorem less_of (x : FVec Ideal S32x20000x21 .f32) (b : Fin 32) (p : Fin 20000) (k : Fin 21) :
    (subf x (broadcastInDim S32x20000x21 ![0, 1, 2] bcast_S32x20000x1_S32x20000x21_0_1_2 (broadcastInDim S32x20000x1 ![0, 1] bcast_S32x20000_S32x20000x1_0_1 (maximumf (broadcastInDim S32x20000 ![] bcast_S_S32x20000 (constant S_ .f32 0xFF800000#32)) (Host.reduce FloatOps.maximumf x (constant S_ .f32 0xFF800000#32) reducesTo_S32x20000x21_S32x20000_d2 h_S_)))) : FVec Ideal S32x20000x21 .f32) (ix3 b p k)
      = scores x b p k - scores x b p (first (scores x b p)) := by
  have hm := (max_last _ b p).trans (max_row x b p)
  generalize (maximumf (broadcastInDim S32x20000 ![] bcast_S_S32x20000 (constant S_ .f32 0xFF800000#32)) (Host.reduce FloatOps.maximumf x (constant S_ .f32 0xFF800000#32) reducesTo_S32x20000x21_S32x20000_d2 h_S_) : FVec Ideal S32x20000 .f32) = M at hm
  pointwise []
  rw [hm]

/-- Scores less their greatest. -/
theorem less_greatest (V0 : Valuation τ sig (Elt Ideal)) (b : Fin 32) (p : Fin 20000) (x : Fin 21) :
    (res_main_call4_v5 V0 : FVec Ideal S32x20000x21 .f32) (ix3 b p x)
      = scores (V0 (Proc.devRef .tc main_arg1) : FVec Ideal S32x20000x21 .f32) b p x - scores (V0 (Proc.devRef .tc main_arg1) : FVec Ideal S32x20000x21 .f32) b p (first (scores (V0 (Proc.devRef .tc main_arg1) : FVec Ideal S32x20000x21 .f32) b p)) := by
  delta res_main_call4_v5
  exact less_of _ b p x

open Classical in
/-- A class as a word: zero below one half, else the label and one. -/
theorem word_cls (q : Prop) [Decidable q] (z : BitVec 32) (hz : 0 ≤ z.toInt ∧ z.toInt < 20) :
    Scalar.select (BitVec.ofBool (decide q)) 0#32 (IntOp.addi z 1#32) = BitVec.ofNat 32 (if q then (0 : Fin 21) else (labelOf z).succ).val := by
  rw [select_bit]
  have ht := labelOf_toInt z hz
  split
  · rfl
  · refine BitVec.eq_of_toNat_eq ?_
    have hc := BitVec.toInt_eq_toNat_cond z
    have hb := (labelOf z).isLt
    simp only [IntOp.addi, BitVec.toNat_add, BitVec.toNat_ofNat, Fin.val_succ]
    split at hc <;> omega

/-- The class of a prior over arrays that are known. -/
theorem class_of (x : FVec Ideal S32x20000 .f32) (y : IVec S32x20000 32) (b : Fin 32) (p : Fin 20000)
    (h : Cert.ReferenceIdeal.S_.BroadcastsInDim Cert.ReferenceIdeal.S32x20000 ![]) :
    (select (cmpf .olt x (broadcastInDim S32x20000 ![] h (constant (F := Ideal) S_ .f32 0x3F000000#32)))
      (broadcastInDim S32x20000 ![] h (id (constantI S_ 32 0#32))) (addi y (broadcastInDim S32x20000 ![] h (constantI S_ 32 1#32))) : IVec S32x20000 32) (ix2 b p)
      = Scalar.select (FloatOps.cmpf (F := Ideal) (φ := FTy.f32) .olt (x (ix2 b p)) half) 0#32 (IntOp.addi (y (ix2 b p)) 1#32) := by
  pointwise []
  rfl

section
variable {V0 : Valuation τ sig (Elt Ideal)} {W : Valuation Cert.ReferenceIdeal.τ Cert.ReferenceIdeal.sig (Elt Ideal)} (h : Same V0 W) (hl : Ranged W)
include h hl

/-- The class of each prior. -/
theorem v135_apply (b : Fin 32) (p : Fin 20000) :
    (res_main_v135 V0 : IVec S32x20000 32) (ix2 b p) = BitVec.ofNat 32 (cls (tb W b) (pr W) (labels (W (Proc.devRef .tc Cert.ReferenceIdeal.main_arg4)) b) p).val := by
  rw [same_v135 h, Cert.ReferenceIdeal.Value.v135_eq]
  refine (class_of _ _ b p _).trans ?_
  rw [Cert.ReferenceIdeal.Value.judgedArr_apply, Cert.ReferenceIdeal.Value.labelArr_apply]
  exact word_cls _ _ (hl b _)

/-- The confidence loss of each prior. -/
theorem v183_apply (hs : ∀ b p x, ∃ r : ℝ, (V0 (Proc.devRef .tc main_arg1) : FVec Ideal S32x20000x21 .f32) (ix3 b p x) = (r : EReal)) (b : Fin 32) (p : Fin 20000) :
    (res_main_v183 V0 : FVec Ideal S32x20000 .f32) (ix2 b p)
      = score (scores (V0 (Proc.devRef .tc main_arg1)) b p) (cls (tb W b) (pr W) (labels (W (Proc.devRef .tc Cert.ReferenceIdeal.main_arg4)) b) p) := by
  have hv := loss_of (res_main_call4_v5 V0) (res_main_call5_v5 V0) _ (fun b p => cls (tb W b) (pr W) (labels (W (Proc.devRef .tc Cert.ReferenceIdeal.main_arg4)) b) p) (less_greatest V0)
    (fun b p => word_of (res_main_v135 V0) b p _ (v135_apply h hl b p) bcast_S32x20000_S32x20000x1_0_1 bcast_S_S32x20000x1 shapeCasts_S32x20000x1_S32x20000x1x1) b p
  exact hv.trans (score_neg _ _ (hs b p))

end

end Cert.ImageLossesIdeal.Value
-- ==== Proof.ImgResult.lean ====
module

public import proofs.«01_k».proof.Proof.ImgValue

/-
  The image losses' two results, every entry: the rows of partial results and the losses of the priors that do not count.
-/

@[expose] public section

set_option maxRecDepth 16384

noncomputable section

open Idealize.ShloMosaic Idealize.ShloMosaic.TcCoe Idealize.SL.Sem

namespace Cert.ImageLossesIdeal.Value

open Cert.ImageLossesIdeal Cert.ImageLossesIdeal.Gen Cert.Loss
open Cert.ReferenceIdeal.Value (tb pr lc Ranged)
open Cert.FirstCallIdeal.Array (scores labels conf rowVal restVal)

/-- An image's location losses, added up, over arrays that are known. -/
theorem loc_of (x y : FVec Ideal S32x20000x4 .f32) (w : IVec S32x20000 1) (f : Fin 32 → Fin 20000 → Fin 4 → EReal) (g : Fin 32 → Fin 20000 → EReal)
    (hx : ∀ b p r, x (ix3 b p r) = f b p r) (hy : ∀ b p r, y (ix3 b p r) = max (f b p r) (-f b p r))
    (hw : ∀ b p, (FloatOps.uitofp (F := Ideal) .f32 (w (ix2 b p)) : EReal) = g b p) (b : Fin 32) :
    (Host.reduceAdd (mulf (select (cmpf .olt y (broadcastInDim S32x20000x4 ![] bcast_S_S32x20000x4 (constant S_ .f32 0x3F800000#32))) (mulf (mulf (broadcastInDim S32x20000x4 ![] bcast_S_S32x20000x4 (constant S_ .f32 0x3F000000#32)) x) x) (subf y (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 w)))) (constant S_ .f32 0x00000000#32) reducesTo_S32x20000x4_S32_d1_2 h_S_ : FVec Ideal S32 .f32) (ix1 b)
      = ∑ p, ∑ r, smooth (f b p r) * g b p := by
  pointwise []
  simp only [hx, hy, hw]
  rfl

/-- An image's confidence losses of the priors that count, added up, over arrays that are known. -/
theorem conf_of (x : FVec Ideal S32x20000 .f32) (w : IVec S32x20000 1) (f g : Fin 32 → Fin 20000 → EReal) (hx : ∀ b p, x (ix2 b p) = f b p)
    (hw : ∀ b p, (FloatOps.uitofp (F := Ideal) .f32 (w (ix2 b p)) : EReal) = g b p) (b : Fin 32) :
    (Host.reduceAdd (mulf x (uitofp .f32 w)) (constant S_ .f32 0x00000000#32) reducesTo_S32x20000_S32_d1 h_S_ : FVec Ideal S32 .f32) (ix1 b)
      = ∑ p, f b p * g b p := by
  pointwise []
  simp only [hx, hw]

/-- How many priors of an image count, read as a float. -/
theorem count_of (w : IVec S32x20000 1) (b : Fin 32) :
    (sitofp .f32 (Host.reduce IntOp.addi (extui 32 w natLt_1_32) (constantI S_ 32 0#32) reducesTo_S32x20000_S32_d1 h_S_) : FVec Ideal S32 .f32) (ix1 b)
      = ∑ p : Fin 20000, FloatOps.uitofp (F := Ideal) .f32 (w (ix2 b p)) := by
  have hc : (Finset.univ.filter fun p : Fin 20000 => w (ix2 b p) = 1#1).card ≤ 20000 := (Finset.card_le_univ _).trans (by simp)
  have h : (Host.reduce IntOp.addi (extui 32 w natLt_1_32) (constantI S_ 32 0#32) reducesTo_S32x20000_S32_d1 h_S_ (ix1 b)).toNat
      = (Finset.univ.filter fun p : Fin 20000 => w (ix2 b p) = 1#1).card := by
    rw [StableHlo.Predicate.toNat_reduce_count_cols (by decide)]
    refine congrArg Finset.card (Finset.filter_congr fun p _ => ?_)
    have he : (StableHlo.Predicate.ij (ix1 b 0) p : S32x20000.Idx) = ix2 b p := funext fun a => match a with | ⟨0, _⟩ => rfl | ⟨1, _⟩ => rfl
    exact Eq.to_iff (congrArg (fun i => w i = 1#1) he)
  show FloatOps.sitofp (F := Ideal) .f32 (Host.reduce IntOp.addi (extui 32 w natLt_1_32) (constantI S_ 32 0#32) reducesTo_S32x20000_S32_d1 h_S_ (ix1 b)) = _
  generalize Host.reduce IntOp.addi (extui 32 w natLt_1_32) (constantI S_ 32 0#32) reducesTo_S32x20000_S32_d1 h_S_ (ix1 b) = z at h
  show (((z.toInt : ℤ) : ℝ) : EReal) = _
  have hz : z.toInt = (z.toNat : ℤ) := by
    rw [BitVec.toInt_eq_toNat_cond]
    split <;> omega
  rw [hz, h, Int.cast_natCast, Finset.card_filter, Cert.ReferenceIdeal.Value.coe_sum_nat]
  refine Finset.sum_congr rfl fun p _ => ?_
  generalize w (ix2 b p) = v
  show _ = (((v.toNat : ℝ)) : EReal)
  rcases BitVec.eq_zero_or_eq_one v with rfl | rfl
  · rw [if_neg Cert.ReferenceIdeal.Value.zero_ne_bit]; simp
  · simp

/-- Three columns and five of zeros, repeated along the lanes. -/
theorem row_of (c0 c1 c2 : FVec Ideal S32 .f32) (b : Fin 32) (q : Fin 8) (l : Fin 128) :
    (broadcastInDim S32x8x128 ![0, 1, 2] bcast_S32x8x1_S32x8x128_0_1_2 (broadcastInDim S32x8x1 ![0, 1] bcast_S32x8_S32x8x1_0_1 (concatenate S32x8 1 [⟨S32x3, ((concatenate S32x3 1 [⟨S32x1, ((broadcastInDim S32x1 ![0] bcast_S32_S32x1_0 c0) : FVec Ideal S32x1 .f32)⟩, ⟨S32x1, (broadcastInDim S32x1 ![0] bcast_S32_S32x1_0 c1 : FVec Ideal S32x1 .f32)⟩, ⟨S32x1, (broadcastInDim S32x1 ![0] bcast_S32_S32x1_0 c2 : FVec Ideal S32x1 .f32)⟩] concatenates_S32x1_S32x1_S32x1_S32x3_d1) : FVec Ideal S32x3 .f32)⟩, ⟨S32x5, (broadcastInDim S32x5 ![] bcast_S_S32x5 (constant S_ .f32 0x00000000#32) : FVec Ideal S32x5 .f32)⟩] concatenates_S32x3_S32x5_S32x8_d1)) : FVec Ideal S32x8x128 .f32) (ix3 b q l)
      = if q = 0 then c0 (ix1 b) else if q = 1 then c1 (ix1 b) else if q = 2 then c2 (ix1 b) else 0 := by
  pointwise []
  fin_cases q <;> rfl

/-- The rows, over arrays that are known. -/
theorem row_all (x y : FVec Ideal S32x20000x4 .f32) (w : IVec S32x20000 1) (u : FVec Ideal S32x20000 .f32) (f : Fin 32 → Fin 20000 → Fin 4 → EReal) (g k : Fin 32 → Fin 20000 → EReal)
    (hx : ∀ b p r, x (ix3 b p r) = f b p r) (hy : y = Host.absf x)
    (hw : ∀ b p, (FloatOps.uitofp (F := Ideal) .f32 (w (ix2 b p)) : EReal) = g b p) (hu : ∀ b p, u (ix2 b p) = k b p) (b : Fin 32) (q : Fin 8) (l : Fin 128) :
    (broadcastInDim S32x8x128 ![0, 1, 2] bcast_S32x8x1_S32x8x128_0_1_2 (broadcastInDim S32x8x1 ![0, 1] bcast_S32x8_S32x8x1_0_1 (concatenate S32x8 1 [⟨S32x3, ((concatenate S32x3 1 [⟨S32x1, ((broadcastInDim S32x1 ![0] bcast_S32_S32x1_0 (Host.reduceAdd (mulf (select (cmpf .olt y (broadcastInDim S32x20000x4 ![] bcast_S_S32x20000x4 (constant S_ .f32 0x3F800000#32))) (mulf (mulf (broadcastInDim S32x20000x4 ![] bcast_S_S32x20000x4 (constant S_ .f32 0x3F000000#32)) x) x) (subf y (broadcastInDim S32x20000x4 ![] bcast_S_S32x20000x4 (constant S_ .f32 0x3F000000#32)))) (broadcastInDim S32x20000x4 ![0, 1, 2] bcast_S32x20000x1_S32x20000x4_0_1_2 (uitofp .f32 (broadcastInDim S32x20000x1 ![0, 1] bcast_S32x20000_S32x20000x1_0_1 w)))) (constant S_ .f32 0x00000000#32) reducesTo_S32x20000x4_S32_d1_2 h_S_)) : FVec Ideal S32x1 .f32)⟩, ⟨S32x1, (broadcastInDim S32x1 ![0] bcast_S32_S32x1_0 (Host.reduceAdd (mulf u (uitofp .f32 w)) (constant S_ .f32 0x00000000#32) reducesTo_S32x20000_S32_d1 h_S_) : FVec Ideal S32x1 .f32)⟩, ⟨S32x1, (broadcastInDim S32x1 ![0] bcast_S32_S32x1_0 (sitofp .f32 (Host.reduce IntOp.addi (extui 32 w natLt_1_32) (constantI S_ 32 0#32) reducesTo_S32x20000_S32_d1 h_S_)) : FVec Ideal S32x1 .f32)⟩] concatenates_S32x1_S32x1_S32x1_S32x3_d1) : FVec Ideal S32x3 .f32)⟩, ⟨S32x5, (broadcastInDim S32x5 ![] bcast_S_S32x5 (constant S_ .f32 0x00000000#32) : FVec Ideal S32x5 .f32)⟩] concatenates_S32x3_S32x5_S32x8_d1)) : FVec Ideal S32x8x128 .f32) (ix3 b q l) = if q = 0 then ∑ p, ∑ r, smooth (f b p r) * g b p else if q = 1 then ∑ p, k b p * g b p else if q = 2 then ∑ p, g b p else 0 := by
  rw [row_of, loc_of x y w f g hx (fun b p r => by rw [hy]; exact congrArg (fun z : EReal => max z (-z)) (hx b p r)) hw, conf_of u w k g hu hw, count_of]
  simp only [hw]

/-- The losses of the priors that do not count, over arrays that are known. -/
theorem rest_of (x : FVec Ideal S32x20000 .f32) (w : IVec S32x20000 1) (b : Fin 32) (p : Fin 20000) :
    (broadcastInDim S32x1x20000 ![0, 2] bcast_S32x20000_S32x1x20000_0_2 (mulf x (subf (broadcastInDim S32x20000 ![] bcast_S_S32x20000 (constant S_ .f32 0x3F800000#32)) (uitofp .f32 w))) : FVec Ideal S32x1x20000 .f32) (ix3 b 0 p)
      = x (ix2 b p) * (1 - FloatOps.uitofp (F := Ideal) .f32 (w (ix2 b p))) := by
  pointwise []

end Cert.ImageLossesIdeal.Value
-- ==== Proof.FirstEquation.lean ====
module

public import proofs.«01_k».proof.Defs
public import proofs.«01_k».proof.Proof.ImgResult
public import proofs.«01_k».proof.Proof.Labels

/-
  The equation of the first call: from arguments that agree, the call's two arrays are the image losses' two results.
-/

@[expose] public section

set_option maxRecDepth 16384

noncomputable section

open Idealize.ShloMosaic Idealize.ShloMosaic.TcCoe Idealize.SL.Sem

namespace Cert.FirstEquation

open Cert.FirstCallIdeal.Array (A0 A1 A2 A3 A4 conf rowVal restVal part rest)
open Cert.ImageLossesIdeal.Value (Same row_all rest_of same_v163 same_v164 v183_apply)

/-- The precondition's shape relations hold. -/
theorem pre_facts : Cert.Pre_finite_scores.Facts where
  bcast_S_S32x24 := by decide
  bcast_S_S32x20000x21 := by decide

/-- The word of plus infinity. -/
theorem bits_top : Ideal.ofBits FTy.f32 0x7F800000#32 = (⊤ : EReal) := by
  simp [Ideal.ofBits, Ideal.ieee]

/-- A number whose magnitude lies below plus infinity is real. -/
theorem real_of_lt (a : EReal) (h : max a (-a) < ⊤) : ∃ r : ℝ, a = (r : EReal) := by
  induction a with
  | bot => exact absurd h (by simp)
  | top => exact absurd h (by simp)
  | coe r => exact ⟨r, rfl⟩

/-- The comparison's bit is one: the number is real. -/
theorem real_of_bit (a : EReal) (h : BitVec.ofBool (decide (max a (-a) < Ideal.ofBits FTy.f32 0x7F800000#32)) = 1#1) : ∃ r : ℝ, a = (r : EReal) := by
  rw [bits_top] at h
  by_cases hc : max a (-a) < ⊤
  · exact real_of_lt a hc
  · rw [decide_eq_false hc] at h
    exact absurd h (by decide)

open Cert.Pre_finite_scores in
/-- What the precondition says: labels in the range, scores real. -/
theorem of_pre (hP : Cert.Pre_finite_scores.Facts) (x0 : FVec Ideal S32x20000x4 .f32) (x1 : FVec Ideal S32x20000x21 .f32) (x2 : FVec Ideal S20000x4 .f32)
    (x3 : FVec Ideal S32x24x4 .f32) (x4 : IVec S32x24 32)
    (h : (Cert.Pre_finite_scores.fn (F := Ideal) x0 x1 x2 x3 x4).1 = (fun _ => 1#1) ∧ (Cert.Pre_finite_scores.fn (F := Ideal) x0 x1 x2 x3 x4).2 = fun _ => 1#1) :
    (∀ (b : Fin 32) (j : Fin 24), 0 ≤ (x4 (ix2 b j)).toInt ∧ (x4 (ix2 b j)).toInt < 20) ∧ ∀ (b : Fin 32) (p : Fin 20000) (k : Fin 21), ∃ r : ℝ, x1 (ix3 b p k) = (r : EReal) :=
  ⟨fun b j => Cert.Labels.range_of_bits _ (congrFun h.1 (ix2 b j)), fun b p k => real_of_bit _ (congrFun h.2 (ix3 b p k))⟩

open Cert.ReferenceIdeal in
/-- Buffers of the reference that hold given arguments. -/
theorem exists_same (V0 : Valuation Cert.ImageLossesIdeal.τ Cert.ImageLossesIdeal.sig (Elt Ideal)) : ∃ W, Same V0 W := by
  let D : Valuation τ sig (Elt Ideal) := fun b _ => (Elt.inhabited Ideal _).default
  let W4 := Function.update D (Proc.devRef .tc main_arg4) (V0 (Proc.devRef .tc Cert.ImageLossesIdeal.main_arg4))
  let W3 := Function.update W4 (Proc.devRef .tc main_arg3) (V0 (Proc.devRef .tc Cert.ImageLossesIdeal.main_arg3))
  let W2 := Function.update W3 (Proc.devRef .tc main_arg2) (V0 (Proc.devRef .tc Cert.ImageLossesIdeal.main_arg2))
  let W1 := Function.update W2 (Proc.devRef .tc main_arg1) (V0 (Proc.devRef .tc Cert.ImageLossesIdeal.main_arg1))
  let W0 := Function.update W1 (Proc.devRef .tc main_arg0) (V0 (Proc.devRef .tc Cert.ImageLossesIdeal.main_arg0))
  have u {r : DevRef τ sig} (V : Valuation τ sig (Elt Ideal)) (q : DevRef τ sig) (x : q.ty.Contents (Elt Ideal)) (h : r ≠ q) : V r = Function.update V q x r := (Function.update_of_ne h _ _).symm
  have s (V : Valuation τ sig (Elt Ideal)) (q : DevRef τ sig) (x : q.ty.Contents (Elt Ideal)) : x = Function.update V q x q := (Function.update_self q x V).symm
  refine ⟨W0, ⟨?_, ?_, ?_, ?_, ?_⟩⟩
  · exact s W1 (Proc.devRef .tc main_arg0) _
  · exact (s W2 (Proc.devRef .tc main_arg1) _).trans (u W1 _ _ (by decide))
  · exact (s W3 (Proc.devRef .tc main_arg2) _).trans ((u W2 _ _ (by decide)).trans (u W1 _ _ (by decide)))
  · exact (s W4 (Proc.devRef .tc main_arg3) _).trans ((u W3 _ _ (by decide)).trans ((u W2 _ _ (by decide)).trans (u W1 _ _ (by decide))))
  · exact (s D (Proc.devRef .tc main_arg4) _).trans ((u W4 _ _ (by decide)).trans ((u W3 _ _ (by decide)).trans ((u W2 _ _ (by decide)).trans (u W1 _ _ (by decide)))))

section
variable {V0 : Valuation Cert.ImageLossesIdeal.τ Cert.ImageLossesIdeal.sig (Elt Ideal)}
  (x0 : FVec Ideal Cert.ImageLossesIdeal.S32x20000x4 .f32) (x1 : FVec Ideal Cert.ImageLossesIdeal.S32x20000x21 .f32) (x2 : FVec Ideal Cert.ImageLossesIdeal.S20000x4 .f32)
  (x3 : FVec Ideal Cert.ImageLossesIdeal.S32x24x4 .f32) (x4 : IVec Cert.ImageLossesIdeal.S32x24 32)

open Cert.ImageLossesIdeal in
/-- The buffers hold these arguments, and they are as the precondition says. -/
structure Held (V0 : Valuation τ sig (Elt Ideal)) : Prop where
  a0 : V0 (Proc.devRef .tc main_arg0) = x0
  a1 : V0 (Proc.devRef .tc main_arg1) = x1
  a2 : V0 (Proc.devRef .tc main_arg2) = x2
  a3 : V0 (Proc.devRef .tc main_arg3) = x3
  a4 : V0 (Proc.devRef .tc main_arg4) = x4
  range : ∀ (b : Fin 32) (j : Fin 24), 0 ≤ (x4 (ix2 b j)).toInt ∧ (x4 (ix2 b j)).toInt < 20
  real : ∀ (b : Fin 32) (p : Fin 20000) (k : Fin 21), ∃ r : ℝ, x1 (ix3 b p k) = (r : EReal)

variable {x0 x1 x2 x3 x4} (h : Held x0 x1 x2 x3 x4 V0)
include h

open Cert.KernelIdeal.Array (boxes priors locs) in
/-- The three arrays that the results are made of, over the arguments. -/
theorem arrays : (∀ b p r, (Cert.ImageLossesIdeal.Value.res_main_v164 V0 : FVec Ideal Cert.ImageLossesIdeal.S32x20000x4 .f32) (ix3 b p r) = locs x0 b p r - Cert.Loss.enc (boxes x3 b (Cert.Loss.matched (boxes x3 b) (priors x2) p)) (priors x2 p) r)
    ∧ (∀ b p, (FloatOps.uitofp (F := Ideal) .f32 ((Cert.ImageLossesIdeal.Value.res_main_v163 V0 : IVec Cert.ImageLossesIdeal.S32x20000 1) (ix2 b p)) : EReal) = Cert.Loss.ind (boxes x3 b) (priors x2) p)
    ∧ ∀ b p, (Cert.ImageLossesIdeal.Value.res_main_v183 V0 : FVec Ideal Cert.ImageLossesIdeal.S32x20000 .f32) (ix2 b p) = conf x1 x2 x3 x4 b p := by
  obtain ⟨W, hS⟩ := exists_same V0
  have e0 := hS.a0.symm.trans h.a0
  have e2 := hS.a2.symm.trans h.a2
  have e3 := hS.a3.symm.trans h.a3
  have e4 := hS.a4.symm.trans h.a4
  have f0 : Cert.ReferenceIdeal.Value.lc W = locs x0 := congrArg (fun x : FVec Ideal Cert.KernelIdeal.S32x20000x4 .f32 => locs x) e0
  have f2 : Cert.ReferenceIdeal.Value.pr W = priors x2 := congrArg (fun x : FVec Ideal Cert.KernelIdeal.S20000x4 .f32 => priors x) e2
  have f3 : Cert.ReferenceIdeal.Value.tb W = boxes x3 := congrArg (fun x : FVec Ideal Cert.KernelIdeal.S32x24x4 .f32 => boxes x) e3
  have hl : Cert.ReferenceIdeal.Value.Ranged W := fun b j => by
    have := h.range b j
    rw [← e4] at this
    exact this
  refine ⟨fun b p r => ?_, fun b p => ?_, fun b p => ?_⟩
  · rw [same_v164 hS]
    refine (Cert.ReferenceIdeal.Value.v164_apply W b p r).trans ?_
    rw [f0, f2, f3]
  · rw [same_v163 hS]
    refine (Cert.ReferenceIdeal.Value.uitofp_eq W (Cert.ReferenceIdeal.Value.Ranged.natural hl) b p).trans ?_
    rw [f2, f3]
  · refine (v183_apply hS hl (fun b p x => by rw [h.a1]; exact h.real b p x) b p).trans ?_
    rw [f2, f3, h.a1, e4]
    rfl

end

open Cert.KernelIdeal.Array (boxes priors locs) in
/-- The rows' entries are those of the first call. -/
theorem row_eq (x0 : FVec Ideal Cert.ImageLossesIdeal.S32x20000x4 .f32) (x1 : FVec Ideal Cert.ImageLossesIdeal.S32x20000x21 .f32) (x2 : FVec Ideal Cert.ImageLossesIdeal.S20000x4 .f32)
    (x3 : FVec Ideal Cert.ImageLossesIdeal.S32x24x4 .f32) (x4 : IVec Cert.ImageLossesIdeal.S32x24 32) (b : Fin 32) (q : Fin 8) :
    (if q = 0 then ∑ p, ∑ r, Cert.Loss.smooth (locs x0 b p r - Cert.Loss.enc (boxes x3 b (Cert.Loss.matched (boxes x3 b) (priors x2) p)) (priors x2 p) r) * Cert.Loss.ind (boxes x3 b) (priors x2) p
      else if q = 1 then ∑ p, conf x1 x2 x3 x4 b p * Cert.Loss.ind (boxes x3 b) (priors x2) p
      else if q = 2 then ∑ p, Cert.Loss.ind (boxes x3 b) (priors x2) p else 0) = rowVal x0 x1 x2 x3 x4 b q := by
  unfold rowVal
  refine if_congr Iff.rfl ?_ rfl
  unfold Cert.Loss.locSum
  refine Finset.sum_congr rfl fun p _ => ?_
  rw [Cert.Loss.sum_mul_ind]
  rfl

/-- The first call's two arrays are the image losses' two results. -/
theorem algebraic : Cert.algebraic_FirstCallIdeal_ImageLossesIdeal_pre_finite_scores (hFirstCallIdeal := Cert.FirstCallIdeal.Gen.facts)
    (hImageLossesIdeal := Cert.ImageLossesIdeal.Gen.facts) (hPre_finite_scores := pre_facts) := by
  intro m g m' g' hpre hag
  have hp := fun c => of_pre pre_facts _ _ _ _ _ (hpre c)
  refine ⟨fun c => fun (i : Cert.FirstCallIdeal.S32x8x128.Idx) => rowVal (A0 m c) (A1 m c) (A2 m c) (A3 m c) (A4 m c) (i 0) (i 1),
    fun c => fun (i : Cert.FirstCallIdeal.S32x1x20000.Idx) => restVal (A1 m c) (A2 m c) (A3 m c) (A4 m c) (i 0) (i 2), ?_, ?_⟩
  · refine (θ_run Cert.FirstCallIdeal.defs _ _).mono (fun r h c => ?_) (Cert.FirstCallIdeal.Value.run_blocks (F := Ideal) m g)
    obtain ⟨h5, h6, ha⟩ := h c
    exact ⟨h5.trans (funext fun i => part m c (hp c).1 i), h6.trans (funext fun i => rest m c (hp c).1 i), ha⟩
  · refine (θ_run Cert.ImageLossesIdeal.defs _ _).mono (fun r h c => ?_) (Cert.ImageLossesIdeal.Value.run (F := Ideal) m' g')
    obtain ⟨h5, h6, ha⟩ := h c
    obtain ⟨e0, e1, e2, e3, e4⟩ := hag c
    have hh : Held (A0 m c) (A1 m c) (A2 m c) (A3 m c) (A4 m c) (StableHlo.launchContents m' c) := ⟨e0, e1, e2, e3, e4, (hp c).1, (hp c).2⟩
    obtain ⟨k164, k163, k183⟩ := arrays hh
    refine ⟨h5.trans (funext fun i => ?_), h6.trans (funext fun i => ?_), ha⟩
    · obtain ⟨b, q, l, rfl⟩ : ∃ (b : Fin 32) (q : Fin 8) (l : Fin 128), i = ix3 b q l := ⟨_, _, _, eq_ix3 i⟩
      refine (row_all _ _ _ _ _ _ _ k164 rfl k163 k183 b q l).trans ?_
      exact row_eq _ _ _ _ _ b q
    · obtain ⟨b, q, p, rfl⟩ : ∃ (b : Fin 32) (q : Fin 1) (p : Fin 20000), i = ix3 b q p := ⟨_, _, _, eq_ix3 i⟩
      obtain rfl : q = 0 := Subsingleton.elim _ _
      refine (rest_of _ _ b p).trans ?_
      show _ = restVal (A1 m c) (A2 m c) (A3 m c) (A4 m c) b p
      unfold restVal
      rw [k183, k163]

end Cert.FirstEquation
-- ==== Proof.Mining.lean ====
module

public import proofs.«01_k».proof.Proof.Spec

/-
  The mathematics of the search for the greatest losses of an image, over the extended reals: halving an interval keeps the
  wanted number of losses between the numbers above its ends, and when the last loss taken exceeds the next by the width of
  the final interval, the losses above the upper end are exactly the ones wanted. Nothing here speaks of a program.
-/

@[expose] public section

noncomputable section

namespace Cert.Mining

open Idealize.ShloMosaic
open Cert.Loss (half)

open Classical in
/-- One when `x` lies above `h`, else zero. -/
def above (x h : EReal) : EReal := if h < x then 1 else 0

section
variable {n : ℕ} (V : Fin n → EReal)

open Classical in
/-- How many entries lie above `h`. -/
def cnt (h : EReal) : ℕ := (Finset.univ.filter fun p => h < V p).card

/-- The indicators summed are the number. -/
theorem sum_above (h : EReal) : ∑ p, above (V p) h = ((cnt V h : ℕ) : EReal) := by
  classical
  unfold above cnt
  rw [Finset.sum_boole]

/-- The middle of an interval. -/
def mid (s : EReal × EReal) : EReal := half * (s.1 + s.2)

open Classical in
/-- One halving: the half that keeps `q` between the numbers above the ends. -/
def step (q : EReal) (s : EReal × EReal) : EReal × EReal :=
  if q < ∑ p, above (V p) (mid s) then (mid s, s.2) else (s.1, mid s)

/-- An interval with real ends, of this width, with `k` between the numbers above the ends. -/
def Between (k : ℕ) (w : ℝ) (s : EReal × EReal) : Prop :=
  ∃ l h : ℝ, s = ((l : EReal), (h : EReal)) ∧ h - l = w ∧ cnt V h ≤ k ∧ k < cnt V l

theorem half_eq : half = ((1 / 2 : ℝ) : EReal) := by
  simp [half, Ideal.ofBits, Ideal.ieee]
  rw [← EReal.coe_mul]
  norm_num

/-- A halving keeps the number between and halves the width. -/
theorem Between.step {k : ℕ} {w : ℝ} {s : EReal × EReal} (h : Between V k w s) : Between V k (w / 2) (step V ((k : ℕ) : EReal) s) := by
  obtain ⟨l, u, rfl, hw, hu, hl⟩ := h
  have hm : mid ((l : EReal), (u : EReal)) = (((l + u) / 2 : ℝ) : EReal) := by
    unfold mid
    rw [half_eq, ← EReal.coe_add, ← EReal.coe_mul]
    exact congrArg _ (by ring)
  unfold Mining.step
  rw [hm, sum_above]
  split
  · next hc => exact ⟨(l + u) / 2, u, rfl, by rw [← hw]; ring, hu, Nat.cast_lt.1 hc⟩
  · next hc => exact ⟨l, (l + u) / 2, rfl, by rw [← hw]; ring, Nat.cast_le.1 (not_lt.1 hc), hl⟩

/-- So do several. -/
theorem Between.iterate {k : ℕ} {w : ℝ} {s : EReal × EReal} (h : Between V k w s) (t : ℕ) : Between V k (w / 2 ^ t) ((Mining.step V ((k : ℕ) : EReal))^[t] s) := by
  induction t with
  | zero => simpa using h
  | succ t ih =>
    rw [Function.iterate_succ_apply', pow_succ, ← div_div]
    exact ih.step

/-- An infinite upper end stays. -/
theorem top_iterate (k : ℕ) (l : ℝ) (t : ℕ) : (step V ((k : ℕ) : EReal))^[t] ((l : EReal), ⊤) = ((l : EReal), ⊤) := by
  refine Function.iterate_fixed ?_ t
  have hm : mid ((l : EReal), ⊤) = ⊤ := by
    unfold mid
    rw [half_eq, EReal.coe_add_top, EReal.coe_mul_top_of_pos (by norm_num)]
  unfold step
  rw [hm, if_neg]
  simp [above]

/-- A set of places closed downward has exactly the places below its size. -/
theorem mem_iff_lt_card (S : Finset (Fin n)) (hS : ∀ i j : Fin n, i ≤ j → j ∈ S → i ∈ S) (i : Fin n) : i ∈ S ↔ i.val < S.card := by
  constructor
  · intro hi
    have h := Finset.card_le_card (fun j hj => hS j i (Finset.mem_Iic.1 hj) hi : Finset.Iic i ⊆ S)
    rw [Fin.card_Iic] at h
    exact h
  · intro hi
    by_contra hc
    have h := Finset.card_le_card (fun j hj => Finset.mem_Iio.2 (lt_of_not_ge fun hji => hc (hS i j hji hj)) : S ⊆ Finset.Iio i)
    rw [Fin.card_Iio] at h
    omega

variable {V}

/-- In a descending order, the entries above `h` are the first ones. -/
theorem above_iff (hV : Antitone V) (h : EReal) (i : Fin n) : h < V i ↔ i.val < cnt V h := by
  classical
  unfold cnt
  rw [← mem_iff_lt_card _ (fun i j hij hj => by
    rw [Finset.mem_filter] at hj ⊢
    exact ⟨Finset.mem_univ _, hj.2.trans_le (hV hij)⟩) i]
  simp

/-- The order does not matter to the number above. -/
theorem cnt_perm (σ : Equiv.Perm (Fin n)) (h : EReal) : cnt (fun i => V (σ i)) h = cnt V h := by
  have e := Equiv.sum_comp σ fun p => above (V p) h
  rw [sum_above V, sum_above fun i => V (σ i)] at e
  exact Nat.cast_injective e

/-- The search's sum: the entries above the upper end, and the upper end for each that is missing. -/
def found (V : Fin n → EReal) (q u : EReal) : EReal := ∑ p, V p * above (V p) u + (q - ∑ p, above (V p) u) * u

/-- After 24 halvings from minus one and the greatest entry, the search's sum is the sum of the `k` greatest entries. -/
theorem found_eq (V : Fin n → EReal) (σ : Equiv.Perm (Fin n)) (hs : Antitone fun i => V (σ i)) (h0 : ∀ p, 0 ≤ V p) (k : ℕ) (z : Fin n) (hz : z.val = 0) (hk : k < n)
    (gap : ∀ i j : Fin n, j.val = i.val + 1 → j.val = k → (V (σ z) + 1) * ((1 / 2 ^ 24 : ℝ) : EReal) ≤ V (σ i) - V (σ j)) :
    found V (k : EReal) ((step V (k : EReal))^[24] (((-1 : ℝ) : EReal), V (σ z))).2 = ∑ i : Fin n, V (σ i) * above (k : EReal) ((i.val : ℕ) : EReal) := by
  have hle : ∀ i, V (σ i) ≤ V (σ z) := fun i => hs (Fin.le_def.2 (by omega))
  have hab : ∀ i : Fin n, above (k : EReal) ((i.val : ℕ) : EReal) = if i.val < k then 1 else 0 := fun i => by
    unfold above
    exact if_congr Nat.cast_lt rfl rfl
  generalize hM : V (σ z) = M at *
  induction M with
  | bot => exact absurd ((h0 (σ z)).trans_eq hM) (by simp)
  | top =>
    rw [top_iterate]
    have e : ∀ x, above x ⊤ = 0 := fun x => by simp [above]
    unfold found
    simp only [e, mul_zero, Finset.sum_const_zero, zero_add, sub_zero]
    rcases Nat.eq_zero_or_pos k with rfl | hp
    · refine Eq.trans (b := 0) (by rw [Nat.cast_zero, zero_mul]) (Finset.sum_eq_zero fun i _ => ?_).symm
      rw [hab, if_neg (Nat.not_lt_zero _), mul_zero]
    · have hk' : ((k : ℕ) : EReal) * ⊤ = ⊤ := EReal.mul_top_of_pos (by exact_mod_cast hp)
      rw [hk']
      refine (top_le_iff.1 ?_).symm
      have hz1 : V (σ z) * above (k : EReal) ((z.val : ℕ) : EReal) = ⊤ := by
        rw [hab, if_pos (by omega), mul_one, hM]
      rw [← hz1]
      refine Finset.single_le_sum (f := fun i : Fin n => V (σ i) * above (k : EReal) ((i.val : ℕ) : EReal)) (fun i _ => mul_nonneg (h0 _) ?_) (Finset.mem_univ z)
      rw [hab]
      split <;> simp
  | coe M =>
    have hb : Between V k (M + 1) (((-1 : ℝ) : EReal), (M : EReal)) := by
      refine ⟨-1, M, rfl, by ring, ?_, ?_⟩
      · rw [← cnt_perm σ]
        have : cnt (fun i => V (σ i)) (M : EReal) = 0 := Finset.card_eq_zero.2 (Finset.filter_eq_empty_iff.2 fun i _ => not_lt.2 (hle i))
        omega
      · have : cnt V ((-1 : ℝ) : EReal) = n := by
          unfold cnt
          rw [Finset.filter_true_of_mem fun p _ => lt_of_lt_of_le (by norm_cast) (h0 p), Finset.card_fin]
        omega
    obtain ⟨l, u, hit, hw, hu, hl⟩ := Between.iterate V hb 24
    rw [hit]
    unfold found
    rw [sum_above, ← Equiv.sum_comp σ fun p => V p * above (V p) (u : EReal)]
    rw [← cnt_perm σ] at hu hl ⊢
    have hc : cnt (fun i => V (σ i)) (u : EReal) = k := by
      refine le_antisymm hu (not_lt.1 fun hlt => ?_)
      have ha : V (σ ⟨k - 1, by omega⟩) ≤ (u : EReal) := not_lt.1 fun h => by
        have := (above_iff hs _ _).1 h
        simp only at this
        omega
      have hb : (l : EReal) < V (σ ⟨k, hk⟩) := (above_iff hs _ _).2 hl
      have hg := gap ⟨k - 1, by omega⟩ ⟨k, hk⟩ (by simp only; omega) rfl
      have hr := hle ⟨k, hk⟩
      revert ha hb hg hr
      have ha0 := h0 (σ ⟨k - 1, by omega⟩)
      have hb0 := h0 (σ ⟨k, hk⟩)
      revert ha0 hb0
      generalize V (σ ⟨k - 1, by omega⟩) = a
      generalize V (σ ⟨k, hk⟩) = b
      intro ha0 hb0 ha hb hg hr
      lift b to ℝ using ⟨ne_top_of_le_ne_top (EReal.coe_ne_top _) hr, ne_bot_of_le_ne_bot EReal.zero_ne_bot hb0⟩
      lift a to ℝ using ⟨ne_top_of_le_ne_top (EReal.coe_ne_top _) ha, ne_bot_of_le_ne_bot EReal.zero_ne_bot ha0⟩
      norm_cast at ha hb hg
      have : (M + 1) * (1 / 2 ^ 24) = u - l := by rw [hw]; ring
      norm_num at hg this
      linarith
    rw [hc, show ((k : ℕ) : EReal) - ((k : ℕ) : EReal) = 0 from EReal.sub_self (EReal.natCast_ne_top k) (EReal.natCast_ne_bot k), zero_mul, add_zero]
    refine Finset.sum_congr rfl fun i _ => ?_
    rw [hab]
    unfold above
    refine congrArg _ (if_congr ?_ rfl rfl)
    rw [above_iff hs, hc]

end

end Cert.Mining
-- ==== Proof.MinedValue.lean ====
module

public import Idealize.ShloMosaic.Lib.Pipeline.ValueKit
public import Idealize.ShloMosaic.Lib.SortFacts
public import proofs.«01_k».proof.Proof.Gen.MinedLossesIdeal.Run
public import proofs.«01_k».proof.Proof.Mining

/-
  The reference of the second call: both of its results over the arguments, the losses in descending order.
-/

@[expose] public section

set_option maxRecDepth 16384

noncomputable section

open Idealize.ShloMosaic Idealize.ShloMosaic.TcCoe Idealize.SL.Sem

namespace Cert.MinedLossesIdeal.Value

open Cert.MinedLossesIdeal Cert.MinedLossesIdeal.Gen Cert.Mining

/-- The comparison that the sort is made with: less than. -/
theorem comparator_eq (l r : EReal) : comparator_f32_d1 (F := Ideal) l r = BitVec.ofBool (decide (l < r)) := by
  have h : ∀ x : EReal, Scalar.select (FloatOps.cmpf (F := Ideal) (φ := FTy.f32) .une x x) (FloatOps.ofBits (F := Ideal) .f32 0x7FC00000#32)
      (Scalar.select (FloatOps.cmpf (F := Ideal) (φ := FTy.f32) .oeq x (FloatOps.ofBits (F := Ideal) .f32 0x00000000#32)) (FloatOps.ofBits (F := Ideal) .f32 0x00000000#32) x) = x := fun x => by
    have h1 : FloatOps.cmpf (F := Ideal) (φ := FTy.f32) .une x x = 0#1 := by
      show BitVec.ofBool (decide (x ≠ x)) = 0#1
      simp
    have h2 : FloatOps.ofBits (F := Ideal) .f32 0x00000000#32 = (0 : EReal) := by
      show Ideal.ofBits FTy.f32 0x00000000#32 = 0
      simp [Ideal.ofBits, Ideal.ieee]
    rw [h1, h2]
    show Scalar.select (BitVec.ofBool (decide (x = 0))) 0 x = x
    by_cases hx : x = 0
    · rw [decide_eq_true hx, hx]
      rfl
    · rw [decide_eq_false hx]
      rfl
  show FloatOps.cmpfTotal (F := Ideal) .lt (Scalar.select _ _ _) (Scalar.select _ _ _) = _
  rw [h l, h r]
  rfl

/-- The descending order of a row. -/
def order {n : ℕ} (f : Fin n → EReal) : Fin n → Fin n := sortedFrom fun k k' => decide (f k' < f k)

/-- It is an order of all the row's places. -/
def perm {n : ℕ} (f : Fin n → EReal) : Equiv.Perm (Fin n) := Equiv.ofBijective (order f) ⟨sortedFrom_injective _, sortedFrom_surjective _⟩

/-- The place at a rank. -/
theorem perm_apply {n : ℕ} (f : Fin n → EReal) (i : Fin n) : perm f i = sortedFrom (fun k k' => decide (f k' < f k)) i := rfl

/-- In it the entries do not rise. -/
theorem antitone_perm {n : ℕ} (f : Fin n → EReal) : Antitone fun i => f (perm f i) := by
  intro i j hij
  rcases hij.eq_or_lt with rfl | hlt
  · exact le_rfl
  · have h := sortedFrom_noInversion (fun k k' => decide (f k' < f k)) _ (fun a c h => decide_eq_false (not_lt.2 (of_decide_eq_true h).le)) (fun _ _ h => h)
      (fun a c d h h' => decide_eq_false (not_lt.2 ((not_lt.1 (of_decide_eq_false h)).trans (not_lt.1 (of_decide_eq_false h'))))) i j hlt
    exact not_lt.1 (of_decide_eq_false h)

/-- A row of losses. -/
abbrev row (x : FVec Ideal S32x20000 .f32) (b : Fin 32) (p : Fin 20000) : EReal := x (ix2 b p)

/-- The reference's losses in descending order. -/
theorem sorted (x : FVec Ideal S32x20000 .f32) (b : Fin 32) (i : Fin 20000) :
    Host.negf (Host.sort S32x20000 1 comparator_f32_d1 (Host.negf x)) (ix2 b i) = row x b (perm (row x b) i) := by
  have ha : ∀ k : Fin 20000, (ix2 b i : S32x20000.Idx).along 1 k = ix2 b k := fun k => by
    funext d
    match d with
    | ⟨0, _⟩ => rfl
    | ⟨1, _⟩ => rfl
  have hR : (fun k k' : Fin 20000 => comparator_f32_d1 (Host.negf x (ix2 b k)) (Host.negf x (ix2 b k')) == 1#1) = fun k k' => decide (row x b k' < row x b k) := by
    funext k k'
    rw [comparator_eq]
    show (BitVec.ofBool (decide (-row x b k < -row x b k')) == 1#1) = _
    by_cases h : row x b k' < row x b k
    · rw [decide_eq_true h, decide_eq_true (EReal.neg_lt_neg_iff.2 h)]
      rfl
    · rw [decide_eq_false h, decide_eq_false (fun h' => h (EReal.neg_lt_neg_iff.1 h'))]
      rfl
  have hs : Host.sort S32x20000 1 comparator_f32_d1 (Host.negf x) (ix2 b i) = Host.negf x (ix2 b (perm (row x b) i)) := by
    unfold Host.sort
    rw [dif_pos (by decide)]
    have hR' : (fun k k' : Fin 20000 => comparator_f32_d1 (Host.negf x ((ix2 b i : S32x20000.Idx).along 1 k)) (Host.negf x ((ix2 b i : S32x20000.Idx).along 1 k')) == 1#1)
        = fun k k' => decide (row x b k' < row x b k) := by
      funext k k'
      rw [ha k, ha k']
      exact congrFun (congrFun hR k) k'
    show Host.negf x ((ix2 b i : S32x20000.Idx).along 1 (sortedFrom (n := 20000) (fun k k' : Fin 20000 => comparator_f32_d1 (Host.negf x ((ix2 b i : S32x20000.Idx).along 1 k))
      (Host.negf x ((ix2 b i : S32x20000.Idx).along 1 k')) == 1#1) i)) = _
    rw [hR', ha, perm_apply]
  pointwise []
  rw [hs]
  exact neg_neg (row x b (perm (row x b) i))

/-- The first result's entry. -/
theorem first_apply (v : FVec Ideal S32x8x128 .f32) :
    shapeCast S1x1 (Host.divf (F := Ideal) (Host.reduceAdd (shapeCast S32 (extractStridedSlice S32x1x1 ![0, 0, 0] v slices_S32x8x128_S32x1x1_0_0_0) shapeCasts_S32x1x1_S32) (constant S_ .f32 0x00000000#32) reducesTo_S32_S_d0 h_S_) (Host.reduceAdd (shapeCast S32x1 (extractStridedSlice S32x1x1 ![0, 2, 0] v slices_S32x8x128_S32x1x1_0_2_0) shapeCasts_S32x1x1_S32x1) (constant S_ .f32 0x00000000#32) reducesTo_S32x1_S_d0_1 h_S_)) shapeCasts_S_S1x1 (ix2 0 0)
      = Ideal.div (∑ b : Fin 32, v (ix3 b 0 0)) (∑ b : Fin 32, v (ix3 b 2 0)) := by
  pointwise []
  simp only [Finset.univ_unique, Finset.sum_singleton]

/-- The mask of a place: one below the wanted number. -/
theorem mask_eq (q : EReal) (p : Fin 20000) : (FloatOps.uitofp (F := Ideal) .f32 (BitVec.ofBool (decide ((FloatOps.sitofp (F := Ideal) .f32 (BitVec.ofNat 32 p.val) : EReal) < q))) : EReal)
    = above q ((p.val : ℕ) : EReal) := by
  have hp : (FloatOps.sitofp (F := Ideal) .f32 (BitVec.ofNat 32 p.val) : EReal) = ((p.val : ℕ) : EReal) := by
    have hi := p.isLt
    have h : (BitVec.ofNat 32 p.val).toInt = (p.val : ℤ) := by
      rw [BitVec.toInt_eq_toNat_cond, BitVec.toNat_ofNat]
      omega
    exact (congrArg (fun z : ℤ => ((z : ℝ) : EReal)) h).trans (by norm_cast)
  rw [hp]
  unfold above
  by_cases hc : ((p.val : ℕ) : EReal) < q
  · rw [decide_eq_true hc, if_pos hc]
    exact congrArg (fun z : ℕ => ((z : ℝ) : EReal)) (by decide : (BitVec.ofBool true).toNat = 1) |>.trans (by norm_num)
  · rw [decide_eq_false hc, if_neg hc]
    exact congrArg (fun z : ℕ => ((z : ℝ) : EReal)) (by decide : (BitVec.ofBool false).toNat = 0) |>.trans (by norm_num)

/-- The second result's entry, over the losses in their order. -/
theorem second_apply (v : FVec Ideal S32x8x128 .f32) (s : FVec Ideal S32x20000 .f32) :
    shapeCast S1x1 (Host.divf (F := Ideal) (addf (Host.reduceAdd (shapeCast S32 (extractStridedSlice S32x1x1 ![0, 1, 0] v slices_S32x8x128_S32x1x1_0_1_0) shapeCasts_S32x1x1_S32) (constant S_ .f32 0x00000000#32) reducesTo_S32_S_d0 h_S_) (Host.reduceAdd (mulf s (uitofp .f32 (cmpf .olt (broadcastInDim S32x20000 ![0, 1] bcast_S1x20000_S32x20000_0_1 (broadcastInDim S1x20000 ![1] bcast_S20000_S1x20000_1 (sitofp .f32 (iotaInDim S20000 32 0)))) (broadcastInDim S32x20000 ![0, 1] bcast_S32x1_S32x20000_0_1 (minimumf (mulf (broadcastInDim S32x1 ![] bcast_S_S32x1 (constant S_ .f32 0x40400000#32)) (shapeCast S32x1 (extractStridedSlice S32x1x1 ![0, 2, 0] v slices_S32x8x128_S32x1x1_0_2_0) shapeCasts_S32x1x1_S32x1)) (broadcastInDim S32x1 ![] bcast_S_S32x1 (constant S_ .f32 0x469C3E00#32))))))) (constant S_ .f32 0x00000000#32) reducesTo_S32x20000_S_d0_1 h_S_)) (Host.reduceAdd (shapeCast S32x1 (extractStridedSlice S32x1x1 ![0, 2, 0] v slices_S32x8x128_S32x1x1_0_2_0) shapeCasts_S32x1x1_S32x1) (constant S_ .f32 0x00000000#32) reducesTo_S32x1_S_d0_1 h_S_)) shapeCasts_S_S1x1 (ix2 0 0)
      = Ideal.div (∑ b : Fin 32, v (ix3 b 1 0) + ∑ b : Fin 32, ∑ p : Fin 20000, s (ix2 b p) * above (min (Ideal.ofBits FTy.f32 0x40400000#32 * v (ix3 b 2 0)) (Ideal.ofBits FTy.f32 0x469C3E00#32)) ((p.val : ℕ) : EReal)) (∑ b : Fin 32, v (ix3 b 2 0)) := by
  pointwise []
  simp only [Finset.univ_unique, Finset.sum_singleton, mask_eq]

end Cert.MinedLossesIdeal.Value
-- ==== Proof.SecondArray.lean ====
module

public import Idealize.ShloMosaic.Lib.Pipeline.ValueKit
public import proofs.«01_k».proof.Proof.Gen.SecondCallIdeal.Value
public import proofs.«01_k».proof.Proof.Mining

/-
  The second launch as a program of its own: both of its results over the arguments.
-/

@[expose] public section

set_option maxRecDepth 16384

noncomputable section

open Idealize.ShloMosaic Idealize.ShloMosaic.TcCoe Idealize.SL.Sem
open Idealize.ShloMosaic.Pipeline (Dat)

namespace Cert.SecondCallIdeal.Array

open Cert.SecondCallIdeal Cert.SecondCallIdeal.Gen Cert.Mining

variable (m : (ℓ : Loc nD τ sig) → Buf (Elt Ideal) ℓ)

/-- The arguments, at their shapes. -/
abbrev A0 (c : Dev nD) : FVec Ideal S32x8x128 .f32 := m ((c : Thread nD τ).loc main_arg0)
abbrev A1 (c : Dev nD) : FVec Ideal S32x1x20000 .f32 := m ((c : Thread nD τ).loc main_arg1)

/-- The blocks are the whole arrays. -/
theorem idx : ∀ t : Fin cfg0.N, win0_0.index t = ![0, 0, 0] ∧ win0_1.index t = ![0, 0] ∧ win0_2.index t = ![0, 0] ∧ win0_3.index t = ![0, 0] :=
  (by decide +kernel : ∀ t : Fin grid0.N, _)

/-- The reshaped losses, as the launch finds them. -/
theorem entry_v0 (c : Dev nD) : V m c main_v0 = shapeCast S32x20000 (A1 m c) Facts₀.shapeCasts_S32x1x20000_S32x20000 := by
  entry_read
  rfl

/-- The losses of image `b`. -/
abbrev row (v : FVec Ideal S32x20000 .f32) (b : Fin 32) (p : Fin 20000) : EReal := v (ix2 b p)

/-- How many losses image `b` takes. -/
def wanted (v : FVec Ideal S32x8x128 .f32) (b : Fin 32) : EReal := min (Ideal.ofBits FTy.f32 0x40400000#32 * v (ix3 b 2 0)) (Ideal.ofBits FTy.f32 0x469C3E00#32)

section
variable (v0 : Vec Ideal S32x20000 .f32) (v2 : Vec Ideal S32x8x128 .f32)

/-- The interval's ends at image `b`. -/
def ends (s : FVec Ideal S32x1 .f32 × FVec Ideal S32x1 .f32) (b : Fin 32) : EReal × EReal := (s.1 (ix2 b 0), s.2 (ix2 b 0))

/-- The ends of a pair of columns. -/
theorem ends_mk (lo hi : FVec Ideal S32x1 .f32) (b : Fin 32) : ends (lo, hi) b = (lo (ix2 b 0), hi (ix2 b 0)) := rfl

/-- The indicator that the kernel sums. -/
theorem ind_eq (x h : EReal) : (FloatOps.sitofp (F := Ideal) .f32 (BitVec.setWidth 32 (BitVec.ofBool (decide (h < x)))) : EReal) = above x h := by
  unfold above
  by_cases hc : h < x
  · rw [decide_eq_true hc, if_pos hc]
    exact congrArg (fun z : ℤ => ((z : ℝ) : EReal)) (by decide : (BitVec.setWidth 32 (BitVec.ofBool true)).toInt = 1) |>.trans (by norm_num)
  · rw [decide_eq_false hc, if_neg hc]
    exact congrArg (fun z : ℤ => ((z : ℝ) : EReal)) (by decide : (BitVec.setWidth 32 (BitVec.ofBool false)).toInt = 0) |>.trans (by norm_num)

open Classical in
/-- A choice by a comparison's bit. -/
theorem select_eq (x y a b : EReal) : Scalar.select (BitVec.ofBool (decide (x < y))) a b = if x < y then a else b := by
  by_cases hc : x < y
  · rw [decide_eq_true hc, if_pos hc]; rfl
  · rw [decide_eq_false hc, if_neg hc]; rfl

/-- The first result's entry. -/
theorem pay14_apply : k0_pay14 v2 (ix2 0 0) = Ideal.div (∑ b : Fin 32, v2 (ix3 b 0 0)) (∑ b : Fin 32, v2 (ix3 b 2 0)) := by
  pointwise [k0_pay14, k0_pay13, k0_pay4]
  simp only [Finset.univ_unique, Finset.sum_singleton]

/-- The middle of the interval. -/
theorem pay8_apply (lo hi : FVec Ideal S32x1 .f32) (b : Fin 32) : k0_pay8 lo hi (ix2 b 0) = mid (ends (lo, hi) b) := by
  pointwise [k0_pay8]
  rfl

/-- Which half the kernel keeps. -/
theorem pay9_apply (lo hi : FVec Ideal S32x1 .f32) (b : Fin 32) :
    k0_pay9 v0 v2 lo hi (ix2 b 0) = BitVec.ofBool (decide (wanted v2 b < ∑ p, above (row v0 b p) (mid (ends (lo, hi) b)))) := by
  pointwise [k0_pay9, k0_pay2, k0_pay5, k0_pay4]
  simp only [ind_eq, pay8_apply]
  rfl

/-- A trip of the loop is one halving. -/
theorem trip (s : FVec Ideal S32x1 .f32 × FVec Ideal S32x1 .f32) (b : Fin 32) :
    ends (k0_pay10 v0 v2 s.1 s.2, k0_pay11 v0 v2 s.1 s.2) b = step (row v0 b) (wanted v2 b) (ends s b) := by
  have h1 : k0_pay10 v0 v2 s.1 s.2 (ix2 b 0) = if wanted v2 b < ∑ p, above (row v0 b p) (mid (ends s b)) then mid (ends s b) else s.1 (ix2 b 0) := by
    pointwise [k0_pay10]
    rw [pay9_apply, pay8_apply, select_eq]
  have h2 : k0_pay11 v0 v2 s.1 s.2 (ix2 b 0) = if wanted v2 b < ∑ p, above (row v0 b p) (mid (ends s b)) then s.2 (ix2 b 0) else mid (ends s b) := by
    pointwise [k0_pay11]
    rw [pay9_apply, pay8_apply, select_eq]
  rw [ends_mk, h1, h2]
  unfold step
  by_cases hc : wanted v2 b < ∑ p, above (row v0 b p) (mid (ends s b))
  · rw [if_pos hc, if_pos hc, if_pos hc]; rfl
  · rw [if_neg hc, if_neg hc, if_neg hc]; rfl

/-- Several trips are several halvings. -/
theorem trips {α : Type} (L : List α) (s : FVec Ideal S32x1 .f32 × FVec Ideal S32x1 .f32) (b : Fin 32) :
    ends (L.foldl (fun s _ => (k0_pay10 v0 v2 s.1 s.2, k0_pay11 v0 v2 s.1 s.2)) s) b = (step (row v0 b) (wanted v2 b))^[L.length] (ends s b) := by
  induction L generalizing s with
  | nil => rfl
  | cons a L ih => rw [List.foldl_cons, ih, trip, List.length_cons, Function.iterate_succ_apply]

/-- The ends after the loop. -/
def last : FVec Ideal S32x1 .f32 × FVec Ideal S32x1 .f32 :=
  Scf.fold (n := k0_t1_loop.trips) (fun _ s => (k0_pay10 v0 v2 s.1 s.2, k0_pay11 v0 v2 s.1 s.2)) (k0_pay7, k0_pay6 v0)

/-- They are 24 halvings from minus one and the greatest loss. -/
theorem last_apply (b : Fin 32) (i : Fin 20000) (hi : ∀ p, row v0 b p ≤ row v0 b i) :
    ends (last v0 v2) b = (step (row v0 b) (wanted v2 b))^[24] (((-1 : ℝ) : EReal), row v0 b i) := by
  have h7 : k0_pay7 (F := Ideal) (ix2 b 0) = ((-1 : ℝ) : EReal) := by
    pointwise [k0_pay7]
    simp [Ideal.ofBits, Ideal.ieee]
    rw [← EReal.coe_mul]
    norm_num
  have h6 : k0_pay6 v0 (ix2 b 0) = row v0 b i := by
    pointwise [k0_pay6, k0_pay2]
    rw [show Ideal.ofBits FTy.f32 4286578688#32 = (⊥ : EReal) by simp [Ideal.ofBits, Ideal.ieee]]
    refine le_antisymm ?_ ?_
    · rw [Finset.fold_max_le]
      exact ⟨bot_le, fun p _ => hi p⟩
    · rw [Finset.le_fold_max]
      exact Or.inr ⟨i, Finset.mem_univ i, le_rfl⟩
  have hl : (List.finRange k0_t1_loop.trips).length = 24 := by rw [List.length_finRange]; decide
  unfold last
  rw [Scf.fold_eq, trips, hl]
  have h : ends (k0_pay7, k0_pay6 v0) b = (((-1 : ℝ) : EReal), row v0 b i) := by
    rw [ends_mk, h7, h6]
  rw [h]

/-- The losses an image takes, summed as the kernel does. -/
theorem pay12_apply (h : FVec Ideal S32x1 .f32) (b : Fin 32) : k0_pay12 v0 v2 h (ix2 b 0) = found (row v0 b) (wanted v2 b) (h (ix2 b 0)) := by
  pointwise [k0_pay12, k0_pay2, k0_pay5, k0_pay4]
  simp only [ind_eq]
  rfl

/-- The second result's entry. -/
theorem pay1_apply (x y : FVec Ideal S32x1 .f32) :
    k0_pay1 x y (k0_pay13 v2) (ix2 0 0) = Ideal.div (∑ b : Fin 32, x (ix2 b 0) + ∑ b : Fin 32, y (ix2 b 0)) (∑ b : Fin 32, v2 (ix3 b 2 0)) := by
  pointwise [k0_pay1, k0_pay13, k0_pay4]
  simp only [Finset.univ_unique, Finset.sum_singleton]

/-- The confidence loss of the priors of an image that count. -/
theorem pay3_apply (b : Fin 32) : k0_pay3 v2 (ix2 b 0) = v2 (ix3 b 1 0) := by
  pointwise [k0_pay3]
end

/-- The launch's block of the rows of partial results is the argument. -/
theorem blk0 (c : Dev nD) (t : Fin cfg0.N) : (iblk m c 0 t : FVec Ideal S32x8x128 .f32) = A0 m c := by
  funext i
  unfold iblk
  rw [show V m c (Pipeline.arrRef spec0 0) = _ from V_main_arg0 m c]
  blk_ext [idx t]

/-- The losses as rows. -/
def rows (x : FVec Ideal S32x1x20000 .f32) : FVec Ideal S32x20000 .f32 := shapeCast S32x20000 x Facts₀.shapeCasts_S32x1x20000_S32x20000

/-- An entry of them. -/
theorem rows_apply (x : FVec Ideal S32x1x20000 .f32) (b : Fin 32) (p : Fin 20000) : rows x (ix2 b p) = x (ix3 b 0 p) := by
  pointwise [rows]

/-- The launch's block of the losses is the argument as rows. -/
theorem blk1 (c : Dev nD) (t : Fin cfg0.N) : (iblk m c 1 t : FVec Ideal S32x20000 .f32) = rows (A1 m c) := by
  funext i
  unfold iblk
  rw [show V m c (Pipeline.arrRef spec0 1) = rows (A1 m c) from entry_v0 m c]
  blk_ext [idx t]

/-- A staging buffer read back holds what was put there. -/
theorem read0 (c : Dev nD) : View.read (Elt Ideal) (View.whole cc0_stg0_0) ((Memref.isWhole_whole cc0_stg0_0).unread (iblk m c 0 t0_0)) = A0 m c :=
  ((Memref.isWhole_whole cc0_stg0_0).read_unread _).trans (blk0 m c t0_0)
/-- A staging buffer read back holds what was put there. -/
theorem read1 (c : Dev nD) : View.read (Elt Ideal) (View.whole cc0_stg1_0) ((Memref.isWhole_whole cc0_stg1_0).unread (iblk m c 1 t0_0)) = rows (A1 m c) :=
  ((Memref.isWhole_whole cc0_stg1_0).read_unread _).trans (blk1 m c t0_0)

/-- The first array after the run. -/
theorem final2 (c : Dev nD) : ((dats m 0 c).arrAt 2 cfg0.N : FVec Ideal S1x1 .f32) = k0_pay14 (F := Ideal) (A0 m c) := by
  refine (dats m 0 c).arrAt_eq_of_after_last 2 t0_0 (by decide +kernel) _ fun j => ?_
  blk_simp
  rw [after0_2]
  unfold outsAt0
  frame_out
  exact congrFun (congrArg k0_pay14 (read0 m c)) j

/-- The second array's stored term, over the two blocks. -/
def stored (v0 : Vec Ideal S32x20000 .f32) (v2 : Vec Ideal S32x8x128 .f32) : FVec Ideal S1x1 .f32 :=
  k0_pay1 (k0_pay3 v2) (k0_pay12 v0 v2 (last v0 v2).2) (k0_pay13 v2)

/-- The second array after the run. -/
theorem final3 (c : Dev nD) : ((dats m 0 c).arrAt 3 cfg0.N : FVec Ideal S1x1 .f32) = stored (rows (A1 m c)) (A0 m c) := by
  refine (dats m 0 c).arrAt_eq_of_after_last 3 t0_0 (by decide +kernel) _ fun j => ?_
  blk_simp
  rw [after0_3]
  unfold outsAt0
  frame_out
  exact congrFun (congrArg₂ stored (read1 m c) (read0 m c)) j

/-- The second array's entry, when each image's greatest loss is known. -/
theorem stored_apply (v0 : Vec Ideal S32x20000 .f32) (v2 : Vec Ideal S32x8x128 .f32) (i : Fin 32 → Fin 20000) (hi : ∀ b p, row v0 b p ≤ row v0 b (i b)) :
    stored v0 v2 (ix2 0 0) = Ideal.div (∑ b : Fin 32, v2 (ix3 b 1 0) + ∑ b : Fin 32, found (row v0 b) (wanted v2 b) ((step (row v0 b) (wanted v2 b))^[24] (((-1 : ℝ) : EReal), row v0 b (i b))).2) (∑ b : Fin 32, v2 (ix3 b 2 0)) := by
  unfold stored
  rw [pay1_apply]
  refine congrArg₂ Ideal.div (congrArg₂ (· + ·) (Finset.sum_congr rfl fun b _ => pay3_apply v2 b) (Finset.sum_congr rfl fun b _ => ?_)) rfl
  rw [pay12_apply, ← last_apply v0 v2 b (i b) (hi b)]
  rfl

end Cert.SecondCallIdeal.Array
-- ==== Proof.SecondEquation.lean ====
module

public import proofs.«01_k».proof.Defs
public import proofs.«01_k».proof.Proof.MinedValue
public import proofs.«01_k».proof.Proof.SecondArray

/-
  The equation of the second call: from arguments that agree, the call's two arrays are the mined losses' two results.
-/

@[expose] public section

set_option maxRecDepth 16384

noncomputable section

open Idealize.ShloMosaic Idealize.ShloMosaic.TcCoe Idealize.SL.Sem

namespace Cert.SecondEquation

open Cert.SecondCallIdeal.Array (A0 A1 wanted rows rows_apply stored stored_apply final2 final3 pay14_apply)
open Cert.MinedLossesIdeal.Value (perm antitone_perm sorted)
open Cert.Mining

/-- The precondition's shape relations hold. -/
theorem pre_facts : Cert.Pre_separated_losses.Facts where
  slices_S32x8x128_S32x1x1_0_2_0 := by decide
  shapeCasts_S32x1x1_S32x1 := by decide
  bcast_S_S32x1 := by decide
  shapeCasts_S32x1x20000_S32x20000 := by decide
  slices_S32x20000_S32x1_0_0 := by decide
  bcast_S_S19999 := by decide
  bcast_S19999_S1x19999_1 := by decide
  bcast_S1x19999_S32x19999_0_1 := by decide
  bcast_S32x1_S32x19999_0_1 := by decide
  bcast_S_S32x1x20000 := by decide
  slices_S32x20000_S32x19999_0_0 := by decide
  slices_S32x20000_S32x19999_0_1 := by decide

/-- A bit that says so. -/
theorem of_bit {p : Prop} [Decidable p] (h : BitVec.ofBool (decide p) = 1#1) : p := by
  by_cases hc : p
  · exact hc
  · rw [decide_eq_false hc] at h
    exact absurd h (by decide)

/-- Two bits, both one. -/
theorem both : ∀ {x y : BitVec 1}, x &&& y = 1#1 → x = 1#1 ∧ y = 1#1 := by decide

/-- Of two bits the first of which says no, the second says yes. -/
theorem either {t : Bool} {y : BitVec 1} (ht : t = true) (h : (~~~ BitVec.ofBool t) ||| y = 1#1) : y = 1#1 := by
  subst ht
  exact (by decide : ∀ y : BitVec 1, (~~~ BitVec.ofBool true) ||| y = 1#1 → y = 1#1) y h

/-- The words of the constants. -/
theorem bits_zero : Ideal.ofBits FTy.f32 0x00000000#32 = (0 : EReal) := by
  simp [Ideal.ofBits, Ideal.ieee]

theorem bits_one : Ideal.ofBits FTy.f32 0x3F800000#32 = (1 : EReal) := by
  simp [Ideal.ofBits, Ideal.ieee]
  rw [← EReal.coe_mul]
  norm_num

theorem bits_width : Ideal.ofBits FTy.f32 0x33800000#32 = ((1 / 2 ^ 24 : ℝ) : EReal) := by
  simp [Ideal.ofBits, Ideal.ieee]
  rw [← EReal.coe_mul]
  norm_num

theorem bits_three : Ideal.ofBits FTy.f32 0x40400000#32 = ((3 : ℕ) : EReal) := by
  simp [Ideal.ofBits, Ideal.ieee]
  rw [← EReal.coe_mul]
  norm_num
  norm_cast

theorem bits_most : Ideal.ofBits FTy.f32 0x469C3E00#32 = ((19999 : ℕ) : EReal) := by
  simp [Ideal.ofBits, Ideal.ieee]
  rw [← EReal.coe_mul]
  norm_num
  norm_cast

/-- A number that is nonnegative and its own truncation is a natural number. -/
theorem count_of (x : EReal) (h0 : 0 ≤ x) (h : (FloatOps.sitofp (F := Ideal) .f32 (FloatOps.fptosi (F := Ideal) (φ := FTy.f32) 32 x) : EReal) = x) : ∃ n : ℕ, x = (n : EReal) := by
  obtain ⟨z, hz⟩ : ∃ z : ℤ, x = ((z : ℝ) : EReal) := ⟨_, h.symm⟩
  subst hz
  have h1 : (0 : ℝ) ≤ (z : ℝ) := by exact_mod_cast h0
  have h2 : 0 ≤ z := by exact_mod_cast h1
  obtain ⟨n, rfl⟩ := Int.eq_ofNat_of_zero_le h2
  exact ⟨n, by norm_cast⟩

/-- How many losses are taken, as a natural number. -/
theorem wanted_eq (v : FVec Ideal Cert.SecondCallIdeal.S32x8x128 .f32) (b : Fin 32) (n : ℕ) (h : v (ix3 b 2 0) = (n : EReal)) : wanted v b = ((min (3 * n) 19999 : ℕ) : EReal) := by
  unfold wanted
  have h3 : ((3 : ℕ) : EReal) * (n : EReal) = ((3 * n : ℕ) : EReal) := by
    rw [← EReal.coe_natCast, ← EReal.coe_natCast, ← EReal.coe_natCast, ← EReal.coe_mul]
    norm_cast
  rw [h, bits_three, bits_most, h3]
  exact ((Nat.mono_cast (α := EReal)).map_min).symm

section
open Cert.Pre_separated_losses

variable (hP : Cert.Pre_separated_losses.Facts) (x1 : FVec Ideal S32x1x20000 .f32) (v1 v5 : FVec Ideal S32x1 .f32) (v9 : FVec Ideal S32x20000 .f32) (v14 : FVec Ideal S32x1 .f32)
  (v18 : FVec Ideal S19999 .f32)

/-- The bits of the gaps. -/
theorem gap_bit (b : Fin 32) (j : Fin 19999) : (fn_part1 (F := Ideal) x1 v1 v5 v9 v14 v18).2.2 (ix2 b j)
    = (~~~ BitVec.ofBool (decide (v18 (ix1 j) = v5 (ix2 b 0)))) ||| BitVec.ofBool (decide (v14 (ix2 b 0) ≤ v9 (ix2 b j.castSucc) - v9 (ix2 b j.succ))) := by
  have hj : (⟨1 + j.val, by omega⟩ : Fin 20000) = j.succ := Fin.ext (Nat.add_comm 1 j.val)
  rw [← hj]
  show ori _ _ (ix2 b j) = _
  pointwise []
  rfl

/-- The bits of the counts. -/
theorem count_bit (b : Fin 32) : (fn_part1 (F := Ideal) x1 v1 v5 v9 v14 v18).1 (ix2 b 0)
    = BitVec.ofBool (decide (Ideal.ofBits FTy.f32 0x00000000#32 ≤ v1 (ix2 b 0))) &&& BitVec.ofBool (decide ((FloatOps.sitofp (F := Ideal) .f32 (FloatOps.fptosi (F := Ideal) (φ := FTy.f32) 32 (v1 (ix2 b 0))) : EReal) = v1 (ix2 b 0))) := rfl

/-- A number of places read from its word. -/
theorem place_eq (j : Fin 19999) : (FloatOps.sitofp (F := Ideal) .f32 (1#32 + BitVec.ofNat 32 j.val) : EReal) = ((j.val + 1 : ℕ) : EReal) := by
  have hi := j.isLt
  have h : (1#32 + BitVec.ofNat 32 j.val).toInt = ((j.val + 1 : ℕ) : ℤ) := by
    rw [BitVec.toInt_eq_toNat_cond, BitVec.toNat_add, BitVec.toNat_ofNat, BitVec.toNat_ofNat]
    omega
  exact (congrArg (fun z : ℤ => ((z : ℝ) : EReal)) h).trans (by norm_cast)

/-- The columns that the bits are made of, and the losses in descending order. -/
theorem col_count (x0 : FVec Ideal S32x8x128 .f32) (b : Fin 32) :
    shapeCast S32x1 (extractStridedSlice S32x1x1 ![0, 2, 0] x0 Facts.slices_S32x8x128_S32x1x1_0_2_0) Facts.shapeCasts_S32x1x1_S32x1 (ix2 b 0) = x0 (ix3 b 2 0) := by
  pointwise []

theorem col_wanted (v1 : FVec Ideal S32x1 .f32) (b : Fin 32) :
    minimumf (F := Ideal) (mulf (F := Ideal) (broadcastInDim S32x1 ![] Facts.bcast_S_S32x1 (constant S_ .f32 0x40400000#32)) v1) (broadcastInDim S32x1 ![] Facts.bcast_S_S32x1 (constant S_ .f32 0x469C3E00#32)) (ix2 b 0)
      = min (Ideal.ofBits FTy.f32 0x40400000#32 * v1 (ix2 b 0)) (Ideal.ofBits FTy.f32 0x469C3E00#32) := by
  pointwise []

theorem col_width (b : Fin 32) :
    mulf (F := Ideal) (addf (F := Ideal) (extractStridedSlice S32x1 ![0, 0] v9 Facts.slices_S32x20000_S32x1_0_0) (broadcastInDim S32x1 ![] Facts.bcast_S_S32x1 (constant S_ .f32 0x3F800000#32)))
        (broadcastInDim S32x1 ![] Facts.bcast_S_S32x1 (constant S_ .f32 0x33800000#32)) (ix2 b 0)
      = (v9 (ix2 b 0) + 1) * ((1 / 2 ^ 24 : ℝ) : EReal) := by
  rw [← bits_one, ← bits_width]
  pointwise []

theorem row_place (j : Fin 19999) :
    sitofp (F := Ideal) .f32 (addi (broadcastInDim S19999 ![] Facts.bcast_S_S19999 (constantI S_ 32 1#32)) (iotaInDim S19999 32 0)) (ix1 j) = ((j.val + 1 : ℕ) : EReal) :=
  place_eq j

theorem descending (b : Fin 32) (i : Fin 20000) :
    Host.negf (fn_sort (F := Ideal) (Host.negf (shapeCast S32x20000 x1 Facts.shapeCasts_S32x1x20000_S32x20000))) (ix2 b i) = rows x1 (ix2 b (perm (fun p => rows x1 (ix2 b p)) i)) :=
  sorted (rows x1) b i

/-- What the precondition says: whole counts, nonnegative losses, and a gap after the last loss taken. -/
theorem of_pre (x0 : FVec Ideal S32x8x128 .f32)
    (h : (Cert.Pre_separated_losses.fn (F := Ideal) x0 x1).1 = (fun _ => 1#1) ∧ (Cert.Pre_separated_losses.fn (F := Ideal) x0 x1).2.1 = (fun _ => 1#1)
      ∧ (Cert.Pre_separated_losses.fn (F := Ideal) x0 x1).2.2 = fun _ => 1#1) :
    (∀ b : Fin 32, ∃ n : ℕ, x0 (ix3 b 2 0) = (n : EReal)) ∧ (∀ (b : Fin 32) (p : Fin 20000), 0 ≤ x1 (ix3 b 0 p))
      ∧ ∀ (b : Fin 32) (j : Fin 19999), ((j.val + 1 : ℕ) : EReal) = wanted x0 b →
        (rows x1 (ix2 b (perm (fun p => rows x1 (ix2 b p)) 0)) + 1) * ((1 / 2 ^ 24 : ℝ) : EReal)
          ≤ rows x1 (ix2 b (perm (fun p => rows x1 (ix2 b p)) j.castSucc)) - rows x1 (ix2 b (perm (fun p => rows x1 (ix2 b p)) j.succ)) := by
  refine ⟨fun b => ?_, fun b p => ?_, fun b j hj => ?_⟩
  · have h1 := congrFun h.1 (ix2 b 0)
    unfold fn at h1
    rw [count_bit hP, bits_zero, col_count hP] at h1
    exact count_of _ (of_bit (both h1).1) (of_bit (both h1).2)
  · have h1 : Ideal.ofBits FTy.f32 0x00000000#32 ≤ x1 (ix3 b 0 p) := of_bit (congrFun h.2.1 (ix3 b 0 p))
    rw [bits_zero] at h1
    exact h1
  · have h1 := congrFun h.2.2 (ix2 b j)
    unfold fn at h1
    rw [gap_bit hP, row_place hP, col_wanted hP, col_count hP, col_width hP, descending hP, descending hP, descending hP] at h1
    exact of_bit (either (decide_eq_true hj) h1)

end

/-- The rows of losses agree. -/
theorem sums_eq (x0 : FVec Ideal Cert.SecondCallIdeal.S32x8x128 .f32) (x1 : FVec Ideal Cert.SecondCallIdeal.S32x1x20000 .f32)
    (hn : ∀ b : Fin 32, ∃ n : ℕ, x0 (ix3 b 2 0) = (n : EReal)) (h0 : ∀ (b : Fin 32) (p : Fin 20000), 0 ≤ x1 (ix3 b 0 p))
    (hg : ∀ (b : Fin 32) (j : Fin 19999), ((j.val + 1 : ℕ) : EReal) = wanted x0 b →
        (rows x1 (ix2 b (perm (fun p => rows x1 (ix2 b p)) 0)) + 1) * ((1 / 2 ^ 24 : ℝ) : EReal)
          ≤ rows x1 (ix2 b (perm (fun p => rows x1 (ix2 b p)) j.castSucc)) - rows x1 (ix2 b (perm (fun p => rows x1 (ix2 b p)) j.succ))) :
    stored (rows x1) x0 (ix2 0 0) = Ideal.div (∑ b : Fin 32, x0 (ix3 b 1 0) + ∑ b : Fin 32, ∑ p : Fin 20000,
      Host.negf (Host.sort Cert.MinedLossesIdeal.S32x20000 1 Cert.MinedLossesIdeal.comparator_f32_d1 (Host.negf (rows x1))) (ix2 b p) * above (wanted x0 b) ((p.val : ℕ) : EReal)) (∑ b : Fin 32, x0 (ix3 b 2 0)) := by
  have hle : ∀ (b : Fin 32) (p : Fin 20000), Cert.SecondCallIdeal.Array.row (rows x1) b p ≤ Cert.SecondCallIdeal.Array.row (rows x1) b (perm (fun p => rows x1 (ix2 b p)) 0) := fun b p => by
    obtain ⟨i, rfl⟩ := (perm fun p => rows x1 (ix2 b p)).surjective p
    exact antitone_perm (fun p => rows x1 (ix2 b p)) (Fin.zero_le i)
  rw [stored_apply _ _ (fun b => perm (fun p => rows x1 (ix2 b p)) 0) hle]
  refine congrArg₂ Ideal.div (congrArg₂ (· + ·) rfl (Finset.sum_congr rfl fun b _ => ?_)) rfl
  obtain ⟨n, hn⟩ := hn b
  have hw := wanted_eq x0 b n hn
  rw [hw]
  refine (found_eq (fun p => rows x1 (ix2 b p)) (perm fun p => rows x1 (ix2 b p)) (antitone_perm (n := 20000) fun p => rows x1 (ix2 b p)) (fun p => ?_) (min (3 * n) 19999) 0 (Fin.val_zero _) (by omega) (fun i j hij hj => ?_)).trans ?_
  · rw [rows_apply]
    exact h0 b p
  · have hi := j.isLt
    have e : ((i.val + 1 : ℕ) : EReal) = wanted x0 b := by rw [hw, ← hj, hij]
    have hg' := hg b ⟨i.val, by omega⟩ e
    have ei : (⟨i.val, by omega⟩ : Fin 19999).castSucc = i := Fin.ext rfl
    have ej : (⟨i.val, by omega⟩ : Fin 19999).succ = j := Fin.ext hij.symm
    rw [ei, ej] at hg'
    exact hg'
  · refine Finset.sum_congr rfl fun p _ => ?_
    rw [sorted]

/-- The second call's two arrays are the mined losses' two results. -/
theorem algebraic : Cert.algebraic_SecondCallIdeal_MinedLossesIdeal_pre_separated_losses (hSecondCallIdeal := Cert.SecondCallIdeal.Gen.facts)
    (hMinedLossesIdeal := Cert.MinedLossesIdeal.Gen.facts) (hPre_separated_losses := pre_facts) := by
  intro m g m' g' hpre hag
  have hp := fun c => of_pre pre_facts _ _ (hpre c)
  refine ⟨fun c => Cert.SecondCallIdeal.Gen.k0_pay14 (F := Ideal) (A0 m c), fun c => stored (rows (A1 m c)) (A0 m c), ?_, ?_⟩
  · refine (θ_run Cert.SecondCallIdeal.defs _ _).mono (fun r h c => ?_) (Cert.SecondCallIdeal.Value.run_blocks (F := Ideal) m g)
    obtain ⟨h2, h3, ha⟩ := h c
    exact ⟨h2.trans (final2 m c), h3.trans (final3 m c), ha⟩
  · refine (θ_run Cert.MinedLossesIdeal.defs _ _).mono (fun r h c => ?_) (Cert.MinedLossesIdeal.Value.run (F := Ideal) m' g')
    obtain ⟨h2, h3, ha⟩ := h c
    obtain ⟨e0, e1⟩ := hag c
    rw [e0] at h2 h3
    rw [e1] at h3
    refine ⟨h2.trans (funext fun i => ?_), h3.trans (funext fun i => ?_), ha⟩
    · obtain ⟨a, b, rfl⟩ : ∃ (a b : Fin 1), i = ix2 a b := ⟨_, _, eq_ix2 i⟩
      obtain rfl : a = 0 := Subsingleton.elim _ _
      obtain rfl : b = 0 := Subsingleton.elim _ _
      exact (Cert.MinedLossesIdeal.Value.first_apply (A0 m c)).trans (pay14_apply (A0 m c)).symm
    · obtain ⟨a, b, rfl⟩ : ∃ (a b : Fin 1), i = ix2 a b := ⟨_, _, eq_ix2 i⟩
      obtain rfl : a = 0 := Subsingleton.elim _ _
      obtain rfl : b = 0 := Subsingleton.elim _ _
      exact (Cert.MinedLossesIdeal.Value.second_apply (A0 m c) _).trans (sums_eq (A0 m c) (A1 m c) (hp c).1 (hp c).2.1 (hp c).2.2).symm

end Cert.SecondEquation
-- ==== Proof.KSecond.lean ====
module

public import proofs.«01_k».proof.Proof.KResult
public import proofs.«01_k».proof.Proof.FirstArray
public import proofs.«01_k».proof.Proof.SecondArray

/-
  The kernel taken whole: the first launch's two arrays, every entry, and the second result over them.
-/

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Block Cert.Loss
open Cert.FirstCallIdeal.Array (scores labels rowVal restVal)
open Cert.SecondCallIdeal.Array (stored rows)

variable (m : (ℓ : Loc nD τ sig) → Buf (Elt Ideal) ℓ) (ρ : Dev nD → PrngReg)

/-- The scores, at their shape. -/
abbrev A1 (c : Dev nD) : FVec Ideal S32x20000x21 .f32 := m ((c : Thread nD τ).loc main_arg1)

/-- What the first launch finds in this buffer. -/
theorem entry_v1 (c : Dev nD) : V1 m ρ c main_v1 = transpose S32x21x20000 [0, 2, 1] (A1 m c) Facts₀.transposes_S32x20000x21_S32x21x20000_0_2_1 := by
  unfold V1 W1
  entry_read
  rfl

/-- A point's block of the scores, over the arguments. -/
theorem blk_score (c : Dev nD) (t : Fin cfg0.N) (x : Fin 21) (p : Fin 20000) :
    (iblk0 (V1 m ρ) c 1 t : FVec Ideal S1x21x20000 .f32) (ix3 0 x p) = A1 m c (ix3 (img t) p x) := by
  unfold iblk0
  rw [show V1 m ρ c (Pipeline.arrRef spec0 1) = _ from entry_v1 m ρ c]
  blk_simp [idx t]
  pointwise []
  blk_ext [idx t, img]

section
variable (c : Dev nD) (t : Fin cfg0.N)

/-- The point's boxes, priors, offsets, scores and classes are those of its image. -/
theorem of_box : tbOf (iblk0 (V1 m ρ) c 3 t) = boxes (A3 m c) (img t) := funext fun j => funext fun r => blk_box m ρ c t j r
theorem of_pri : priOf (iblk0 (V1 m ρ) c 2 t) = priors (A2 m c) := funext fun p => funext fun r => blk_pri m ρ c t r p
theorem of_loc : locOf (iblk0 (V1 m ρ) c 0 t) = locs (A0 m c) (img t) := funext fun p => funext fun r => blk_loc m ρ c t r p
theorem of_score (p : Fin 20000) : scoresOf (iblk0 (V1 m ρ) c 1 t) p = scores (A1 m c) (img t) p := funext fun x => blk_score m ρ c t x p
theorem of_lab : labs (iblk0 (V1 m ρ) c 4 t) = labels (A4 m c) (img t) := funext fun j => congrArg labelOf (blk_lab m ρ c t j)
end

/-- The array of partial results after the first launch. -/
abbrev parts (c : Dev nD) : FVec Ideal S32x8x128 .f32 := (dat0 (V1 m ρ) c).arrAt 5 cfg0.N
/-- The array of the other priors' losses after the first launch. -/
abbrev others (c : Dev nD) : FVec Ideal S32x1x20000 .f32 := (dat0 (V1 m ρ) c).arrAt 6 cfg0.N

/-- Every entry of the array of partial results. -/
theorem parts_apply (c : Dev nD) (hl : ∀ b j, 0 ≤ (A4 m c (ix2 b j)).toInt ∧ (A4 m c (ix2 b j)).toInt < 20) (i : S32x8x128.Idx) :
    parts m ρ c i = rowVal (A0 m c) (A1 m c) (A2 m c) (A3 m c) (A4 m c) (i 0) (i 1) := by
  refine (dat0 (V1 m ρ) c).arrAt_forall_of_covers 5 (fun (i : S32x8x128.Idx) (v : EReal) =>
    v = rowVal (A0 m c) (A1 m c) (A2 m c) (A3 m c) (A4 m c) (i 0) (i 1)) (by decide +kernel) (fun t hf y => ?_) i
  blk_simp [idx t]
  rw [after0_5]
  obtain ⟨a, q, l, rfl⟩ : ∃ (a : Fin 1) (q : Fin 8) (l : Fin 128), y = ix3 a q l := ⟨_, _, _, eq_ix3 y⟩
  obtain rfl : a = 0 := Subsingleton.elim _ _
  have hx4 : ∀ j : Fin 24, 0 ≤ ((iblk0 (V1 m ρ) c 4 t : IVec S1x24x1 32) (ix3 0 j 0)).toInt ∧ ((iblk0 (V1 m ρ) c 4 t : IVec S1x24x1 32) (ix3 0 j 0)).toInt < 20 := fun j => by rw [blk_lab]; exact hl _ j
  have he : ((win0_5.blk t).view.emb (ix3 0 q l) 0 : Fin 32) = img t := Fin.ext (by blk_simp [idx t, img]; rfl)
  have hq : ((win0_5.blk t).view.emb (ix3 0 q l) 1 : Fin 8) = q := Fin.ext (by blk_simp [idx t])
  rw [he, hq]
  refine (row_entry _ _ _ _ _ hx4 q l).trans ?_
  simp only [of_box, of_pri, of_loc, of_score, of_lab]
  rfl

/-- Every entry of the array of the other priors' losses. -/
theorem others_apply (c : Dev nD) (hl : ∀ b j, 0 ≤ (A4 m c (ix2 b j)).toInt ∧ (A4 m c (ix2 b j)).toInt < 20) (i : S32x1x20000.Idx) :
    others m ρ c i = restVal (A1 m c) (A2 m c) (A3 m c) (A4 m c) (i 0) (i 2) := by
  refine (dat0 (V1 m ρ) c).arrAt_forall_of_covers 6 (fun (i : S32x1x20000.Idx) (v : EReal) =>
    v = restVal (A1 m c) (A2 m c) (A3 m c) (A4 m c) (i 0) (i 2)) (by decide +kernel) (fun t hf y => ?_) i
  blk_simp [idx t]
  rw [after0_6]
  obtain ⟨a, q, p, rfl⟩ : ∃ (a : Fin 1) (q : Fin 1) (p : Fin 20000), y = ix3 a q p := ⟨_, _, _, eq_ix3 y⟩
  obtain rfl : a = 0 := Subsingleton.elim _ _
  obtain rfl : q = 0 := Subsingleton.elim _ _
  have hx4 : ∀ j : Fin 24, 0 ≤ ((iblk0 (V1 m ρ) c 4 t : IVec S1x24x1 32) (ix3 0 j 0)).toInt ∧ ((iblk0 (V1 m ρ) c 4 t : IVec S1x24x1 32) (ix3 0 j 0)).toInt < 20 := fun j => by rw [blk_lab]; exact hl _ j
  have he : ((win0_6.blk t).view.emb (ix3 0 0 p) 0 : Fin 32) = img t := Fin.ext (by blk_simp [idx t, img]; rfl)
  have hp : ((win0_6.blk t).view.emb (ix3 0 0 p) 2 : Fin 20000) = p := Fin.ext (by blk_simp [idx t])
  rw [he, hp]
  refine (rest_entry (iblk0 (V1 m ρ) c 0 t) _ _ _ _ hx4 p).trans ?_
  rw [of_box, of_pri, of_score, of_lab]
  rfl

/-- The ends of the interval after the second launch's loop. -/
def last (v0 : Vec Ideal S32x20000 .f32) (v2 : Vec Ideal S32x8x128 .f32) : FVec Ideal S32x1 .f32 × FVec Ideal S32x1 .f32 :=
  Scf.fold (n := k1_t1_loop.trips) (fun _ s => (k1_pay11 v0 v2 s.1 s.2, k1_pay12 v0 v2 s.1 s.2)) (k1_pay8, k1_pay7 v0)

/-- What the second launch stores as its second result, over its two blocks. -/
def stored' (v0 : Vec Ideal S32x20000 .f32) (v2 : Vec Ideal S32x8x128 .f32) : FVec Ideal S1x1 .f32 :=
  k1_pay1 (k1_pay4 v2) (k1_pay13 v0 v2 (last v0 v2).2) (k1_pay14 v2)

/-- Rounds that ignore their number are so many repetitions. -/
theorem rounds {α β : Type} (f : β → β) (L : List α) (s : β) : L.foldl (fun s _ => f s) s = f^[L.length] s := by
  induction L generalizing s with
  | nil => rfl
  | cons a L ih => rw [List.foldl_cons, ih, List.length_cons, Function.iterate_succ_apply]

section
variable (v0 : Vec Ideal S32x20000 .f32) (v2 : Vec Ideal S32x8x128 .f32)

/-- The array of partial results, cast to its own shape, is itself. -/
theorem pay3_eq : k1_pay3 v2 = v2 := shapeCast_id v2 _
/-- The launch's terms are those of the launch as a program of its own. -/
theorem pay2_eq : k1_pay2 v0 = Cert.SecondCallIdeal.Gen.k0_pay2 v0 := rfl
theorem pay4_eq : k1_pay4 v2 = Cert.SecondCallIdeal.Gen.k0_pay3 v2 := by unfold k1_pay4 Cert.SecondCallIdeal.Gen.k0_pay3; rw [pay3_eq]
theorem pay5_eq : k1_pay5 v2 = Cert.SecondCallIdeal.Gen.k0_pay4 v2 := by unfold k1_pay5 Cert.SecondCallIdeal.Gen.k0_pay4; rw [pay3_eq]
theorem pay6_eq : k1_pay6 v2 = Cert.SecondCallIdeal.Gen.k0_pay5 v2 := by unfold k1_pay6 Cert.SecondCallIdeal.Gen.k0_pay5; rw [pay5_eq]
theorem pay7_eq : k1_pay7 v0 = Cert.SecondCallIdeal.Gen.k0_pay6 v0 := by unfold k1_pay7 Cert.SecondCallIdeal.Gen.k0_pay6; rw [pay2_eq]
theorem pay9_eq (l h : FVec Ideal S32x1 .f32) : k1_pay9 l h = Cert.SecondCallIdeal.Gen.k0_pay8 l h := rfl
theorem pay10_eq (l h : FVec Ideal S32x1 .f32) : k1_pay10 v0 v2 l h = Cert.SecondCallIdeal.Gen.k0_pay9 v0 v2 l h := by unfold k1_pay10 Cert.SecondCallIdeal.Gen.k0_pay9; rw [pay2_eq, pay6_eq, pay9_eq]
theorem pay11_eq (l h : FVec Ideal S32x1 .f32) : k1_pay11 v0 v2 l h = Cert.SecondCallIdeal.Gen.k0_pay10 v0 v2 l h := by unfold k1_pay11 Cert.SecondCallIdeal.Gen.k0_pay10; rw [pay10_eq, pay9_eq]
theorem pay12_eq (l h : FVec Ideal S32x1 .f32) : k1_pay12 v0 v2 l h = Cert.SecondCallIdeal.Gen.k0_pay11 v0 v2 l h := by unfold k1_pay12 Cert.SecondCallIdeal.Gen.k0_pay11; rw [pay10_eq, pay9_eq]
theorem pay13_eq (h : FVec Ideal S32x1 .f32) : k1_pay13 v0 v2 h = Cert.SecondCallIdeal.Gen.k0_pay12 v0 v2 h := by unfold k1_pay13 Cert.SecondCallIdeal.Gen.k0_pay12; rw [pay2_eq, pay6_eq]
theorem pay14_eq : k1_pay14 v2 = Cert.SecondCallIdeal.Gen.k0_pay13 v2 := by unfold k1_pay14 Cert.SecondCallIdeal.Gen.k0_pay13; rw [pay5_eq]
theorem pay1_eq (x y : FVec Ideal S32x1 .f32) (z : Ideal .f32) : k1_pay1 x y z = Cert.SecondCallIdeal.Gen.k0_pay1 x y z := rfl

/-- The loop's ends are those of the launch as a program of its own. -/
theorem last_eq : last v0 v2 = Cert.SecondCallIdeal.Array.last v0 v2 := by
  unfold last Cert.SecondCallIdeal.Array.last
  have h1 : (List.finRange k1_t1_loop.trips).length = 24 := by rw [List.length_finRange]; decide
  rw [Scf.fold_eq, Scf.fold_eq]
  refine (rounds (fun s : FVec Ideal S32x1 .f32 × FVec Ideal S32x1 .f32 => (k1_pay11 v0 v2 s.1 s.2, k1_pay12 v0 v2 s.1 s.2)) _ _).trans
    (Eq.trans ?_ (rounds (fun s : FVec Ideal S32x1 .f32 × FVec Ideal S32x1 .f32 => (Cert.SecondCallIdeal.Gen.k0_pay10 v0 v2 s.1 s.2, Cert.SecondCallIdeal.Gen.k0_pay11 v0 v2 s.1 s.2)) _ _).symm)
  rw [h1, pay7_eq]
  simp only [pay11_eq, pay12_eq]
  rfl

/-- It is what the launch stores as a program of its own. -/
theorem stored_eq : stored' v0 v2 = stored v0 v2 := by
  unfold stored' stored
  rw [last_eq, pay4_eq, pay13_eq, pay14_eq, pay1_eq]
end

/-- The second launch's second output array: its payload over the two arrays. -/
theorem final3 (V : (c : Dev nD) → (b : Ref sig .tc) → Buf (Elt Ideal) ((c : Thread nD τ).loc b)) (c : Dev nD) :
    (dat1 V c).arrAt 3 cfg1.N = stored' (V c main_v5 : Vec Ideal S32x20000 .f32) (V c main_v4_0 : Vec Ideal S32x8x128 .f32) := by
  refine (dat1 V c).arrAt_eq_of_after_last 3 t1_0 (by decide +kernel) _ fun j => ?_
  blk_simp
  rw [after1_3]
  unfold outsAt1
  frame_out
  have h0 : View.read (Elt Ideal) (View.whole cc1_stg0_0) ((Memref.isWhole_whole cc1_stg0_0).unread (iblk1 V c 0 t1_0)) = (V c main_v4_0 : Vec Ideal S32x8x128 .f32) := by
    rw [show View.read (Elt Ideal) (View.whole cc1_stg0_0) ((Memref.isWhole_whole cc1_stg0_0).unread (iblk1 V c 0 t1_0)) = iblk1 V c 0 t1_0 from (Memref.isWhole_whole cc1_stg0_0).read_unread _]
    funext i
    blk_ext [iblk1, idx1 t1_0]
  have h1 : View.read (Elt Ideal) (View.whole cc1_stg1_0) ((Memref.isWhole_whole cc1_stg1_0).unread (iblk1 V c 1 t1_0)) = (V c main_v5 : Vec Ideal S32x20000 .f32) := by
    rw [show View.read (Elt Ideal) (View.whole cc1_stg1_0) ((Memref.isWhole_whole cc1_stg1_0).unread (iblk1 V c 1 t1_0)) = iblk1 V c 1 t1_0 from (Memref.isWhole_whole cc1_stg1_0).read_unread _]
    funext i
    blk_ext [iblk1, idx1 t1_0]
  exact congrFun (congrArg₂ stored' h1 h0) j

/-- The second result after the run, over the first launch's two arrays. -/
theorem second (c : Dev nD) (i : S_.Idx) :
    (W5 m ρ c (Proc.devRef .tc main_v8) : FVec Ideal S_ .f32) i = stored (rows (others m ρ c)) (parts m ρ c) (ix2 0 0) := by
  have h5 : (W5 m ρ c (Proc.devRef .tc main_v8) : FVec Ideal S_ .f32) = shapeCast S_ (W4 m ρ c (Proc.devRef .tc main_v6_1) : FVec Ideal S1x1 .f32) Facts₀.shapeCasts_S1x1_S_ := by
    unfold W5
    entry_read
    rfl
  have h4 : (W4 m ρ c (Proc.devRef .tc main_v6_1) : FVec Ideal S1x1 .f32) = stored' (V3 m ρ c main_v5 : Vec Ideal S32x20000 .f32) (V3 m ρ c main_v4_0 : Vec Ideal S32x8x128 .f32) :=
    (W4_arr m ρ c 3).trans (final3 (V3 m ρ) c)
  have h3 : V3 m ρ c main_v4_0 = parts m ρ c := (W3_of m ρ c main_v4_0 (by decide)).trans (W2_arr m ρ c 5)
  have h2 : V3 m ρ c main_v5 = rows (W2 m ρ c (Proc.devRef .tc main_v4_1) : FVec Ideal S32x1x20000 .f32) := by
    unfold V3 W3
    entry_read
    rfl
  have h1 : (W2 m ρ c (Proc.devRef .tc main_v4_1) : FVec Ideal S32x1x20000 .f32) = others m ρ c := W2_arr m ρ c 6
  rw [h5, h4, h3, h2, h1, scalar_apply, stored_eq]

end Cert.KernelIdeal.Array
-- ==== Proof.PreTerms.lean ====
module

public import proofs.«01_k».proof.Defs
public import proofs.«01_k».proof.Proof.RefTerms
public import proofs.«01_k».proof.Proof.FirstEquation
public import proofs.«01_k».proof.Proof.SecondEquation

/-
  The arrays that the kernel's second precondition is made of are the reference's.
-/

@[expose] public section

set_option maxRecDepth 16384

noncomputable section

open Idealize.ShloMosaic Idealize.ShloMosaic.TcCoe Idealize.SL.Sem

namespace Cert.PreTerms

/-- The precondition's shape relations hold. -/
theorem pre_facts : Cert.Pre_separated_priors.Facts where
  bcast_S32_S32x1_0 := by decide
  slices_S20000x4_S20000x2_0_0 := by decide
  slices_S20000x4_S20000x2_0_2 := by decide
  bcast_S_S20000x2 := by decide
  concatenates_S20000x2_S20000x2_S20000x4_d1 := by decide
  slices_S32x24x4_S32x24x2_0_0_2 := by decide
  bcast_S32x24x2_S32x24x1x2_0_1_3 := by decide
  bcast_S20000x2_S1x1x20000x2_2_3 := by decide
  bcast_S32x24x1x2_S32x24x20000x2_0_1_2_3 := by decide
  bcast_S1x1x20000x2_S32x24x20000x2_0_1_2_3 := by decide
  slices_S32x24x4_S32x24x2_0_0_0 := by decide
  bcast_S_S32x24x20000x2 := by decide
  slices_S32x24x20000x2_S32x24x20000x1_0_0_0_0 := by decide
  shapeCasts_S32x24x20000x1_S32x24x20000 := by decide
  slices_S32x24x20000x2_S32x24x20000x1_0_0_0_1 := by decide
  slices_S32x24x4_S32x24x1_0_0_2 := by decide
  shapeCasts_S32x24x1_S32x24 := by decide
  slices_S32x24x4_S32x24x1_0_0_0 := by decide
  slices_S32x24x4_S32x24x1_0_0_3 := by decide
  slices_S32x24x4_S32x24x1_0_0_1 := by decide
  bcast_S32x24_S32x24x1_0_1 := by decide
  slices_S20000x4_S20000x1_0_2 := by decide
  shapeCasts_S20000x1_S20000 := by decide
  slices_S20000x4_S20000x1_0_0 := by decide
  slices_S20000x4_S20000x1_0_3 := by decide
  slices_S20000x4_S20000x1_0_1 := by decide
  bcast_S20000_S1x1x20000_2 := by decide
  bcast_S32x24x1_S32x24x20000_0_1_2 := by decide
  bcast_S1x1x20000_S32x24x20000_0_1_2 := by decide
  reducesTo_S32x24x20000_S32x24_d2 := by decide
  h_S_ := by decide
  reducesTo_S32x24x20000_S32x20000_d1 := by decide
  bcast_S_S32x1 := by decide
  bcast_S_S32x24 := by decide
  bcast_S32x1_S32x24_0_1 := by decide
  concatenates_S32x24x1_S32x24x1_S32x24x2_d2 := by decide
  bcast_S24_S1x24_1 := by decide
  bcast_S1x24_S32x24_0_1 := by decide
  bcast_S_S32x20000 := by decide
  bcast_S32x1_S32x20000_0_1 := by decide
  bcast_S32x20000_S32x20000x1_0_1 := by decide
  concatenates_S32x20000x1_S32x20000x1_S32x20000x2_d2 := by decide
  slices_S32x20000x4_S32x20000x2_0_0_0 := by decide
  slices_S32x20000x4_S32x20000x2_0_0_2 := by decide
  bcast_S_S32x20000x2 := by decide
  bcast_S20000x2_S1x20000x2_1_2 := by decide
  bcast_S1x20000x2_S32x20000x2_0_1_2 := by decide
  bcast_S_S1x20000x2 := by decide
  concatenates_S32x20000x2_S32x20000x2_S32x20000x4_d2 := by decide
  reducesTo_S32x20000x21_S32x20000_d2 := by decide
  bcast_S32x20000x1_S32x20000x21_0_1_2 := by decide
  bcast_S_S32x20000x1 := by decide
  shapeCasts_S32x20000x1_S32x20000x1x1 := by decide
  bcast_S_S32x20000x1x1 := by decide
  bcast_S1_S1x1x1x1_3 := by decide
  bcast_S1x1x1x1_S32x20000x1x1_0_1_2_3 := by decide
  reducesTo_S32x20000x1x1_S32x20000x1_d3 := by decide
  shapeCasts_S32x20000x1_S32x20000 := by decide
  natLt_1_32 := by decide
  reducesTo_S32x20000_S32_d1 := by decide
  slices_S32x20000_S32x1_0_0 := by decide
  bcast_S_S19999 := by decide
  bcast_S19999_S1x19999_1 := by decide
  bcast_S1x19999_S32x19999_0_1 := by decide
  bcast_S32x1_S32x19999_0_1 := by decide
  bcast_S_S32x20000x21 := by decide
  slices_S32x20000_S32x19999_0_0 := by decide
  slices_S32x20000_S32x19999_0_1 := by decide
  scatter_S32x20000_S32x24x2_S32x24_n_01_01_2_wf := by decide
  gather_S32x24x4_S32x20000x2_S32x20000x4_2_01_n_n_01_2_114_wf := by decide
  gather_S32x24_S32x20000x2_S32x20000_n_01_n_n_01_2_11_wf := by decide
  gather_S32x20000x21_S32x20000x1x1_S32x20000x1_n_2_01_01_2_3_111_wf := by decide

open Cert.ReferenceIdeal.Value
open Cert.ReferenceIdeal (main_arg0 main_arg1 main_arg2 main_arg3 main_arg4 τ sig)

variable (hP : Cert.Pre_separated_priors.Facts) (W : Valuation τ sig (Elt Ideal))

/-- The classes. -/
theorem classes_eq : Cert.Pre_separated_priors.fn_classes (F := Ideal) (W (Proc.devRef .tc main_arg2)) (W (Proc.devRef .tc main_arg3)) (W (Proc.devRef .tc main_arg4))
    = res_main_v135 W := rfl

/-- The losses. -/
theorem losses_eq : Cert.Pre_separated_priors.fn_class_losses (F := Ideal) (W (Proc.devRef .tc main_arg1)) (res_main_v135 W) = res_main_v183 W := rfl

open Cert.ReferenceIdeal Cert.ReferenceIdeal.Gen in
/-- The losses of the priors that do not count. -/
abbrev restArr : FVec Ideal S32x20000 .f32 := mulf (res_main_v183 W) (subf (broadcastInDim S32x20000 ![] bcast_S_S32x20000 (constant S_ .f32 0x3F800000#32)) (uitofp .f32 (res_main_v163 W)))

open Cert.ReferenceIdeal Cert.ReferenceIdeal.Gen in
/-- How many losses an image takes, as words. -/
abbrev wantedArr : IVec S32x1 32 := minsi (muli (broadcastInDim S32x1 ![] bcast_S_S32x1 (constantI S_ 32 3#32)) (res_main_v189 W)) (broadcastInDim S32x1 ![] bcast_S_S32x1 (constantI S_ 32 19999#32))

section
open Cert.Pre_separated_priors

/-- The precondition's last operations, over the reference's arrays. -/
theorem fn_eq : fn (F := Ideal) (W (Proc.devRef .tc main_arg0)) (W (Proc.devRef .tc main_arg1)) (W (Proc.devRef .tc main_arg2)) (W (Proc.devRef .tc main_arg3)) (W (Proc.devRef .tc main_arg4))
    = fn_part1 (F := Ideal) (W (Proc.devRef .tc main_arg1)) (W (Proc.devRef .tc main_arg4)) (wantedArr W) (Host.negf (fn_sort (F := Ideal) (Host.negf (restArr W))))
      (extractStridedSlice S32x1 ![0, 0] (Host.negf (fn_sort (F := Ideal) (Host.negf (restArr W)))) Facts.slices_S32x20000_S32x1_0_0) := rfl

variable (x1 : FVec Ideal S32x20000x21 .f32) (x4 : IVec S32x24 32) (v10 : IVec S32x1 32) (v17 : FVec Ideal S32x20000 .f32) (v18 : FVec Ideal S32x1 .f32)

/-- The bits of the gaps. -/
theorem gap_bit (b : Fin 32) (j : Fin 19999) : (fn_part1 (F := Ideal) x1 x4 v10 v17 v18).2.2 (ix2 b j)
    = (~~~ BitVec.ofBool (decide (1#32 + BitVec.ofNat 32 j.val = v10 (ix2 b 0)))) ||| BitVec.ofBool (decide ((v18 (ix2 b 0) + Ideal.ofBits FTy.f32 0x3F800000#32) * Ideal.ofBits FTy.f32 0x33800000#32 ≤ v17 (ix2 b j.castSucc) - v17 (ix2 b j.succ))) := by
  have hj : (⟨1 + j.val, by omega⟩ : Fin 20000) = j.succ := Fin.ext (Nat.add_comm 1 j.val)
  rw [← hj]
  show ori _ _ (ix2 b j) = _
  pointwise []
  rfl

/-- The greatest of the losses in descending order. -/
theorem col_first (v : FVec Ideal S32x20000 .f32) (b : Fin 32) : extractStridedSlice S32x1 ![0, 0] v Facts.slices_S32x20000_S32x1_0_0 (ix2 b 0) = v (ix2 b 0) := by
  pointwise []

/-- The losses in descending order. -/
theorem descending (x : FVec Ideal S32x20000 .f32) (b : Fin 32) (i : Fin 20000) :
    Host.negf (fn_sort (F := Ideal) (Host.negf x)) (ix2 b i) = x (ix2 b (Cert.MinedLossesIdeal.Value.perm (fun p => x (ix2 b p)) i)) :=
  Cert.MinedLossesIdeal.Value.sorted x b i

open Cert.MinedLossesIdeal.Value (perm) in
/-- What the precondition says: labels in the range, real scores, and a gap after the last loss taken. -/
theorem of_pre (h : (fn (F := Ideal) (W (Proc.devRef .tc main_arg0)) (W (Proc.devRef .tc main_arg1)) (W (Proc.devRef .tc main_arg2)) (W (Proc.devRef .tc main_arg3)) (W (Proc.devRef .tc main_arg4))).1 = (fun _ => 1#1)
      ∧ (fn (F := Ideal) (W (Proc.devRef .tc main_arg0)) (W (Proc.devRef .tc main_arg1)) (W (Proc.devRef .tc main_arg2)) (W (Proc.devRef .tc main_arg3)) (W (Proc.devRef .tc main_arg4))).2.1 = (fun _ => 1#1)
      ∧ (fn (F := Ideal) (W (Proc.devRef .tc main_arg0)) (W (Proc.devRef .tc main_arg1)) (W (Proc.devRef .tc main_arg2)) (W (Proc.devRef .tc main_arg3)) (W (Proc.devRef .tc main_arg4))).2.2 = fun _ => 1#1) :
    Ranged W ∧ (∀ (b : Fin 32) (p : Fin 20000) (k : Fin 21), ∃ r : ℝ, (W (Proc.devRef .tc main_arg1) : FVec Ideal S32x20000x21 .f32) (ix3 b p k) = (r : EReal))
      ∧ ∀ (b : Fin 32) (j : Fin 19999), 1#32 + BitVec.ofNat 32 j.val = wantedArr W (ix2 b 0) →
        (restArr W (ix2 b (perm (fun p => restArr W (ix2 b p)) 0)) + 1) * ((1 / 2 ^ 24 : ℝ) : EReal)
          ≤ restArr W (ix2 b (perm (fun p => restArr W (ix2 b p)) j.castSucc)) - restArr W (ix2 b (perm (fun p => restArr W (ix2 b p)) j.succ)) := by
  rw [fn_eq hP] at h
  refine ⟨fun b j => Cert.Labels.range_of_bits _ (congrFun h.1 (ix2 b j)), fun b p k => Cert.FirstEquation.real_of_bit _ (congrFun h.2.1 (ix3 b p k)), fun b j hj => ?_⟩
  have h1 := congrFun h.2.2 (ix2 b j)
  rw [gap_bit hP, col_first hP, descending, descending, descending, Cert.SecondEquation.bits_one, Cert.SecondEquation.bits_width] at h1
  exact Cert.SecondEquation.of_bit (Cert.SecondEquation.either (decide_eq_true hj) h1)

end

end Cert.PreTerms
-- ==== Proof.WholeTerms.lean ====
module

public import proofs.«01_k».proof.Proof.PreTerms
public import proofs.«01_k».proof.Proof.RefValue
public import proofs.«01_k».proof.Proof.ImgValue
public import proofs.«01_k».proof.Proof.SecondEquation

/-
  The reference's second result over its arguments: the confidence losses, the number of losses taken, and the sum of them.
-/

@[expose] public section

set_option maxRecDepth 16384

noncomputable section

open Idealize.ShloMosaic Idealize.ShloMosaic.TcCoe Idealize.SL.Sem

namespace Cert.WholeTerms

open Cert.Loss
open Cert.Mining (above)
open Cert.FirstCallIdeal.Array (scores labels)

/-- Real numbers added up. -/
theorem coe_sum_real {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A confidence loss is not negative: the class is one of those the sum runs over. -/
theorem score_nonneg (s : Fin 21 → EReal) (k : Fin 21) (hs : ∀ x, ∃ r : ℝ, s x = (r : EReal)) : 0 ≤ score s k := by
  choose r hr using hs
  unfold score
  generalize first s = f
  have he : ∑ x, Ideal.exp (s x - s f) = ((∑ x, Real.exp (r x - r f) : ℝ) : EReal) := by
    rw [coe_sum_real]
    refine Finset.sum_congr rfl fun x _ => ?_
    rw [hr x, hr f, ← EReal.coe_sub, Ideal.exp_coe]
  have hk : Real.exp (r k - r f) ≤ ∑ x, Real.exp (r x - r f) :=
    Finset.single_le_sum (f := fun x => Real.exp (r x - r f)) (fun x _ => (Real.exp_pos _).le) (Finset.mem_univ k)
  have hp : 0 < ∑ x, Real.exp (r x - r f) := (Real.exp_pos _).trans_le hk
  rw [he, Ideal.log_coe, if_neg hp.not_ge, hr f, hr k, ← EReal.coe_add, ← EReal.coe_sub]
  have hlog := (Real.le_log_iff_exp_le hp).2 hk
  exact_mod_cast (by linarith : (0 : ℝ) ≤ Real.log (∑ x, Real.exp (r x - r f)) + r f - r k)

/-- An indicator is zero or one. -/
theorem ind_cases (tb : Fin 24 → Fin 4 → EReal) (pri : Fin 20000 → Fin 4 → EReal) (p : Fin 20000) : ind tb pri p = 0 ∨ ind tb pri p = 1 := by
  unfold ind
  split
  · exact Or.inl rfl
  · exact Or.inr rfl

/-- What is left of a loss at a prior that does not count is not negative. -/
theorem rest_nonneg {x : EReal} (hx : 0 ≤ x) (tb : Fin 24 → Fin 4 → EReal) (pri : Fin 20000 → Fin 4 → EReal) (p : Fin 20000) : 0 ≤ x * (1 - ind tb pri p) := by
  have h1 : (1 : EReal) - 1 = 0 := by
    rw [← EReal.coe_one, ← EReal.coe_sub, sub_self, EReal.coe_zero]
  rcases ind_cases tb pri p with h | h
  · rw [h, sub_zero, mul_one]
    exact hx
  · rw [h, h1, mul_zero]

/-- Three times a number, at most the last place, as a word. -/
theorem wanted_word (z : BitVec 32) (n : ℕ) (h : z.toNat = n) (hn : n ≤ 20000) : IntOp.minsi (IntOp.muli 3#32 z) 19999#32 = BitVec.ofNat 32 (min (3 * n) 19999) := by
  obtain rfl : z = BitVec.ofNat 32 n := BitVec.eq_of_toNat_eq (by rw [h, BitVec.toNat_ofNat]; omega)
  have hm : (3#32 * BitVec.ofNat 32 n).toNat = 3 * n := by
    rw [BitVec.toNat_mul, BitVec.toNat_ofNat, BitVec.toNat_ofNat]
    omega
  have hi : (3#32 * BitVec.ofNat 32 n).toInt = ((3 * n : ℕ) : ℤ) := by
    rw [BitVec.toInt_eq_toNat_cond, hm]
    split <;> omega
  have ht : (19999#32).toInt = 19999 := by decide
  unfold IntOp.minsi IntOp.muli
  refine BitVec.eq_of_toNat_eq ?_
  rw [BitVec.toNat_ofNat]
  simp only [BitVec.slt, BitVec.sle, hi, ht, decide_eq_true_eq]
  split
  · rw [hm]; omega
  · rw [BitVec.toNat_ofNat]; omega

/-- A place as a word. -/
theorem place_word (j : ℕ) : 1#32 + BitVec.ofNat 32 j = BitVec.ofNat 32 (j + 1) := by
  refine BitVec.eq_of_toNat_eq ?_
  rw [BitVec.toNat_add, BitVec.toNat_ofNat, BitVec.toNat_ofNat, BitVec.toNat_ofNat]
  omega

/-- The mask of a place: one below the wanted number. -/
theorem mask_word (q : ℕ) (hq : q ≤ 19999) (p : Fin 20000) : (FloatOps.uitofp (F := Ideal) .f32 (IntOp.cmpi .slt (BitVec.ofNat 32 p.val) (BitVec.ofNat 32 q)) : EReal) = above (q : EReal) ((p.val : ℕ) : EReal) := by
  have hi (n : ℕ) (hn : n ≤ 19999) : (BitVec.ofNat 32 n).toInt = (n : ℤ) := by
    rw [BitVec.toInt_eq_toNat_cond, BitVec.toNat_ofNat]
    split <;> omega
  have hc : IntOp.cmpi .slt (BitVec.ofNat 32 p.val) (BitVec.ofNat 32 q) = BitVec.ofBool (decide (p.val < q)) := by
    refine congrArg BitVec.ofBool ?_
    show decide ((BitVec.ofNat 32 p.val).toInt < (BitVec.ofNat 32 q).toInt) = _
    rw [hi _ (by omega), hi _ hq]
    exact decide_eq_decide.2 Nat.cast_lt
  rw [hc]
  unfold above
  by_cases h : p.val < q
  · rw [decide_eq_true h, if_pos (by exact_mod_cast h)]
    exact congrArg (fun z : ℕ => ((z : ℝ) : EReal)) (by decide : (BitVec.ofBool true).toNat = 1) |>.trans (by norm_num)
  · rw [decide_eq_false h, if_neg (by exact_mod_cast h)]
    exact congrArg (fun z : ℕ => ((z : ℝ) : EReal)) (by decide : (BitVec.ofBool false).toNat = 0) |>.trans (by norm_num)

open Cert.ReferenceIdeal Cert.ReferenceIdeal.Gen Cert.ReferenceIdeal.Value

section
variable (W : Valuation τ sig (Elt Ideal)) (hl : Ranged W)

/-- How many priors of an image count. -/
def number (b : Fin 32) : ℕ := (Finset.univ.filter fun p : Fin 20000 => (res_main_v163 W : IVec S32x20000 1) (ix2 b p) = 1#1).card

theorem number_le (b : Fin 32) : number W b ≤ 20000 := (Finset.card_le_univ _).trans (by simp)

include hl in
theorem count_eq (b : Fin 32) : Loss.count (tb W b) (pr W) = (number W b : EReal) := by
  unfold Loss.count number
  rw [Finset.card_filter, ← EReal.coe_natCast, coe_sum_nat]
  refine Finset.sum_congr rfl fun p _ => ?_
  rw [← ind_eq W (Ranged.natural hl) b p]
  split <;> simp

/-- The wanted numbers, as words. -/
theorem wantedArr_apply (b : Fin 32) : Cert.PreTerms.wantedArr W (ix2 b 0) = BitVec.ofNat 32 (min (3 * number W b) 19999) :=
  wanted_word ((res_main_v189 W : IVec S32x1 32) (ix2 b 0)) _ (v189_apply W b) (number_le W b)

include hl in
/-- The class of each prior. -/
theorem class_apply (b : Fin 32) (p : Fin 20000) :
    (res_main_v135 W : IVec S32x20000 32) (ix2 b p) = BitVec.ofNat 32 (cls (tb W b) (pr W) (labels (W (Proc.devRef .tc main_arg4)) b) p).val := by
  rw [v135_eq]
  refine (Cert.ImageLossesIdeal.Value.class_of _ _ b p _).trans ?_
  rw [judgedArr_apply, labelArr_apply]
  exact Cert.ImageLossesIdeal.Value.word_cls _ _ (hl b _)

/-- Scores less their greatest. -/
theorem less_greatest (b : Fin 32) (p : Fin 20000) (x : Fin 21) :
    (res_main_call4_v5 W : FVec Ideal S32x20000x21 .f32) (ix3 b p x)
      = scores (W (Proc.devRef .tc main_arg1) : FVec Ideal S32x20000x21 .f32) b p x - scores (W (Proc.devRef .tc main_arg1) : FVec Ideal S32x20000x21 .f32) b p (first (scores (W (Proc.devRef .tc main_arg1) : FVec Ideal S32x20000x21 .f32) b p)) := by
  delta res_main_call4_v5
  exact Cert.ImageLossesIdeal.Value.less_of _ b p x

include hl in
/-- The confidence loss of each prior. -/
theorem loss_apply (hs : ∀ b p x, ∃ r : ℝ, (W (Proc.devRef .tc main_arg1) : FVec Ideal S32x20000x21 .f32) (ix3 b p x) = (r : EReal)) (b : Fin 32) (p : Fin 20000) :
    (res_main_v183 W : FVec Ideal S32x20000 .f32) (ix2 b p)
      = score (scores (W (Proc.devRef .tc main_arg1)) b p) (cls (tb W b) (pr W) (labels (W (Proc.devRef .tc main_arg4)) b) p) := by
  have hv := Cert.ImageLossesIdeal.Value.loss_of (res_main_call4_v5 W) (res_main_call5_v5 W) _ (fun b p => cls (tb W b) (pr W) (labels (W (Proc.devRef .tc main_arg4)) b) p) (less_greatest W)
    (fun b p => Cert.ImageLossesIdeal.Value.word_of (res_main_v135 W) b p _ (class_apply W hl b p) bcast_S32x20000_S32x20000x1_0_1 bcast_S_S32x20000x1 shapeCasts_S32x20000x1_S32x20000x1x1) b p
  exact hv.trans (score_neg _ _ (hs b p))

end

/-- A loss of a prior that does not count, over arrays that are known. -/
theorem rest_of (l : FVec Ideal S32x20000 .f32) (w : IVec S32x20000 1) (b : Fin 32) (p : Fin 20000) :
    (mulf l (subf (broadcastInDim S32x20000 ![] bcast_S_S32x20000 (constant S_ .f32 0x3F800000#32)) (uitofp .f32 w)) : FVec Ideal S32x20000 .f32) (ix2 b p)
      = l (ix2 b p) * (1 - (FloatOps.uitofp (F := Ideal) .f32 (w (ix2 b p)) : EReal)) := by
  rw [← Cert.SecondEquation.bits_one]
  pointwise []

/-- The second result, over arrays that are known. -/
theorem second_of (l s : FVec Ideal S32x20000 .f32) (w : IVec S32x20000 1) (n : IVec S32x1 32) (d : FVec Ideal S_ .f32) (q : Fin 32 → ℕ) (hq : ∀ b, q b ≤ 19999)
    (hn : ∀ b, n (ix2 b 0) = BitVec.ofNat 32 (q b)) :
    (Host.divf (addf (Host.reduceAdd (mulf l (uitofp .f32 w)) (constant S_ .f32 0x00000000#32) reducesTo_S32x20000_S_d0_1 h_S_) (Host.reduceAdd (mulf s (uitofp .f32 (cmpi .slt (broadcastInDim S32x20000 ![0, 1] bcast_S1x20000_S32x20000_0_1 (broadcastInDim S1x20000 ![1] bcast_S20000_S1x20000_1 (iotaInDim S20000 32 0))) (broadcastInDim S32x20000 ![0, 1] bcast_S32x1_S32x20000_0_1 n)))) (constant S_ .f32 0x00000000#32) reducesTo_S32x20000_S_d0_1 h_S_)) d : FVec Ideal S_ .f32) ix0
      = Ideal.div (∑ b : Fin 32, ∑ p : Fin 20000, l (ix2 b p) * (FloatOps.uitofp (F := Ideal) .f32 (w (ix2 b p)) : EReal) + ∑ b : Fin 32, ∑ p : Fin 20000, s (ix2 b p) * above ((q b : ℕ) : EReal) ((p.val : ℕ) : EReal)) (d ix0) := by
  pointwise []
  simp only [hn, mask_word _ (hq _)]

end Cert.WholeTerms

end
-- ==== Proof.WholeEquation.lean ====
module

public import proofs.«01_k».proof.Defs
public import proofs.«01_k».proof.Proof.Equation
public import proofs.«01_k».proof.Proof.KSecond
public import proofs.«01_k».proof.Proof.PreTerms
public import proofs.«01_k».proof.Proof.WholeTerms

/-
  The equation of both results: from arguments that agree and are as the precondition says, the idealized kernel and the
  idealized reference end with the same two losses.
-/

@[expose] public section

set_option maxRecDepth 16384

noncomputable section

open Idealize.ShloMosaic Idealize.ShloMosaic.TcCoe Idealize.SL.Sem

namespace Cert.WholeEquation

open Cert.KernelIdeal.Array (A0 A1 A2 A3 A4 boxes priors locs parts others parts_apply others_apply)
open Cert.FirstCallIdeal.Array (conf rowVal restVal)
open Cert.SecondCallIdeal.Array (wanted rows rows_apply stored)
open Cert.ReferenceIdeal.Value (res_main_v163 res_main_v183 res_main_v210 Ranged tb pr)
open Cert.PreTerms (restArr wantedArr)
open Cert.WholeTerms (number number_le)
open Cert.Mining (above)
open Cert.MinedLossesIdeal.Value (perm)

section
variable {m : (ℓ : Loc Cert.KernelIdeal.nD Cert.KernelIdeal.τ Cert.KernelIdeal.sig) → Buf (Elt Ideal) ℓ} (ρ : Dev Cert.KernelIdeal.nD → PrngReg)
  {c : Dev Cert.KernelIdeal.nD} {W : Valuation Cert.ReferenceIdeal.τ Cert.ReferenceIdeal.sig (Elt Ideal)}

open Cert.ReferenceIdeal in
/-- The reference's losses, indicators and number of priors that count, at their shapes. -/
abbrev lossArr (W : Valuation τ sig (Elt Ideal)) : FVec Ideal S32x20000 .f32 := res_main_v183 W
open Cert.ReferenceIdeal in
@[inherit_doc lossArr] abbrev indArr (W : Valuation τ sig (Elt Ideal)) : IVec S32x20000 1 := res_main_v163 W
open Cert.ReferenceIdeal in
@[inherit_doc lossArr] abbrev totalArr (W : Valuation τ sig (Elt Ideal)) : FVec Ideal S_ .f32 := res_main_v210 W

open Cert.ReferenceIdeal in
/-- The reference's buffers hold the kernel's arguments, labels are in the range and scores real. -/
structure Held (m : (ℓ : Loc Cert.KernelIdeal.nD Cert.KernelIdeal.τ Cert.KernelIdeal.sig) → Buf (Elt Ideal) ℓ) (c : Dev Cert.KernelIdeal.nD) (W : Valuation τ sig (Elt Ideal)) : Prop where
  a1 : (W (Proc.devRef .tc main_arg1) : FVec Ideal S32x20000x21 .f32) = A1 m c
  a4 : (W (Proc.devRef .tc main_arg4) : IVec S32x24 32) = A4 m c
  box : tb W = boxes (A3 m c)
  pri : pr W = priors (A2 m c)
  range : Ranged W
  real : ∀ (b : Fin 32) (p : Fin 20000) (k : Fin 21), ∃ r : ℝ, (W (Proc.devRef .tc main_arg1) : FVec Ideal S32x20000x21 .f32) (ix3 b p k) = (r : EReal)

variable (h : Held m c W)
include h

/-- The labels are in the range. -/
theorem labels_range (b : Fin 32) (j : Fin 24) : 0 ≤ (A4 m c (ix2 b j)).toInt ∧ (A4 m c (ix2 b j)).toInt < 20 := by
  rw [← h.a4]
  exact h.range b j

/-- The confidence losses are the kernel's. -/
theorem loss_eq (b : Fin 32) (p : Fin 20000) : lossArr W (ix2 b p) = conf (A1 m c) (A2 m c) (A3 m c) (A4 m c) b p := by
  refine (Cert.WholeTerms.loss_apply W h.range h.real b p).trans ?_
  rw [h.box, h.pri, h.a1, h.a4]
  rfl

/-- The indicators are the kernel's. -/
theorem ind_eq (b : Fin 32) (p : Fin 20000) : (FloatOps.uitofp (F := Ideal) .f32 (indArr W (ix2 b p)) : EReal) = Cert.Loss.ind (boxes (A3 m c) b) (priors (A2 m c)) p := by
  rw [Cert.ReferenceIdeal.Value.uitofp_eq W (Cert.ReferenceIdeal.Value.Ranged.natural h.range) b p, h.box, h.pri]

/-- The losses the kernel mines are the reference's. -/
theorem rest_eq : rows (others m ρ c) = restArr W := by
  funext i
  obtain ⟨b, p, rfl⟩ : ∃ (b : Fin 32) (p : Fin 20000), i = ix2 b p := ⟨_, _, eq_ix2 i⟩
  rw [rows_apply, others_apply m ρ c (labels_range h)]
  refine Eq.trans ?_ (Cert.WholeTerms.rest_of (lossArr W) (indArr W) b p).symm
  exact (congrArg₂ (fun x y : EReal => x * (1 - y)) (loss_eq h b p) (ind_eq h b p)).symm

/-- The second row of the partial results. -/
theorem part_one (b : Fin 32) : parts m ρ c (ix3 b 1 0) = ∑ p : Fin 20000, conf (A1 m c) (A2 m c) (A3 m c) (A4 m c) b p * Cert.Loss.ind (boxes (A3 m c) b) (priors (A2 m c)) p := by
  rw [parts_apply m ρ c (labels_range h)]
  unfold rowVal
  exact (if_neg (by decide : ¬ (1 : Fin 8) = 0)).trans (if_pos rfl)

/-- The third row of the partial results. -/
theorem part_two (b : Fin 32) : parts m ρ c (ix3 b 2 0) = Cert.Loss.count (boxes (A3 m c) b) (priors (A2 m c)) := by
  rw [parts_apply m ρ c (labels_range h)]
  unfold rowVal
  exact (if_neg (by decide : ¬ (2 : Fin 8) = 0)).trans ((if_neg (by decide : ¬ (2 : Fin 8) = 1)).trans (if_pos rfl))

/-- The third row holds natural numbers. -/
theorem part_number (b : Fin 32) : parts m ρ c (ix3 b 2 0) = (number W b : EReal) := by
  rw [part_two ρ h, ← Cert.WholeTerms.count_eq W h.range b, h.box, h.pri]

/-- What the kernel mines is not negative. -/
theorem others_nonneg (b : Fin 32) (p : Fin 20000) : 0 ≤ others m ρ c (ix3 b 0 p) := by
  rw [others_apply m ρ c (labels_range h)]
  refine Cert.WholeTerms.rest_nonneg (Cert.WholeTerms.score_nonneg _ _ fun x => ?_) _ _ _
  obtain ⟨r, hr⟩ := h.real b p x
  rw [h.a1] at hr
  exact ⟨r, hr⟩

/-- The kernel's second result is the reference's. -/
theorem second_eq (hg : ∀ (b : Fin 32) (j : Fin 19999), 1#32 + BitVec.ofNat 32 j.val = wantedArr W (ix2 b 0) →
      (restArr W (ix2 b (perm (fun p => restArr W (ix2 b p)) 0)) + 1) * ((1 / 2 ^ 24 : ℝ) : EReal)
        ≤ restArr W (ix2 b (perm (fun p => restArr W (ix2 b p)) j.castSucc)) - restArr W (ix2 b (perm (fun p => restArr W (ix2 b p)) j.succ))) :
    stored (rows (others m ρ c)) (parts m ρ c) (ix2 0 0)
      = Ideal.div (∑ b : Fin 32, ∑ p : Fin 20000, lossArr W (ix2 b p) * (FloatOps.uitofp (F := Ideal) .f32 (indArr W (ix2 b p)) : EReal)
        + ∑ b : Fin 32, ∑ p : Fin 20000, Host.negf (Host.sort Cert.ReferenceIdeal.S32x20000 1 Cert.ReferenceIdeal.comparator_f32_d1 (Host.negf (restArr W))) (ix2 b p) * above ((min (3 * number W b) 19999 : ℕ) : EReal) ((p.val : ℕ) : EReal))
        (totalArr W ix0) := by
  have hr := rest_eq ρ h
  have hw (b : Fin 32) := Cert.SecondEquation.wanted_eq (parts m ρ c) b _ (part_number ρ h b)
  refine (Cert.SecondEquation.sums_eq (parts m ρ c) (others m ρ c) (fun b => ⟨_, part_number ρ h b⟩) (others_nonneg ρ h) fun b j hj => ?_).trans ?_
  · rw [hr]
    refine hg b j ?_
    rw [Cert.WholeTerms.place_word, Cert.WholeTerms.wantedArr_apply]
    rw [hw b] at hj
    exact congrArg (BitVec.ofNat 32) (by exact_mod_cast hj)
  · rw [hr]
    refine congrArg₂ Ideal.div (congrArg₂ (· + ·) (Finset.sum_congr rfl fun b _ => ?_) (Finset.sum_congr rfl fun b _ => ?_)) ?_
    · rw [part_one ρ h b]
      exact Finset.sum_congr rfl fun p _ => by rw [loss_eq h, ind_eq h]
    · rw [hw b]
      rfl
    · refine Eq.trans ?_ (Cert.ReferenceIdeal.Value.v210_apply W (Cert.ReferenceIdeal.Value.Ranged.natural h.range)).symm
      rw [h.box, h.pri]
      exact Finset.sum_congr rfl fun b _ => part_two ρ h b

end

/-- Both results agree. -/
theorem algebraic : Cert.algebraic_KernelIdeal_ReferenceIdeal_pre_separated_priors (hKernelIdeal := Cert.KernelIdeal.Gen.facts)
    (hReferenceIdeal := Cert.ReferenceIdeal.Gen.facts) (hPre_separated_priors := Cert.PreTerms.pre_facts) := by
  intro m g m' g' hpre hag
  have hl : ∀ (c : Dev Cert.KernelIdeal.nD) (b : Fin 32) (j : Fin 24), 0 ≤ (A4 m c (ix2 b j)).toInt ∧ (A4 m c (ix2 b j)).toInt < 20 :=
    fun c b j => Cert.Labels.range_of_bits _ (congrFun (hpre c).1 (ix2 b j))
  refine ⟨fun c _ => Cert.Equation.value m c, fun c _ => stored (rows (others m g c)) (parts m g c) (ix2 0 0), ?_, ?_⟩
  · refine (θ_run Cert.KernelIdeal.defs _ _).mono (fun r h c => ?_) (Cert.KernelIdeal.Gen.run_value (F := Ideal) m g)
    obtain ⟨h7, h8, ha⟩ := h.1 c
    exact ⟨h7.trans (funext fun i => Cert.KernelIdeal.Array.result m g c (fun b j => (hl c b j).1) i), h8.trans (funext fun i => Cert.KernelIdeal.Array.second m g c i), ha⟩
  · refine (θ_run Cert.ReferenceIdeal.defs _ _).mono (fun r h c => ?_) (Cert.ReferenceIdeal.Value.run (F := Ideal) m' g')
    obtain ⟨h7, h8, ha⟩ := h c
    obtain ⟨e0, e1, e2, e3, e4⟩ := hag c
    have hp := Cert.PreTerms.of_pre Cert.PreTerms.pre_facts (StableHlo.launchContents m' c) (by
      have := hpre c
      rw [← e0, ← e1, ← e2, ← e3, ← e4] at this
      exact this)
    have f3 : tb (StableHlo.launchContents m' c) = boxes (A3 m c) :=
      congrArg (fun x : FVec Ideal Cert.KernelIdeal.S32x24x4 .f32 => boxes x) e3
    have f2 : pr (StableHlo.launchContents m' c) = priors (A2 m c) :=
      congrArg (fun x : FVec Ideal Cert.KernelIdeal.S20000x4 .f32 => priors x) e2
    have f0 : Cert.ReferenceIdeal.Value.lc (StableHlo.launchContents m' c) = locs (A0 m c) :=
      congrArg (fun x : FVec Ideal Cert.KernelIdeal.S32x20000x4 .f32 => locs x) e0
    have hh : Held m c (StableHlo.launchContents m' c) := ⟨e1, e4, f3, f2, hp.1, hp.2.1⟩
    refine ⟨h7.trans (funext fun i => ?_), h8.trans (funext fun i => ?_), ha⟩
    · refine (Cert.ReferenceIdeal.Value.result (StableHlo.launchContents m' c) (Cert.ReferenceIdeal.Value.Ranged.natural hp.1) i).trans ?_
      rw [f3, f2, f0]
      rfl
    · obtain rfl : i = ix0 := ValueIdx.eq_ix0 i
      refine Eq.trans ?_ (second_eq g hh hp.2.2).symm
      exact Cert.WholeTerms.second_of (lossArr (StableHlo.launchContents m' c)) (Host.negf (Host.sort Cert.ReferenceIdeal.S32x20000 1 Cert.ReferenceIdeal.comparator_f32_d1 (Host.negf (restArr (StableHlo.launchContents m' c)))))
        (indArr (StableHlo.launchContents m' c)) (wantedArr (StableHlo.launchContents m' c)) (totalArr (StableHlo.launchContents m' c)) (fun b => min (3 * number (StableHlo.launchContents m' c) b) 19999)
        (fun b => by omega) (Cert.WholeTerms.wantedArr_apply (StableHlo.launchContents m' c))

end Cert.WholeEquation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import proofs.«01_k».proof.Proof.FirstEquation
public import proofs.«01_k».proof.Proof.SecondEquation
public import proofs.«01_k».proof.Proof.WholeEquation
public import proofs.«01_k».proof.Proof.Gen.FirstCallIdeal.Value
public import proofs.«01_k».proof.Proof.Gen.FirstCall
public import proofs.«01_k».proof.Proof.Gen.FirstCall.Frame
public import proofs.«01_k».proof.Proof.Gen.ImageLossesIdeal
public import proofs.«01_k».proof.Proof.Gen.SecondCall
public import proofs.«01_k».proof.Proof.Gen.SecondCall.Frame
public import proofs.«01_k».proof.Proof.Gen.SecondCallIdeal
public import proofs.«01_k».proof.Proof.Gen.SecondCallIdeal.Value
public import proofs.«01_k».proof.Proof.Gen.MinedLossesIdeal
public import proofs.«01_k».proof.Proof.Gen.MinedLossesIdeal.Run
public import Idealize.ShloMosaic.Adequacy
public import Idealize.ShloMosaic.Init

/-
  The claims put together: the frames of the kernel, of its two calls, of their idealizations and of the three references, the
  equation of the first results, the equation of both and the equations of each call's arrays.
-/

@[expose] public section

noncomputable section

namespace Cert.Proof

open Idealize.ShloMosaic Idealize.SL.Sem

/-- The reference runs, leaves its arguments unchanged, and every counter ends at zero: it has none. -/
theorem reference_frame : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The image losses run, leave their arguments unchanged, and every counter ends at zero: they have none. -/
theorem image_frame : Cert.quiescent_ImageLossesIdeal (hImageLossesIdeal := Cert.ImageLossesIdeal.Gen.facts) := fun m g _ =>
  (θ_run Cert.ImageLossesIdeal.defs _ _).mono (fun r h => ⟨fun c => (h c).2.2, sem_eq_zero_of_no_sems (by decide) r.2⟩)
    (Cert.ImageLossesIdeal.Value.run (F := Ideal) m g)

/-- The mined losses run, leave their arguments unchanged, and every counter ends at zero: they have none. -/
theorem mined_frame : Cert.quiescent_MinedLossesIdeal (hMinedLossesIdeal := Cert.MinedLossesIdeal.Gen.facts) := fun m g _ =>
  (θ_run Cert.MinedLossesIdeal.defs _ _).mono (fun r h => ⟨fun c => (h c).2.2, sem_eq_zero_of_no_sems (by decide) r.2⟩)
    (Cert.MinedLossesIdeal.Value.run (F := Ideal) m g)

/-- Everything claimed. -/
theorem claim : Cert.Claim :=
  ⟨Cert.Kernel.Gen.facts, Cert.KernelIdeal.Gen.facts, Cert.ReferenceIdeal.Gen.facts, Cert.FirstCall.Gen.facts, Cert.FirstCallIdeal.Gen.facts,
    Cert.ImageLossesIdeal.Gen.facts, Cert.SecondCall.Gen.facts, Cert.SecondCallIdeal.Gen.facts, Cert.MinedLossesIdeal.Gen.facts,
    Cert.Labels.pre_facts, Cert.PreTerms.pre_facts, Cert.FirstEquation.pre_facts, Cert.SecondEquation.pre_facts, Cert.Labels.on_facts,
    fun m g _ => Cert.Kernel.Gen.frame m g,
    fun m g _ => Cert.KernelIdeal.Gen.frame m g,
    fun m g _ => Cert.KernelIdeal.Gen.frame m g,
    fun m g _ => Cert.KernelIdeal.Gen.frame m g,
    reference_frame,
    fun m g _ => reference_frame m g trivial,
    fun m g _ => reference_frame m g trivial,
    fun m g _ => Cert.FirstCall.Gen.frame m g,
    fun m g _ => Cert.FirstCallIdeal.Gen.frame m g,
    fun m g _ => Cert.FirstCallIdeal.Gen.frame m g,
    image_frame,
    fun m g _ => image_frame m g trivial,
    fun m g _ => Cert.SecondCall.Gen.frame m g,
    fun m g _ => Cert.SecondCallIdeal.Gen.frame m g,
    fun m g _ => Cert.SecondCallIdeal.Gen.frame m g,
    mined_frame,
    fun m g _ => mined_frame m g trivial,
    trivial,
    Cert.Equation.algebraic,
    Cert.WholeEquation.algebraic,
    trivial,
    Cert.FirstEquation.algebraic,
    trivial,
    Cert.SecondEquation.algebraic⟩

end Cert.Proof

end
